-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSReferenceIdeal (m : (ℓ : Loc Cert.InProjSReferenceIdeal.nD Cert.InProjSReferenceIdeal.τ Cert.InProjSReferenceIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSReferenceIdeal (m : (ℓ : Loc Cert.MergeSReferenceIdeal.nD Cert.MergeSReferenceIdeal.τ Cert.MergeSReferenceIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSReferenceIdeal (m : (ℓ : Loc Cert.FfnSReferenceIdeal.nD Cert.FfnSReferenceIdeal.τ Cert.FfnSReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_Pages (m : (ℓ : Loc Cert.Pages.nD Cert.Pages.τ Cert.Pages.sig) → Buf (Elt Bits) ℓ) : Prop :=
  True

def Pre_PagesIdeal (m : (ℓ : Loc Cert.PagesIdeal.nD Cert.PagesIdeal.τ Cert.PagesIdeal.sig) → Buf (Elt Ideal) ℓ) : Prop :=
  True

def Pre_PagesIdeal_pages_below [hPre_pages_below : Cert.Pre_pages_below.Facts] (m : (ℓ : Loc Cert.PagesIdeal.nD Cert.PagesIdeal.τ Cert.PagesIdeal.sig) → Buf (Elt Ideal) ℓ) : Prop :=
  ∀ c : Dev Cert.PagesIdeal.nD,
    (Cert.Pre_pages_below.fn (F := Ideal) (m ((c.tc : Thread Cert.PagesIdeal.nD Cert.PagesIdeal.τ).loc Cert.PagesIdeal.main_arg0))) = (fun _ => 1#1)

def Pre_PagesReferenceIdeal (m : (ℓ : Loc Cert.PagesReferenceIdeal.nD Cert.PagesReferenceIdeal.τ Cert.PagesReferenceIdeal.sig) → Buf (Elt Ideal) ℓ) : Prop :=
  True

def Pre_PagesReferenceIdeal_pages_below [hPre_pages_below : Cert.Pre_pages_below.Facts] (m : (ℓ : Loc Cert.PagesReferenceIdeal.nD Cert.PagesReferenceIdeal.τ Cert.PagesReferenceIdeal.sig) → Buf (Elt Ideal) ℓ) : Prop :=
  ∀ c : Dev Cert.PagesReferenceIdeal.nD,
    (Cert.Pre_pages_below.fn (F := Ideal) (m ((c.tc : Thread Cert.PagesReferenceIdeal.nD Cert.PagesReferenceIdeal.τ).loc Cert.PagesReferenceIdeal.main_arg0))) = (fun _ => 1#1)

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsIdeal_sums_below [hPre_sums_below : Cert.Pre_sums_below.Facts] (m : (ℓ : Loc Cert.SumsIdeal.nD Cert.SumsIdeal.τ Cert.SumsIdeal.sig) → Buf (Elt Ideal) ℓ) : Prop :=
  ∀ c : Dev Cert.SumsIdeal.nD,
    (Cert.Pre_sums_below.fn (F := Ideal) (m ((c.tc : Thread Cert.SumsIdeal.nD Cert.SumsIdeal.τ).loc Cert.SumsIdeal.main_arg0))) = (fun _ => 1#1)

def Pre_SumsReferenceIdeal (m : (ℓ : Loc Cert.SumsReferenceIdeal.nD Cert.SumsReferenceIdeal.τ Cert.SumsReferenceIdeal.sig) → Buf (Elt Ideal) ℓ) : Prop :=
  True

def Pre_SumsReferenceIdeal_sums_below [hPre_sums_below : Cert.Pre_sums_below.Facts] (m : (ℓ : Loc Cert.SumsReferenceIdeal.nD Cert.SumsReferenceIdeal.τ Cert.SumsReferenceIdeal.sig) → Buf (Elt Ideal) ℓ) : Prop :=
  ∀ c : Dev Cert.SumsReferenceIdeal.nD,
    (Cert.Pre_sums_below.fn (F := Ideal) (m ((c.tc : Thread Cert.SumsReferenceIdeal.nD Cert.SumsReferenceIdeal.τ).loc Cert.SumsReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3)
      ∧ r.2.mem ((c.tc : Thread Cert.InProjS.nD Cert.InProjS.τ).loc Cert.InProjS.main_arg4) = m ((c.tc : Thread Cert.InProjS.nD Cert.InProjS.τ).loc Cert.InProjS.main_arg4)
      ∧ r.2.mem ((c.tc : Thread Cert.InProjS.nD Cert.InProjS.τ).loc Cert.InProjS.main_arg5) = m ((c.tc : Thread Cert.InProjS.nD Cert.InProjS.τ).loc Cert.InProjS.main_arg5)
      ∧ r.2.mem ((c.tc : Thread Cert.InProjS.nD Cert.InProjS.τ).loc Cert.InProjS.main_arg6) = m ((c.tc : Thread Cert.InProjS.nD Cert.InProjS.τ).loc Cert.InProjS.main_arg6))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
      ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
      ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
      ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ r.2.sem = fun _ => 0)

def quiescent_InProjSReferenceIdeal [hInProjSReferenceIdeal : Cert.InProjSReferenceIdeal.Facts] : Prop :=
  ∀ (m : (ℓ : Loc Cert.InProjSReferenceIdeal.nD Cert.InProjSReferenceIdeal.τ Cert.InProjSReferenceIdeal.sig) → Buf (Elt Ideal) ℓ) (g : Dev Cert.InProjSReferenceIdeal.nD → PrngReg), Pre_InProjSReferenceIdeal m →
    θ_run (Cert.InProjSReferenceIdeal.defs (F := Ideal)) (onTc (τ := Cert.InProjSReferenceIdeal.τ) (Cert.InProjSReferenceIdeal.main (F := Ideal))) ⟨m, fun _ => 0, g⟩ (fun r => (∀ c : Dev Cert.InProjSReferenceIdeal.nD,
      r.2.mem ((c.tc : Thread Cert.InProjSReferenceIdeal.nD Cert.InProjSReferenceIdeal.τ).loc Cert.InProjSReferenceIdeal.main_arg0) = m ((c.tc : Thread Cert.InProjSReferenceIdeal.nD Cert.InProjSReferenceIdeal.τ).loc Cert.InProjSReferenceIdeal.main_arg0)
      ∧ r.2.mem ((c.tc : Thread Cert.InProjSReferenceIdeal.nD Cert.InProjSReferenceIdeal.τ).loc Cert.InProjSReferenceIdeal.main_arg1) = m ((c.tc : Thread Cert.InProjSReferenceIdeal.nD Cert.InProjSReferenceIdeal.τ).loc Cert.InProjSReferenceIdeal.main_arg1)
      ∧ r.2.mem ((c.tc : Thread Cert.InProjSReferenceIdeal.nD Cert.InProjSReferenceIdeal.τ).loc Cert.InProjSReferenceIdeal.main_arg2) = m ((c.tc : Thread Cert.InProjSReferenceIdeal.nD Cert.InProjSReferenceIdeal.τ).loc Cert.InProjSReferenceIdeal.main_arg2)
      ∧ r.2.mem ((c.tc : Thread Cert.InProjSReferenceIdeal.nD Cert.InProjSReferenceIdeal.τ).loc Cert.InProjSReferenceIdeal.main_arg3) = m ((c.tc : Thread Cert.InProjSReferenceIdeal.nD Cert.InProjSReferenceIdeal.τ).loc Cert.InProjSReferenceIdeal.main_arg3)
      ∧ r.2.mem ((c.tc : Thread Cert.InProjSReferenceIdeal.nD Cert.InProjSReferenceIdeal.τ).loc Cert.InProjSReferenceIdeal.main_arg4) = m ((c.tc : Thread Cert.InProjSReferenceIdeal.nD Cert.InProjSReferenceIdeal.τ).loc Cert.InProjSReferenceIdeal.main_arg4)
      ∧ r.2.mem ((c.tc : Thread Cert.InProjSReferenceIdeal.nD Cert.InProjSReferenceIdeal.τ).loc Cert.InProjSReferenceIdeal.main_arg5) = m ((c.tc : Thread Cert.InProjSReferenceIdeal.nD Cert.InProjSReferenceIdeal.τ).loc Cert.InProjSReferenceIdeal.main_arg5)
      ∧ r.2.mem ((c.tc : Thread Cert.InProjSReferenceIdeal.nD Cert.InProjSReferenceIdeal.τ).loc Cert.InProjSReferenceIdeal.main_arg6) = m ((c.tc : Thread Cert.InProjSReferenceIdeal.nD Cert.InProjSReferenceIdeal.τ).loc Cert.InProjSReferenceIdeal.main_arg6))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSReferenceIdeal [hMergeSReferenceIdeal : Cert.MergeSReferenceIdeal.Facts] : Prop :=
  ∀ (m : (ℓ : Loc Cert.MergeSReferenceIdeal.nD Cert.MergeSReferenceIdeal.τ Cert.MergeSReferenceIdeal.sig) → Buf (Elt Ideal) ℓ) (g : Dev Cert.MergeSReferenceIdeal.nD → PrngReg), Pre_MergeSReferenceIdeal m →
    θ_run (Cert.MergeSReferenceIdeal.defs (F := Ideal)) (onTc (τ := Cert.MergeSReferenceIdeal.τ) (Cert.MergeSReferenceIdeal.main (F := Ideal))) ⟨m, fun _ => 0, g⟩ (fun r => (∀ c : Dev Cert.MergeSReferenceIdeal.nD,
      r.2.mem ((c.tc : Thread Cert.MergeSReferenceIdeal.nD Cert.MergeSReferenceIdeal.τ).loc Cert.MergeSReferenceIdeal.main_arg0) = m ((c.tc : Thread Cert.MergeSReferenceIdeal.nD Cert.MergeSReferenceIdeal.τ).loc Cert.MergeSReferenceIdeal.main_arg0)
      ∧ r.2.mem ((c.tc : Thread Cert.MergeSReferenceIdeal.nD Cert.MergeSReferenceIdeal.τ).loc Cert.MergeSReferenceIdeal.main_arg1) = m ((c.tc : Thread Cert.MergeSReferenceIdeal.nD Cert.MergeSReferenceIdeal.τ).loc Cert.MergeSReferenceIdeal.main_arg1)
      ∧ r.2.mem ((c.tc : Thread Cert.MergeSReferenceIdeal.nD Cert.MergeSReferenceIdeal.τ).loc Cert.MergeSReferenceIdeal.main_arg2) = m ((c.tc : Thread Cert.MergeSReferenceIdeal.nD Cert.MergeSReferenceIdeal.τ).loc Cert.MergeSReferenceIdeal.main_arg2)
      ∧ r.2.mem ((c.tc : Thread Cert.MergeSReferenceIdeal.nD Cert.MergeSReferenceIdeal.τ).loc Cert.MergeSReferenceIdeal.main_arg3) = m ((c.tc : Thread Cert.MergeSReferenceIdeal.nD Cert.MergeSReferenceIdeal.τ).loc Cert.MergeSReferenceIdeal.main_arg3)
      ∧ r.2.mem ((c.tc : Thread Cert.MergeSReferenceIdeal.nD Cert.MergeSReferenceIdeal.τ).loc Cert.MergeSReferenceIdeal.main_arg4) = m ((c.tc : Thread Cert.MergeSReferenceIdeal.nD Cert.MergeSReferenceIdeal.τ).loc Cert.MergeSReferenceIdeal.main_arg4)
      ∧ r.2.mem ((c.tc : Thread Cert.MergeSReferenceIdeal.nD Cert.MergeSReferenceIdeal.τ).loc Cert.MergeSReferenceIdeal.main_arg5) = m ((c.tc : Thread Cert.MergeSReferenceIdeal.nD Cert.MergeSReferenceIdeal.τ).loc Cert.MergeSReferenceIdeal.main_arg5)
      ∧ r.2.mem ((c.tc : Thread Cert.MergeSReferenceIdeal.nD Cert.MergeSReferenceIdeal.τ).loc Cert.MergeSReferenceIdeal.main_arg6) = m ((c.tc : Thread Cert.MergeSReferenceIdeal.nD Cert.MergeSReferenceIdeal.τ).loc Cert.MergeSReferenceIdeal.main_arg6)
      ∧ r.2.mem ((c.tc : Thread Cert.MergeSReferenceIdeal.nD Cert.MergeSReferenceIdeal.τ).loc Cert.MergeSReferenceIdeal.main_arg7) = m ((c.tc : Thread Cert.MergeSReferenceIdeal.nD Cert.MergeSReferenceIdeal.τ).loc Cert.MergeSReferenceIdeal.main_arg7))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ r.2.sem = fun _ => 0)

def quiescent_FfnSReferenceIdeal [hFfnSReferenceIdeal : Cert.FfnSReferenceIdeal.Facts] : Prop :=
  ∀ (m : (ℓ : Loc Cert.FfnSReferenceIdeal.nD Cert.FfnSReferenceIdeal.τ Cert.FfnSReferenceIdeal.sig) → Buf (Elt Ideal) ℓ) (g : Dev Cert.FfnSReferenceIdeal.nD → PrngReg), Pre_FfnSReferenceIdeal m →
    θ_run (Cert.FfnSReferenceIdeal.defs (F := Ideal)) (onTc (τ := Cert.FfnSReferenceIdeal.τ) (Cert.FfnSReferenceIdeal.main (F := Ideal))) ⟨m, fun _ => 0, g⟩ (fun r => (∀ c : Dev Cert.FfnSReferenceIdeal.nD,
      r.2.mem ((c.tc : Thread Cert.FfnSReferenceIdeal.nD Cert.FfnSReferenceIdeal.τ).loc Cert.FfnSReferenceIdeal.main_arg0) = m ((c.tc : Thread Cert.FfnSReferenceIdeal.nD Cert.FfnSReferenceIdeal.τ).loc Cert.FfnSReferenceIdeal.main_arg0)
      ∧ r.2.mem ((c.tc : Thread Cert.FfnSReferenceIdeal.nD Cert.FfnSReferenceIdeal.τ).loc Cert.FfnSReferenceIdeal.main_arg1) = m ((c.tc : Thread Cert.FfnSReferenceIdeal.nD Cert.FfnSReferenceIdeal.τ).loc Cert.FfnSReferenceIdeal.main_arg1)
      ∧ r.2.mem ((c.tc : Thread Cert.FfnSReferenceIdeal.nD Cert.FfnSReferenceIdeal.τ).loc Cert.FfnSReferenceIdeal.main_arg2) = m ((c.tc : Thread Cert.FfnSReferenceIdeal.nD Cert.FfnSReferenceIdeal.τ).loc Cert.FfnSReferenceIdeal.main_arg2)
      ∧ r.2.mem ((c.tc : Thread Cert.FfnSReferenceIdeal.nD Cert.FfnSReferenceIdeal.τ).loc Cert.FfnSReferenceIdeal.main_arg3) = m ((c.tc : Thread Cert.FfnSReferenceIdeal.nD Cert.FfnSReferenceIdeal.τ).loc Cert.FfnSReferenceIdeal.main_arg3)
      ∧ r.2.mem ((c.tc : Thread Cert.FfnSReferenceIdeal.nD Cert.FfnSReferenceIdeal.τ).loc Cert.FfnSReferenceIdeal.main_arg4) = m ((c.tc : Thread Cert.FfnSReferenceIdeal.nD Cert.FfnSReferenceIdeal.τ).loc Cert.FfnSReferenceIdeal.main_arg4)
      ∧ r.2.mem ((c.tc : Thread Cert.FfnSReferenceIdeal.nD Cert.FfnSReferenceIdeal.τ).loc Cert.FfnSReferenceIdeal.main_arg5) = m ((c.tc : Thread Cert.FfnSReferenceIdeal.nD Cert.FfnSReferenceIdeal.τ).loc Cert.FfnSReferenceIdeal.main_arg5)
      ∧ r.2.mem ((c.tc : Thread Cert.FfnSReferenceIdeal.nD Cert.FfnSReferenceIdeal.τ).loc Cert.FfnSReferenceIdeal.main_arg6) = m ((c.tc : Thread Cert.FfnSReferenceIdeal.nD Cert.FfnSReferenceIdeal.τ).loc Cert.FfnSReferenceIdeal.main_arg6)
      ∧ r.2.mem ((c.tc : Thread Cert.FfnSReferenceIdeal.nD Cert.FfnSReferenceIdeal.τ).loc Cert.FfnSReferenceIdeal.main_arg7) = m ((c.tc : Thread Cert.FfnSReferenceIdeal.nD Cert.FfnSReferenceIdeal.τ).loc Cert.FfnSReferenceIdeal.main_arg7)
      ∧ r.2.mem ((c.tc : Thread Cert.FfnSReferenceIdeal.nD Cert.FfnSReferenceIdeal.τ).loc Cert.FfnSReferenceIdeal.main_arg8) = m ((c.tc : Thread Cert.FfnSReferenceIdeal.nD Cert.FfnSReferenceIdeal.τ).loc Cert.FfnSReferenceIdeal.main_arg8))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5))
      ∧ r.2.sem = fun _ => 0)

def quiescent_Pages [hPages : Cert.Pages.Facts] : Prop :=
  ∀ (m : (ℓ : Loc Cert.Pages.nD Cert.Pages.τ Cert.Pages.sig) → Buf (Elt Bits) ℓ) (g : Dev Cert.Pages.nD → PrngReg), Pre_Pages m →
    θ_run (Cert.Pages.defs (F := Bits)) (onTc (τ := Cert.Pages.τ) (Cert.Pages.main (F := Bits))) ⟨m, fun _ => 0, g⟩ (fun r => (∀ c : Dev Cert.Pages.nD,
      r.2.mem ((c.tc : Thread Cert.Pages.nD Cert.Pages.τ).loc Cert.Pages.main_arg0) = m ((c.tc : Thread Cert.Pages.nD Cert.Pages.τ).loc Cert.Pages.main_arg0))
      ∧ r.2.sem = fun _ => 0)

def quiescent_PagesIdeal [hPagesIdeal : Cert.PagesIdeal.Facts] : Prop :=
  ∀ (m : (ℓ : Loc Cert.PagesIdeal.nD Cert.PagesIdeal.τ Cert.PagesIdeal.sig) → Buf (Elt Ideal) ℓ) (g : Dev Cert.PagesIdeal.nD → PrngReg), Pre_PagesIdeal m →
    θ_run (Cert.PagesIdeal.defs (F := Ideal)) (onTc (τ := Cert.PagesIdeal.τ) (Cert.PagesIdeal.main (F := Ideal))) ⟨m, fun _ => 0, g⟩ (fun r => (∀ c : Dev Cert.PagesIdeal.nD,
      r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0))
      ∧ r.2.sem = fun _ => 0)

def quiescent_PagesIdeal_pre_pages_below [hPagesIdeal : Cert.PagesIdeal.Facts] [hPre_pages_below : Cert.Pre_pages_below.Facts] : Prop :=
  ∀ (m : (ℓ : Loc Cert.PagesIdeal.nD Cert.PagesIdeal.τ Cert.PagesIdeal.sig) → Buf (Elt Ideal) ℓ) (g : Dev Cert.PagesIdeal.nD → PrngReg), Pre_PagesIdeal_pages_below m →
    θ_run (Cert.PagesIdeal.defs (F := Ideal)) (onTc (τ := Cert.PagesIdeal.τ) (Cert.PagesIdeal.main (F := Ideal))) ⟨m, fun _ => 0, g⟩ (fun r => (∀ c : Dev Cert.PagesIdeal.nD,
      r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0))
      ∧ r.2.sem = fun _ => 0)

def quiescent_PagesReferenceIdeal [hPagesReferenceIdeal : Cert.PagesReferenceIdeal.Facts] : Prop :=
  ∀ (m : (ℓ : Loc Cert.PagesReferenceIdeal.nD Cert.PagesReferenceIdeal.τ Cert.PagesReferenceIdeal.sig) → Buf (Elt Ideal) ℓ) (g : Dev Cert.PagesReferenceIdeal.nD → PrngReg), Pre_PagesReferenceIdeal m →
    θ_run (Cert.PagesReferenceIdeal.defs (F := Ideal)) (onTc (τ := Cert.PagesReferenceIdeal.τ) (Cert.PagesReferenceIdeal.main (F := Ideal))) ⟨m, fun _ => 0, g⟩ (fun r => (∀ c : Dev Cert.PagesReferenceIdeal.nD,
      r.2.mem ((c.tc : Thread Cert.PagesReferenceIdeal.nD Cert.PagesReferenceIdeal.τ).loc Cert.PagesReferenceIdeal.main_arg0) = m ((c.tc : Thread Cert.PagesReferenceIdeal.nD Cert.PagesReferenceIdeal.τ).loc Cert.PagesReferenceIdeal.main_arg0))
      ∧ r.2.sem = fun _ => 0)

def quiescent_PagesReferenceIdeal_pre_pages_below [hPagesReferenceIdeal : Cert.PagesReferenceIdeal.Facts] [hPre_pages_below : Cert.Pre_pages_below.Facts] : Prop :=
  ∀ (m : (ℓ : Loc Cert.PagesReferenceIdeal.nD Cert.PagesReferenceIdeal.τ Cert.PagesReferenceIdeal.sig) → Buf (Elt Ideal) ℓ) (g : Dev Cert.PagesReferenceIdeal.nD → PrngReg), Pre_PagesReferenceIdeal_pages_below m →
    θ_run (Cert.PagesReferenceIdeal.defs (F := Ideal)) (onTc (τ := Cert.PagesReferenceIdeal.τ) (Cert.PagesReferenceIdeal.main (F := Ideal))) ⟨m, fun _ => 0, g⟩ (fun r => (∀ c : Dev Cert.PagesReferenceIdeal.nD,
      r.2.mem ((c.tc : Thread Cert.PagesReferenceIdeal.nD Cert.PagesReferenceIdeal.τ).loc Cert.PagesReferenceIdeal.main_arg0) = m ((c.tc : Thread Cert.PagesReferenceIdeal.nD Cert.PagesReferenceIdeal.τ).loc Cert.PagesReferenceIdeal.main_arg0))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsIdeal_pre_sums_below [hSumsIdeal : Cert.SumsIdeal.Facts] [hPre_sums_below : Cert.Pre_sums_below.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal_sums_below m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0))
      ∧ r.2.sem = fun _ => 0)

def quiescent_SumsReferenceIdeal_pre_sums_below [hSumsReferenceIdeal : Cert.SumsReferenceIdeal.Facts] [hPre_sums_below : Cert.Pre_sums_below.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal_sums_below m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v44) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v8) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)) (v4 : (c : Dev Cert.InProjIdeal.nD) → Buf (Elt Ideal) ((c.tc : Thread Cert.InProjIdeal.nD Cert.InProjIdeal.τ).loc Cert.InProjIdeal.main_v16_4)) (v5 : (c : Dev Cert.InProjIdeal.nD) → Buf (Elt Ideal) ((c.tc : Thread Cert.InProjIdeal.nD Cert.InProjIdeal.τ).loc Cert.InProjIdeal.main_v16_5)) (v6 : (c : Dev Cert.InProjIdeal.nD) → Buf (Elt Ideal) ((c.tc : Thread Cert.InProjIdeal.nD Cert.InProjIdeal.τ).loc Cert.InProjIdeal.main_v16_6)) (v7 : (c : Dev Cert.InProjIdeal.nD) → Buf (Elt Ideal) ((c.tc : Thread Cert.InProjIdeal.nD Cert.InProjIdeal.τ).loc Cert.InProjIdeal.main_v16_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_v16_4) = v4 c
          ∧ r.2.mem ((c.tc : Thread Cert.InProjIdeal.nD Cert.InProjIdeal.τ).loc Cert.InProjIdeal.main_v16_5) = v5 c
          ∧ r.2.mem ((c.tc : Thread Cert.InProjIdeal.nD Cert.InProjIdeal.τ).loc Cert.InProjIdeal.main_v16_6) = v6 c
          ∧ r.2.mem ((c.tc : Thread Cert.InProjIdeal.nD Cert.InProjIdeal.τ).loc Cert.InProjIdeal.main_v16_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v44) = v0 c
          ∧ r.2.mem ((c.tc : Thread Cert.InProjReferenceIdeal.nD Cert.InProjReferenceIdeal.τ).loc Cert.InProjReferenceIdeal.main_v24) = v1 c
          ∧ r.2.mem ((c.tc : Thread Cert.InProjReferenceIdeal.nD Cert.InProjReferenceIdeal.τ).loc Cert.InProjReferenceIdeal.main_v25) = v2 c
          ∧ r.2.mem ((c.tc : Thread Cert.InProjReferenceIdeal.nD Cert.InProjReferenceIdeal.τ).loc Cert.InProjReferenceIdeal.main_v45) = v3 c
          ∧ r.2.mem ((c.tc : Thread Cert.InProjReferenceIdeal.nD Cert.InProjReferenceIdeal.τ).loc Cert.InProjReferenceIdeal.main_v46) = v4 c
          ∧ r.2.mem ((c.tc : Thread Cert.InProjReferenceIdeal.nD Cert.InProjReferenceIdeal.τ).loc Cert.InProjReferenceIdeal.main_v27) = v5 c
          ∧ r.2.mem ((c.tc : Thread Cert.InProjReferenceIdeal.nD Cert.InProjReferenceIdeal.τ).loc Cert.InProjReferenceIdeal.main_v28) = v6 c
          ∧ r.2.mem ((c.tc : Thread Cert.InProjReferenceIdeal.nD Cert.InProjReferenceIdeal.τ).loc Cert.InProjReferenceIdeal.main_v47) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v37) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v15_0)) (v1 : (c : Dev Cert.ConvIdeal.nD) → Buf (Elt Ideal) ((c.tc : Thread Cert.ConvIdeal.nD Cert.ConvIdeal.τ).loc Cert.ConvIdeal.main_v15_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v15_0) = v0 c
          ∧ r.2.mem ((c.tc : Thread Cert.ConvIdeal.nD Cert.ConvIdeal.τ).loc Cert.ConvIdeal.main_v15_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v44) = v0 c
          ∧ r.2.mem ((c.tc : Thread Cert.ConvReferenceIdeal.nD Cert.ConvReferenceIdeal.τ).loc Cert.ConvReferenceIdeal.main_v48) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def preserves_InProjS_InProjSIdeal : Prop :=
  True

def algebraic_InProjSIdeal_InProjSReferenceIdeal [hInProjSIdeal : Cert.InProjSIdeal.Facts] [hInProjSReferenceIdeal : Cert.InProjSReferenceIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSReferenceIdeal.nD Cert.InProjSReferenceIdeal.τ Cert.InProjSReferenceIdeal.sig) → Buf (Elt Ideal) ℓ) (g' : Dev Cert.InProjSReferenceIdeal.nD → PrngReg), Pre_InProjSIdeal m →
    (∀ c : Dev Cert.InProjSIdeal.nD,
      m' ((c.tc : Thread Cert.InProjSReferenceIdeal.nD Cert.InProjSReferenceIdeal.τ).loc Cert.InProjSReferenceIdeal.main_arg0) = m ((c.tc : Thread Cert.InProjSIdeal.nD Cert.InProjSIdeal.τ).loc Cert.InProjSIdeal.main_arg0)
      ∧ m' ((c.tc : Thread Cert.InProjSReferenceIdeal.nD Cert.InProjSReferenceIdeal.τ).loc Cert.InProjSReferenceIdeal.main_arg1) = m ((c.tc : Thread Cert.InProjSIdeal.nD Cert.InProjSIdeal.τ).loc Cert.InProjSIdeal.main_arg1)
      ∧ m' ((c.tc : Thread Cert.InProjSReferenceIdeal.nD Cert.InProjSReferenceIdeal.τ).loc Cert.InProjSReferenceIdeal.main_arg2) = m ((c.tc : Thread Cert.InProjSIdeal.nD Cert.InProjSIdeal.τ).loc Cert.InProjSIdeal.main_arg2)
      ∧ m' ((c.tc : Thread Cert.InProjSReferenceIdeal.nD Cert.InProjSReferenceIdeal.τ).loc Cert.InProjSReferenceIdeal.main_arg3) = m ((c.tc : Thread Cert.InProjSIdeal.nD Cert.InProjSIdeal.τ).loc Cert.InProjSIdeal.main_arg3)
      ∧ m' ((c.tc : Thread Cert.InProjSReferenceIdeal.nD Cert.InProjSReferenceIdeal.τ).loc Cert.InProjSReferenceIdeal.main_arg4) = m ((c.tc : Thread Cert.InProjSIdeal.nD Cert.InProjSIdeal.τ).loc Cert.InProjSIdeal.main_arg4)
      ∧ m' ((c.tc : Thread Cert.InProjSReferenceIdeal.nD Cert.InProjSReferenceIdeal.τ).loc Cert.InProjSReferenceIdeal.main_arg5) = m ((c.tc : Thread Cert.InProjSIdeal.nD Cert.InProjSIdeal.τ).loc Cert.InProjSIdeal.main_arg5)
      ∧ m' ((c.tc : Thread Cert.InProjSReferenceIdeal.nD Cert.InProjSReferenceIdeal.τ).loc Cert.InProjSReferenceIdeal.main_arg6) = m ((c.tc : Thread Cert.InProjSIdeal.nD Cert.InProjSIdeal.τ).loc Cert.InProjSIdeal.main_arg6)) →
    ∃ (v0 : (c : Dev Cert.InProjSIdeal.nD) → Buf (Elt Ideal) ((c.tc : Thread Cert.InProjSIdeal.nD Cert.InProjSIdeal.τ).loc Cert.InProjSIdeal.main_v16_0)) (v1 : (c : Dev Cert.InProjSIdeal.nD) → Buf (Elt Ideal) ((c.tc : Thread Cert.InProjSIdeal.nD Cert.InProjSIdeal.τ).loc Cert.InProjSIdeal.main_v16_1)) (v2 : (c : Dev Cert.InProjSIdeal.nD) → Buf (Elt Ideal) ((c.tc : Thread Cert.InProjSIdeal.nD Cert.InProjSIdeal.τ).loc Cert.InProjSIdeal.main_v16_2)) (v3 : (c : Dev Cert.InProjSIdeal.nD) → Buf (Elt Ideal) ((c.tc : Thread Cert.InProjSIdeal.nD Cert.InProjSIdeal.τ).loc Cert.InProjSIdeal.main_v16_3)) (v4 : (c : Dev Cert.InProjSIdeal.nD) → Buf (Elt Ideal) ((c.tc : Thread Cert.InProjSIdeal.nD Cert.InProjSIdeal.τ).loc Cert.InProjSIdeal.main_v16_4)) (v5 : (c : Dev Cert.InProjSIdeal.nD) → Buf (Elt Ideal) ((c.tc : Thread Cert.InProjSIdeal.nD Cert.InProjSIdeal.τ).loc Cert.InProjSIdeal.main_v16_5)) (v6 : (c : Dev Cert.InProjSIdeal.nD) → Buf (Elt Ideal) ((c.tc : Thread Cert.InProjSIdeal.nD Cert.InProjSIdeal.τ).loc Cert.InProjSIdeal.main_v16_6)) (v7 : (c : Dev Cert.InProjSIdeal.nD) → Buf (Elt Ideal) ((c.tc : Thread Cert.InProjSIdeal.nD Cert.InProjSIdeal.τ).loc Cert.InProjSIdeal.main_v16_7)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v16_0) = v0 c
          ∧ r.2.mem ((c.tc : Thread Cert.InProjSIdeal.nD Cert.InProjSIdeal.τ).loc Cert.InProjSIdeal.main_v16_1) = v1 c
          ∧ r.2.mem ((c.tc : Thread Cert.InProjSIdeal.nD Cert.InProjSIdeal.τ).loc Cert.InProjSIdeal.main_v16_2) = v2 c
          ∧ r.2.mem ((c.tc : Thread Cert.InProjSIdeal.nD Cert.InProjSIdeal.τ).loc Cert.InProjSIdeal.main_v16_3) = v3 c
          ∧ r.2.mem ((c.tc : Thread Cert.InProjSIdeal.nD Cert.InProjSIdeal.τ).loc Cert.InProjSIdeal.main_v16_4) = v4 c
          ∧ r.2.mem ((c.tc : Thread Cert.InProjSIdeal.nD Cert.InProjSIdeal.τ).loc Cert.InProjSIdeal.main_v16_5) = v5 c
          ∧ r.2.mem ((c.tc : Thread Cert.InProjSIdeal.nD Cert.InProjSIdeal.τ).loc Cert.InProjSIdeal.main_v16_6) = v6 c
          ∧ r.2.mem ((c.tc : Thread Cert.InProjSIdeal.nD Cert.InProjSIdeal.τ).loc Cert.InProjSIdeal.main_v16_7) = v7 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
          ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
          ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
          ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ θ_run (Cert.InProjSReferenceIdeal.defs (F := Ideal)) (onTc (τ := Cert.InProjSReferenceIdeal.τ) (Cert.InProjSReferenceIdeal.main (F := Ideal))) ⟨m', fun _ => 0, g'⟩ (fun r => ∀ c : Dev Cert.InProjSReferenceIdeal.nD,
          r.2.mem ((c.tc : Thread Cert.InProjSReferenceIdeal.nD Cert.InProjSReferenceIdeal.τ).loc Cert.InProjSReferenceIdeal.main_v42) = v0 c
          ∧ r.2.mem ((c.tc : Thread Cert.InProjSReferenceIdeal.nD Cert.InProjSReferenceIdeal.τ).loc Cert.InProjSReferenceIdeal.main_v22) = v1 c
          ∧ r.2.mem ((c.tc : Thread Cert.InProjSReferenceIdeal.nD Cert.InProjSReferenceIdeal.τ).loc Cert.InProjSReferenceIdeal.main_v23) = v2 c
          ∧ r.2.mem ((c.tc : Thread Cert.InProjSReferenceIdeal.nD Cert.InProjSReferenceIdeal.τ).loc Cert.InProjSReferenceIdeal.main_v43) = v3 c
          ∧ r.2.mem ((c.tc : Thread Cert.InProjSReferenceIdeal.nD Cert.InProjSReferenceIdeal.τ).loc Cert.InProjSReferenceIdeal.main_v44) = v4 c
          ∧ r.2.mem ((c.tc : Thread Cert.InProjSReferenceIdeal.nD Cert.InProjSReferenceIdeal.τ).loc Cert.InProjSReferenceIdeal.main_v25) = v5 c
          ∧ r.2.mem ((c.tc : Thread Cert.InProjSReferenceIdeal.nD Cert.InProjSReferenceIdeal.τ).loc Cert.InProjSReferenceIdeal.main_v26) = v6 c
          ∧ r.2.mem ((c.tc : Thread Cert.InProjSReferenceIdeal.nD Cert.InProjSReferenceIdeal.τ).loc Cert.InProjSReferenceIdeal.main_v45) = v7 c
          ∧ r.2.mem ((c.tc : Thread Cert.InProjSReferenceIdeal.nD Cert.InProjSReferenceIdeal.τ).loc Cert.InProjSReferenceIdeal.main_arg0) = m' ((c.tc : Thread Cert.InProjSReferenceIdeal.nD Cert.InProjSReferenceIdeal.τ).loc Cert.InProjSReferenceIdeal.main_arg0)
          ∧ r.2.mem ((c.tc : Thread Cert.InProjSReferenceIdeal.nD Cert.InProjSReferenceIdeal.τ).loc Cert.InProjSReferenceIdeal.main_arg1) = m' ((c.tc : Thread Cert.InProjSReferenceIdeal.nD Cert.InProjSReferenceIdeal.τ).loc Cert.InProjSReferenceIdeal.main_arg1)
          ∧ r.2.mem ((c.tc : Thread Cert.InProjSReferenceIdeal.nD Cert.InProjSReferenceIdeal.τ).loc Cert.InProjSReferenceIdeal.main_arg2) = m' ((c.tc : Thread Cert.InProjSReferenceIdeal.nD Cert.InProjSReferenceIdeal.τ).loc Cert.InProjSReferenceIdeal.main_arg2)
          ∧ r.2.mem ((c.tc : Thread Cert.InProjSReferenceIdeal.nD Cert.InProjSReferenceIdeal.τ).loc Cert.InProjSReferenceIdeal.main_arg3) = m' ((c.tc : Thread Cert.InProjSReferenceIdeal.nD Cert.InProjSReferenceIdeal.τ).loc Cert.InProjSReferenceIdeal.main_arg3)
          ∧ r.2.mem ((c.tc : Thread Cert.InProjSReferenceIdeal.nD Cert.InProjSReferenceIdeal.τ).loc Cert.InProjSReferenceIdeal.main_arg4) = m' ((c.tc : Thread Cert.InProjSReferenceIdeal.nD Cert.InProjSReferenceIdeal.τ).loc Cert.InProjSReferenceIdeal.main_arg4)
          ∧ r.2.mem ((c.tc : Thread Cert.InProjSReferenceIdeal.nD Cert.InProjSReferenceIdeal.τ).loc Cert.InProjSReferenceIdeal.main_arg5) = m' ((c.tc : Thread Cert.InProjSReferenceIdeal.nD Cert.InProjSReferenceIdeal.τ).loc Cert.InProjSReferenceIdeal.main_arg5)
          ∧ r.2.mem ((c.tc : Thread Cert.InProjSReferenceIdeal.nD Cert.InProjSReferenceIdeal.τ).loc Cert.InProjSReferenceIdeal.main_arg6) = m' ((c.tc : Thread Cert.InProjSReferenceIdeal.nD Cert.InProjSReferenceIdeal.τ).loc Cert.InProjSReferenceIdeal.main_arg6))

def preserves_MergeS_MergeSIdeal : Prop :=
  True

def algebraic_MergeSIdeal_MergeSReferenceIdeal [hMergeSIdeal : Cert.MergeSIdeal.Facts] [hMergeSReferenceIdeal : Cert.MergeSReferenceIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSReferenceIdeal.nD Cert.MergeSReferenceIdeal.τ Cert.MergeSReferenceIdeal.sig) → Buf (Elt Ideal) ℓ) (g' : Dev Cert.MergeSReferenceIdeal.nD → PrngReg), Pre_MergeSIdeal m →
    (∀ c : Dev Cert.MergeSIdeal.nD,
      m' ((c.tc : Thread Cert.MergeSReferenceIdeal.nD Cert.MergeSReferenceIdeal.τ).loc Cert.MergeSReferenceIdeal.main_arg0) = m ((c.tc : Thread Cert.MergeSIdeal.nD Cert.MergeSIdeal.τ).loc Cert.MergeSIdeal.main_arg0)
      ∧ m' ((c.tc : Thread Cert.MergeSReferenceIdeal.nD Cert.MergeSReferenceIdeal.τ).loc Cert.MergeSReferenceIdeal.main_arg1) = m ((c.tc : Thread Cert.MergeSIdeal.nD Cert.MergeSIdeal.τ).loc Cert.MergeSIdeal.main_arg1)
      ∧ m' ((c.tc : Thread Cert.MergeSReferenceIdeal.nD Cert.MergeSReferenceIdeal.τ).loc Cert.MergeSReferenceIdeal.main_arg2) = m ((c.tc : Thread Cert.MergeSIdeal.nD Cert.MergeSIdeal.τ).loc Cert.MergeSIdeal.main_arg2)
      ∧ m' ((c.tc : Thread Cert.MergeSReferenceIdeal.nD Cert.MergeSReferenceIdeal.τ).loc Cert.MergeSReferenceIdeal.main_arg3) = m ((c.tc : Thread Cert.MergeSIdeal.nD Cert.MergeSIdeal.τ).loc Cert.MergeSIdeal.main_arg3)
      ∧ m' ((c.tc : Thread Cert.MergeSReferenceIdeal.nD Cert.MergeSReferenceIdeal.τ).loc Cert.MergeSReferenceIdeal.main_arg4) = m ((c.tc : Thread Cert.MergeSIdeal.nD Cert.MergeSIdeal.τ).loc Cert.MergeSIdeal.main_arg4)
      ∧ m' ((c.tc : Thread Cert.MergeSReferenceIdeal.nD Cert.MergeSReferenceIdeal.τ).loc Cert.MergeSReferenceIdeal.main_arg5) = m ((c.tc : Thread Cert.MergeSIdeal.nD Cert.MergeSIdeal.τ).loc Cert.MergeSIdeal.main_arg5)
      ∧ m' ((c.tc : Thread Cert.MergeSReferenceIdeal.nD Cert.MergeSReferenceIdeal.τ).loc Cert.MergeSReferenceIdeal.main_arg6) = m ((c.tc : Thread Cert.MergeSIdeal.nD Cert.MergeSIdeal.τ).loc Cert.MergeSIdeal.main_arg6)
      ∧ m' ((c.tc : Thread Cert.MergeSReferenceIdeal.nD Cert.MergeSReferenceIdeal.τ).loc Cert.MergeSReferenceIdeal.main_arg7) = m ((c.tc : Thread Cert.MergeSIdeal.nD Cert.MergeSIdeal.τ).loc Cert.MergeSIdeal.main_arg7)) →
    ∃ (v0 : (c : Dev Cert.MergeSIdeal.nD) → Buf (Elt Ideal) ((c.tc : Thread Cert.MergeSIdeal.nD Cert.MergeSIdeal.τ).loc Cert.MergeSIdeal.main_v3)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v3) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ θ_run (Cert.MergeSReferenceIdeal.defs (F := Ideal)) (onTc (τ := Cert.MergeSReferenceIdeal.τ) (Cert.MergeSReferenceIdeal.main (F := Ideal))) ⟨m', fun _ => 0, g'⟩ (fun r => ∀ c : Dev Cert.MergeSReferenceIdeal.nD,
          r.2.mem ((c.tc : Thread Cert.MergeSReferenceIdeal.nD Cert.MergeSReferenceIdeal.τ).loc Cert.MergeSReferenceIdeal.main_v35) = v0 c
          ∧ r.2.mem ((c.tc : Thread Cert.MergeSReferenceIdeal.nD Cert.MergeSReferenceIdeal.τ).loc Cert.MergeSReferenceIdeal.main_arg0) = m' ((c.tc : Thread Cert.MergeSReferenceIdeal.nD Cert.MergeSReferenceIdeal.τ).loc Cert.MergeSReferenceIdeal.main_arg0)
          ∧ r.2.mem ((c.tc : Thread Cert.MergeSReferenceIdeal.nD Cert.MergeSReferenceIdeal.τ).loc Cert.MergeSReferenceIdeal.main_arg1) = m' ((c.tc : Thread Cert.MergeSReferenceIdeal.nD Cert.MergeSReferenceIdeal.τ).loc Cert.MergeSReferenceIdeal.main_arg1)
          ∧ r.2.mem ((c.tc : Thread Cert.MergeSReferenceIdeal.nD Cert.MergeSReferenceIdeal.τ).loc Cert.MergeSReferenceIdeal.main_arg2) = m' ((c.tc : Thread Cert.MergeSReferenceIdeal.nD Cert.MergeSReferenceIdeal.τ).loc Cert.MergeSReferenceIdeal.main_arg2)
          ∧ r.2.mem ((c.tc : Thread Cert.MergeSReferenceIdeal.nD Cert.MergeSReferenceIdeal.τ).loc Cert.MergeSReferenceIdeal.main_arg3) = m' ((c.tc : Thread Cert.MergeSReferenceIdeal.nD Cert.MergeSReferenceIdeal.τ).loc Cert.MergeSReferenceIdeal.main_arg3)
          ∧ r.2.mem ((c.tc : Thread Cert.MergeSReferenceIdeal.nD Cert.MergeSReferenceIdeal.τ).loc Cert.MergeSReferenceIdeal.main_arg4) = m' ((c.tc : Thread Cert.MergeSReferenceIdeal.nD Cert.MergeSReferenceIdeal.τ).loc Cert.MergeSReferenceIdeal.main_arg4)
          ∧ r.2.mem ((c.tc : Thread Cert.MergeSReferenceIdeal.nD Cert.MergeSReferenceIdeal.τ).loc Cert.MergeSReferenceIdeal.main_arg5) = m' ((c.tc : Thread Cert.MergeSReferenceIdeal.nD Cert.MergeSReferenceIdeal.τ).loc Cert.MergeSReferenceIdeal.main_arg5)
          ∧ r.2.mem ((c.tc : Thread Cert.MergeSReferenceIdeal.nD Cert.MergeSReferenceIdeal.τ).loc Cert.MergeSReferenceIdeal.main_arg6) = m' ((c.tc : Thread Cert.MergeSReferenceIdeal.nD Cert.MergeSReferenceIdeal.τ).loc Cert.MergeSReferenceIdeal.main_arg6)
          ∧ r.2.mem ((c.tc : Thread Cert.MergeSReferenceIdeal.nD Cert.MergeSReferenceIdeal.τ).loc Cert.MergeSReferenceIdeal.main_arg7) = m' ((c.tc : Thread Cert.MergeSReferenceIdeal.nD Cert.MergeSReferenceIdeal.τ).loc Cert.MergeSReferenceIdeal.main_arg7))

def preserves_FfnS_FfnSIdeal : Prop :=
  True

def algebraic_FfnSIdeal_FfnSReferenceIdeal [hFfnSIdeal : Cert.FfnSIdeal.Facts] [hFfnSReferenceIdeal : Cert.FfnSReferenceIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSReferenceIdeal.nD Cert.FfnSReferenceIdeal.τ Cert.FfnSReferenceIdeal.sig) → Buf (Elt Ideal) ℓ) (g' : Dev Cert.FfnSReferenceIdeal.nD → PrngReg), Pre_FfnSIdeal m →
    (∀ c : Dev Cert.FfnSIdeal.nD,
      m' ((c.tc : Thread Cert.FfnSReferenceIdeal.nD Cert.FfnSReferenceIdeal.τ).loc Cert.FfnSReferenceIdeal.main_arg0) = m ((c.tc : Thread Cert.FfnSIdeal.nD Cert.FfnSIdeal.τ).loc Cert.FfnSIdeal.main_arg0)
      ∧ m' ((c.tc : Thread Cert.FfnSReferenceIdeal.nD Cert.FfnSReferenceIdeal.τ).loc Cert.FfnSReferenceIdeal.main_arg1) = m ((c.tc : Thread Cert.FfnSIdeal.nD Cert.FfnSIdeal.τ).loc Cert.FfnSIdeal.main_arg1)
      ∧ m' ((c.tc : Thread Cert.FfnSReferenceIdeal.nD Cert.FfnSReferenceIdeal.τ).loc Cert.FfnSReferenceIdeal.main_arg2) = m ((c.tc : Thread Cert.FfnSIdeal.nD Cert.FfnSIdeal.τ).loc Cert.FfnSIdeal.main_arg2)
      ∧ m' ((c.tc : Thread Cert.FfnSReferenceIdeal.nD Cert.FfnSReferenceIdeal.τ).loc Cert.FfnSReferenceIdeal.main_arg3) = m ((c.tc : Thread Cert.FfnSIdeal.nD Cert.FfnSIdeal.τ).loc Cert.FfnSIdeal.main_arg3)
      ∧ m' ((c.tc : Thread Cert.FfnSReferenceIdeal.nD Cert.FfnSReferenceIdeal.τ).loc Cert.FfnSReferenceIdeal.main_arg4) = m ((c.tc : Thread Cert.FfnSIdeal.nD Cert.FfnSIdeal.τ).loc Cert.FfnSIdeal.main_arg4)
      ∧ m' ((c.tc : Thread Cert.FfnSReferenceIdeal.nD Cert.FfnSReferenceIdeal.τ).loc Cert.FfnSReferenceIdeal.main_arg5) = m ((c.tc : Thread Cert.FfnSIdeal.nD Cert.FfnSIdeal.τ).loc Cert.FfnSIdeal.main_arg5)
      ∧ m' ((c.tc : Thread Cert.FfnSReferenceIdeal.nD Cert.FfnSReferenceIdeal.τ).loc Cert.FfnSReferenceIdeal.main_arg6) = m ((c.tc : Thread Cert.FfnSIdeal.nD Cert.FfnSIdeal.τ).loc Cert.FfnSIdeal.main_arg6)
      ∧ m' ((c.tc : Thread Cert.FfnSReferenceIdeal.nD Cert.FfnSReferenceIdeal.τ).loc Cert.FfnSReferenceIdeal.main_arg7) = m ((c.tc : Thread Cert.FfnSIdeal.nD Cert.FfnSIdeal.τ).loc Cert.FfnSIdeal.main_arg7)
      ∧ m' ((c.tc : Thread Cert.FfnSReferenceIdeal.nD Cert.FfnSReferenceIdeal.τ).loc Cert.FfnSReferenceIdeal.main_arg8) = m ((c.tc : Thread Cert.FfnSIdeal.nD Cert.FfnSIdeal.τ).loc Cert.FfnSIdeal.main_arg8)) →
    ∃ (v0 : (c : Dev Cert.FfnSIdeal.nD) → Buf (Elt Ideal) ((c.tc : Thread Cert.FfnSIdeal.nD Cert.FfnSIdeal.τ).loc Cert.FfnSIdeal.main_v7)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v7) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ θ_run (Cert.FfnSReferenceIdeal.defs (F := Ideal)) (onTc (τ := Cert.FfnSReferenceIdeal.τ) (Cert.FfnSReferenceIdeal.main (F := Ideal))) ⟨m', fun _ => 0, g'⟩ (fun r => ∀ c : Dev Cert.FfnSReferenceIdeal.nD,
          r.2.mem ((c.tc : Thread Cert.FfnSReferenceIdeal.nD Cert.FfnSReferenceIdeal.τ).loc Cert.FfnSReferenceIdeal.main_v40) = v0 c
          ∧ r.2.mem ((c.tc : Thread Cert.FfnSReferenceIdeal.nD Cert.FfnSReferenceIdeal.τ).loc Cert.FfnSReferenceIdeal.main_arg0) = m' ((c.tc : Thread Cert.FfnSReferenceIdeal.nD Cert.FfnSReferenceIdeal.τ).loc Cert.FfnSReferenceIdeal.main_arg0)
          ∧ r.2.mem ((c.tc : Thread Cert.FfnSReferenceIdeal.nD Cert.FfnSReferenceIdeal.τ).loc Cert.FfnSReferenceIdeal.main_arg1) = m' ((c.tc : Thread Cert.FfnSReferenceIdeal.nD Cert.FfnSReferenceIdeal.τ).loc Cert.FfnSReferenceIdeal.main_arg1)
          ∧ r.2.mem ((c.tc : Thread Cert.FfnSReferenceIdeal.nD Cert.FfnSReferenceIdeal.τ).loc Cert.FfnSReferenceIdeal.main_arg2) = m' ((c.tc : Thread Cert.FfnSReferenceIdeal.nD Cert.FfnSReferenceIdeal.τ).loc Cert.FfnSReferenceIdeal.main_arg2)
          ∧ r.2.mem ((c.tc : Thread Cert.FfnSReferenceIdeal.nD Cert.FfnSReferenceIdeal.τ).loc Cert.FfnSReferenceIdeal.main_arg3) = m' ((c.tc : Thread Cert.FfnSReferenceIdeal.nD Cert.FfnSReferenceIdeal.τ).loc Cert.FfnSReferenceIdeal.main_arg3)
          ∧ r.2.mem ((c.tc : Thread Cert.FfnSReferenceIdeal.nD Cert.FfnSReferenceIdeal.τ).loc Cert.FfnSReferenceIdeal.main_arg4) = m' ((c.tc : Thread Cert.FfnSReferenceIdeal.nD Cert.FfnSReferenceIdeal.τ).loc Cert.FfnSReferenceIdeal.main_arg4)
          ∧ r.2.mem ((c.tc : Thread Cert.FfnSReferenceIdeal.nD Cert.FfnSReferenceIdeal.τ).loc Cert.FfnSReferenceIdeal.main_arg5) = m' ((c.tc : Thread Cert.FfnSReferenceIdeal.nD Cert.FfnSReferenceIdeal.τ).loc Cert.FfnSReferenceIdeal.main_arg5)
          ∧ r.2.mem ((c.tc : Thread Cert.FfnSReferenceIdeal.nD Cert.FfnSReferenceIdeal.τ).loc Cert.FfnSReferenceIdeal.main_arg6) = m' ((c.tc : Thread Cert.FfnSReferenceIdeal.nD Cert.FfnSReferenceIdeal.τ).loc Cert.FfnSReferenceIdeal.main_arg6)
          ∧ r.2.mem ((c.tc : Thread Cert.FfnSReferenceIdeal.nD Cert.FfnSReferenceIdeal.τ).loc Cert.FfnSReferenceIdeal.main_arg7) = m' ((c.tc : Thread Cert.FfnSReferenceIdeal.nD Cert.FfnSReferenceIdeal.τ).loc Cert.FfnSReferenceIdeal.main_arg7)
          ∧ r.2.mem ((c.tc : Thread Cert.FfnSReferenceIdeal.nD Cert.FfnSReferenceIdeal.τ).loc Cert.FfnSReferenceIdeal.main_arg8) = m' ((c.tc : Thread Cert.FfnSReferenceIdeal.nD Cert.FfnSReferenceIdeal.τ).loc Cert.FfnSReferenceIdeal.main_arg8))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v3_0)) (v1 : (c : Dev Cert.StepIdeal.nD) → Buf (Elt Ideal) ((c.tc : Thread Cert.StepIdeal.nD Cert.StepIdeal.τ).loc Cert.StepIdeal.main_v3_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v3_0) = v0 c
          ∧ r.2.mem ((c.tc : Thread Cert.StepIdeal.nD Cert.StepIdeal.τ).loc Cert.StepIdeal.main_v3_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v31) = v0 c
          ∧ r.2.mem ((c.tc : Thread Cert.StepReferenceIdeal.nD Cert.StepReferenceIdeal.τ).loc Cert.StepReferenceIdeal.main_v32) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5))

def preserves_Pages_PagesIdeal : Prop :=
  True

def algebraic_PagesIdeal_PagesReferenceIdeal_pre_pages_below [hPagesIdeal : Cert.PagesIdeal.Facts] [hPagesReferenceIdeal : Cert.PagesReferenceIdeal.Facts] [hPre_pages_below : Cert.Pre_pages_below.Facts] : Prop :=
  ∀ (m : (ℓ : Loc Cert.PagesIdeal.nD Cert.PagesIdeal.τ Cert.PagesIdeal.sig) → Buf (Elt Ideal) ℓ) (g : Dev Cert.PagesIdeal.nD → PrngReg)
    (m' : (ℓ : Loc Cert.PagesReferenceIdeal.nD Cert.PagesReferenceIdeal.τ Cert.PagesReferenceIdeal.sig) → Buf (Elt Ideal) ℓ) (g' : Dev Cert.PagesReferenceIdeal.nD → PrngReg), Pre_PagesIdeal_pages_below m →
    (∀ c : Dev Cert.PagesIdeal.nD,
      m' ((c.tc : Thread Cert.PagesReferenceIdeal.nD Cert.PagesReferenceIdeal.τ).loc Cert.PagesReferenceIdeal.main_arg0) = m ((c.tc : Thread Cert.PagesIdeal.nD Cert.PagesIdeal.τ).loc Cert.PagesIdeal.main_arg0)) →
    ∃ (v0 : (c : Dev Cert.PagesIdeal.nD) → Buf (Elt Ideal) ((c.tc : Thread Cert.PagesIdeal.nD Cert.PagesIdeal.τ).loc Cert.PagesIdeal.main_v3_0)) (v1 : (c : Dev Cert.PagesIdeal.nD) → Buf (Elt Ideal) ((c.tc : Thread Cert.PagesIdeal.nD Cert.PagesIdeal.τ).loc Cert.PagesIdeal.main_v3_1)),
      θ_run (Cert.PagesIdeal.defs (F := Ideal)) (onTc (τ := Cert.PagesIdeal.τ) (Cert.PagesIdeal.main (F := Ideal))) ⟨m, fun _ => 0, g⟩ (fun r => ∀ c : Dev Cert.PagesIdeal.nD,
          r.2.mem ((c.tc : Thread Cert.PagesIdeal.nD Cert.PagesIdeal.τ).loc Cert.PagesIdeal.main_v3_0) = v0 c
          ∧ r.2.mem ((c.tc : Thread Cert.PagesIdeal.nD Cert.PagesIdeal.τ).loc Cert.PagesIdeal.main_v3_1) = v1 c
          ∧ r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0))
      ∧ θ_run (Cert.PagesReferenceIdeal.defs (F := Ideal)) (onTc (τ := Cert.PagesReferenceIdeal.τ) (Cert.PagesReferenceIdeal.main (F := Ideal))) ⟨m', fun _ => 0, g'⟩ (fun r => ∀ c : Dev Cert.PagesReferenceIdeal.nD,
          r.2.mem ((c.tc : Thread Cert.PagesReferenceIdeal.nD Cert.PagesReferenceIdeal.τ).loc Cert.PagesReferenceIdeal.main_v11) = v0 c
          ∧ r.2.mem ((c.tc : Thread Cert.PagesReferenceIdeal.nD Cert.PagesReferenceIdeal.τ).loc Cert.PagesReferenceIdeal.main_v14) = v1 c
          ∧ r.2.mem ((c.tc : Thread Cert.PagesReferenceIdeal.nD Cert.PagesReferenceIdeal.τ).loc Cert.PagesReferenceIdeal.main_arg0) = m' ((c.tc : Thread Cert.PagesReferenceIdeal.nD Cert.PagesReferenceIdeal.τ).loc Cert.PagesReferenceIdeal.main_arg0))

def preserves_Sums_SumsIdeal : Prop :=
  True

def algebraic_SumsIdeal_SumsReferenceIdeal_pre_sums_below [hSumsIdeal : Cert.SumsIdeal.Facts] [hSumsReferenceIdeal : Cert.SumsReferenceIdeal.Facts] [hPre_sums_below : Cert.Pre_sums_below.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsIdeal_sums_below m →
    (∀ c : Dev Cert.SumsIdeal.nD,
      m' ((c.tc : Thread Cert.SumsReferenceIdeal.nD Cert.SumsReferenceIdeal.τ).loc Cert.SumsReferenceIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v2)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v2) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v11) = v0 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hAda : Cert.Ada.Facts) (hAdaIdeal : Cert.AdaIdeal.Facts) (hAdaReferenceIdeal : Cert.AdaReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hConv : Cert.Conv.Facts) (hConvIdeal : Cert.ConvIdeal.Facts) (hConvReferenceIdeal : Cert.ConvReferenceIdeal.Facts) (hInProjS : Cert.InProjS.Facts) (hInProjSIdeal : Cert.InProjSIdeal.Facts) (hInProjSReferenceIdeal : Cert.InProjSReferenceIdeal.Facts) (hMergeS : Cert.MergeS.Facts) (hMergeSIdeal : Cert.MergeSIdeal.Facts) (hMergeSReferenceIdeal : Cert.MergeSReferenceIdeal.Facts) (hFfnS : Cert.FfnS.Facts) (hFfnSIdeal : Cert.FfnSIdeal.Facts) (hFfnSReferenceIdeal : Cert.FfnSReferenceIdeal.Facts) (hStep : Cert.Step.Facts) (hStepIdeal : Cert.StepIdeal.Facts) (hStepReferenceIdeal : Cert.StepReferenceIdeal.Facts) (hPages : Cert.Pages.Facts) (hPagesIdeal : Cert.PagesIdeal.Facts) (hPagesReferenceIdeal : Cert.PagesReferenceIdeal.Facts) (hSums : Cert.Sums.Facts) (hSumsIdeal : Cert.SumsIdeal.Facts) (hSumsReferenceIdeal : Cert.SumsReferenceIdeal.Facts) (hPre_finite_scores : Cert.Pre_finite_scores.Facts) (hPre_pages_below : Cert.Pre_pages_below.Facts) (hPre_sums_below : Cert.Pre_sums_below.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_InProjS (hInProjS := hInProjS)
    ∧ quiescent_InProjSIdeal (hInProjSIdeal := hInProjSIdeal)
    ∧ quiescent_InProjSReferenceIdeal (hInProjSReferenceIdeal := hInProjSReferenceIdeal)
    ∧ quiescent_MergeS (hMergeS := hMergeS)
    ∧ quiescent_MergeSIdeal (hMergeSIdeal := hMergeSIdeal)
    ∧ quiescent_MergeSReferenceIdeal (hMergeSReferenceIdeal := hMergeSReferenceIdeal)
    ∧ quiescent_FfnS (hFfnS := hFfnS)
    ∧ quiescent_FfnSIdeal (hFfnSIdeal := hFfnSIdeal)
    ∧ quiescent_FfnSReferenceIdeal (hFfnSReferenceIdeal := hFfnSReferenceIdeal)
    ∧ quiescent_Step (hStep := hStep)
    ∧ quiescent_StepIdeal (hStepIdeal := hStepIdeal)
    ∧ quiescent_StepReferenceIdeal (hStepReferenceIdeal := hStepReferenceIdeal)
    ∧ quiescent_Pages (hPages := hPages)
    ∧ quiescent_PagesIdeal (hPagesIdeal := hPagesIdeal)
    ∧ quiescent_PagesIdeal_pre_pages_below (hPagesIdeal := hPagesIdeal) (hPre_pages_below := hPre_pages_below)
    ∧ quiescent_PagesReferenceIdeal (hPagesReferenceIdeal := hPagesReferenceIdeal)
    ∧ quiescent_PagesReferenceIdeal_pre_pages_below (hPagesReferenceIdeal := hPagesReferenceIdeal) (hPre_pages_below := hPre_pages_below)
    ∧ quiescent_Sums (hSums := hSums)
    ∧ quiescent_SumsIdeal (hSumsIdeal := hSumsIdeal)
    ∧ quiescent_SumsIdeal_pre_sums_below (hSumsIdeal := hSumsIdeal) (hPre_sums_below := hPre_sums_below)
    ∧ quiescent_SumsReferenceIdeal (hSumsReferenceIdeal := hSumsReferenceIdeal)
    ∧ quiescent_SumsReferenceIdeal_pre_sums_below (hSumsReferenceIdeal := hSumsReferenceIdeal) (hPre_sums_below := hPre_sums_below)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Ada_AdaIdeal
    ∧ algebraic_AdaIdeal_AdaReferenceIdeal (hAdaIdeal := hAdaIdeal) (hAdaReferenceIdeal := hAdaReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Conv_ConvIdeal
    ∧ algebraic_ConvIdeal_ConvReferenceIdeal (hConvIdeal := hConvIdeal) (hConvReferenceIdeal := hConvReferenceIdeal)
    ∧ preserves_InProjS_InProjSIdeal
    ∧ algebraic_InProjSIdeal_InProjSReferenceIdeal (hInProjSIdeal := hInProjSIdeal) (hInProjSReferenceIdeal := hInProjSReferenceIdeal)
    ∧ preserves_MergeS_MergeSIdeal
    ∧ algebraic_MergeSIdeal_MergeSReferenceIdeal (hMergeSIdeal := hMergeSIdeal) (hMergeSReferenceIdeal := hMergeSReferenceIdeal)
    ∧ preserves_FfnS_FfnSIdeal
    ∧ algebraic_FfnSIdeal_FfnSReferenceIdeal (hFfnSIdeal := hFfnSIdeal) (hFfnSReferenceIdeal := hFfnSReferenceIdeal)
    ∧ preserves_Step_StepIdeal
    ∧ algebraic_StepIdeal_StepReferenceIdeal (hStepIdeal := hStepIdeal) (hStepReferenceIdeal := hStepReferenceIdeal)
    ∧ preserves_Pages_PagesIdeal
    ∧ algebraic_PagesIdeal_PagesReferenceIdeal_pre_pages_below (hPagesIdeal := hPagesIdeal) (hPagesReferenceIdeal := hPagesReferenceIdeal) (hPre_pages_below := hPre_pages_below)
    ∧ preserves_Sums_SumsIdeal
    ∧ algebraic_SumsIdeal_SumsReferenceIdeal_pre_sums_below (hSumsIdeal := hSumsIdeal) (hSumsReferenceIdeal := hSumsReferenceIdeal) (hPre_sums_below := hPre_sums_below)
-- ==== Pre_finite_scores.lean ====
abbrev S16384x512 : Shape := ⟨2, ![16384, 512]⟩
abbrev S16x2x4096 : Shape := ⟨3, ![16, 2, 4096]⟩
abbrev S_ : Shape := ⟨0, ![]⟩
abbrev S16384x8 : Shape := ⟨2, ![16384, 8]⟩
abbrev S16384x1032 : Shape := ⟨2, ![16384, 1032]⟩

class Facts : Prop where
  bcast_S_S16384x512 : S_.BroadcastsInDim S16384x512 (![] : Fin 0 → Fin S16384x512.rank)
  bcast_S_S16x2x4096 : S_.BroadcastsInDim S16x2x4096 (![] : Fin 0 → Fin S16x2x4096.rank)
  shapeCasts_S16x2x4096_S16384x8 : S16x2x4096.ShapeCasts S16384x8
  concatenates_S16384x512_S16384x512_S16384x8_S16384x1032_d1 : Shape.Concatenates [S16384x512, S16384x512, S16384x8] S16384x1032 1

variable [Facts]

def fn {F : FTy → Type} [FloatOps F] (main_arg0 : FVec F S16384x512 .bf16) (main_arg1 : FVec F S16384x512 .bf16) (main_arg2 : FVec F S16384x512 .bf16) (main_arg3 : FVec F S16x2x4096 .f32) : IVec S16384x1032 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16x2x4096 .f32 := Host.absf main_arg3
  let main_cst_1 : FVec F S_ .f32 := constant S_ .f32 0x7F800000#32
  let main_v7 : FVec F S16x2x4096 .f32 := broadcastInDim S16x2x4096 ![] bcast_S_S16x2x4096 main_cst_1
  let main_v8 : IVec S16x2x4096 1 := cmpf .olt main_v6 main_v7
  let main_v9 : IVec S16384x8 1 := shapeCast S16384x8 main_v8 shapeCasts_S16x2x4096_S16384x8
  let main_v10 : IVec S16384x1032 1 := concatenate S16384x1032 1 [⟨S16384x512, main_v2⟩, ⟨S16384x512, main_v5⟩, ⟨S16384x8, main_v9⟩] concatenates_S16384x512_S16384x512_S16384x8_S16384x1032_d1
  main_v10
-- ==== Pre_pages_below.lean ====
abbrev S1x10240x128x8 : Shape := ⟨4, ![1, 10240, 128, 8]⟩
abbrev S_ : Shape := ⟨0, ![]⟩

class Facts : Prop where
  bcast_S_S1x10240x128x8 : S_.BroadcastsInDim S1x10240x128x8 (![] : Fin 0 → Fin S1x10240x128x8.rank)

variable [Facts]

def fn {F : FTy → Type} [FloatOps F] (main_arg0 : FVec F S1x10240x128x8 .f32) : IVec S1x10240x128x8 1 :=
  let main_cst : FVec F S_ .f32 := constant S_ .f32 0x7F800000#32
  let main_v0 : FVec F S1x10240x128x8 .f32 := broadcastInDim S1x10240x128x8 ![] bcast_S_S1x10240x128x8 main_cst
  let main_v1 : IVec S1x10240x128x8 1 := cmpf .olt main_arg0 main_v0
  main_v1
-- ==== Pre_sums_below.lean ====
abbrev S4x4096x8 : Shape := ⟨3, ![4, 4096, 8]⟩
abbrev S_ : Shape := ⟨0, ![]⟩

class Facts : Prop where
  bcast_S_S4x4096x8 : S_.BroadcastsInDim S4x4096x8 (![] : Fin 0 → Fin S4x4096x8.rank)

variable [Facts]

def fn {F : FTy → Type} [FloatOps F] (main_arg0 : FVec F S4x4096x8 .f32) : IVec S4x4096x8 1 :=
  let main_cst : FVec F S_ .f32 := constant S_ .f32 0x7F800000#32
  let main_v0 : FVec F S4x4096x8 .f32 := broadcastInDim S4x4096x8 ![] bcast_S_S4x4096x8 main_cst
  let main_v1 : IVec S4x4096x8 1 := cmpf .olt main_arg0 main_v0
  main_v1
-- ==== Kernel.lean ====
abbrev S16384x512 : Shape := ⟨2, ![16384, 512]⟩
abbrev S16x2x4096 : Shape := ⟨3, ![16, 2, 4096]⟩
abbrev S512x128 : Shape := ⟨2, ![512, 128]⟩
abbrev S4096x128 : Shape := ⟨2, ![4096, 128]⟩
abbrev S1x2x4096 : Shape := ⟨3, ![1, 2, 4096]⟩
abbrev S512x1 : Shape := ⟨2, ![512, 1]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16x2x4096, .f32⟩
  | .hbm, ⟨4, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x2x4096, .f32⟩
  | .local _ .vmem, ⟨7, _⟩ => ⟨S1x2x4096, .f32⟩
  | .local _ .vmem, ⟨8, _⟩ => ⟨S512x128, .f32⟩
  | .local _ .vmem, ⟨9, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k0_mult1 (i : grid0.Coords) (k0_t1 : Fin (k0_t1_loop i).trips) : BitVec 32 :=
  let c0_i32 : BitVec 32 := 0#32
  let c1_i32_9 : BitVec 32 := 1#32
  let arg8 : BitVec 32 := Scf.iv c0_i32 c1_i32_9 k0_t1
  let c512_i32_29 : BitVec 32 := 512#32
  let v94 : BitVec 32 := Scalar.muli arg8 c512_i32_29
  v94
def k0_off1 (i : grid0.Coords) (k0_t1 : Fin (k0_t1_loop i).trips) : Fin 2 → Nat :=
  let c0_i32 : BitVec 32 := 0#32
  let c1_i32_9 : BitVec 32 := 1#32
  let arg8 : BitVec 32 := Scf.iv c0_i32 c1_i32_9 k0_t1
  let c512_i32_29 : BitVec 32 := 512#32
  let v94 : BitVec 32 := Scalar.muli arg8 c512_i32_29
  let v95 : BitVec 32 := v94
  let v96 : Index := Scalar.indexCast v95
  let c0_30 : Index := 0#32
  ![v96.toNat, 0]
def k0_off2 (i : grid0.Coords) (k0_t1 : Fin (k0_t1_loop i).trips) : Fin 3 → Nat :=
  let c0_33 : Index := 0#32
  let c0_34 : Index := 0#32
  let c0_i32 : BitVec 32 := 0#32
  let c1_i32_9 : BitVec 32 := 1#32
  let arg8 : BitVec 32 := Scf.iv c0_i32 c1_i32_9 k0_t1
  let c512_i32_29 : BitVec 32 := 512#32
  let v94 : BitVec 32 := Scalar.muli arg8 c512_i32_29
  let v95 : BitVec 32 := v94
  let v101 : Index := Scalar.indexCast v95
  ![0, 0, v101.toNat]
def k0_off3 (i : grid0.Coords) (k0_t1 : Fin (k0_t1_loop i).trips) : Fin 3 → Nat :=
  let c0_39 : Index := 0#32
  let c1_40 : Index := 1#32
  let c0_i32 : BitVec 32 := 0#32
  let c1_i32_9 : BitVec 32 := 1#32
  let arg8 : BitVec 32 := Scf.iv c0_i32 c1_i32_9 k0_t1
  let c512_i32_29 : BitVec 32 := 512#32
  let v94 : BitVec 32 := Scalar.muli arg8 c512_i32_29
  let v95 : BitVec 32 := v94
  let v124 : Index := Scalar.indexCast v95
  ![0, 1, v124.toNat]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_29 : BitVec 32 := 512#32
  let v94 : BitVec 32 := Scalar.muli arg8 c512_i32_29
  v94
def k0_off4 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_29 : BitVec 32 := 512#32
  let v94 : BitVec 32 := Scalar.muli arg8 c512_i32_29
  let v95 : BitVec 32 := v94
  let v96 : Index := Scalar.indexCast v95
  let c0_30 : Index := 0#32
  ![v96.toNat, 0]
def k0_off5 (i : grid0.Coords) (k0_t2 : Fin (k0_t2_loop i).trips) : Fin 3 → Nat :=
  let c0_33 : Index := 0#32
  let c0_34 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_29 : BitVec 32 := 512#32
  let v94 : BitVec 32 := Scalar.muli arg8 c512_i32_29
  let v95 : BitVec 32 := v94
  let v101 : Index := Scalar.indexCast v95
  ![0, 0, v101.toNat]
def k0_off6 (i : grid0.Coords) (k0_t2 : Fin (k0_t2_loop i).trips) : Fin 3 → Nat :=
  let c0_39 : Index := 0#32
  let c1_40 : Index := 1#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg8 : BitVec 32 := Scf.iv v20 c1_i32_10 k0_t2
  let c512_i32_29 : BitVec 32 := 512#32
  let v94 : BitVec 32 := Scalar.muli arg8 c512_i32_29
  let v95 : BitVec 32 := v94
  let v124 : Index := Scalar.indexCast v95
  ![0, 1, v124.toNat]
def k0_mult3 (i : grid0.Coords) : BitVec 32 :=
  let arg2 : BitVec 32 := BitVec.ofNat 32 (i 2).val
  let c512_i32 : BitVec 32 := 512#32
  let v23 : BitVec 32 := Scalar.muli arg2 c512_i32
  v23
def k0_off7 (i : grid0.Coords) : Fin 2 → Nat :=
  let arg2 : BitVec 32 := BitVec.ofNat 32 (i 2).val
  let c512_i32 : BitVec 32 := 512#32
  let v23 : BitVec 32 := Scalar.muli arg2 c512_i32
  let v24 : BitVec 32 := v23
  let v25 : Index := Scalar.indexCast v24
  let c0_11 : Index := 0#32
  ![v25.toNat, 0]
def k0_off8 (i : grid0.Coords) : Fin 3 → Nat :=
  let c0_14 : Index := 0#32
  let c0_15 : Index := 0#32
  let arg2 : BitVec 32 := BitVec.ofNat 32 (i 2).val
  let c512_i32 : BitVec 32 := 512#32
  let v23 : BitVec 32 := Scalar.muli arg2 c512_i32
  let v24 : BitVec 32 := v23
  let v30 : Index := Scalar.indexCast v24
  ![0, 0, v30.toNat]
def k0_off9 (i : grid0.Coords) : Fin 3 → Nat :=
  let c0_21 : Index := 0#32
  let c1 : Index := 1#32
  let arg2 : BitVec 32 := BitVec.ofNat 32 (i 2).val
  let c512_i32 : BitVec 32 := 512#32
  let v23 : BitVec 32 := Scalar.muli arg2 c512_i32
  let v24 : BitVec 32 := v23
  let v58 : Index := Scalar.indexCast v24
  ![0, 1, v58.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x512 : Shape := ⟨2, ![16384, 512]⟩
abbrev S16x2x4096 : Shape := ⟨3, ![16, 2, 4096]⟩
abbrev S4x4096x8x64 : Shape := ⟨4, ![4, 4096, 8, 64]⟩
abbrev S4x8x4096 : Shape := ⟨3, ![4, 8, 4096]⟩
abbrev S4096 : Shape := ⟨1, ![4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x8x64x4096 : Shape := ⟨4, ![4, 8, 64, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16x2x4096, .f32⟩
  | .hbm, ⟨4, _⟩ => ⟨S16384x512, .f32⟩
  | .hbm, ⟨5, _⟩ => ⟨S4x4096x8x64, .f32⟩
  | .hbm, ⟨6, _⟩ => ⟨S16384x512, .f32⟩
  | .hbm, ⟨7, _⟩ => ⟨S4x4096x8x64, .f32⟩
  | .hbm, ⟨8, _⟩ => ⟨S16384x512, .f32⟩
  | .hbm, ⟨9, _⟩ => ⟨S4x4096x8x64, .f32⟩
  | .hbm, ⟨10, _⟩ => ⟨S4x8x4096, .f32⟩
  | .hbm, ⟨11, _⟩ => ⟨S4x8x4096, .f32⟩
  | .hbm, ⟨12, _⟩ => ⟨S4096, .i32⟩
  | .hbm, ⟨13, _⟩ => ⟨S4x8x4096x4096, .f32⟩
  | .hbm, ⟨14, _⟩ => ⟨S4x8x4096x1, .f32⟩
  | .hbm, ⟨15, _⟩ => ⟨S4x8x4096x4096, .f32⟩
  | .hbm, ⟨16, _⟩ => ⟨S4x8x4096x4096, .f32⟩
  | .hbm, ⟨17, _⟩ => ⟨S4x8x1x4096, .f32⟩
  | .hbm, ⟨18, _⟩ => ⟨S4x8x4096x4096, .f32⟩
  | .hbm, ⟨19, _⟩ => ⟨S4x8x4096x4096, .f32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x8x4096x4096, .i1⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S4x8x4096, .f32⟩
  | .hbm, ⟨32, _⟩ => ⟨S_, .f32⟩
  | .hbm, ⟨33, _⟩ => ⟨S4x8x4096, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S4x8x4096, .f32⟩
  | .hbm, ⟨41, _⟩ => ⟨S4x8x4096x1, .f32⟩
  | .hbm, ⟨42, _⟩ => ⟨S4x8x4096x4096, .f32⟩
  | .hbm, ⟨43, _⟩ => ⟨S4x8x4096x4096, .f32⟩
  | .hbm, ⟨44, _⟩ => ⟨S4x8x64x4096, .f32⟩
  | .hbm, ⟨45, _⟩ => ⟨S4x4096x8x64, .f32⟩
  | .hbm, ⟨46, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Ffn.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 18
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S16384x1024, .f32⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1024x2816, .f32⟩
  | .hbm, ⟨45, _⟩ => ⟨S4x4096x2816, .f32⟩
  | .hbm, ⟨46, _⟩ => ⟨S4x4096x2816, .f32⟩
  | .hbm, ⟨47, _⟩ => ⟨S2816x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Ada.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S12x1024 : Shape := ⟨2, ![12, 1024]⟩
abbrev S144x1024 : Shape := ⟨2, ![144, 1024]⟩
abbrev S1024x6144 : Shape := ⟨2, ![1024, 6144]⟩
abbrev S6144 : Shape := ⟨1, ![6144]⟩
abbrev S144x6144 : Shape := ⟨2, ![144, 6144]⟩
abbrev S1024x512 : Shape := ⟨2, ![1024, 512]⟩
abbrev S1x512 : Shape := ⟨2, ![1, 512]⟩
abbrev S144x512 : Shape := ⟨2, ![144, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S12x1024, .f32⟩
  | .hbm, ⟨6, _⟩ => ⟨S144x1024, .f32⟩
  | .hbm, ⟨7, _⟩ => ⟨S1024x6144, .f32⟩
  | .hbm, ⟨8, _⟩ => ⟨S6144, .f32⟩
  | .hbm, ⟨9, _⟩ => ⟨S1x6144, .f32⟩
  | .hbm, ⟨10, _⟩ => ⟨S144x6144, .f32⟩
  | .local _ .vmem, ⟨0, _⟩ => ⟨S144x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S144x512, .f32⟩
  | .local _ .vmem, ⟨6, _⟩ => ⟨S144x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S12x1024 : Shape := ⟨2, ![12, 1024]⟩
abbrev S144x1024 : Shape := ⟨2, ![144, 1024]⟩
abbrev S1024x6144 : Shape := ⟨2, ![1024, 6144]⟩
abbrev S144x6144 : Shape := ⟨2, ![144, 6144]⟩
abbrev S6144 : Shape := ⟨1, ![6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S12x1024, .f32⟩
  | .hbm, ⟨6, _⟩ => ⟨S144x1024, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S_, .f32⟩
  | .hbm, ⟨13, _⟩ => ⟨S144x1024, .f32⟩
  | .hbm, ⟨14, _⟩ => ⟨S144x1024, .f32⟩
  | .hbm, ⟨15, _⟩ => ⟨S144x1024, .f32⟩
  | .hbm, ⟨16, _⟩ => ⟨S1024x6144, .f32⟩
  | .hbm, ⟨17, _⟩ => ⟨S144x6144, .f32⟩
  | .hbm, ⟨18, _⟩ => ⟨S6144, .f32⟩
  | .hbm, ⟨19, _⟩ => ⟨S1x6144, .f32⟩
  | .hbm, ⟨20, _⟩ => ⟨S144x6144, .f32⟩
  | .hbm, ⟨21, _⟩ => ⟨S144x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== InProj.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x3088 : Shape := ⟨3, ![1, 1024, 3088]⟩
abbrev S1x8 : Shape := ⟨2, ![1, 8]⟩
abbrev S1024x3088 : Shape := ⟨2, ![1024, 3088]⟩
abbrev S1024x1536 : Shape := ⟨2, ![1024, 1536]⟩
abbrev S1024x3072 : Shape := ⟨2, ![1024, 3072]⟩
abbrev S_ : Shape := ⟨0, ![]⟩
abbrev S1024x112 : Shape := ⟨2, ![1024, 112]⟩
abbrev S1024x8 : Shape := ⟨2, ![1024, 8]⟩
abbrev S1024x128 : Shape := ⟨2, ![1024, 128]⟩
abbrev S112 : Shape := ⟨1, ![112]⟩
abbrev S8 : Shape := ⟨1, ![8]⟩
abbrev S128 : Shape := ⟨1, ![128]⟩
abbrev S1x128 : Shape := ⟨2, ![1, 128]⟩
abbrev S16384x1024 : Shape := ⟨2, ![16384, 1024]⟩
abbrev S16384x512 : Shape := ⟨2, ![16384, 512]⟩
abbrev S16384x128 : Shape := ⟨2, ![16384, 128]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 33
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x3088, .f32⟩
  | .hbm, ⟨5, _⟩ => ⟨S1x8, .f32⟩
  | .hbm, ⟨6, _⟩ => ⟨S1x8, .f32⟩
  | .hbm, ⟨7, _⟩ => ⟨S1024x3088, .f32⟩
  | .hbm, ⟨8, _⟩ => ⟨S1024x1536, .f32⟩
  | .hbm, ⟨9, _⟩ => ⟨S1024x1536, .f32⟩
  | .hbm, ⟨10, _⟩ => ⟨S1024x3072, .f32⟩
  | .hbm, ⟨11, _⟩ => ⟨S1024x3072, .bf16⟩
  | .hbm, ⟨12, _⟩ => ⟨S_, .f32⟩
  | .hbm, ⟨13, _⟩ => ⟨S1024x112, .f32⟩
  | .hbm, ⟨14, _⟩ => ⟨S1024x8, .f32⟩
  | .hbm, ⟨15, _⟩ => ⟨S1024x8, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S112, .f32⟩
  | .hbm, ⟨20, _⟩ => ⟨S8, .f32⟩
  | .hbm, ⟨21, _⟩ => ⟨S8, .f32⟩
  | .hbm, ⟨22, _⟩ => ⟨S128, .f32⟩
  | .hbm, ⟨23, _⟩ => ⟨S1x128, .f32⟩
  | .hbm, ⟨24, _⟩ => ⟨S16384x1024, .f32⟩
  | .hbm, ⟨25, _⟩ => ⟨S16384x512, .bf16⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x512, .bf16⟩
  | .hbm, ⟨30, _⟩ => ⟨S16384x512, .f32⟩
  | .hbm, ⟨31, _⟩ => ⟨S16384x1024, .f32⟩
  | .hbm, ⟨32, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1024x128, .bf16⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InProjReferenceIdeal.lean ====
abbrev S4x4096x1024 : Shape := ⟨3, ![4, 4096, 1024]⟩
abbrev S4x1x1024 : Shape := ⟨3, ![4, 1, 1024]⟩
abbrev S1x1024 : Shape := ⟨2, ![1, 1024]⟩
abbrev S1x1024x3088 : Shape := ⟨3, ![1, 1024, 3088]⟩
abbrev S1x8 : Shape := ⟨2, ![1, 8]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S16384x3088 : Shape := ⟨2, ![16384, 3088]⟩
abbrev S16384x512 : Shape := ⟨2, ![16384, 512]⟩
abbrev S16384x8 : Shape := ⟨2, ![16384, 8]⟩
abbrev S16384x1024 : Shape := ⟨2, ![16384, 1024]⟩
abbrev S8 : Shape := ⟨1, ![8]⟩
abbrev S16384x112 : Shape := ⟨2, ![16384, 112]⟩
abbrev S16384x128 : Shape := ⟨2, ![16384, 128]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x3088, .f32⟩
  | .hbm, ⟨5, _⟩ => ⟨S1x8, .f32⟩
  | .hbm, ⟨6, _⟩ => ⟨S1x8, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1024x3088, .f32⟩
  | .hbm, ⟨32, _⟩ => ⟨S4x4096x3088, .f32⟩
  | .hbm, ⟨33, _⟩ => ⟨S16384x3088, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x8, .f32⟩
  | .hbm, ⟨38, _⟩ => ⟨S16384x512, .f32⟩
  | .hbm, ⟨39, _⟩ => ⟨S16384x1024, .f32⟩
  | .hbm, ⟨40, _⟩ => ⟨S16384x8, .f32⟩
  | .hbm, ⟨41, _⟩ => ⟨S8, .f32⟩
  | .hbm, ⟨42, _⟩ => ⟨S1x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S_, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .i1⟩
  | .hbm, ⟨52, _⟩ => ⟨S16384x8, .f32⟩
  | .hbm, ⟨53, _⟩ => ⟨S16384x8, .f32⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S16384x8, .f32⟩
  | .hbm, ⟨61, _⟩ => ⟨S8, .f32⟩
  | .hbm, ⟨62, _⟩ => ⟨S1x8, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S16384x8, .f32⟩
  | .hbm, ⟨67, _⟩ => ⟨S16384x8, .f32⟩
  | .hbm, ⟨68, _⟩ => ⟨S16384x8, .f32⟩
  | .hbm, ⟨69, _⟩ => ⟨S16384x8, .f32⟩
  | .hbm, ⟨70, _⟩ => ⟨S16384x8, .i1⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S16384x8, .f32⟩
  | .hbm, ⟨75, _⟩ => ⟨S16384x8, .f32⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S_, .f32⟩
  | .hbm, ⟨80, _⟩ => ⟨S16384x112, .f32⟩
  | .hbm, ⟨81, _⟩ => ⟨S_, .f32⟩
  | .hbm, ⟨82, _⟩ => ⟨S16384x112, .f32⟩
  | .hbm, ⟨83, _⟩ => ⟨S16384x112, .f32⟩
  | .hbm, ⟨84, _⟩ => ⟨S16384x112, .f32⟩
  | .hbm, ⟨85, _⟩ => ⟨S16384x112, .f32⟩
  | .hbm, ⟨86, _⟩ => ⟨S16384x112, .i1⟩
  | .hbm, ⟨87, _⟩ => ⟨S16384x112, .f32⟩
  | .hbm, ⟨88, _⟩ => ⟨S16384x112, .f32⟩
  | .hbm, ⟨89, _⟩ => ⟨S16384x112, .f32⟩
  | .hbm, ⟨90, _⟩ => ⟨S16384x112, .f32⟩
  | .hbm, ⟨91, _⟩ => ⟨S16384x112, .f32⟩
  | .hbm, ⟨92, _⟩ => ⟨S16384x112, .f32⟩
  | .hbm, ⟨93, _⟩ => ⟨S16384x112, .f32⟩
  | .hbm, ⟨94, _⟩ => ⟨S16384x112, .f32⟩
  | .hbm, ⟨95, _⟩ => ⟨S_, .f32⟩
  | .hbm, ⟨96, _⟩ => ⟨S16384x512, .f32⟩
  | .hbm, ⟨97, _⟩ => ⟨S16384x512, .f32⟩
  | .hbm, ⟨98, _⟩ => ⟨S16384x512, .bf16⟩
  | .hbm, ⟨99, _⟩ => ⟨S16384x512, .bf16⟩
  | .hbm, ⟨100, _⟩ => ⟨S16384x512, .bf16⟩
  | .hbm, ⟨101, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v39 : Ref sig .tc := ⟨.hbm, 78, rfl⟩
abbrev main_cst_3 : Ref sig .tc := ⟨.hbm, 79, rfl⟩
abbrev main_v40 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_v41 : Ref sig .tc := ⟨.hbm, 94, rfl⟩
abbrev main_cst_4 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩

abbrev nD : Nat := 1
abbrev τ : Topo := Topo.v7x

variable {F : FTy → Type} [FloatOps F]
-- ==== Merge.lean ====
abbrev S16384x512 : Shape := ⟨2, ![16384, 512]⟩
abbrev S4x4096x1024 : Shape := ⟨3, ![4, 4096, 1024]⟩
abbrev S4x1x1024 : Shape := ⟨3, ![4, 1, 1024]⟩
abbrev S1x512 : Shape := ⟨2, ![1, 512]⟩
abbrev S1x1024x1024 : Shape := ⟨3, ![1, 1024, 1024]⟩
abbrev S16384x1024 : Shape := ⟨2, ![16384, 1024]⟩
abbrev S1024x1024 : Shape := ⟨2, ![1024, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S4x4096x1024, .f32⟩
  | .hbm, ⟨4, _⟩ => ⟨S4x1x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S16384x1024, .f32⟩
  | .hbm, ⟨9, _⟩ => ⟨S1024x1024, .f32⟩
  | .hbm, ⟨10, _⟩ => ⟨S1024x1024, .bf16⟩
  | .hbm, ⟨11, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x512 : Shape := ⟨2, ![16384, 512]⟩
abbrev S4x4096x1024 : Shape := ⟨3, ![4, 4096, 1024]⟩
abbrev S4x1x1024 : Shape := ⟨3, ![4, 1, 1024]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S4x4096x1024, .f32⟩
  | .hbm, ⟨4, _⟩ => ⟨S4x1x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S512, .f32⟩
  | .hbm, ⟨36, _⟩ => ⟨S16384x512, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S1x512, .f32⟩
  | .hbm, ⟨50, _⟩ => ⟨S16384x512, .f32⟩
  | .hbm, ⟨51, _⟩ => ⟨S16384x512, .f32⟩
  | .hbm, ⟨52, _⟩ => ⟨S16384x1024, .f32⟩
  | .hbm, ⟨53, _⟩ => ⟨S1024x1024, .f32⟩
  | .hbm, ⟨54, _⟩ => ⟨S16384x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Conv.lean ====
abbrev S1x128x3x1024 : Shape := ⟨4, ![1, 128, 3, 1024]⟩
abbrev S128x1024 : Shape := ⟨2, ![128, 1024]⟩
abbrev S128x128 : Shape := ⟨2, ![128, 128]⟩
abbrev S1x4x1024 : Shape := ⟨3, ![1, 4, 1024]⟩
abbrev S1x1024 : Shape := ⟨2, ![1, 1024]⟩
abbrev S1x8 : Shape := ⟨2, ![1, 8]⟩
abbrev S128x3x1024 : Shape := ⟨3, ![128, 3, 1024]⟩
abbrev S_ : Shape := ⟨0, ![]⟩
abbrev S112 : Shape := ⟨1, ![112]⟩
abbrev S8 : Shape := ⟨1, ![8]⟩
abbrev S128 : Shape := ⟨1, ![128]⟩
abbrev S1x128 : Shape := ⟨2, ![1, 128]⟩
abbrev S128x1x1024 : Shape := ⟨3, ![128, 1, 1024]⟩
abbrev S4x1024 : Shape := ⟨2, ![4, 1024]⟩
abbrev S1024 : Shape := ⟨1, ![1024]⟩

abbrev nBuf : Space → Nat
  | .hbm => 25
  | .vmem => 10
  | .smem => 0
  | _ => 0

abbrev bufTy : (tb : Table) → Fin (tcTables nBuf tb) → BufTy
  | .hbm, ⟨0, _⟩ => ⟨S1x128x3x1024, .f32⟩
  | .hbm, ⟨1, _⟩ => ⟨S128x1024, .f32⟩
  | .hbm, ⟨2, _⟩ => ⟨S128x128, .f32⟩
  | .hbm, ⟨3, _⟩ => ⟨S1x4x1024, .f32⟩
  | .hbm, ⟨4, _⟩ => ⟨S1x1024, .f32⟩
  | .hbm, ⟨5, _⟩ => ⟨S1x8, .f32⟩
  | .hbm, ⟨6, _⟩ => ⟨S128x3x1024, .f32⟩
  | .hbm, ⟨7, _⟩ => ⟨S_, .f32⟩
  | .hbm, ⟨8, _⟩ => ⟨S112, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S128, .f32⟩
  | .hbm, ⟨13, _⟩ => ⟨S1x128, .f32⟩
  | .hbm, ⟨14, _⟩ => ⟨S128x1x1024, .f32⟩
  | .hbm, ⟨15, _⟩ => ⟨S128x1024, .f32⟩
  | .hbm, ⟨16, _⟩ => ⟨S128x1x1024, .f32⟩
  | .hbm, ⟨17, _⟩ => ⟨S128x1024, .f32⟩
  | .hbm, ⟨18, _⟩ => ⟨S128x1x1024, .f32⟩
  | .hbm, ⟨19, _⟩ => ⟨S128x1024, .f32⟩
  | .hbm, ⟨20, _⟩ => ⟨S4x1024, .f32⟩
  | .hbm, ⟨21, _⟩ => ⟨S1024, .f32⟩
  | .hbm, ⟨22, _⟩ => ⟨S1x1024, .f32⟩
  | .hbm, ⟨23, _⟩ => ⟨S128x1024, .f32⟩
  | .hbm, ⟨24, _⟩ => ⟨S128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S4x1024, .f32⟩
  | .local _ .vmem, ⟨6, _⟩ => ⟨S1x1024, .f32⟩
  | .local _ .vmem, ⟨7, _⟩ => ⟨S1x128, .f32⟩
  | .local _ .vmem, ⟨8, _⟩ => ⟨S128x1024, .f32⟩
  | .local _ .vmem, ⟨9, _⟩ => ⟨S128x128, .f32⟩
  | _, _ => ⟨S1x128x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ConvReferenceIdeal.lean ====
abbrev S1x128x3x1024 : Shape := ⟨4, ![1, 128, 3, 1024]⟩
abbrev S128x1024 : Shape := ⟨2, ![128, 1024]⟩
abbrev S128x128 : Shape := ⟨2, ![128, 128]⟩
abbrev S1x4x1024 : Shape := ⟨3, ![1, 4, 1024]⟩
abbrev S1x1024 : Shape := ⟨2, ![1, 1024]⟩
abbrev S1x8 : Shape := ⟨2, ![1, 8]⟩
abbrev S128x3x1024 : Shape := ⟨3, ![128, 3, 1024]⟩
abbrev S128x1x1024 : Shape := ⟨3, ![128, 1, 1024]⟩
abbrev S128x4x1024 : Shape := ⟨3, ![128, 4, 1024]⟩
abbrev S1024 : Shape := ⟨1, ![1024]⟩
abbrev S1x1x1024 : Shape := ⟨3, ![1, 1, 1024]⟩
abbrev S_ : Shape := ⟨0, ![]⟩
abbrev S8 : Shape := ⟨1, ![8]⟩
abbrev S112 : Shape := ⟨1, ![112]⟩
abbrev S128 : Shape := ⟨1, ![128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x128x3x1024, .f32⟩
  | .hbm, ⟨1, _⟩ => ⟨S128x1024, .f32⟩
  | .hbm, ⟨2, _⟩ => ⟨S128x128, .f32⟩
  | .hbm, ⟨3, _⟩ => ⟨S1x4x1024, .f32⟩
  | .hbm, ⟨4, _⟩ => ⟨S1x1024, .f32⟩
  | .hbm, ⟨5, _⟩ => ⟨S1x8, .f32⟩
  | .hbm, ⟨6, _⟩ => ⟨S128x3x1024, .f32⟩
  | .hbm, ⟨7, _⟩ => ⟨S128x1x1024, .f32⟩
  | .hbm, ⟨8, _⟩ => ⟨S128x4x1024, .f32⟩
  | .hbm, ⟨9, _⟩ => ⟨S1024, .f32⟩
  | .hbm, ⟨10, _⟩ => ⟨S128x1x1024, .f32⟩
  | .hbm, ⟨11, _⟩ => ⟨S128x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x1x1024, .f32⟩
  | .hbm, ⟨21, _⟩ => ⟨S128x1024, .f32⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1x1024, .f32⟩
  | .hbm, ⟨29, _⟩ => ⟨S128x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1x1024, .f32⟩
  | .hbm, ⟨37, _⟩ => ⟨S128x1024, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S112, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128x1024, .f32⟩
  | .hbm, ⟨53, _⟩ => ⟨S128x1024, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S128x128, .f32⟩
  | _, _ => ⟨S1x128x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== InProjS.lean ====
abbrev S128x1x1024 : Shape := ⟨3, ![128, 1, 1024]⟩
abbrev S128x1024 : Shape := ⟨2, ![128, 1024]⟩
abbrev S1x1024 : Shape := ⟨2, ![1, 1024]⟩
abbrev S1x1024x3088 : Shape := ⟨3, ![1, 1024, 3088]⟩
abbrev S1x8 : Shape := ⟨2, ![1, 8]⟩
abbrev S1024x3088 : Shape := ⟨2, ![1024, 3088]⟩
abbrev S1024x1536 : Shape := ⟨2, ![1024, 1536]⟩
abbrev S1024x3072 : Shape := ⟨2, ![1024, 3072]⟩
abbrev S_ : Shape := ⟨0, ![]⟩
abbrev S1024x112 : Shape := ⟨2, ![1024, 112]⟩
abbrev S1024x8 : Shape := ⟨2, ![1024, 8]⟩
abbrev S1024x128 : Shape := ⟨2, ![1024, 128]⟩
abbrev S112 : Shape := ⟨1, ![112]⟩
abbrev S8 : Shape := ⟨1, ![8]⟩
abbrev S128 : Shape := ⟨1, ![128]⟩
abbrev S1x128 : Shape := ⟨2, ![1, 128]⟩
abbrev S128x512 : Shape := ⟨2, ![128, 512]⟩
abbrev S128x128 : Shape := ⟨2, ![128, 128]⟩
abbrev S128x1 : Shape := ⟨2, ![128, 1]⟩
abbrev S1024x512 : Shape := ⟨2, ![1024, 512]⟩
abbrev S1024x1024 : Shape := ⟨2, ![1024, 1024]⟩

abbrev nBuf : Space → Nat
  | .hbm => 33
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1x1024, .f32⟩
  | .hbm, ⟨4, _⟩ => ⟨S1x1024x3088, .f32⟩
  | .hbm, ⟨5, _⟩ => ⟨S1x8, .f32⟩
  | .hbm, ⟨6, _⟩ => ⟨S1x8, .f32⟩
  | .hbm, ⟨7, _⟩ => ⟨S1024x3088, .f32⟩
  | .hbm, ⟨8, _⟩ => ⟨S1024x1536, .f32⟩
  | .hbm, ⟨9, _⟩ => ⟨S1024x1536, .f32⟩
  | .hbm, ⟨10, _⟩ => ⟨S1024x3072, .f32⟩
  | .hbm, ⟨11, _⟩ => ⟨S1024x3072, .bf16⟩
  | .hbm, ⟨12, _⟩ => ⟨S_, .f32⟩
  | .hbm, ⟨13, _⟩ => ⟨S1024x112, .f32⟩
  | .hbm, ⟨14, _⟩ => ⟨S1024x8, .f32⟩
  | .hbm, ⟨15, _⟩ => ⟨S1024x8, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S112, .f32⟩
  | .hbm, ⟨20, _⟩ => ⟨S8, .f32⟩
  | .hbm, ⟨21, _⟩ => ⟨S8, .f32⟩
  | .hbm, ⟨22, _⟩ => ⟨S128, .f32⟩
  | .hbm, ⟨23, _⟩ => ⟨S1x128, .f32⟩
  | .hbm, ⟨24, _⟩ => ⟨S128x1024, .f32⟩
  | .hbm, ⟨25, _⟩ => ⟨S128x512, .bf16⟩
  | .hbm, ⟨26, _⟩ => ⟨S128x512, .f32⟩
  | .hbm, ⟨27, _⟩ => ⟨S128x512, .f32⟩
  | .hbm, ⟨28, _⟩ => ⟨S128x512, .bf16⟩
  | .hbm, ⟨29, _⟩ => ⟨S128x512, .bf16⟩
  | .hbm, ⟨30, _⟩ => ⟨S128x512, .f32⟩
  | .hbm, ⟨31, _⟩ => ⟨S128x1024, .f32⟩
  | .hbm, ⟨32, _⟩ => ⟨S128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1024x3072, .bf16⟩
  | .local _ .vmem, ⟨5, _⟩ => ⟨S1024x128, .bf16⟩
  | .local _ .vmem, ⟨6, _⟩ => ⟨S1x128, .f32⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x1024, .f32⟩
  | .local _ .vmem, ⟨14, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== InProjSReferenceIdeal.lean ====
abbrev S128x1x1024 : Shape := ⟨3, ![128, 1, 1024]⟩
abbrev S128x1024 : Shape := ⟨2, ![128, 1024]⟩
abbrev S1x1024 : Shape := ⟨2, ![1, 1024]⟩
abbrev S1x1024x3088 : Shape := ⟨3, ![1, 1024, 3088]⟩
abbrev S1x8 : Shape := ⟨2, ![1, 8]⟩
abbrev S1024 : Shape := ⟨1, ![1024]⟩
abbrev S_ : Shape := ⟨0, ![]⟩
abbrev S128 : Shape := ⟨1, ![128]⟩
abbrev S128x1 : Shape := ⟨2, ![128, 1]⟩
abbrev S1024x3088 : Shape := ⟨2, ![1024, 3088]⟩
abbrev S128x3088 : Shape := ⟨2, ![128, 3088]⟩
abbrev S128x512 : Shape := ⟨2, ![128, 512]⟩
abbrev S128x8 : Shape := ⟨2, ![128, 8]⟩
abbrev S8 : Shape := ⟨1, ![8]⟩
abbrev S128x112 : Shape := ⟨2, ![128, 112]⟩
abbrev S128x128 : Shape := ⟨2, ![128, 128]⟩

abbrev nBuf : Space → Nat
  | .hbm => 100
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1x1024, .f32⟩
  | .hbm, ⟨4, _⟩ => ⟨S1x1024x3088, .f32⟩
  | .hbm, ⟨5, _⟩ => ⟨S1x8, .f32⟩
  | .hbm, ⟨6, _⟩ => ⟨S1x8, .f32⟩
  | .hbm, ⟨7, _⟩ => ⟨S128x1024, .f32⟩
  | .hbm, ⟨8, _⟩ => ⟨S1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1024x3088, .f32⟩
  | .hbm, ⟨31, _⟩ => ⟨S128x3088, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x8, .f32⟩
  | .hbm, ⟨36, _⟩ => ⟨S128x512, .f32⟩
  | .hbm, ⟨37, _⟩ => ⟨S128x1024, .f32⟩
  | .hbm, ⟨38, _⟩ => ⟨S128x8, .f32⟩
  | .hbm, ⟨39, _⟩ => ⟨S8, .f32⟩
  | .hbm, ⟨40, _⟩ => ⟨S1x8, .f32⟩
  | .hbm, ⟨41, _⟩ => ⟨S128x8, .f32⟩
  | .hbm, ⟨42, _⟩ => ⟨S128x8, .f32⟩
  | .hbm, ⟨43, _⟩ => ⟨S128x8, .f32⟩
  | .hbm, ⟨44, _⟩ => ⟨S_, .f32⟩
  | .hbm, ⟨45, _⟩ => ⟨S128x8, .f32⟩
  | .hbm, ⟨46, _⟩ => ⟨S128x8, .f32⟩
  | .hbm, ⟨47, _⟩ => ⟨S128x8, .f32⟩
  | .hbm, ⟨48, _⟩ => ⟨S128x8, .f32⟩
  | .hbm, ⟨49, _⟩ => ⟨S128x8, .i1⟩
  | .hbm, ⟨50, _⟩ => ⟨S128x8, .f32⟩
  | .hbm, ⟨51, _⟩ => ⟨S128x8, .f32⟩
  | .hbm, ⟨52, _⟩ => ⟨S128x8, .f32⟩
  | .hbm, ⟨53, _⟩ => ⟨S128x8, .f32⟩
  | .hbm, ⟨54, _⟩ => ⟨S128x8, .f32⟩
  | .hbm, ⟨55, _⟩ => ⟨S128x8, .f32⟩
  | .hbm, ⟨56, _⟩ => ⟨S128x8, .f32⟩
  | .hbm, ⟨57, _⟩ => ⟨S128x8, .f32⟩
  | .hbm, ⟨58, _⟩ => ⟨S128x8, .f32⟩
  | .hbm, ⟨59, _⟩ => ⟨S8, .f32⟩
  | .hbm, ⟨60, _⟩ => ⟨S1x8, .f32⟩
  | .hbm, ⟨61, _⟩ => ⟨S128x8, .f32⟩
  | .hbm, ⟨62, _⟩ => ⟨S128x8, .f32⟩
  | .hbm, ⟨63, _⟩ => ⟨S_, .f32⟩
  | .hbm, ⟨64, _⟩ => ⟨S128x8, .f32⟩
  | .hbm, ⟨65, _⟩ => ⟨S128x8, .f32⟩
  | .hbm, ⟨66, _⟩ => ⟨S128x8, .f32⟩
  | .hbm, ⟨67, _⟩ => ⟨S128x8, .f32⟩
  | .hbm, ⟨68, _⟩ => ⟨S128x8, .i1⟩
  | .hbm, ⟨69, _⟩ => ⟨S128x8, .f32⟩
  | .hbm, ⟨70, _⟩ => ⟨S128x8, .f32⟩
  | .hbm, ⟨71, _⟩ => ⟨S128x8, .f32⟩
  | .hbm, ⟨72, _⟩ => ⟨S128x8, .f32⟩
  | .hbm, ⟨73, _⟩ => ⟨S128x8, .f32⟩
  | .hbm, ⟨74, _⟩ => ⟨S128x8, .f32⟩
  | .hbm, ⟨75, _⟩ => ⟨S128x8, .f32⟩
  | .hbm, ⟨76, _⟩ => ⟨S128x8, .f32⟩
  | .hbm, ⟨77, _⟩ => ⟨S_, .f32⟩
  | .hbm, ⟨78, _⟩ => ⟨S128x112, .f32⟩
  | .hbm, ⟨79, _⟩ => ⟨S_, .f32⟩
  | .hbm, ⟨80, _⟩ => ⟨S128x112, .f32⟩
  | .hbm, ⟨81, _⟩ => ⟨S128x112, .f32⟩
  | .hbm, ⟨82, _⟩ => ⟨S128x112, .f32⟩
  | .hbm, ⟨83, _⟩ => ⟨S128x112, .f32⟩
  | .hbm, ⟨84, _⟩ => ⟨S128x112, .i1⟩
  | .hbm, ⟨85, _⟩ => ⟨S128x112, .f32⟩
  | .hbm, ⟨86, _⟩ => ⟨S128x112, .f32⟩
  | .hbm, ⟨87, _⟩ => ⟨S128x112, .f32⟩
  | .hbm, ⟨88, _⟩ => ⟨S128x112, .f32⟩
  | .hbm, ⟨89, _⟩ => ⟨S128x112, .f32⟩
  | .hbm, ⟨90, _⟩ => ⟨S128x112, .f32⟩
  | .hbm, ⟨91, _⟩ => ⟨S128x112, .f32⟩
  | .hbm, ⟨92, _⟩ => ⟨S128x112, .f32⟩
  | .hbm, ⟨93, _⟩ => ⟨S_, .f32⟩
  | .hbm, ⟨94, _⟩ => ⟨S128x512, .f32⟩
  | .hbm, ⟨95, _⟩ => ⟨S128x512, .f32⟩
  | .hbm, ⟨96, _⟩ => ⟨S128x512, .bf16⟩
  | .hbm, ⟨97, _⟩ => ⟨S128x512, .bf16⟩
  | .hbm, ⟨98, _⟩ => ⟨S128x512, .bf16⟩
  | .hbm, ⟨99, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v37 : Ref sig .tc := ⟨.hbm, 76, rfl⟩
abbrev main_cst_3 : Ref sig .tc := ⟨.hbm, 77, rfl⟩
abbrev main_v38 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_v39 : Ref sig .tc := ⟨.hbm, 92, rfl⟩
abbrev main_cst_4 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩

abbrev nD : Nat := 1
abbrev τ : Topo := Topo.v7x

variable {F : FTy → Type} [FloatOps F]
-- ==== MergeS.lean ====
abbrev S128x512 : Shape := ⟨2, ![128, 512]⟩
abbrev S128x1x1024 : Shape := ⟨3, ![128, 1, 1024]⟩
abbrev S128x1024 : Shape := ⟨2, ![128, 1024]⟩
abbrev S1x512 : Shape := ⟨2, ![1, 512]⟩
abbrev S1x1024x1024 : Shape := ⟨3, ![1, 1024, 1024]⟩
abbrev S1024x1024 : Shape := ⟨2, ![1024, 1024]⟩
abbrev S128 : Shape := ⟨1, ![128]⟩
abbrev S128x1 : Shape := ⟨2, ![128, 1]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1x1024, .f32⟩
  | .hbm, ⟨4, _⟩ => ⟨S128x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S128x1024, .f32⟩
  | .hbm, ⟨9, _⟩ => ⟨S1024x1024, .f32⟩
  | .hbm, ⟨10, _⟩ => ⟨S1024x1024, .bf16⟩
  | .hbm, ⟨11, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x1024, .f32⟩
  | .local _ .vmem, ⟨4, _⟩ => ⟨S128x1024, .f32⟩
  | .local _ .vmem, ⟨5, _⟩ => ⟨S1x512, .f32⟩
  | .local _ .vmem, ⟨6, _⟩ => ⟨S1x512, .f32⟩
  | .local _ .vmem, ⟨7, _⟩ => ⟨S1024x1024, .bf16⟩
  | .local _ .vmem, ⟨8, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSReferenceIdeal.lean ====
abbrev S128x512 : Shape := ⟨2, ![128, 512]⟩
abbrev S128x1x1024 : Shape := ⟨3, ![128, 1, 1024]⟩
abbrev S128x1024 : Shape := ⟨2, ![128, 1024]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S128 : Shape := ⟨1, ![128]⟩
abbrev S128x1 : Shape := ⟨2, ![128, 1]⟩
abbrev S1024x1024 : Shape := ⟨2, ![1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1x1024, .f32⟩
  | .hbm, ⟨4, _⟩ => ⟨S128x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S512, .f32⟩
  | .hbm, ⟨9, _⟩ => ⟨S128x512, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x512, .f32⟩
  | .hbm, ⟨21, _⟩ => ⟨S128x512, .f32⟩
  | .hbm, ⟨22, _⟩ => ⟨S1x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S512, .f32⟩
  | .hbm, ⟨36, _⟩ => ⟨S128x512, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x512, .f32⟩
  | .hbm, ⟨48, _⟩ => ⟨S128x512, .f32⟩
  | .hbm, ⟨49, _⟩ => ⟨S1x512, .f32⟩
  | .hbm, ⟨50, _⟩ => ⟨S128x512, .f32⟩
  | .hbm, ⟨51, _⟩ => ⟨S128x512, .f32⟩
  | .hbm, ⟨52, _⟩ => ⟨S128x1024, .f32⟩
  | .hbm, ⟨53, _⟩ => ⟨S128x1024, .f32⟩
  | .hbm, ⟨54, _⟩ => ⟨S1024x1024, .f32⟩
  | .hbm, ⟨55, _⟩ => ⟨S128x1024, .f32⟩
  | .hbm, ⟨56, _⟩ => ⟨S128x1024, .f32⟩
  | .hbm, ⟨57, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== FfnS.lean ====
abbrev S128x1024 : Shape := ⟨2, ![128, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1408 : Shape := ⟨2, ![1024, 1408]⟩
abbrev S1408x1024 : Shape := ⟨2, ![1408, 1024]⟩
abbrev S128 : Shape := ⟨1, ![128]⟩
abbrev S128x1 : Shape := ⟨2, ![128, 1]⟩
abbrev S128x1408 : Shape := ⟨2, ![128, 1408]⟩

abbrev nBuf : Space → Nat
  | .hbm => 17
  | .vmem => 15
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1x1024, .f32⟩
  | .local _ .vmem, ⟨12, _⟩ => ⟨S128x1024, .f32⟩
  | .local _ .vmem, ⟨13, _⟩ => ⟨S128x1024, .bf16⟩
  | .local _ .vmem, ⟨14, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FfnSReferenceIdeal.lean ====
abbrev S128x1024 : Shape := ⟨2, ![128, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S2816x1024 : Shape := ⟨2, ![2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024, .f32⟩
  | .hbm, ⟨10, _⟩ => ⟨S128x1024, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x1024, .f32⟩
  | .hbm, ⟨22, _⟩ => ⟨S128x1024, .f32⟩
  | .hbm, ⟨23, _⟩ => ⟨S1x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S1024x2816, .f32⟩
  | .hbm, ⟨32, _⟩ => ⟨S128x2816, .f32⟩
  | .hbm, ⟨33, _⟩ => ⟨S128x2816, .f32⟩
  | .hbm, ⟨34, _⟩ => ⟨S128x2816, .f32⟩
  | .hbm, ⟨35, _⟩ => ⟨S_, .f32⟩
  | .hbm, ⟨36, _⟩ => ⟨S128x2816, .f32⟩
  | .hbm, ⟨37, _⟩ => ⟨S128x2816, .f32⟩
  | .hbm, ⟨38, _⟩ => ⟨S_, .f32⟩
  | .hbm, ⟨39, _⟩ => ⟨S128x2816, .f32⟩
  | .hbm, ⟨40, _⟩ => ⟨S128x2816, .f32⟩
  | .hbm, ⟨41, _⟩ => ⟨S128x2816, .f32⟩
  | .hbm, ⟨42, _⟩ => ⟨S1024x2816, .f32⟩
  | .hbm, ⟨43, _⟩ => ⟨S128x2816, .f32⟩
  | .hbm, ⟨44, _⟩ => ⟨S128x2816, .f32⟩
  | .hbm, ⟨45, _⟩ => ⟨S2816x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S128x1024, .f32⟩
  | .hbm, ⟨61, _⟩ => ⟨S128x1024, .f32⟩
  | .hbm, ⟨62, _⟩ => ⟨S1x1024, .f32⟩
  | .hbm, ⟨63, _⟩ => ⟨S128x1024, .f32⟩
  | .hbm, ⟨64, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Step.lean ====
abbrev S128x8 : Shape := ⟨2, ![128, 8]⟩
abbrev S1x8 : Shape := ⟨2, ![1, 8]⟩
abbrev S1x128x8x64x128 : Shape := ⟨5, ![1, 128, 8, 64, 128]⟩
abbrev S128x512 : Shape := ⟨2, ![128, 512]⟩
abbrev S128x8x64x128 : Shape := ⟨4, ![128, 8, 64, 128]⟩
abbrev S128x512x1 : Shape := ⟨3, ![128, 512, 1]⟩
abbrev S128x1x512 : Shape := ⟨3, ![128, 1, 512]⟩
abbrev S8x8x64x128 : Shape := ⟨4, ![8, 8, 64, 128]⟩
abbrev S8x512x1 : Shape := ⟨3, ![8, 512, 1]⟩
abbrev S8x1x512 : Shape := ⟨3, ![8, 1, 512]⟩
abbrev S1x64x1 : Shape := ⟨3, ![1, 64, 1]⟩
abbrev S64x1 : Shape := ⟨2, ![64, 1]⟩
abbrev S1x1x128 : Shape := ⟨3, ![1, 1, 128]⟩
abbrev S1x128 : Shape := ⟨2, ![1, 128]⟩
abbrev S1x1 : Shape := ⟨2, ![1, 1]⟩
abbrev S1x1x64x128 : Shape := ⟨4, ![1, 1, 64, 128]⟩
abbrev S64x128 : Shape := ⟨2, ![64, 128]⟩
abbrev S64 : Shape := ⟨1, ![64]⟩

abbrev nBuf : Space → Nat
  | .hbm => 11
  | .vmem => 10
  | .smem => 3
  | _ => 0

abbrev bufTy : (tb : Table) → Fin (tcTables nBuf tb) → BufTy
  | .hbm, ⟨0, _⟩ => ⟨S128x8, .f32⟩
  | .hbm, ⟨1, _⟩ => ⟨S128x8, .f32⟩
  | .hbm, ⟨2, _⟩ => ⟨S1x8, .f32⟩
  | .hbm, ⟨3, _⟩ => ⟨S1x128x8x64x128, .f32⟩
  | .hbm, ⟨4, _⟩ => ⟨S128x512, .f32⟩
  | .hbm, ⟨5, _⟩ => ⟨S128x512, .f32⟩
  | .hbm, ⟨6, _⟩ => ⟨S128x8x64x128, .f32⟩
  | .hbm, ⟨7, _⟩ => ⟨S128x512x1, .f32⟩
  | .hbm, ⟨8, _⟩ => ⟨S128x1x512, .f32⟩
  | .hbm, ⟨9, _⟩ => ⟨S128x8x64x128, .f32⟩
  | .hbm, ⟨10, _⟩ => ⟨S128x512x1, .f32⟩
  | .local _ .vmem, ⟨0, _⟩ => ⟨S8x8x64x128, .f32⟩
  | .local _ .vmem, ⟨1, _⟩ => ⟨S8x8x64x128, .f32⟩
  | .local _ .vmem, ⟨2, _⟩ => ⟨S8x512x1, .f32⟩
  | .local _ .vmem, ⟨3, _⟩ => ⟨S8x512x1, .f32⟩
  | .local _ .vmem, ⟨4, _⟩ => ⟨S8x1x512, .f32⟩
  | .local _ .vmem, ⟨5, _⟩ => ⟨S8x1x512, .f32⟩
  | .local _ .vmem, ⟨6, _⟩ => ⟨S8x8x64x128, .f32⟩
  | .local _ .vmem, ⟨7, _⟩ => ⟨S8x8x64x128, .f32⟩
  | .local _ .vmem, ⟨8, _⟩ => ⟨S8x512x1, .f32⟩
  | .local _ .vmem, ⟨9, _⟩ => ⟨S8x512x1, .f32⟩
  | .local _ .smem, ⟨0, _⟩ => ⟨S128x8, .f32⟩
  | .local _ .smem, ⟨1, _⟩ => ⟨S128x8, .f32⟩
  | .local _ .smem, ⟨2, _⟩ => ⟨S1x8, .f32⟩
  | _, _ => ⟨S128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v8 : Index := Scalar.indexCast v1
  let c0_7 : Index := 0#32
  ![v8.toNat, 0]
def k0_off2 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v42 : Index := Scalar.indexCast v1
  let c1 : Index := 1#32
  ![v42.toNat, 1]
def k0_off3 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v76 : Index := Scalar.indexCast v1
  let c2 : Index := 2#32
  ![v76.toNat, 2]
def k0_off4 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v110 : Index := Scalar.indexCast v1
  let c3 : Index := 3#32
  ![v110.toNat, 3]
def k0_off5 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v144 : Index := Scalar.indexCast v1
  let c4 : Index := 4#32
  ![v144.toNat, 4]
def k0_off6 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v178 : Index := Scalar.indexCast v1
  let c5 : Index := 5#32
  ![v178.toNat, 5]
def k0_off7 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v212 : Index := Scalar.indexCast v1
  let c6 : Index := 6#32
  ![v212.toNat, 6]
def k0_off8 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v246 : Index := Scalar.indexCast v1
  let c7 : Index := 7#32
  ![v246.toNat, 7]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepReferenceIdeal.lean ====
abbrev S128x8 : Shape := ⟨2, ![128, 8]⟩
abbrev S1x8 : Shape := ⟨2, ![1, 8]⟩
abbrev S1x128x8x64x128 : Shape := ⟨5, ![1, 128, 8, 64, 128]⟩
abbrev S128x512 : Shape := ⟨2, ![128, 512]⟩
abbrev S128x2x4x64 : Shape := ⟨4, ![128, 2, 4, 64]⟩
abbrev S128x256 : Shape := ⟨2, ![128, 256]⟩
abbrev S128x2x128 : Shape := ⟨3, ![128, 2, 128]⟩
abbrev S128x8x64x128 : Shape := ⟨4, ![128, 8, 64, 128]⟩
abbrev S128x2x4x64x128 : Shape := ⟨5, ![128, 2, 4, 64, 128]⟩
abbrev S128x2x4 : Shape := ⟨3, ![128, 2, 4]⟩
abbrev S128x2x4x1 : Shape := ⟨4, ![128, 2, 4, 1]⟩
abbrev S128x2x4x1x1 : Shape := ⟨5, ![128, 2, 4, 1, 1]⟩
abbrev S128x2x4x64x1 : Shape := ⟨5, ![128, 2, 4, 64, 1]⟩
abbrev S128x2x1x1x128 : Shape := ⟨5, ![128, 2, 1, 1, 128]⟩
abbrev S_ : Shape := ⟨0, ![]⟩
abbrev S1x2x4 : Shape := ⟨3, ![1, 2, 4]⟩
abbrev S1x2x4x1 : Shape := ⟨4, ![1, 2, 4, 1]⟩
abbrev S128x512x1 : Shape := ⟨3, ![128, 512, 1]⟩

abbrev nBuf : Space → Nat
  | .hbm => 40
  | .vmem => 0
  | .smem => 0
  | _ => 0

abbrev bufTy : (tb : Table) → Fin (tcTables nBuf tb) → BufTy
  | .hbm, ⟨0, _⟩ => ⟨S128x8, .f32⟩
  | .hbm, ⟨1, _⟩ => ⟨S128x8, .f32⟩
  | .hbm, ⟨2, _⟩ => ⟨S1x8, .f32⟩
  | .hbm, ⟨3, _⟩ => ⟨S1x128x8x64x128, .f32⟩
  | .hbm, ⟨4, _⟩ => ⟨S128x512, .f32⟩
  | .hbm, ⟨5, _⟩ => ⟨S128x512, .f32⟩
  | .hbm, ⟨6, _⟩ => ⟨S128x2x4x64, .f32⟩
  | .hbm, ⟨7, _⟩ => ⟨S128x256, .f32⟩
  | .hbm, ⟨8, _⟩ => ⟨S128x2x128, .f32⟩
  | .hbm, ⟨9, _⟩ => ⟨S128x256, .f32⟩
  | .hbm, ⟨10, _⟩ => ⟨S128x2x128, .f32⟩
  | .hbm, ⟨11, _⟩ => ⟨S128x8x64x128, .f32⟩
  | .hbm, ⟨12, _⟩ => ⟨S128x2x4x64x128, .f32⟩
  | .hbm, ⟨13, _⟩ => ⟨S128x2x4, .f32⟩
  | .hbm, ⟨14, _⟩ => ⟨S128x2x4x1, .f32⟩
  | .hbm, ⟨15, _⟩ => ⟨S128x2x4x1x1, .f32⟩
  | .hbm, ⟨16, _⟩ => ⟨S128x2x4x64x128, .f32⟩
  | .hbm, ⟨17, _⟩ => ⟨S128x2x4x64x128, .f32⟩
  | .hbm, ⟨18, _⟩ => ⟨S128x2x4, .f32⟩
  | .hbm, ⟨19, _⟩ => ⟨S128x2x4x1, .f32⟩
  | .hbm, ⟨20, _⟩ => ⟨S128x2x4x64, .f32⟩
  | .hbm, ⟨21, _⟩ => ⟨S128x2x4x64, .f32⟩
  | .hbm, ⟨22, _⟩ => ⟨S128x2x4x64x1, .f32⟩
  | .hbm, ⟨23, _⟩ => ⟨S128x2x1x1x128, .f32⟩
  | .hbm, ⟨24, _⟩ => ⟨S128x2x4x64x128, .f32⟩
  | .hbm, ⟨25, _⟩ => ⟨S128x2x4x64x128, .f32⟩
  | .hbm, ⟨26, _⟩ => ⟨S128x2x4x64x128, .f32⟩
  | .hbm, ⟨27, _⟩ => ⟨S128x2x4x64x128, .f32⟩
  | .hbm, ⟨28, _⟩ => ⟨S128x2x1x1x128, .f32⟩
  | .hbm, ⟨29, _⟩ => ⟨S128x2x4x64x128, .f32⟩
  | .hbm, ⟨30, _⟩ => ⟨S128x2x4x64x128, .f32⟩
  | .hbm, ⟨31, _⟩ => ⟨S_, .f32⟩
  | .hbm, ⟨32, _⟩ => ⟨S128x2x4x64, .f32⟩
  | .hbm, ⟨33, _⟩ => ⟨S1x2x4, .f32⟩
  | .hbm, ⟨34, _⟩ => ⟨S1x2x4x1, .f32⟩
  | .hbm, ⟨35, _⟩ => ⟨S128x2x4x64, .f32⟩
  | .hbm, ⟨36, _⟩ => ⟨S128x2x4x64, .f32⟩
  | .hbm, ⟨37, _⟩ => ⟨S128x2x4x64, .f32⟩
  | .hbm, ⟨38, _⟩ => ⟨S128x8x64x128, .f32⟩
  | .hbm, ⟨39, _⟩ => ⟨S128x512x1, .f32⟩
  | _, _ => ⟨S128x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Pages.lean ====
abbrev S1x10240x128x8 : Shape := ⟨4, ![1, 10240, 128, 8]⟩
abbrev S10240x128x8 : Shape := ⟨3, ![10240, 128, 8]⟩
abbrev S10240x8x128 : Shape := ⟨3, ![10240, 8, 128]⟩
abbrev S81920x128 : Shape := ⟨2, ![81920, 128]⟩
abbrev S2048x128 : Shape := ⟨2, ![2048, 128]⟩
abbrev S128x128 : Shape := ⟨2, ![128, 128]⟩

abbrev nBuf : Space → Nat
  | .hbm => 6
  | .vmem => 6
  | .smem => 0
  | _ => 0

abbrev bufTy : (tb : Table) → Fin (tcTables nBuf tb) → BufTy
  | .hbm, ⟨0, _⟩ => ⟨S1x10240x128x8, .f32⟩
  | .hbm, ⟨1, _⟩ => ⟨S10240x128x8, .f32⟩
  | .hbm, ⟨2, _⟩ => ⟨S10240x8x128, .f32⟩
  | .hbm, ⟨3, _⟩ => ⟨S81920x128, .f32⟩
  | .hbm, ⟨4, _⟩ => ⟨S81920x128, .f32⟩
  | .hbm, ⟨5, _⟩ => ⟨S81920x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S1x10240x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PagesReferenceIdeal.lean ====
abbrev S1x10240x128x8 : Shape := ⟨4, ![1, 10240, 128, 8]⟩
abbrev S10240x128x8 : Shape := ⟨3, ![10240, 128, 8]⟩
abbrev S10240x8x128 : Shape := ⟨3, ![10240, 8, 128]⟩
abbrev S81920x128 : Shape := ⟨2, ![81920, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S81920x1x128 : Shape := ⟨3, ![81920, 1, 128]⟩
abbrev S_ : Shape := ⟨0, ![]⟩
abbrev S81920x128x128 : Shape := ⟨3, ![81920, 128, 128]⟩
abbrev S81920 : Shape := ⟨1, ![81920]⟩
abbrev S81920x1 : Shape := ⟨2, ![81920, 1]⟩

abbrev nBuf : Space → Nat
  | .hbm => 23
  | .vmem => 0
  | .smem => 0
  | _ => 0

abbrev bufTy : (tb : Table) → Fin (tcTables nBuf tb) → BufTy
  | .hbm, ⟨0, _⟩ => ⟨S1x10240x128x8, .f32⟩
  | .hbm, ⟨1, _⟩ => ⟨S10240x128x8, .f32⟩
  | .hbm, ⟨2, _⟩ => ⟨S10240x8x128, .f32⟩
  | .hbm, ⟨3, _⟩ => ⟨S81920x128, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S81920x1x128, .f32⟩
  | .hbm, ⟨11, _⟩ => ⟨S_, .f32⟩
  | .hbm, ⟨12, _⟩ => ⟨S_, .f32⟩
  | .hbm, ⟨13, _⟩ => ⟨S81920x128x128, .i1⟩
  | .hbm, ⟨14, _⟩ => ⟨S81920x128x128, .f32⟩
  | .hbm, ⟨15, _⟩ => ⟨S81920x128x128, .f32⟩
  | .hbm, ⟨16, _⟩ => ⟨S81920x128x128, .f32⟩
  | .hbm, ⟨17, _⟩ => ⟨S_, .f32⟩
  | .hbm, ⟨18, _⟩ => ⟨S81920x128, .f32⟩
  | .hbm, ⟨19, _⟩ => ⟨S_, .f32⟩
  | .hbm, ⟨20, _⟩ => ⟨S81920, .f32⟩
  | .hbm, ⟨21, _⟩ => ⟨S81920x1, .f32⟩
  | .hbm, ⟨22, _⟩ => ⟨S81920x128, .f32⟩
  | _, _ => ⟨S1x10240x128x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Sums.lean ====
abbrev S4x4096x8 : Shape := ⟨3, ![4, 4096, 8]⟩
abbrev S4x8x4096 : Shape := ⟨3, ![4, 8, 4096]⟩
abbrev S32x4096 : Shape := ⟨2, ![32, 4096]⟩
abbrev S128x128 : Shape := ⟨2, ![128, 128]⟩
abbrev S32x1 : Shape := ⟨2, ![32, 1]⟩
abbrev S32x128 : Shape := ⟨2, ![32, 128]⟩

abbrev nBuf : Space → Nat
  | .hbm => 4
  | .vmem => 2
  | .smem => 0
  | _ => 0

abbrev bufTy : (tb : Table) → Fin (tcTables nBuf tb) → BufTy
  | .hbm, ⟨0, _⟩ => ⟨S4x4096x8, .f32⟩
  | .hbm, ⟨1, _⟩ => ⟨S4x8x4096, .f32⟩
  | .hbm, ⟨2, _⟩ => ⟨S32x4096, .f32⟩
  | .hbm, ⟨3, _⟩ => ⟨S32x4096, .f32⟩
  | .local _ .vmem, ⟨0, _⟩ => ⟨S32x4096, .f32⟩
  | .local _ .vmem, ⟨1, _⟩ => ⟨S32x4096, .f32⟩
  | _, _ => ⟨S4x4096x8, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumsReferenceIdeal.lean ====
abbrev S4x4096x8 : Shape := ⟨3, ![4, 4096, 8]⟩
abbrev S4x8x4096 : Shape := ⟨3, ![4, 8, 4096]⟩
abbrev S32x4096 : Shape := ⟨2, ![32, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S32x1x4096 : Shape := ⟨3, ![32, 1, 4096]⟩
abbrev S_ : Shape := ⟨0, ![]⟩
abbrev S32x4096x4096 : Shape := ⟨3, ![32, 4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x8, .f32⟩
  | .hbm, ⟨1, _⟩ => ⟨S4x8x4096, .f32⟩
  | .hbm, ⟨2, _⟩ => ⟨S32x4096, .f32⟩
  | .hbm, ⟨3, _⟩ => ⟨S4096, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S32x1x4096, .f32⟩
  | .hbm, ⟨10, _⟩ => ⟨S_, .f32⟩
  | .hbm, ⟨11, _⟩ => ⟨S_, .f32⟩
  | .hbm, ⟨12, _⟩ => ⟨S32x4096x4096, .i1⟩
  | .hbm, ⟨13, _⟩ => ⟨S32x4096x4096, .f32⟩
  | .hbm, ⟨14, _⟩ => ⟨S32x4096x4096, .f32⟩
  | .hbm, ⟨15, _⟩ => ⟨S32x4096x4096, .f32⟩
  | .hbm, ⟨16, _⟩ => ⟨S_, .f32⟩
  | .hbm, ⟨17, _⟩ => ⟨S32x4096, .f32⟩
  | .hbm, ⟨18, _⟩ => ⟨S32x4096, .f32⟩
  | _, _ => ⟨S4x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Attn.Online.lean ====
/-
  The running softmax over extended reals: a row's maximum, its sum of exponentials and its weighted sum, carried from one
  block of keys to the next, and the quotient of the last two as the softmax-weighted sum of the values.
-/
module

public import Idealize.ShloMosaic.PureOps.Ideal.Laws

@[expose] public section

noncomputable section

namespace Cert.Online

open Idealize.ShloMosaic

theorem exp_bot : Ideal.exp ⊥ = 0 := rfl

theorem exp_coe (r : ℝ) : Ideal.exp (r : EReal) = (Real.exp r : EReal) := rfl

/-- Subtracting plus infinity gives minus infinity, whatever it is subtracted from. -/
theorem sub_top (x : EReal) : x - ⊤ = ⊥ := by rw [sub_eq_add_neg, EReal.neg_top, EReal.add_bot]

/-- Minus infinity less anything is minus infinity. -/
theorem bot_sub (x : EReal) : ⊥ - x = ⊥ := by rw [sub_eq_add_neg, EReal.bot_add]

/-- A nonnegative real factor goes under a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- A finite sum of reals, as one of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor that rescales a state to a larger maximum is a nonnegative real. -/
theorem exp_sub_of_le {m m' : EReal} (h : m ≤ m') : ∃ c : ℝ, 0 ≤ c ∧ Ideal.exp (m - m') = (c : EReal) := by
  induction m' with
  | top => exact ⟨0, le_rfl, by rw [sub_top, exp_bot]; rfl⟩
  | bot =>
    obtain rfl : m = ⊥ := le_bot_iff.1 h
    exact ⟨0, le_rfl, by rw [bot_sub, exp_bot]; rfl⟩
  | coe r' =>
    induction m with
    | top => exact absurd h (not_le.2 (EReal.coe_lt_top r'))
    | bot => exact ⟨0, le_rfl, by rw [bot_sub, exp_bot]; rfl⟩
    | coe r => exact ⟨Real.exp (r - r'), (Real.exp_pos _).le, by rw [← EReal.coe_sub, exp_coe]⟩

/-- Rescaling a term: `exp (m - m') · exp (s - m) = exp (s - m')` for `s ≤ m ≤ m'`, `m` not minus infinity. -/
theorem exp_mul_exp {s m m' : EReal} (hm : m ≠ ⊥) (hs : s ≤ m) (h : m ≤ m') :
    Ideal.exp (m - m') * Ideal.exp (s - m) = Ideal.exp (s - m') := by
  induction m' with
  | top => rw [sub_top, sub_top, exp_bot, zero_mul]
  | bot => exact absurd (le_bot_iff.1 h) hm
  | coe r' =>
    induction m with
    | top => exact absurd h (not_le.2 (EReal.coe_lt_top r'))
    | bot => exact absurd rfl hm
    | coe r =>
      induction s with
      | top => exact absurd hs (not_le.2 (EReal.coe_lt_top r))
      | bot => rw [bot_sub, bot_sub, exp_bot, mul_zero]
      | coe q =>
        rw [← EReal.coe_sub, ← EReal.coe_sub, ← EReal.coe_sub, exp_coe, exp_coe, exp_coe, ← EReal.coe_mul, ← Real.exp_add]
        congr 2; ring

variable (B : EReal) (s v : ℕ → EReal)

/-- The running maximum after the keys below `n`, from the initial value `B`. -/
def mx (n : ℕ) : EReal := max B ((Finset.range n).sup s)

/-- The running sum of exponentials after the keys below `n`. -/
def ls (n : ℕ) : EReal := ∑ j ∈ Finset.range n, Ideal.exp (s j - mx B s n)

/-- The running weighted sum after the keys below `n`. -/
def ac (n : ℕ) : EReal := ∑ j ∈ Finset.range n, Ideal.exp (s j - mx B s n) * v j

theorem mx_zero : mx B s 0 = B := by simp [mx]
theorem ls_zero : ls B s 0 = 0 := by simp [ls]
theorem ac_zero : ac B s v 0 = 0 := by simp [ac]

/-- A supremum over an initial segment, as one over the segment's `Fin` type. -/
theorem sup_range_eq (f : ℕ → EReal) (n : ℕ) :
    (Finset.range n).sup f = (Finset.univ : Finset (Fin n)).sup fun c => f c.val :=
  le_antisymm (Finset.sup_le fun j hj => Finset.le_sup (f := fun c : Fin n => f c.val)
      (Finset.mem_univ (⟨j, Finset.mem_range.1 hj⟩ : Fin n)))
    (Finset.sup_le fun c _ => Finset.le_sup (Finset.mem_range.2 c.isLt))

/-- The maximum after one more block of `k` keys. -/
theorem mx_add (n k : ℕ) :
    mx B s (n + k) = max (mx B s n) ((Finset.univ : Finset (Fin k)).sup fun c => s (n + c.val)) := by
  unfold mx
  rw [max_assoc, ← sup_range_eq (fun j => s (n + j))]
  congr 1
  refine le_antisymm (Finset.sup_le fun j hj => ?_) (max_le (Finset.sup_mono (Finset.range_mono (by omega))) ?_)
  · rcases lt_or_ge j n with h | h
    · exact le_max_of_le_left (Finset.le_sup (Finset.mem_range.2 h))
    · refine le_max_of_le_right ?_
      have := Finset.mem_range.1 hj
      have e := Finset.le_sup (f := fun j => s (n + j)) (Finset.mem_range.2 (show j - n < k by omega))
      simpa [Nat.add_sub_cancel' h] using e
  · exact Finset.sup_le fun j hj => Finset.le_sup (f := s)
      (Finset.mem_range.2 (by have := Finset.mem_range.1 hj; omega))

theorem mx_le_add (n k : ℕ) : mx B s n ≤ mx B s (n + k) := by rw [mx_add]; exact le_max_left _ _

theorem le_mx {j n : ℕ} (h : j < n) : s j ≤ mx B s n :=
  le_max_of_le_right (Finset.le_sup (Finset.mem_range.2 h))

variable {B}

theorem mx_ne_bot (hB : B ≠ ⊥) (n : ℕ) : mx B s n ≠ ⊥ := fun h =>
  hB (le_bot_iff.1 (h ▸ le_max_left B _))

/-- The sum of exponentials after one more block. -/
theorem ls_add (hB : B ≠ ⊥) (n k : ℕ) :
    ls B s (n + k) = Ideal.exp (mx B s n - mx B s (n + k)) * ls B s n
      + ∑ c : Fin k, Ideal.exp (s (n + c.val) - mx B s (n + k)) := by
  obtain ⟨c, hc, e⟩ := exp_sub_of_le (mx_le_add B s n k)
  unfold ls
  rw [Finset.sum_range_add, ← Fin.sum_univ_eq_sum_range (fun x => Ideal.exp (s (n + x) - mx B s (n + k))), e, coe_mul_sum _ c hc]
  congr 1
  refine Finset.sum_congr rfl fun j hj => ?_
  rw [← e, exp_mul_exp (mx_ne_bot s hB n) (le_mx B s (Finset.mem_range.1 hj)) (mx_le_add B s n k)]

/-- The weighted sum after one more block. -/
theorem ac_add (hB : B ≠ ⊥) (n k : ℕ) :
    ac B s v (n + k) = Ideal.exp (mx B s n - mx B s (n + k)) * ac B s v n
      + ∑ c : Fin k, Ideal.exp (s (n + c.val) - mx B s (n + k)) * v (n + c.val) := by
  obtain ⟨c, hc, e⟩ := exp_sub_of_le (mx_le_add B s n k)
  unfold ac
  rw [Finset.sum_range_add, ← Fin.sum_univ_eq_sum_range (fun x => Ideal.exp (s (n + x) - mx B s (n + k)) * v (n + x)), e,
    coe_mul_sum _ c hc]
  congr 1
  refine Finset.sum_congr rfl fun j hj => ?_
  rw [← e, ← mul_assoc, exp_mul_exp (mx_ne_bot s hB n) (le_mx B s (Finset.mem_range.1 hj)) (mx_le_add B s n k)]

/-- A finite shift moves out of a supremum. -/
theorem sup_add_coe (F : ℝ) (n : ℕ) :
    (Finset.range n).sup (fun j => s j + (F : EReal)) = (Finset.range n).sup s + (F : EReal) := by
  refine le_antisymm (Finset.sup_le fun j hj => add_le_add (Finset.le_sup (f := s) hj) le_rfl) ?_
  have h : (Finset.range n).sup s ≤ (Finset.range n).sup (fun j => s j + (F : EReal)) - (F : EReal) := by
    refine Finset.sup_le fun j hj => ?_
    rw [EReal.le_sub_iff_add_le (Or.inl (EReal.coe_ne_bot F)) (Or.inl (EReal.coe_ne_top F))]
    exact Finset.le_sup (f := fun j => s j + (F : EReal)) hj
  rwa [EReal.le_sub_iff_add_le (Or.inl (EReal.coe_ne_bot F)) (Or.inl (EReal.coe_ne_top F))] at h

/-- A finite shift of both terms leaves a difference. -/
theorem add_coe_sub_add_coe (x y : EReal) (F : ℝ) : (x + (F : EReal)) - (y + (F : EReal)) = x - y := by
  induction y with
  | top => rw [EReal.top_add_coe, sub_top, sub_top]
  | bot =>
    induction x with
    | top => rw [EReal.top_add_coe, EReal.bot_add]
    | bot => rw [EReal.bot_add]
    | coe a => rw [EReal.bot_add, ← EReal.coe_add]; simp [sub_eq_add_neg]
  | coe b =>
    induction x with
    | top => rw [EReal.top_add_coe, ← EReal.coe_add, EReal.top_sub_coe, EReal.top_sub_coe]
    | bot => rw [EReal.bot_add, bot_sub, bot_sub]
    | coe a => rw [← EReal.coe_add, ← EReal.coe_add, ← EReal.coe_sub, ← EReal.coe_sub]; congr 1; ring

/-- Scaling the numerator and the denominator of a quotient by one positive real leaves it. -/
theorem div_scale (c l : ℝ) (hc : 0 < c) (hl : 0 < l) (x : EReal) :
    Ideal.div ((c : EReal) * x) ((c : EReal) * (l : EReal)) = ((l⁻¹ : ℝ) : EReal) * x := by
  have h1 : (c : EReal) * (l : EReal) ≠ 0 := by
    rw [← EReal.coe_mul]; exact_mod_cast (mul_pos hc hl).ne'
  unfold Ideal.div
  rw [if_neg h1, ← EReal.coe_mul, ← EReal.coe_inv, mul_comm (c : EReal) x, mul_assoc, ← EReal.coe_mul, mul_comm x]
  congr 2
  field_simp

/-- THE QUOTIENT: where no score is plus infinity and one of those below `n` is finite, and the scores from `n` on are minus
    infinity, the running sums' quotient at `n` is the softmax-weighted sum over the keys below `N`, the softmax taken of the
    scores shifted by a finite `F` and stabilized by their maximum. -/
theorem quotient (hB : B ≠ ⊥) (hB' : B ≠ ⊤) (F : ℝ) (n N : ℕ) (hn : n ≤ N) (hT : ∀ j, s j ≠ ⊤)
    (j₀ : ℕ) (hj₀ : j₀ < n) (hj₀' : s j₀ ≠ ⊥) (hbot : ∀ j, n ≤ j → j < N → s j = ⊥) :
    Ideal.div (ac B s v n) (ls B s n)
      = ∑ j ∈ Finset.range N, v j * Ideal.div
          (Ideal.exp ((s j + (F : EReal)) - max ⊥ ((Finset.range N).sup fun j => s j + (F : EReal))))
          (0 + ∑ i ∈ Finset.range N,
            Ideal.exp ((s i + (F : EReal)) - max ⊥ ((Finset.range N).sup fun j => s j + (F : EReal)))) := by
  have hsupN : (Finset.range N).sup s = (Finset.range n).sup s := by
    refine le_antisymm (Finset.sup_le fun j hj => ?_) (Finset.sup_mono (Finset.range_mono hn))
    rcases lt_or_ge j n with h | h
    · exact Finset.le_sup (Finset.mem_range.2 h)
    · rw [hbot j h (Finset.mem_range.1 hj)]; exact bot_le
  set M := (Finset.range n).sup s with hM
  have hMbot : M ≠ ⊥ := fun h => hj₀' (le_bot_iff.1 (h ▸ Finset.le_sup (Finset.mem_range.2 hj₀)))
  have hMtop : M ≠ ⊤ := by
    have : M < ⊤ := (Finset.sup_lt_iff bot_lt_top).2 fun j _ => lt_top_iff_ne_top.2 (hT j)
    exact this.ne
  have e1 : ∀ j, (s j + (F : EReal)) - max ⊥ ((Finset.range N).sup fun j => s j + (F : EReal)) = s j - M := by
    intro j
    rw [sup_add_coe, hsupN, max_eq_right bot_le, add_coe_sub_add_coe]
  simp only [e1, zero_add]
  obtain ⟨Mr, hMr⟩ : ∃ r : ℝ, M = (r : EReal) := ⟨M.toReal, (EReal.coe_toReal hMtop hMbot).symm⟩
  obtain ⟨Br, rfl⟩ : ∃ r : ℝ, B = (r : EReal) := ⟨B.toReal, (EReal.coe_toReal hB' hB).symm⟩
  have hm : mx (Br : EReal) s n = ((max Br Mr : ℝ) : EReal) := by
    show max (Br : EReal) M = _
    rw [hMr]; exact (EReal.coe_strictMono.monotone.map_max).symm
  -- the exponentials of the reference, as reals
  have hE : ∀ j, ∃ r : ℝ, 0 ≤ r ∧ Ideal.exp (s j - M) = (r : EReal) ∧ (s j ≠ ⊥ → 0 < r) := by
    intro j
    rcases eq_or_ne (s j) ⊥ with h | h
    · exact ⟨0, le_rfl, by rw [h, bot_sub, exp_bot]; rfl, fun h' => absurd h h'⟩
    · obtain ⟨r, hr⟩ : ∃ r : ℝ, s j = (r : EReal) := ⟨(s j).toReal, (EReal.coe_toReal (hT j) h).symm⟩
      exact ⟨Real.exp (r - Mr), (Real.exp_pos _).le, by rw [hr, hMr, ← EReal.coe_sub, exp_coe], fun _ => Real.exp_pos _⟩
  choose E hE0 hE1 hE2 using hE
  have hzero : ∀ j, n ≤ j → j < N → E j = 0 := by
    intro j h h'
    have := hE1 j
    rw [hbot j h h', bot_sub, exp_bot] at this
    exact_mod_cast this.symm
  have hsub : Finset.range n ⊆ Finset.range N := Finset.range_mono hn
  -- the reference's denominator
  have hL : ∑ i ∈ Finset.range N, Ideal.exp (s i - M) = ((∑ i ∈ Finset.range n, E i : ℝ) : EReal) := by
    rw [Finset.sum_congr rfl fun i _ => hE1 i, ← coe_sum]
    congr 1
    refine (Finset.sum_subset hsub fun j hj hj' => ?_).symm
    exact hzero j (by simpa using hj') (Finset.mem_range.1 hj)
  have hLpos : 0 < ∑ i ∈ Finset.range n, E i :=
    Finset.sum_pos' (fun i _ => hE0 i) ⟨j₀, Finset.mem_range.2 hj₀, hE2 j₀ hj₀'⟩
  -- the kernel's exponentials are the reference's, scaled
  have hscale : ∀ j, Ideal.exp (s j - mx (Br : EReal) s n) = ((Real.exp (Mr - max Br Mr) : ℝ) : EReal) * (E j : EReal) := by
    intro j
    rw [hm, ← hE1 j, hMr]
    rcases eq_or_ne (s j) ⊥ with h | h
    · rw [h, bot_sub, bot_sub, exp_bot, mul_zero]
    · obtain ⟨r, hr⟩ : ∃ r : ℝ, s j = (r : EReal) := ⟨(s j).toReal, (EReal.coe_toReal (hT j) h).symm⟩
      rw [hr, ← EReal.coe_sub, ← EReal.coe_sub, exp_coe, exp_coe, ← EReal.coe_mul, ← Real.exp_add]
      congr 2; ring
  have hls : ls (Br : EReal) s n = ((Real.exp (Mr - max Br Mr) : ℝ) : EReal) * ((∑ i ∈ Finset.range n, E i : ℝ) : EReal) := by
    unfold ls
    rw [Finset.sum_congr rfl fun j _ => hscale j, ← coe_mul_sum _ _ (Real.exp_pos _).le, ← coe_sum]
  have hac : ac (Br : EReal) s v n = ((Real.exp (Mr - max Br Mr) : ℝ) : EReal) * ∑ j ∈ Finset.range n, (E j : EReal) * v j := by
    unfold ac
    rw [coe_mul_sum _ _ (Real.exp_pos _).le]
    exact Finset.sum_congr rfl fun j _ => by rw [hscale, mul_assoc]
  rw [hls, hac, div_scale _ _ (Real.exp_pos _) hLpos, hL, coe_mul_sum _ _ (inv_nonneg.2 hLpos.le)]
  rw [← Finset.sum_subset hsub]
  · refine Finset.sum_congr rfl fun j _ => ?_
    unfold Ideal.div
    rw [if_neg (by exact_mod_cast hLpos.ne'), hE1, ← EReal.coe_inv, mul_comm (v j), ← mul_assoc, mul_comm (E j : EReal)]
  · intro j hj hj'
    rw [hE1, hzero j (by simpa using hj') (Finset.mem_range.1 hj)]
    unfold Ideal.div
    rw [if_neg (by exact_mod_cast hLpos.ne'), EReal.coe_zero, zero_mul, mul_zero]

end Cert.Online

end
-- ==== Proof.Attn.Tile.lean ====
/-
  One block of keys of the attention kernel: the running maximum, sum and weighted sum it makes of a score matrix, read row by
  row as the running softmax's next state.
-/
module

public import proofs.«01_k».proof.Proof.Attn.Online
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Tile

open Cert.KernelIdeal Cert.KernelIdeal.Gen Idealize.ShloMosaic

/-- A column of row values at the extended reals. -/
abbrev C := FVec Ideal S512x1 .f32
/-- A 512 × 128 block. -/
abbrev W := FVec Ideal S512x128 .f32
/-- A 512 × 512 block. -/
abbrev X := FVec Ideal S512x512 .f32

/-- The new maximum of a row, from the old one and the block's scores. -/
def newM (m : C) (x : X) : C :=
  maximumf m (shapeCast S512x1 (multiReduction .maximumf [1] S512 x 0xFF800000#32 reduces_S512x512_S512 (.inl rfl) rfl)
    shapeCasts_S512_S512x1)

/-- The factor that rescales the old sums. -/
def scale (m : C) (x : X) : C := exp (subf m (newM m x))

/-- The block's exponentials. -/
def expo (m : C) (x : X) : X := exp (subf x (broadcastTo S512x512 (newM m x) broadcasts_S512x1_S512x512))

/-- The new sum of a row. -/
def newL (m l : C) (x : X) : C :=
  addf (mulf (scale m x) l) (shapeCast S512x1
    (multiReduction .add [1] S512 (expo m x) 0x00000000#32 reduces_S512x512_S512 (.inl rfl) rfl) shapeCasts_S512_S512x1)

/-- The new weighted sum of a row. -/
def newA (m : C) (a : W) (x : X) (v : Vec Ideal S512x128 .bf16) : W :=
  addf (mulf (broadcastTo S512x128 (scale m x) broadcasts_S512x1_S512x128) a)
    (matmul (φ₂ := .bf16) dot_S512x512_S512x128_S512x128_1_0_0_1_n_n none (truncf .bf16 (expo m x) bitsLt_bf16_f32) v
      (constant S512x128 .f32 0x00000000#32))

/-- Every row of a column and a block holds the running softmax's state after the keys below `n`: `s r` are row `r`'s scores,
    `v d` lane `d`'s values. -/
def State (B : EReal) (s : Fin 512 → ℕ → EReal) (v : Fin 128 → ℕ → EReal) (n : ℕ) (m l : C) (a : W) : Prop :=
  ∀ r : Fin 512, m (ix2 r 0) = Online.mx B (s r) n ∧ l (ix2 r 0) = Online.ls B (s r) n
    ∧ ∀ d : Fin 128, a (ix2 r d) = Online.ac B (s r) (v d) n

theorem ofBits_neg_inf : Ideal.ofBits .f32 0xFF800000#32 = ⊥ := by
  simp [Ideal.ofBits, Ideal.ieee]

theorem newM_apply (m : C) (x : X) (r : Fin 512) :
    newM m x (ix2 r 0) = max (m (ix2 r 0)) ((Finset.univ : Finset (Fin 512)).sup fun c => x (ix2 r c)) := by
  pointwise [newM, ofBits_neg_inf]
  rfl

theorem scale_apply (m : C) (x : X) (r : Fin 512) :
    scale m x (ix2 r 0) = Ideal.exp (m (ix2 r 0) - newM m x (ix2 r 0)) := by
  pointwise [scale]

theorem expo_apply (m : C) (x : X) (r c : Fin 512) :
    expo m x (ix2 r c) = Ideal.exp (x (ix2 r c) - newM m x (ix2 r 0)) := by
  pointwise [expo]

theorem newL_apply (m l : C) (x : X) (r : Fin 512) :
    newL m l x (ix2 r 0) = scale m x (ix2 r 0) * l (ix2 r 0) + ∑ c : Fin 512, expo m x (ix2 r c) := by
  pointwise [newL]

theorem newA_apply (m : C) (a : W) (x : X) (v : Vec Ideal S512x128 .bf16) (r : Fin 512) (d : Fin 128) :
    newA m a x v (ix2 r d) = scale m x (ix2 r 0) * a (ix2 r d) + ∑ c : Fin 512, expo m x (ix2 r c) * v (ix2 c d) := by
  pointwise [newA]

/-- A block of 512 keys takes the state after the keys below `n` to the state after those below `n + 512`. -/
theorem step {B : EReal} (hB : B ≠ ⊥) (s : Fin 512 → ℕ → EReal) (v : Fin 128 → ℕ → EReal) (n : ℕ) (m l : C) (a : W)
    (x : X) (vt : Vec Ideal S512x128 .bf16) (hs : State B s v n m l a)
    (hx : ∀ r c : Fin 512, x (ix2 r c) = s r (n + c.val)) (hv : ∀ (c : Fin 512) (d : Fin 128), vt (ix2 c d) = v d (n + c.val)) :
    State B s v (n + 512) (newM m x) (newL m l x) (newA m a x vt) := by
  intro r
  obtain ⟨h1, h2, h3⟩ := hs r
  have e : newM m x (ix2 r 0) = Online.mx B (s r) (n + 512) := by
    rw [newM_apply, Online.mx_add, h1]; simp only [hx]
  refine ⟨e, ?_, fun d => ?_⟩
  · rw [newL_apply, Online.ls_add _ hB, scale_apply, e, h1, h2]
    simp only [expo_apply, e, hx]
  · rw [newA_apply, Online.ac_add _ _ hB, scale_apply, e, h1, h3]
    simp only [expo_apply, e, hx, hv]

/-- The scores of a query block against a key block, the keys' forget sums added. -/
def score (q k : Vec Ideal S512x128 .bf16) (f : Vec Ideal S1x1x512 .f32) : X := k0_pay2 q k f

theorem score_apply (q k : Vec Ideal S512x128 .bf16) (f : Vec Ideal S1x1x512 .f32) (r c : Fin 512) :
    score q k f (ix2 r c) = (∑ d : Fin 128, q (ix2 r d) * k (ix2 c d)) + f (ix3 0 0 c) := by
  pointwise [score, k0_pay2]

/-- The scores with the keys after the query masked to minus infinity, on a diagonal block. -/
def masked (x : X) : X := k0_pay39 x

theorem masked_apply (x : X) (r c : Fin 512) : masked x (ix2 r c) = if c.val ≤ r.val then x (ix2 r c) else ⊥ := by
  pointwise [masked, k0_pay39, ofBits_neg_inf]
  rw [WordCmp.cmpi_sge_ofNat (by omega) (by omega), WordCmp.select_ofBool]
  simp only [decide_eq_true_eq]

/-- The first head's queries: the lanes from 64 on are zero. -/
theorem qa_apply (q : Vec Ideal S512x128 .bf16) (r : Fin 512) (d : Fin 128) :
    k0_pay26 q (ix2 r d) = if d.val < 64 then q (ix2 r d) else 0 := by
  pointwise [k0_pay26]
  rw [WordCmp.cmpi_slt_ofNat (by omega) (by omega), WordCmp.select_ofBool]
  simp only [decide_eq_true_eq]

/-- The second head's queries: the lanes below 64 are zero. -/
theorem qb_apply (q : Vec Ideal S512x128 .bf16) (r : Fin 512) (d : Fin 128) :
    k0_pay27 q (ix2 r d) = if d.val < 64 then 0 else q (ix2 r d) := by
  pointwise [k0_pay27]
  rw [WordCmp.cmpi_sge_ofNat (by omega) (by omega), WordCmp.select_ofBool]
  by_cases h : d.val < 64 <;> simp [h]

/-- The block written: the first head's quotient below lane 64, the second's from there on. -/
theorem out_apply (la lb : C) (a b₁ b₂ : W) (r : Fin 512) (d : Fin 128) :
    k0_pay1 la a lb b₁ b₂ (ix2 r d)
      = if d.val < 64 then Ideal.div (a (ix2 r d)) (la (ix2 r 0)) else Ideal.div (b₁ (ix2 r d) + b₂ (ix2 r d)) (lb (ix2 r 0)) := by
  pointwise [k0_pay1]
  rw [WordCmp.cmpi_slt_ofNat (by omega) (by omega), WordCmp.select_ofBool]
  simp only [decide_eq_true_eq]

end Cert.KernelIdeal.Tile

end
-- ==== Proof.Attn.Block.lean ====
/-
  One grid point of the attention kernel: its loop over the key blocks before the queries' own, then the queries' own block,
  masked; the block written, element by element, as the running softmax's quotient over the keys up to the query block's end.
-/
module

public import proofs.«01_k».proof.Proof.Attn.Tile
public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.ShloMosaic.Tactic

/-- The value the running maxima start from. -/
def B : EReal := Ideal.ofBits .f32 0xF149F2CA#32

theorem B_ne_bot : B ≠ ⊥ := by
  simp [B, Ideal.ofBits, Ideal.ieee]
  rw [← EReal.coe_pow, ← EReal.coe_mul]; exact EReal.coe_ne_top _

theorem B_ne_top : B ≠ ⊤ := by
  simp [B, Ideal.ofBits, Ideal.ieee]
  rw [← EReal.coe_pow, ← EReal.coe_mul]; exact EReal.coe_ne_bot _

/-- The score of query row `r` of query block `qi` against key position `j`, the key's forget sum added; minus infinity for a
    key after the query. -/
def sc (q : Vec Ideal S512x128 .bf16) (x1 : Vec Ideal S4096x128 .bf16) (x3 : Vec Ideal S1x2x4096 .f32) (qi : ℕ) (h : Fin 2)
    (r : Fin 512) (j : ℕ) : EReal :=
  if j ≤ 512 * qi + r.val then
    (∑ d : Fin 128, q (ix2 r d) * x1 (ix2 (Fin.ofNat 4096 j) d)) + x3 (ix3 0 h (Fin.ofNat 4096 j))
  else ⊥

/-- Lane `d` of the value rows, by key position. -/
def val (x2 : Vec Ideal S4096x128 .bf16) (d : Fin 128) (j : ℕ) : EReal := x2 (ix2 (Fin.ofNat 4096 j) d)

/-- A load of 512 rows from row `n` on. -/
theorem ld_rows (x : Vec Ideal S4096x128 .bf16) (o n : ℕ) (ho : o = n) (inb) (a : Fin 512) (d : Fin 128) :
    View.ld x (Rect.unit (s := S4096x128) ![o, 0] ![512, 128] inb) (ix2 a d) = x (ix2 (Fin.ofNat 4096 (n + a.val)) d) := by
  subst ho
  have h' : o + 512 ≤ 4096 := inb 0
  refine View.ld_unit_apply_of _ _ _ _ _ _ fun b => ?_
  match b with
  | 0 => show (o + a.val) % 4096 = o + a.val; omega
  | 1 => show d.val = 0 + d.val; omega

/-- A load of 512 lanes of row `h` from lane `n` on. -/
theorem ld_lanes (x : Vec Ideal S1x2x4096 .f32) (h : Fin 2) (o n : ℕ) (ho : o = n) (inb) (a : Fin 512) :
    View.ld x (Rect.unit (s := S1x2x4096) ![0, h.val, o] ![1, 1, 512] inb) (ix3 0 0 a)
      = x (ix3 0 h (Fin.ofNat 4096 (n + a.val))) := by
  subst ho
  have h' : o + 512 ≤ 4096 := inb 2
  refine View.ld_unit_apply_of _ _ _ _ _ _ fun b => ?_
  match b with
  | 0 => show 0 = 0 + 0; omega
  | 1 => show h.val = h.val + 0; omega
  | 2 => show (o + a.val) % 4096 = o + a.val; omega

/-- Both heads' running states after the keys below `n`. -/
def Inv (x0 : Vec Ideal S512x128 .bf16) (x1 x2 : Vec Ideal S4096x128 .bf16) (x3 : Vec Ideal S1x2x4096 .f32) (qi n : ℕ)
    (S : Tile.C × Tile.C × Tile.W × Tile.C × Tile.C × Tile.W) : Prop :=
  Tile.State B (sc (k0_pay26 x0) x1 x3 qi 0) (val x2) n S.1 S.2.1 S.2.2.1
    ∧ Tile.State B (sc (k0_pay27 x0) x1 x3 qi 1) (val x2) n S.2.2.2.1 S.2.2.2.2.1 S.2.2.2.2.2

/-- Before any key the states are the initial ones. -/
theorem inv_zero (x0 : Vec Ideal S512x128 .bf16) (x1 x2 : Vec Ideal S4096x128 .bf16) (x3 : Vec Ideal S1x2x4096 .f32) (qi : ℕ) :
    Inv x0 x1 x2 x3 qi 0 (k0_pay28, k0_pay29, k0_pay30, k0_pay31, k0_pay32, k0_pay33) := by
  refine ⟨fun r => ⟨?_, ?_, fun d => ?_⟩, fun r => ⟨?_, ?_, fun d => ?_⟩⟩
  · rw [Online.mx_zero]; rfl
  · rw [Online.ls_zero]; pointwise [k0_pay29]
  · rw [Online.ac_zero]; pointwise [k0_pay30]
  · rw [Online.mx_zero]; rfl
  · rw [Online.ls_zero]; pointwise [k0_pay32]
  · rw [Online.ac_zero]; pointwise [k0_pay33]

/-- An unmasked block's scores, where every key precedes every query. -/
theorem score_eq (q : Vec Ideal S512x128 .bf16) (x1 : Vec Ideal S4096x128 .bf16) (x3 : Vec Ideal S1x2x4096 .f32) (qi o n : ℕ)
    (ho : o = n) (hn : n + 512 ≤ 512 * qi) (h : Fin 2) (inb inb') (r a : Fin 512) :
    Tile.score q (View.ld x1 (Rect.unit (s := S4096x128) ![o, 0] ![512, 128] inb))
        (View.ld x3 (Rect.unit (s := S1x2x4096) ![0, h.val, o] ![1, 1, 512] inb')) (ix2 r a)
      = sc q x1 x3 qi h r (n + a.val) := by
  rw [Tile.score_apply, sc, if_pos (by omega), ld_lanes _ _ _ _ ho]
  rw [Finset.sum_congr rfl fun d _ => congrArg (q (ix2 r d) * ·) (ld_rows x1 _ _ ho inb a d)]

/-- The masked block's scores. -/
theorem masked_eq (q : Vec Ideal S512x128 .bf16) (x1 : Vec Ideal S4096x128 .bf16) (x3 : Vec Ideal S1x2x4096 .f32) (qi o n : ℕ)
    (ho : o = n) (hn : n = 512 * qi) (h : Fin 2) (inb inb') (r a : Fin 512) :
    Tile.masked (Tile.score q (View.ld x1 (Rect.unit (s := S4096x128) ![o, 0] ![512, 128] inb))
        (View.ld x3 (Rect.unit (s := S1x2x4096) ![0, h.val, o] ![1, 1, 512] inb'))) (ix2 r a)
      = sc q x1 x3 qi h r (n + a.val) := by
  rw [Tile.masked_apply, Tile.score_apply, sc, ld_lanes _ _ _ _ ho]
  rw [Finset.sum_congr rfl fun d _ => congrArg (q (ix2 r d) * ·) (ld_rows x1 _ _ ho inb a d)]
  by_cases hc : a.val ≤ r.val
  · rw [if_pos hc, if_pos (by omega)]
  · rw [if_neg hc, if_neg (by omega)]

variable (c : Dev nD) (i : grid0.Coords) (arg3 : Memref sig .tc .vmem S512x128 .bf16) (harg3 : arg3.IsWhole)
  (arg4 : Memref sig .tc .vmem S4096x128 .bf16) (harg4 : arg4.IsWhole) (arg5 : Memref sig .tc .vmem S4096x128 .bf16)
  (harg5 : arg5.IsWhole) (arg6 : Memref sig .tc .vmem S1x2x4096 .f32) (harg6 : arg6.IsWhole)
  (arg7 : Memref sig .tc .vmem S512x128 .f32) (harg7 : arg7.IsWhole)
  (x0 : Vec Ideal S512x128 .bf16) (x1 x2 : Vec Ideal S4096x128 .bf16) (x3 : Vec Ideal S1x2x4096 .f32)

/-- The loop over the earlier key blocks runs once per earlier block. -/
theorem trips1 : ∀ n : Fin 8, Scf.trips (0#32) (Scalar.addi (0#32) (Scalar.muli (Scalar.divsi
    (Scalar.subi (BitVec.ofNat 32 n.val) 0#32) 1#32) 1#32)) 1#32 = n.val := by
  decide +kernel

/-- The remainder loop never runs. -/
theorem trips2 : ∀ n : Fin 8, Scf.trips (Scalar.addi (0#32) (Scalar.muli (Scalar.divsi (Scalar.subi (BitVec.ofNat 32 n.val) 0#32)
    1#32) 1#32)) (Scalar.addi (0#32) (Scalar.subi (BitVec.ofNat 32 n.val) 0#32)) 1#32 = 0 := by
  decide +kernel

/-- One trip takes the states past one key block. -/
theorem trip_inv (k : Fin (k0_t1_loop i).trips) (hk : k.val < (i 2).val)
    (acc : Tile.C × Tile.C × Tile.W × Tile.C × Tile.C × Tile.W) (h : Inv x0 x1 x2 x3 (i 2).val (512 * k.val) acc) :
    Inv x0 x1 x2 x3 (i 2).val (512 * (k.val + 1)) (tripR_k0_t1 (F := Ideal) Variants.none c none i arg3 harg3 arg4 harg4 arg5
      harg5 arg6 harg6 arg7 harg7 x0 (harg4.unread x1) (harg5.unread x2) (harg6.unread x3) k acc) := by
  have e : BitVec.toNat (Scalar.indexCast (Scalar.muli (Scf.iv 0#32 1#32 k.val) 512#32)) = 512 * k.val :=
    congrFun (k0_off1_eq i k) 0
  unfold tripR_k0_t1 trip_k0_t1
  dsimp only
  sl_unfold_words
  simp only [View.readAt_eq_ld, harg4.read_unread, harg5.read_unread, harg6.read_unread]
  have hn : 512 * k.val + 512 ≤ 512 * (i 2).val := by omega
  exact ⟨Tile.step B_ne_bot _ _ _ _ _ _ (Tile.score _ _ _) _ h.1 (score_eq _ _ _ _ _ _ e hn 0 _ _) (fun a d => ld_rows _ _ _ e _ a d),
    Tile.step B_ne_bot _ _ _ _ _ _ (Tile.score _ _ _) _ h.2 (score_eq _ _ _ _ _ _ e hn 1 _ _) (fun a d => ld_rows _ _ _ e _ a d)⟩

/-- Before trip `k` the states hold the keys below `512 k`. -/
theorem st_inv (k : ℕ) (hk : k ≤ (i 2).val) :
    Inv x0 x1 x2 x3 (i 2).val (512 * k) (st_k0_t1 (F := Ideal) Variants.none c none i arg3 harg3 arg4 harg4 arg5
      harg5 arg6 harg6 arg7 harg7 x0 (harg4.unread x1) (harg5.unread x2) (harg6.unread x3)
      (k0_pay28, k0_pay29, k0_pay30, k0_pay31, k0_pay32, k0_pay33) k) := by
  induction k with
  | zero => exact inv_zero x0 x1 x2 x3 _
  | succ k ih =>
    have ht : (k0_t1_loop i).trips = (i 2).val := trips1 (i 2)
    rw [st_k0_t1_succ (F := Ideal) Variants.none c none i arg3 harg3 arg4 harg4 arg5
      harg5 arg6 harg6 arg7 harg7 x0 _ _ _ _ ⟨k, by omega⟩]
    exact trip_inv c i arg3 harg3 arg4 harg4 arg5 harg5 arg6 harg6 arg7 harg7 x0 x1 x2 x3 ⟨k, by omega⟩ hk _ (ih (by omega))

/-- The quotient of a state's sums at row `r`, lane `d`. -/
def quot (q : Vec Ideal S512x128 .bf16) (x1 x2 : Vec Ideal S4096x128 .bf16) (x3 : Vec Ideal S1x2x4096 .f32) (qi : ℕ)
    (h : Fin 2) (r : Fin 512) (d : Fin 128) : EReal :=
  Ideal.div (Online.ac B (sc q x1 x3 qi h r) (val x2 d) (512 * qi + 512)) (Online.ls B (sc q x1 x3 qi h r) (512 * qi + 512))

/-- The quotient after the queries' own block. -/
theorem diag (q : Vec Ideal S512x128 .bf16) (x1 x2 : Vec Ideal S4096x128 .bf16) (x3 : Vec Ideal S1x2x4096 .f32) (qi : ℕ)
    (h : Fin 2) (m l : Tile.C) (a : Tile.W) (hs : Tile.State B (sc q x1 x3 qi h) (val x2) (512 * qi) m l a)
    (kt vt : Vec Ideal S512x128 .bf16) (f : Vec Ideal S1x1x512 .f32)
    (hx : ∀ r a : Fin 512, Tile.masked (Tile.score q kt f) (ix2 r a) = sc q x1 x3 qi h r (512 * qi + a.val))
    (hv : ∀ (a : Fin 512) (d : Fin 128), vt (ix2 a d) = val x2 d (512 * qi + a.val)) (r : Fin 512) (d : Fin 128) :
    Ideal.div (Tile.newA m a (Tile.masked (Tile.score q kt f)) vt (ix2 r d))
        (Tile.newL m l (Tile.masked (Tile.score q kt f)) (ix2 r 0)) = quot q x1 x2 x3 qi h r d := by
  have hb := Tile.step B_ne_bot _ _ _ _ _ _ _ _ hs hx hv r
  rw [quot, ← hb.2.1, ← hb.2.2 d]

/-- The block a grid point leaves: the first head's quotient in the lanes below 64, the second's in the others. -/
theorem out_apply (r : Fin 512) (d : Fin 128) :
    out0_A_4 (F := Ideal) c i arg3 harg3 arg4 harg4 arg5 harg5 arg6 harg6 arg7 harg7 x0 x1 x2 x3 (ix2 r d)
      = if d.val < 64 then quot (k0_pay26 x0) x1 x2 x3 (i 2).val 0 r d else quot (k0_pay27 x0) x1 x2 x3 (i 2).val 1 r d := by
  have hz : (![0, 0] : Fin 2 → ℕ) = fun _ => 0 := by funext a; fin_cases a <;> rfl
  have e : BitVec.toNat (Scalar.indexCast (Scalar.muli (BitVec.ofNat 32 (i 2).val) 512#32)) = 512 * (i 2).val :=
    congrFun (k0_off7_eq i) 0
  have hS := st_inv c i arg3 harg3 arg4 harg4 arg5 harg5 arg6 harg6 arg7 harg7 x0 x1 x2 x3 (i 2).val le_rfl
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  simp only [View.readAt_eq_ld, harg3.read_unread, harg4.read_unread, harg5.read_unread, harg6.read_unread]
  rw [trips1 (i 2), trips2 (i 2)]
  simp only [st_k0_t2_zero, Prod.mk.eta, View.ld_unit_zero (S := S512x128) hz]
  revert hS
  generalize st_k0_t1 (F := Ideal) _ _ _ _ _ _ _ _ _ _ _ _ _ _ _ _ _ _ _ _ = S
  intro hS
  rw [View.canon_unit_zero hz, Tile.out_apply]
  by_cases hd : d.val < 64
  · rw [if_pos hd, if_pos hd]
    exact diag _ x1 x2 x3 _ 0 _ _ _ hS.1 _ _ _ (masked_eq _ x1 x3 _ _ _ e rfl 0 (k0_off7_inb i) (k0_off8_inb i))
      (fun a d => ld_rows x2 _ _ e (k0_off7_inb i) a d) r d
  · rw [if_neg hd, if_neg hd]
    exact diag _ x1 x2 x3 _ 1 _ _ _ hS.2 _ _ _ (masked_eq _ x1 x3 _ _ _ e rfl 1 (k0_off7_inb i) (k0_off9_inb i))
      (fun a d => ld_rows x2 _ _ e (k0_off7_inb i) a d) r d

end Cert.KernelIdeal.Block

end
-- ==== Proof.Attn.Spec.lean ====
module

public import proofs.«01_k».proof.Proof.Attn.Block

/-! # The causal attention with forget gates, one output element

Rows of the arrays are `4096 · batch + position`, lanes `64 · head + lane of the head`, and the running sum of the
forget gates of head `h` of batch `b` stands in row `4 b + h / 2`, half `h % 2`. -/

@[expose] public section
set_option maxRecDepth 16384
noncomputable section

namespace Cert.KernelIdeal.Spec
open Idealize.ShloMosaic Cert.KernelIdeal Cert.KernelIdeal.Gen

/-- The row of position `j` of batch `b`. -/
def row (b : Fin 4) (j : ℕ) : Fin 16384 := ⟨4096 * b.val + j % 4096, by omega⟩

/-- Lane `e` of head `h`. -/
def lane (h : Fin 8) (e : Fin 64) : Fin 512 := ⟨64 * h.val + e.val, by omega⟩

/-- Where the gate sum of position `j` stands. -/
def gate (b : Fin 4) (h : Fin 8) (j : ℕ) : S16x2x4096.Idx :=
  ix3 (⟨4 * b.val + h.val / 2, by omega⟩ : Fin 16) (⟨h.val % 2, by omega⟩ : Fin 2) (⟨j % 4096, by omega⟩ : Fin 4096)

/-- The product of query `p` with key `j` in head `h`. -/
def dot (q k : Vec Ideal S16384x512 .bf16) (b : Fin 4) (h : Fin 8) (p j : ℕ) : EReal :=
  ∑ e : Fin 64, q (ix2 (row b p) (lane h e)) * k (ix2 (row b j) (lane h e))

/-- The score of key `j` for query `p`, up to the query's own gate sum: `-∞` behind the query. -/
def score (q k : Vec Ideal S16384x512 .bf16) (g : Vec Ideal S16x2x4096 .f32) (b : Fin 4) (h : Fin 8) (p j : ℕ) : EReal :=
  if j ≤ p then dot q k b h p j + g (gate b h j) else ⊥

/-- The values of one lane, by position. -/
def vals (v : Vec Ideal S16384x512 .bf16) (b : Fin 4) (h : Fin 8) (e : Fin 64) (j : ℕ) : EReal :=
  v (ix2 (row b j) (lane h e))

/-- The kernel's element: the quotient of the two running sums over the keys of the query's own tile and the tiles
before it. -/
def outE (q k v : Vec Ideal S16384x512 .bf16) (g : Vec Ideal S16x2x4096 .f32) (b : Fin 4) (h : Fin 8) (e : Fin 64)
    (p : ℕ) : EReal :=
  Ideal.div (Online.ac Block.B (score q k g b h p) (vals v b h e) (512 * (p / 512) + 512))
    (Online.ls Block.B (score q k g b h p) (512 * (p / 512) + 512))

end Cert.KernelIdeal.Spec
-- ==== Proof.Attn.Array.lean ====
module

public import proofs.«01_k».proof.Proof.Attn.Spec
public import proofs.«01_k».proof.Proof.Gen.KernelIdeal.Value
public import Idealize.ShloMosaic.Lib.Pipeline.ValueKit

/-! # The attention's result array, element by element -/

@[expose] public section
set_option maxRecDepth 16384
noncomputable section

namespace Cert.KernelIdeal.Arr
open Idealize.ShloMosaic Cert.KernelIdeal Cert.KernelIdeal.Gen Cert.KernelIdeal.Spec

/-- The grid point of batch `b`, pair of heads `p` and query tile `u`. -/
def pt (b : Fin 4) (p : Fin 4) (u : Fin 8) : Fin cfg0.N :=
  ⟨(b.val * 4 + p.val) * 8 + u.val, by have : cfg0.N = 128 := N_0; omega⟩

/-- Its coordinates. -/
theorem coords_pt : ∀ (b : Fin 4) (p : Fin 4) (u : Fin 8),
    (grid0.coords (pt b p u) 0).val = b.val ∧ (grid0.coords (pt b p u) 1).val = p.val ∧
      (grid0.coords (pt b p u) 2).val = u.val := by decide +kernel

theorem index0 : ∀ (b : Fin 4) (p : Fin 4) (u : Fin 8), win0_0.index (pt b p u) = ![8 * b.val + u.val, p.val] := by
  decide +kernel
theorem index1 : ∀ (b : Fin 4) (p : Fin 4) (u : Fin 8), win0_1.index (pt b p u) = ![b.val, p.val] := by
  decide +kernel
theorem index2 : ∀ (b : Fin 4) (p : Fin 4) (u : Fin 8), win0_2.index (pt b p u) = ![b.val, p.val] := by
  decide +kernel
theorem index3 : ∀ (b : Fin 4) (p : Fin 4) (u : Fin 8), win0_3.index (pt b p u) = ![4 * b.val + p.val, 0, 0] := by
  decide +kernel
theorem index4 : ∀ (b : Fin 4) (p : Fin 4) (u : Fin 8), win0_4.index (pt b p u) = ![8 * b.val + u.val, p.val] := by
  decide +kernel

variable (m : (ℓ : Loc nD τ sig) → Buf (Elt Ideal) ℓ) (c : Dev nD)

theorem blk0 (b : Fin 4) (p : Fin 4) (u : Fin 8) (r : Fin 512) (d : Fin 128) :
    (iblk m c 0 (pt b p u) : Vec Ideal S512x128 .bf16) (ix2 r d) =
      (V m c main_arg0 : Vec Ideal S16384x512 .bf16)
        (ix2 (row b (512 * u.val + r.val)) ⟨128 * p.val + d.val, by omega⟩) := by
  blk_ext [iblk, V, index0 b p u, row, Nat.mod_eq_of_lt]

theorem blk1 (b : Fin 4) (p : Fin 4) (u : Fin 8) (j : ℕ) (d : Fin 128) :
    (iblk m c 1 (pt b p u) : Vec Ideal S4096x128 .bf16) (ix2 (Fin.ofNat 4096 j) d) =
      (V m c main_arg1 : Vec Ideal S16384x512 .bf16) (ix2 (row b j) ⟨128 * p.val + d.val, by omega⟩) := by
  blk_ext [iblk, V, index1 b p u, row, Fin.ofNat]

theorem blk2 (b : Fin 4) (p : Fin 4) (u : Fin 8) (j : ℕ) (d : Fin 128) :
    (iblk m c 2 (pt b p u) : Vec Ideal S4096x128 .bf16) (ix2 (Fin.ofNat 4096 j) d) =
      (V m c main_arg2 : Vec Ideal S16384x512 .bf16) (ix2 (row b j) ⟨128 * p.val + d.val, by omega⟩) := by
  blk_ext [iblk, V, index2 b p u, row, Fin.ofNat]

theorem blk3 (b : Fin 4) (p : Fin 4) (u : Fin 8) (h : Fin 2) (j : ℕ) :
    (iblk m c 3 (pt b p u) : Vec Ideal S1x2x4096 .f32) (ix3 0 h (Fin.ofNat 4096 j)) =
      (V m c main_arg3 : Vec Ideal S16x2x4096 .f32)
        (ix3 (⟨4 * b.val + p.val, by omega⟩ : Fin 16) h (⟨j % 4096, by omega⟩ : Fin 4096)) := by
  blk_ext [iblk, V, index3 b p u, Fin.ofNat]

theorem emb4 (b : Fin 4) (p : Fin 4) (u : Fin 8) (r : Fin 512) (d : Fin 128) :
    ((cfg0.win 4).blk (pt b p u)).view.emb (ix2 r d) =
      (ix2 (row b (512 * u.val + r.val)) (⟨128 * p.val + d.val, by omega⟩ : Fin 512) : S16384x512.Idx) := by
  blk_ext [index4 b p u, row, Nat.mod_eq_of_lt]

/-- A sum over the 128 lanes of which only the lower 64 count. -/
theorem sum_low (f g : Fin 128 → EReal) :
    ∑ d : Fin 128, (if d.val < 64 then f d else 0) * g d = ∑ e : Fin 64, f ⟨e.val, by omega⟩ * g ⟨e.val, by omega⟩ := by
  refine (Fin.sum_univ_add (a := 64) (b := 64) (fun d : Fin (64 + 64) => (if d.val < 64 then f d else 0) * g d)).trans ?_
  have h2 : ∑ e : Fin 64, (if (Fin.natAdd 64 e).val < 64 then f (Fin.natAdd 64 e) else 0) * g (Fin.natAdd 64 e) = 0 :=
    Finset.sum_eq_zero fun e _ => by rw [if_neg (by simp), zero_mul]
  rw [h2, add_zero]
  exact Finset.sum_congr rfl fun e _ => by rw [if_pos (by simp)]; rfl

/-- A sum over the 128 lanes of which only the upper 64 count. -/
theorem sum_high (f g : Fin 128 → EReal) :
    ∑ d : Fin 128, (if d.val < 64 then 0 else f d) * g d =
      ∑ e : Fin 64, f ⟨64 + e.val, by omega⟩ * g ⟨64 + e.val, by omega⟩ := by
  refine (Fin.sum_univ_add (a := 64) (b := 64) (fun d : Fin (64 + 64) => (if d.val < 64 then 0 else f d) * g d)).trans ?_
  have h2 : ∑ e : Fin 64, (if (Fin.castAdd 64 e).val < 64 then 0 else f (Fin.castAdd 64 e)) * g (Fin.castAdd 64 e) = 0 :=
    Finset.sum_eq_zero fun e _ => by rw [if_pos (by simp), zero_mul]
  rw [h2, zero_add]
  exact Finset.sum_congr rfl fun e _ => by rw [if_neg (by simp)]; rfl

/-- The block's score is the array's score, in the lower half's head. -/
theorem sc_low (b : Fin 4) (p : Fin 4) (u : Fin 8) (r : Fin 512) (h : Fin 8) (hp : h.val = 2 * p.val) (j : ℕ) :
    Block.sc (k0_pay26 (iblk m c 0 (pt b p u) : Vec Ideal S512x128 .bf16)) (iblk m c 1 (pt b p u))
        (iblk m c 3 (pt b p u)) u.val 0 r j =
      score (V m c main_arg0) (V m c main_arg1) (V m c main_arg3) b h (512 * u.val + r.val) j := by
  unfold Block.sc score dot
  refine if_congr Iff.rfl ?_ rfl
  rw [blk3 m c b p u 0 j]
  congr 1
  · refine (Finset.sum_congr rfl fun d _ => by rw [Tile.qa_apply, blk0 m c b p u r d, blk1 m c b p u j d]).trans ?_
    refine (sum_low _ _).trans (Finset.sum_congr rfl fun e _ => ?_)
    have : (⟨128 * p.val + e.val, by omega⟩ : Fin 512) = lane h e := Fin.ext (by simp [lane]; omega)
    simp only [this]
  · unfold gate
    have h1 : (⟨4 * b.val + p.val, by omega⟩ : Fin 16) = ⟨4 * b.val + h.val / 2, by omega⟩ := Fin.ext (by simp; omega)
    have h2 : (0 : Fin 2) = ⟨h.val % 2, by omega⟩ := Fin.ext (by simp; omega)
    rw [h1, ← h2]

/-- The block's score is the array's score, in the upper half's head. -/
theorem sc_high (b : Fin 4) (p : Fin 4) (u : Fin 8) (r : Fin 512) (h : Fin 8) (hp : h.val = 2 * p.val + 1) (j : ℕ) :
    Block.sc (k0_pay27 (iblk m c 0 (pt b p u) : Vec Ideal S512x128 .bf16)) (iblk m c 1 (pt b p u))
        (iblk m c 3 (pt b p u)) u.val 1 r j =
      score (V m c main_arg0) (V m c main_arg1) (V m c main_arg3) b h (512 * u.val + r.val) j := by
  unfold Block.sc score dot
  refine if_congr Iff.rfl ?_ rfl
  rw [blk3 m c b p u 1 j]
  congr 1
  · refine (Finset.sum_congr rfl fun d _ => by rw [Tile.qb_apply, blk0 m c b p u r d, blk1 m c b p u j d]).trans ?_
    refine (sum_high _ _).trans (Finset.sum_congr rfl fun e _ => ?_)
    have : (⟨128 * p.val + (64 + e.val), by omega⟩ : Fin 512) = lane h e := Fin.ext (by simp [lane]; omega)
    simp only [this]
  · unfold gate
    have h1 : (⟨4 * b.val + p.val, by omega⟩ : Fin 16) = ⟨4 * b.val + h.val / 2, by omega⟩ := Fin.ext (by simp; omega)
    have h2 : (1 : Fin 2) = ⟨h.val % 2, by omega⟩ := Fin.ext (by simp; omega)
    rw [h1, ← h2]

/-- What the body leaves at a grid point, in the arrays' terms. -/
theorem point (b : Fin 4) (p : Fin 4) (u : Fin 8) (r : Fin 512) (h : Fin 8) (hp : h.val / 2 = p.val) (e : Fin 64) :
    (dats m 0 c).arrAt 4 cfg0.N (ix2 (row b (512 * u.val + r.val)) (lane h e) : S16384x512.Idx) =
      outE (V m c main_arg0) (V m c main_arg1) (V m c main_arg2) (V m c main_arg3) b h e (512 * u.val + r.val) := by
  obtain ⟨d, hd⟩ : ∃ d : Fin 128, d.val = 64 * (h.val % 2) + e.val := ⟨⟨64 * (h.val % 2) + e.val, by omega⟩, rfl⟩
  have hl : (⟨128 * p.val + d.val, by omega⟩ : Fin 512) = lane h e := Fin.ext (by simp [lane]; omega)
  have key := (dats m 0 c).arrAt_emb_eq_flushed 4 Value.disjoint4 (pt b p u) (flush0_4 _) (ix2 r d)
  rw [emb4 b p u r d, Value.flushed4_A, hl] at key
  refine key.trans ?_
  refine (Block.out_apply c (grid0.coords (pt b p u)) _ _ _ _ _ _ _ _ _ _ (iblk m c 0 (pt b p u))
    (iblk m c 1 (pt b p u)) (iblk m c 2 (pt b p u)) (iblk m c 3 (pt b p u)) r d).trans ?_
  have hv : Block.val (iblk m c 2 (pt b p u) : Vec Ideal S4096x128 .bf16) d = vals (V m c main_arg2) b h e :=
    funext fun j => by unfold Block.val vals; rw [blk2 m c b p u j d, hl]
  have hu : (grid0.coords (pt b p u) 2).val = u.val := (coords_pt b p u).2.2
  have hn : (512 * u.val + r.val) / 512 = u.val := by omega
  rw [hu]
  unfold outE Block.quot
  rw [hv, hn]
  by_cases h0 : d.val < 64
  · rw [if_pos h0, show Block.sc _ _ _ u.val 0 r = _ from funext (sc_low m c b p u r h (by omega))]
  · rw [if_neg h0, show Block.sc _ _ _ u.val 1 r = _ from funext (sc_high m c b p u r h (by omega))]

/-- The result array at query `p` of batch `b` and lane `e` of head `h`. -/
theorem arr_apply (b : Fin 4) (h : Fin 8) (e : Fin 64) (p : Fin 4096) :
    (dats m 0 c).arrAt 4 cfg0.N (ix2 (row b p.val) (lane h e) : S16384x512.Idx) =
      outE (V m c main_arg0) (V m c main_arg1) (V m c main_arg2) (V m c main_arg3) b h e p.val := by
  have := point m c b ⟨h.val / 2, by omega⟩ ⟨p.val / 512, by omega⟩ ⟨p.val % 512, by omega⟩ h rfl e
  rwa [show 512 * (p.val / 512) + p.val % 512 = p.val by omega] at this

end Cert.KernelIdeal.Arr
-- ==== Proof.Attn.Ref.lean ====
module

public import proofs.«01_k».proof.Proof.Attn.Spec
public import proofs.«01_k».proof.Proof.Gen.ReferenceIdeal.Read
public import Idealize.ShloMosaic.Lib.Pointwise
public import Idealize.ShloMosaic.Lib.WordCmp

/-! # The reference attention's result, element by element -/

@[expose] public section
set_option maxRecDepth 16384
noncomputable section

namespace Cert.ReferenceIdeal.Attn
open Idealize.ShloMosaic Cert.ReferenceIdeal Cert.ReferenceIdeal.Gen Cert.ReferenceIdeal.Read
open Cert.KernelIdeal.Spec (row lane gate dot vals)

variable (q k v : Vec Ideal S16384x512 .bf16) (g : Vec Ideal S16x2x4096 .f32)

/-- The reference's score: the product, plus the query's gate sum, minus the key's; `-∞` behind the query. -/
def rs (b : Fin 4) (h : Fin 8) (p j : ℕ) : EReal :=
  if j ≤ p then (dot q k b h p j + -g (gate b h p)) - -g (gate b h j) else ⊥

theorem v1_ix (b : Fin 4) (p : Fin 4096) (h : Fin 8) (e : Fin 64) :
    val_main_v1 (F := Ideal) q (ix4 b p h e) = q (ix2 (row b p.val) (lane h e)) := by
  rw [val_main_v1_apply, val_main_v0_apply]
  refine congrArg q (funext fun a => Fin.ext ?_)
  match a with
  | ⟨0, _⟩ =>
    show (((b.val * 4096 + p.val) * 8 + h.val) * 64 + e.val) / 512 = 4096 * b.val + p.val % 4096
    omega
  | ⟨1, _⟩ =>
    show (((b.val * 4096 + p.val) * 8 + h.val) * 64 + e.val) % 512 = 64 * h.val + e.val
    omega

theorem v3_ix (b : Fin 4) (p : Fin 4096) (h : Fin 8) (e : Fin 64) :
    val_main_v3 (F := Ideal) k (ix4 b p h e) = k (ix2 (row b p.val) (lane h e)) := by
  rw [val_main_v3_apply, val_main_v2_apply]
  refine congrArg k (funext fun a => Fin.ext ?_)
  match a with
  | ⟨0, _⟩ =>
    show (((b.val * 4096 + p.val) * 8 + h.val) * 64 + e.val) / 512 = 4096 * b.val + p.val % 4096
    omega
  | ⟨1, _⟩ =>
    show (((b.val * 4096 + p.val) * 8 + h.val) * 64 + e.val) % 512 = 64 * h.val + e.val
    omega

theorem v5_ix (b : Fin 4) (p : Fin 4096) (h : Fin 8) (e : Fin 64) :
    val_main_v5 (F := Ideal) v (ix4 b p h e) = v (ix2 (row b p.val) (lane h e)) := by
  rw [val_main_v5_apply, val_main_v4_apply]
  refine congrArg v (funext fun a => Fin.ext ?_)
  match a with
  | ⟨0, _⟩ =>
    show (((b.val * 4096 + p.val) * 8 + h.val) * 64 + e.val) / 512 = 4096 * b.val + p.val % 4096
    omega
  | ⟨1, _⟩ =>
    show (((b.val * 4096 + p.val) * 8 + h.val) * 64 + e.val) % 512 = 64 * h.val + e.val
    omega

theorem v7_ix (b : Fin 4) (h : Fin 8) (p : Fin 4096) :
    val_main_v7 (F := Ideal) g (ix3 b h p) = -g (gate b h p.val) := by
  rw [val_main_v7_apply, val_main_v6_apply]
  refine congrArg (fun i => -g i) (funext fun a => Fin.ext ?_)
  match a with
  | ⟨0, _⟩ =>
    show ((b.val * 8 + h.val) * 4096 + p.val) / 8192 = 4 * b.val + h.val / 2
    omega
  | ⟨1, _⟩ =>
    show ((b.val * 8 + h.val) * 4096 + p.val) / 4096 % 2 = h.val % 2
    omega
  | ⟨2, _⟩ =>
    show ((b.val * 8 + h.val) * 4096 + p.val) % 4096 = p.val % 4096
    omega

theorem v9_ix (b : Fin 4) (h : Fin 8) (p j : Fin 4096) :
    val_main_v9 (F := Ideal) q k (ix4 b h p j) = dot q k b h p.val j.val := by
  rw [val_main_v9_apply]
  refine Finset.sum_congr rfl fun e _ => ?_
  have el : lidx_main_v9 (ix4 b h p j) e = ix4 b p h e := by
    funext a; match a with | ⟨0, _⟩ => rfl | ⟨1, _⟩ => rfl | ⟨2, _⟩ => rfl | ⟨3, _⟩ => rfl
  have er : ridx_main_v9 (ix4 b h p j) e = ix4 b j h e := by
    funext a; match a with | ⟨0, _⟩ => rfl | ⟨1, _⟩ => rfl | ⟨2, _⟩ => rfl | ⟨3, _⟩ => rfl
  rw [el, er, v1_ix, v3_ix]

theorem v15_ix (b : Fin 4) (h : Fin 8) (p j : Fin 4096) :
    val_main_v15 (F := Ideal) q k g (ix4 b h p j) =
      (dot q k b h p.val j.val + -g (gate b h p.val)) - -g (gate b h j.val) := by
  rw [val_main_v15_apply, val_main_v12_apply, v9_ix, val_main_v11_apply, val_main_v10_apply, val_main_v14_apply,
    val_main_v13_apply]
  have e1 : idx_main_v10 (idx_main_v11 (ix4 b h p j)) = ix3 b h p := by
    funext a; match a with | ⟨0, _⟩ => rfl | ⟨1, _⟩ => rfl | ⟨2, _⟩ => rfl
  have e2 : idx_main_v13 (idx_main_v14 (ix4 b h p j)) = ix3 b h j := by
    funext a; match a with | ⟨0, _⟩ => rfl | ⟨1, _⟩ => rfl | ⟨2, _⟩ => rfl
  rw [e1, e2, v7_ix, v7_ix]
  rfl

theorem v20_ix (p j : Fin 4096) :
    val_main_v20 (F := Ideal) (ix2 p j) = BitVec.ofBool (decide (j.val ≤ p.val)) := by
  rw [val_main_v20_apply, val_main_v18_apply, val_main_v16_apply, val_main_v19_apply, val_main_v17_apply]
  show IntOp.cmpi .sge (BitVec.ofNat 32 p.val) (BitVec.ofNat 32 j.val) = _
  exact WordCmp.cmpi_sge_ofNat (by omega) (by omega)

theorem v21_ix (b : Fin 4) (h : Fin 8) (p j : Fin 4096) :
    val_main_v21 (F := Ideal) q k g (ix4 b h p j) = rs q k g b h p.val j.val := by
  rw [val_main_v21_apply, v15_ix, val_main_call0_v1_apply, val_main_call0_v2_apply]
  have e1 : idx_main_call0_v1 (ix4 b h p j) = ix2 p j := by
    funext a; match a with | ⟨0, _⟩ => rfl | ⟨1, _⟩ => rfl
  rw [e1, v20_ix, WordCmp.select_ofBool]
  unfold rs
  by_cases hj : j.val ≤ p.val
  · simp [hj]
  · rw [if_neg hj]
    simp only [hj, decide_false, cond_false]
    exact Cert.KernelIdeal.Tile.ofBits_neg_inf

/-- A supremum over the positions, as one over the numbers below 4096. -/
theorem sup_univ (f : ℕ → EReal) : ((Finset.univ : Finset (Fin 4096)).sup fun j => f j.val) = (Finset.range 4096).sup f :=
  le_antisymm (Finset.sup_le fun j _ => Finset.le_sup (f := f) (Finset.mem_range.2 j.isLt))
    (Finset.sup_le fun j hj =>
      Finset.le_sup (f := fun j : Fin 4096 => f j.val) (Finset.mem_univ (⟨j, Finset.mem_range.1 hj⟩ : Fin 4096)))

/-- A fold of maxima from `-∞` is a supremum. -/
theorem fold_max (x : Fin 4096 → EReal) (i : EReal) (f : ℕ → EReal) (hi : i = ⊥) (hx : ∀ j : Fin 4096, x j = f j.val) :
    (Finset.univ : Finset (Fin 4096)).fold (FloatOps.maximumf (F := Ideal) (φ := .f32)) i x = (Finset.range 4096).sup f := by
  rw [← sup_univ, hi, show x = fun j => f j.val from funext hx]
  rfl

/-- The largest score of a query. -/
def rm (b : Fin 4) (h : Fin 8) (p : ℕ) : EReal := max ⊥ ((Finset.range 4096).sup (rs q k g b h p))

theorem v24_ix (b : Fin 4) (h : Fin 8) (p : Fin 4096) :
    val_main_v24 (F := Ideal) q k g (ix3 b h p) = rm q k g b h p.val := by
  rw [val_main_v24_apply, val_main_v23_apply]
  have h22 : val_main_v22 (F := Ideal) q k g (ix3 b h p) = (Finset.range 4096).sup (rs q k g b h p.val) := by
    unfold val_main_v22
    refine (Host.reduce_eq_fold_single (FloatOps.maximumf (F := Ideal) (φ := .f32)) _ _ reducesTo_S4x8x4096x4096_S4x8x4096_d3
      (by decide) h_S_ (ix3 b h p)).trans ?_
    have hf : ∀ j : Fin 4096, (val_main_v21 (F := Ideal) q k g ∘
        (by decide : S4x8x4096x4096.Reduces [3] S4x8x4096).lift (ix3 b h p)) j = rs q k g b h p.val j.val := fun j => by
      rw [← v21_ix]
      refine congrArg (val_main_v21 (F := Ideal) q k g) (funext fun a => Fin.ext ?_)
      match a with | ⟨0, _⟩ => rfl | ⟨1, _⟩ => rfl | ⟨2, _⟩ => rfl | ⟨3, _⟩ => rfl
    exact fold_max _ _ _ Cert.KernelIdeal.Tile.ofBits_neg_inf hf
  rw [h22]
  have h1 : val_main_cst_1 (F := Ideal) (idx_main_v23 (ix3 b h p)) = ⊥ := Cert.KernelIdeal.Tile.ofBits_neg_inf
  rw [h1]
  rfl

theorem v28_ix (b : Fin 4) (h : Fin 8) (p j : Fin 4096) :
    val_main_v28 (F := Ideal) q k g (ix4 b h p j) =
      Ideal.exp (rs q k g b h p.val j.val - rm q k g b h p.val) := by
  rw [val_main_v28_apply, val_main_v27_apply, v21_ix, val_main_v26_apply, val_main_v25_apply]
  have e1 : idx_main_v25 (idx_main_v26 (ix4 b h p j)) = ix3 b h p := by
    funext a; match a with | ⟨0, _⟩ => rfl | ⟨1, _⟩ => rfl | ⟨2, _⟩ => rfl
  rw [e1, v24_ix]
  rfl

/-- The sum of a query's exponentials. -/
def rl (b : Fin 4) (h : Fin 8) (p : ℕ) : EReal :=
  0 + ∑ j ∈ Finset.range 4096, Ideal.exp (rs q k g b h p j - rm q k g b h p)

theorem v29_ix (b : Fin 4) (h : Fin 8) (p : Fin 4096) :
    val_main_v29 (F := Ideal) q k g (ix3 b h p) = rl q k g b h p.val := by
  rw [val_main_v29_apply]
  unfold rl
  rw [Finset.sum_range]
  have h0 : val_main_cst_2 (F := Ideal) (Shape.Idx.first h_S_) = 0 := by
    rw [val_main_cst_2_apply]; show Ideal.ofBits .f32 _ = _; simp [Ideal.ofBits, Ideal.ieee]
  rw [h0]
  refine congrArg (0 + ·) (Finset.sum_congr rfl fun j _ => ?_)
  have e1 : idx_main_v29 (ix3 b h p) j = ix4 b h p j := by
    funext a; match a with | ⟨0, _⟩ => rfl | ⟨1, _⟩ => rfl | ⟨2, _⟩ => rfl | ⟨3, _⟩ => rfl
  rw [e1, v28_ix]

theorem v32_ix (b : Fin 4) (h : Fin 8) (p j : Fin 4096) :
    val_main_v32 (F := Ideal) q k g (ix4 b h p j) =
      Ideal.div (Ideal.exp (rs q k g b h p.val j.val - rm q k g b h p.val)) (rl q k g b h p.val) := by
  rw [val_main_v32_apply, v28_ix, val_main_v31_apply, val_main_v30_apply]
  have e1 : idx_main_v30 (idx_main_v31 (ix4 b h p j)) = ix3 b h p := by
    funext a; match a with | ⟨0, _⟩ => rfl | ⟨1, _⟩ => rfl | ⟨2, _⟩ => rfl
  rw [e1, v29_ix]
  rfl

/-- The reference's result at query `p` of batch `b` and lane `e` of head `h`: the values weighed by the softmax of the
scores. -/
theorem out_apply (b : Fin 4) (h : Fin 8) (e : Fin 64) (p : Fin 4096) :
    val_main_v35 (F := Ideal) q k v g (ix2 (row b p.val) (lane h e)) =
      ∑ j ∈ Finset.range 4096, vals v b h e j *
        Ideal.div (Ideal.exp (rs q k g b h p.val j - rm q k g b h p.val)) (rl q k g b h p.val) := by
  rw [val_main_v35_apply, val_main_v34_apply]
  have e1 : idx_main_v34 (idx_main_v35 (ix2 (row b p.val) (lane h e))) = ix4 b h e p := by
    funext a
    refine Fin.ext ?_
    match a with
    | ⟨0, _⟩ =>
      show ((4096 * b.val + p.val % 4096) * 512 + (64 * h.val + e.val)) / 2097152 = b.val
      omega
    | ⟨1, _⟩ =>
      show ((4096 * b.val + p.val % 4096) * 512 + (64 * h.val + e.val)) / 64 % 8 = h.val
      omega
    | ⟨2, _⟩ =>
      show ((4096 * b.val + p.val % 4096) * 512 + (64 * h.val + e.val)) % 64 = e.val
      omega
    | ⟨3, _⟩ =>
      show ((4096 * b.val + p.val % 4096) * 512 + (64 * h.val + e.val)) / 512 % 4096 = p.val
      omega
  rw [e1, val_main_v33_apply, Finset.sum_range]
  refine Finset.sum_congr rfl fun j _ => ?_
  have e2 : lidx_main_v33 (ix4 b h e p) j = ix4 b j h e := by
    funext a; match a with | ⟨0, _⟩ => rfl | ⟨1, _⟩ => rfl | ⟨2, _⟩ => rfl | ⟨3, _⟩ => rfl
  have e3 : ridx_main_v33 (ix4 b h e p) j = ix4 b h p j := by
    funext a; match a with | ⟨0, _⟩ => rfl | ⟨1, _⟩ => rfl | ⟨2, _⟩ => rfl | ⟨3, _⟩ => rfl
  rw [e2, e3, v5_ix, v32_ix]
  rfl

end Cert.ReferenceIdeal.Attn
-- ==== Proof.Attn.Pre.lean ====
module

public import proofs.«01_k».proof.Proof.Gen.Pre_finite_scores
public import Idealize.ShloMosaic.Lib.Pointwise
public import Idealize.ShloMosaic.PureOps.Ideal.Laws

/-! # What the precondition says: queries, keys and gate sums are real numbers -/

@[expose] public section
set_option maxRecDepth 16384
noncomputable section

namespace Cert.Pre_finite_scores.Read
open Idealize.ShloMosaic Cert.Pre_finite_scores Cert.Pre_finite_scores.Gen

variable (q k v : Vec Ideal S16384x512 .bf16) (g : Vec Ideal S16x2x4096 .f32)

/-- A value whose absolute value is below `∞` is a real number. -/
theorem finite_of (x : EReal) (h : max x (-x) < ⊤) : x ≠ ⊥ ∧ x ≠ ⊤ := by
  refine ⟨fun hx => ?_, fun hx => ?_⟩
  · rw [hx] at h; simp at h
  · rw [hx] at h; simp at h

/-- A truth bit that is one. -/
theorem one_of (p : Prop) [Decidable p] (h : BitVec.ofBool (decide p) = 1#1) : p := by
  by_contra hp
  rw [decide_eq_false hp] at h
  exact absurd h (by decide)

theorem top_bf16 : Ideal.ofBits FTy.bf16 32640#16 = ⊤ := by simp [Ideal.ofBits, Ideal.ieee]
theorem top_f32 : Ideal.ofBits FTy.f32 2139095040#32 = ⊤ := by simp [Ideal.ofBits, Ideal.ieee]

/-- The queries are real numbers. -/
theorem q_finite (h : fn (F := Ideal) q k v g = fun _ => 1#1) (R : Fin 16384) (C : Fin 512) :
    q (ix2 R C) ≠ ⊥ ∧ q (ix2 R C) ≠ ⊤ := by
  have e := congrFun h (ix2 R (⟨C.val, by omega⟩ : Fin 1032))
  pointwise [fn] at e
  have e' := one_of _ e
  rw [top_bf16] at e'
  exact finite_of _ e'

/-- The keys are real numbers. -/
theorem k_finite (h : fn (F := Ideal) q k v g = fun _ => 1#1) (R : Fin 16384) (C : Fin 512) :
    k (ix2 R C) ≠ ⊥ ∧ k (ix2 R C) ≠ ⊤ := by
  have e := congrFun h (ix2 R (⟨512 + C.val, by omega⟩ : Fin 1032))
  pointwise [fn] at e
  have e' := one_of _ e
  rw [top_bf16] at e'
  exact finite_of _ e'

/-- The gate sums are real numbers. -/
theorem g_finite (h : fn (F := Ideal) q k v g = fun _ => 1#1) (a : Fin 16) (b : Fin 2) (j : Fin 4096) :
    g (ix3 a b j) ≠ ⊥ ∧ g (ix3 a b j) ≠ ⊤ := by
  have e := congrFun h (ix2 (⟨((a.val * 2 + b.val) * 4096 + j.val) / 8, by omega⟩ : Fin 16384)
    (⟨1024 + ((a.val * 2 + b.val) * 4096 + j.val) % 8, by omega⟩ : Fin 1032))
  pointwise [fn] at e
  rw [dif_neg (by omega), dif_neg (by omega)] at e
  have e' := one_of _ e
  rw [top_f32] at e'
  exact finite_of _ e'

end Cert.Pre_finite_scores.Read
-- ==== Proof.Attn.Claim.lean ====
module

public import proofs.«01_k».proof.Defs
public import proofs.«01_k».proof.Proof.Attn.Array
public import proofs.«01_k».proof.Proof.Attn.Ref
public import proofs.«01_k».proof.Proof.Attn.Pre

/-! # The attention kernel computes the reference attention -/

@[expose] public section
set_option maxRecDepth 16384
noncomputable section

namespace Cert.Attn
open Idealize.ShloMosaic Idealize.ShloMosaic.TcCoe Idealize.SL.Sem Cert.KernelIdeal.Spec
open Cert.ReferenceIdeal.Attn (rs rm rl)

abbrev SQ : Shape := Cert.KernelIdeal.S16384x512
abbrev SG : Shape := Cert.KernelIdeal.S16x2x4096

variable (q k v : Vec Ideal SQ .bf16) (g : Vec Ideal SG .f32)

/-- The product of a query with a key is a real number. -/
theorem dot_real (hq : ∀ R C, q (ix2 R C) ≠ ⊥ ∧ q (ix2 R C) ≠ ⊤) (hk : ∀ R C, k (ix2 R C) ≠ ⊥ ∧ k (ix2 R C) ≠ ⊤)
    (b : Fin 4) (h : Fin 8) (p j : ℕ) : ∃ r : ℝ, dot q k b h p j = (r : EReal) := by
  refine ⟨∑ e : Fin 64, (q (ix2 (row b p) (lane h e))).toReal * (k (ix2 (row b j) (lane h e))).toReal, ?_⟩
  unfold dot
  rw [Cert.Online.coe_sum]
  refine Finset.sum_congr rfl fun e _ => ?_
  rw [EReal.coe_mul, EReal.coe_toReal (hq _ _).2 (hq _ _).1, EReal.coe_toReal (hk _ _).2 (hk _ _).1]

/-- The kernel's element is the reference's. -/
theorem out_eq (hq : ∀ R C, q (ix2 R C) ≠ ⊥ ∧ q (ix2 R C) ≠ ⊤) (hk : ∀ R C, k (ix2 R C) ≠ ⊥ ∧ k (ix2 R C) ≠ ⊤)
    (hg : ∀ a b j, g (ix3 a b j) ≠ ⊥ ∧ g (ix3 a b j) ≠ ⊤) (b : Fin 4) (h : Fin 8) (e : Fin 64) (p : Fin 4096) :
    outE q k v g b h e p.val =
      ∑ j ∈ Finset.range 4096, vals v b h e j *
        Ideal.div (Ideal.exp (rs q k g b h p.val j - rm q k g b h p.val)) (rl q k g b h p.val) := by
  have hgr : ∀ j, ∃ r : ℝ, g (gate b h j) = (r : EReal) := fun j =>
    ⟨(g (gate b h j)).toReal, (EReal.coe_toReal (hg _ _ _).2 (hg _ _ _).1).symm⟩
  obtain ⟨f, hf⟩ := hgr p.val
  have hs : ∀ j, j ≤ p.val → ∃ r : ℝ, score q k g b h p.val j = (r : EReal) := fun j hj => by
    obtain ⟨x, hx⟩ := dot_real q k hq hk b h p.val j
    obtain ⟨y, hy⟩ := hgr j
    exact ⟨x + y, by unfold score; rw [if_pos hj, hx, hy, EReal.coe_add]⟩
  have hbot : ∀ j, ¬ j ≤ p.val → score q k g b h p.val j = ⊥ := fun j hj => by unfold score; rw [if_neg hj]
  have hr : ∀ j, rs q k g b h p.val j = score q k g b h p.val j + ((-f : ℝ) : EReal) := fun j => by
    by_cases hj : j ≤ p.val
    · obtain ⟨x, hx⟩ := dot_real q k hq hk b h p.val j
      obtain ⟨y, hy⟩ := hgr j
      unfold rs score
      rw [if_pos hj, if_pos hj, hx, hy, hf, ← EReal.coe_neg, ← EReal.coe_neg, ← EReal.coe_add, ← EReal.coe_sub,
        ← EReal.coe_add, ← EReal.coe_add]
      congr 1
      ring
    · rw [hbot j hj, EReal.bot_add]
      unfold rs
      rw [if_neg hj]
  have key := Cert.Online.quotient (s := score q k g b h p.val) (v := vals v b h e) (B := Cert.KernelIdeal.Block.B)
    Cert.KernelIdeal.Block.B_ne_bot Cert.KernelIdeal.Block.B_ne_top (-f) (512 * (p.val / 512) + 512) 4096 (by omega)
    (fun j => by
      by_cases hj : j ≤ p.val
      · obtain ⟨x, hx⟩ := hs j hj
        rw [hx]; exact EReal.coe_ne_top x
      · rw [hbot j hj]; exact bot_ne_top)
    p.val (by omega)
    (by obtain ⟨x, hx⟩ := hs p.val le_rfl
        rw [hx]; exact EReal.coe_ne_bot x)
    (fun j hj _ => hbot j (by omega))
  unfold outE
  rw [key]
  unfold rl rm
  rw [show rs q k g b h p.val = fun j => score q k g b h p.val j + ((-f : ℝ) : EReal) from funext hr]

/-- Every index of the result is a position of a batch and a lane of a head. -/
theorem idx_form (i : SQ.Idx) : ∃ (b : Fin 4) (p : Fin 4096) (h : Fin 8) (e : Fin 64),
    i = ix2 (row b p.val) (lane h e) := by
  have h0 : (i 0).val < 16384 := (i 0).isLt
  have h1 : (i 1).val < 512 := (i 1).isLt
  refine ⟨⟨(i 0).val / 4096, by omega⟩, ⟨(i 0).val % 4096, by omega⟩, ⟨(i 1).val / 64, by omega⟩,
    ⟨(i 1).val % 64, by omega⟩, funext fun a => Fin.ext ?_⟩
  match a with
  | ⟨0, _⟩ =>
    show (i 0).val = 4096 * ((i 0).val / 4096) + (i 0).val % 4096 % 4096
    omega
  | ⟨1, _⟩ =>
    show (i 1).val = 64 * ((i 1).val / 64) + (i 1).val % 64
    omega

/-- The kernel's result array is the reference's. -/
theorem arr_eq (m : (ℓ : Loc Cert.KernelIdeal.nD Cert.KernelIdeal.τ Cert.KernelIdeal.sig) → Buf (Elt Ideal) ℓ)
    (c : Dev Cert.KernelIdeal.nD)
    (hp : Cert.Pre_finite_scores.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) = fun _ => 1#1) :
    (Cert.KernelIdeal.Gen.dats m 0 c).arrAt 4 Cert.KernelIdeal.cfg0.N =
      Cert.ReferenceIdeal.Read.val_main_v35 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)) := by
  funext i
  obtain ⟨b, p, h, e, rfl⟩ := idx_form i
  refine (Cert.KernelIdeal.Arr.arr_apply m c b h e p).trans ?_
  refine (out_eq _ _ _ _ (Cert.Pre_finite_scores.Read.q_finite _ _ _ _ hp) (Cert.Pre_finite_scores.Read.k_finite _ _ _ _ hp)
    (Cert.Pre_finite_scores.Read.g_finite _ _ _ _ hp) b h e p).trans ?_
  exact (Cert.ReferenceIdeal.Attn.out_apply _ _ _ _ b h e p).symm

/-- The value claim: under finite queries, keys and gate sums the kernel's result is the reference's. -/
theorem algebraic : Cert.algebraic_KernelIdeal_ReferenceIdeal_pre_finite_scores := by
  intro m ρ m' ρ' hp hag
  refine ⟨fun c => (Cert.KernelIdeal.Gen.dats m 0 c).arrAt 4 Cert.KernelIdeal.cfg0.N,
    Cert.KernelIdeal.Value.run_blocks m ρ, ?_⟩
  refine (θ_run _ _ _).mono (fun _ h c => ⟨(h c).1.trans ?_, (h c).2⟩) (Cert.ReferenceIdeal.Value.run m' ρ')
  rw [Cert.ReferenceIdeal.Read.val_main_v35_eq]
  obtain ⟨h0, h1, h2, h3⟩ := hag c
  rw [h0, h1, h2, h3]
  exact (arr_eq m c (hp c)).symm

end Cert.Attn
-- ==== Proof.Ffn.Spec.lean ====
/-
  The feed-forward part with its two norms, row by row, over the extended reals: what both programs are shown to compute.
-/
module

public import Idealize.ShloMosaic.Lib.Pointwise

@[expose] public section

noncomputable section

namespace Cert.Ffn.Spec

open Idealize.ShloMosaic

/-- The literal 1024, the length of a row. -/
def len : EReal := Ideal.ofBits .f32 0x44800000#32
/-- The literal that keeps the root from zero. -/
def eps : EReal := Ideal.ofBits .f32 0x358637BD#32
/-- Element `d` of a row, divided by the root of the row's mean square, times the gain. -/
def rms (a g : Fin 1024 → EReal) (d : Fin 1024) : EReal :=
  a d * Ideal.rsqrt (Ideal.div (∑ k : Fin 1024, a k * a k) len + eps) * g d

/-- The row that enters the hidden layer: the norm, scaled and shifted. -/
def modulated (a g sc sh : Fin 1024 → EReal) (d : Fin 1024) : EReal := rms a g d * (1 + sc d) + sh d

/-- A hidden unit: the gate's product through x · σ(x), times the other product. -/
def unit (h wg wu : Fin 1024 → EReal) : EReal :=
  (∑ d : Fin 1024, h d * wg d) * Ideal.logistic (∑ d : Fin 1024, h d * wg d) * ∑ d : Fin 1024, h d * wu d

/-- The row after the layer: the input row plus the gated sum over the 2816 hidden units. -/
def after (a ga h : Fin 1024 → EReal) (wg wu : Fin 1024 → Fin 2816 → EReal) (wd : Fin 2816 → Fin 1024 → EReal) (d : Fin 1024) : EReal :=
  a d + ga d * ∑ k : Fin 2816, unit h (fun e => wg e k) (fun e => wu e k) * wd k d

/-- A sum over the 2816 hidden units, as the kernel takes it: from zero, the lower half, then the upper half. -/
theorem sum_halves (f : Fin 2816 → EReal) :
    (0 + ∑ k : Fin 1408, f ⟨1408 * 0 + k.val, by omega⟩) + ∑ k : Fin 1408, f ⟨1408 * 1 + k.val, by omega⟩ = ∑ k : Fin 2816, f k := by
  rw [zero_add]
  refine Eq.trans ?_ (Fin.sum_univ_add (a := 1408) (b := 1408) (fun k : Fin (1408 + 1408) => f k)).symm
  exact congrArg₂ _ (Finset.sum_congr rfl fun k _ => congrArg f (Fin.ext (by simp)))
    (Finset.sum_congr rfl fun k _ => congrArg f (Fin.ext (by simp [add_comm])))

end Cert.Ffn.Spec

end
-- ==== Proof.Ffn.Block.lean ====
/-
  One grid point of the feed-forward kernel: what it leaves in the two carried buffers (the modulated norm of the rows, and the
  sum over the hidden units so far) and in the result's block, as the printed terms of what it reads.
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Block

open Cert.FfnIdeal Cert.FfnIdeal.Gen Idealize.ShloMosaic Idealize.ShloMosaic.TcCoe Idealize.ShloMosaic.Tactic

theorem zero2 : (![0, 0] : Fin 2 → ℕ) = fun _ => 0 := by funext a; fin_cases a <;> rfl
theorem zero3 : (![0, 0, 0] : Fin 3 → ℕ) = fun _ => 0 := by funext a; fin_cases a <;> rfl

variable (c : Dev nD) (i : grid0.Coords)
  (arg2 : Memref sig .tc .vmem S512x1024 .f32) (harg2 : arg2.IsWhole) (arg3 : Memref sig .tc .vmem S1x1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1x1024 .f32) (harg6 : arg6.IsWhole) (arg7 : Memref sig .tc .vmem S1024x1408 .bf16) (harg7 : arg7.IsWhole)
  (arg8 : Memref sig .tc .vmem S1024x1408 .bf16) (harg8 : arg8.IsWhole) (arg9 : Memref sig .tc .vmem S1408x1024 .bf16) (harg9 : arg9.IsWhole)
  (arg10 : Memref sig .tc .vmem S1x1024 .f32) (harg10 : arg10.IsWhole) (arg11 : Memref sig .tc .vmem S512x1024 .f32) (harg11 : arg11.IsWhole)
  (arg12 : Memref sig .tc .vmem S512x1024 .bf16) (harg12 : arg12.IsWhole) (arg13 : Memref sig .tc .vmem S512x1024 .f32) (harg13 : arg13.IsWhole)
  (x0 : Vec Ideal S512x1024 .f32) (x1 x2 x3 : Vec Ideal S1x1x1024 .f32) (x4 : Vec Ideal S1x1024 .f32)
  (x5 x6 : Vec Ideal S1024x1408 .bf16) (x7 : Vec Ideal S1408x1024 .bf16) (x8 : Vec Ideal S1x1024 .f32)

/-- At a tile's first point the first carried buffer ends with the modulated norm. -/
theorem first_h (hc0 : cond0_0 i) (hc1 : ¬cond0_1 i) :
    sout0_A_0 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 = k0_pay1 x0 x4 x2 x1 := by
  unfold sout0_A_0
  rw [View.read_writes_eq_canon _ _ _ (scover0_A_0 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8)]
  unfold kernelRun0_A
  dsimp only
  sl_unfold_words
  simp only [View.readAt_eq_ld, harg2.read_unread, harg3.read_unread, harg4.read_unread, harg6.read_unread]
  simp only [View.ld_unit_zero (S := S512x1024) zero2, View.ld_unit_zero (S := S1x1024) zero2, View.ld_unit_zero (S := S1x1x1024) zero3]
  exact View.canon_unit_zero zero2 _ _

/-- … and the second one with the first half of the hidden units' products. -/
theorem first_acc (hc0 : cond0_0 i) (hc1 : ¬cond0_1 i) :
    sout0_A_1 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 =
      k0_pay3 (k0_pay1 x0 x4 x2 x1) x5 x6 (k0_pay2 (F := Ideal)) x7 := by
  unfold sout0_A_1
  rw [View.read_writes_eq_canon _ _ _ (scover0_A_1 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8)]
  unfold kernelRun0_A
  dsimp only
  sl_unfold_words
  simp only [View.readAt_eq_ld, harg2.read_unread, harg3.read_unread, harg4.read_unread, harg6.read_unread, harg7.read_unread,
    harg8.read_unread, harg9.read_unread]
  rw [View.canon_cons_unit_zero zero2]
  simp only [View.ld_unit_zero (S := S512x1024) zero2, View.ld_unit_zero (S := S1x1024) zero2, View.ld_unit_zero (S := S1x1x1024) zero3,
    View.ld_unit_zero (S := S1024x1408) zero2, View.ld_unit_zero (S := S1408x1024) zero2]
  simp only [View.readCov_unit_zero arg12.view zero2, View.readCov_unit_zero arg13.view zero2]

/-- At a tile's second point the result's block is the final norm of the rows plus the gated sum over both halves. -/
theorem second_out (hc0 : ¬cond0_0 i) (hc1 : cond0_1 i) (xs0 : Vec Ideal S512x1024 .bf16) (xs1 : Vec Ideal S512x1024 .f32) :
    out0_B_9 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 xs0 xs1 =
      k0_pay4 x0 x3 (k0_pay3 xs0 x5 x6 xs1 x7) x8 := by
  unfold out0_B_9
  rw [View.read_writes_eq_canon _ _ _ (cover0_B_9 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8 xs0 xs1)]
  unfold kernelRun0_B
  dsimp only
  sl_unfold_words
  simp only [View.readAt_eq_ld, harg2.read_unread, harg5.read_unread, harg7.read_unread, harg8.read_unread, harg9.read_unread,
    harg10.read_unread, harg12.read_unread, harg13.read_unread]
  rw [View.canon_unit_zero zero2]
  simp only [View.ld_unit_zero (S := S512x1024) zero2, View.ld_unit_zero (S := S1x1024) zero2, View.ld_unit_zero (S := S1x1x1024) zero3,
    View.ld_unit_zero (S := S1024x1408) zero2, View.ld_unit_zero (S := S1408x1024) zero2]
  simp only [View.readCov_unit_zero arg12.view zero2, View.readCov_unit_zero arg13.view zero2]

end Cert.FfnIdeal.Block

end
-- ==== Proof.Ffn.Tile.lean ====
/-
  The terms of one grid point of the feed-forward kernel, read element by element.
-/
module

public import proofs.«01_k».proof.Proof.Ffn.Spec
public import proofs.«01_k».proof.Proof.Ffn.Block

@[expose] public section

set_option maxRecDepth 16384

noncomputable section

namespace Cert.FfnIdeal.Tile

open Cert.FfnIdeal Cert.FfnIdeal.Gen Cert.Ffn.Spec Idealize.ShloMosaic

theorem zero_lit : Ideal.ofBits .f32 0x00000000#32 = 0 := by
  simp [Ideal.ofBits, Ideal.ieee]

/-- The rows that enter the hidden layer. -/
theorem h_apply (x : Vec Ideal S512x1024 .f32) (g : Vec Ideal S1x1024 .f32) (sc sh : Vec Ideal S1x1x1024 .f32) (r : Fin 512) (d : Fin 1024) :
    k0_pay1 x g sc sh (ix2 r d) =
      modulated (fun k => x (ix2 r k)) (fun k => g (ix2 0 k)) (fun k => sc (ix3 0 0 k)) (fun k => sh (ix3 0 0 k)) d := by
  pointwise [k0_pay1]
  rfl

/-- The accumulator starts at zero. -/
theorem zero_apply (r : Fin 512) (d : Fin 1024) : k0_pay2 (F := Ideal) (ix2 r d) = 0 := by
  pointwise [k0_pay2]

/-- A half of the hidden units adds its products to the accumulator. -/
theorem acc_apply (h : Vec Ideal S512x1024 .bf16) (wg wu : Vec Ideal S1024x1408 .bf16) (a : Vec Ideal S512x1024 .f32)
    (wd : Vec Ideal S1408x1024 .bf16) (r : Fin 512) (d : Fin 1024) :
    k0_pay3 h wg wu a wd (ix2 r d) = a (ix2 r d) +
      ∑ k : Fin 1408, unit (fun e => h (ix2 r e)) (fun e => wg (ix2 e k)) (fun e => wu (ix2 e k)) * wd (ix2 k d) := by
  pointwise [k0_pay3]
  rfl

/-- The block written. -/
theorem out_apply (x : Vec Ideal S512x1024 .f32) (ga : Vec Ideal S1x1x1024 .f32) (a : Vec Ideal S512x1024 .f32)
    (g : Vec Ideal S1x1024 .f32) (r : Fin 512) (d : Fin 1024) :
    k0_pay4 x ga a g (ix2 r d) =
      rms (fun k => x (ix2 r k) + ga (ix3 0 0 k) * a (ix2 r k)) (fun k => g (ix2 0 k)) d := by
  pointwise [k0_pay4]
  rfl

end Cert.FfnIdeal.Tile

end
-- ==== Proof.Ffn.Array.lean ====
/-
  The feed-forward kernel's result array, element by element, in terms of the arguments.
-/
module

public import proofs.«01_k».proof.Proof.Ffn.Tile
public import Idealize.ShloMosaic.Lib.Claim
public import Idealize.ShloMosaic.Lib.StableHlo.ReadAt

@[expose] public section

set_option maxRecDepth 16384

noncomputable section

namespace Cert.FfnIdeal.Arr

open Idealize.ShloMosaic Idealize.ShloMosaic.TcCoe Cert.FfnIdeal Cert.FfnIdeal.Gen Cert.Ffn.Spec

/-- The grid point of row tile `u` and half `j` of the hidden units. -/
def pt (u : Fin 32) (j : Fin 2) : Fin cfg0.N := ⟨2 * u.val + j.val, by have : cfg0.N = 64 := N_0; omega⟩

theorem index0 : ∀ (u : Fin 32) (j : Fin 2), win0_0.index (pt u j) = ![u.val, 0] := by decide +kernel
theorem index1 : ∀ (u : Fin 32) (j : Fin 2), win0_1.index (pt u j) = ![u.val / 8, 0, 0] := by decide +kernel
theorem index2 : ∀ (u : Fin 32) (j : Fin 2), win0_2.index (pt u j) = ![u.val / 8, 0, 0] := by decide +kernel
theorem index3 : ∀ (u : Fin 32) (j : Fin 2), win0_3.index (pt u j) = ![u.val / 8, 0, 0] := by decide +kernel
theorem index4 : ∀ (u : Fin 32) (j : Fin 2), win0_4.index (pt u j) = ![0, 0] := by decide +kernel
theorem index5 : ∀ (u : Fin 32) (j : Fin 2), win0_5.index (pt u j) = ![0, j.val] := by decide +kernel
theorem index6 : ∀ (u : Fin 32) (j : Fin 2), win0_6.index (pt u j) = ![0, j.val] := by decide +kernel
theorem index7 : ∀ (u : Fin 32) (j : Fin 2), win0_7.index (pt u j) = ![j.val, 0] := by decide +kernel
theorem index8 : ∀ (u : Fin 32) (j : Fin 2), win0_8.index (pt u j) = ![0, 0] := by decide +kernel
theorem index9 : ∀ (u : Fin 32) (j : Fin 2), win0_9.index (pt u j) = ![u.val, 0] := by decide +kernel

variable (m : (ℓ : Loc nD τ sig) → Buf (Elt Ideal) ℓ) (c : Dev nD)

/-- Row `r` of tile `u`, among all rows. -/
abbrev row (u : Fin 32) (r : Fin 512) : Fin 16384 := ⟨512 * u.val + r.val, by omega⟩

theorem x_apply (u : Fin 32) (r : Fin 512) (d : Fin 1024) :
    (V m c main_v0 : Vec Ideal S16384x1024 .f32) (ix2 (row u r) d) =
      (m ((c : Thread nD τ).loc main_arg0) : Vec Ideal S4x4096x1024 .f32)
        (ix3 (⟨u.val / 8, by omega⟩ : Fin 4) (⟨512 * (u.val % 8) + r.val, by omega⟩ : Fin 4096) d) := by
  entry_read
  refine shapeCast_apply _ _ _ _ ?_
  show (S4x4096x1024.rowMajor (ix3 (⟨u.val / 8, by omega⟩ : Fin 4) (⟨512 * (u.val % 8) + r.val, by omega⟩ : Fin 4096) d)).val =
    (S16384x1024.rowMajor (ix2 (row u r) d)).val
  rw [Shape.rowMajor_val_three, Shape.rowMajor_val_two]
  show (u.val / 8 * 4096 + (512 * (u.val % 8) + r.val)) * 1024 + d.val = (512 * u.val + r.val) * 1024 + d.val
  omega

theorem wg_apply (d : Fin 1024) (k : Fin 2816) :
    (V m c main_v2 : Vec Ideal S1024x2816 .bf16) (ix2 d k) =
      (m ((c : Thread nD τ).loc main_arg5) : Vec Ideal S1x1024x2816 .f32) (ix3 0 d k) := by
  unfold V
  after_reads_at

theorem wu_apply (d : Fin 1024) (k : Fin 2816) :
    (V m c main_v4 : Vec Ideal S1024x2816 .bf16) (ix2 d k) =
      (m ((c : Thread nD τ).loc main_arg6) : Vec Ideal S1x1024x2816 .f32) (ix3 0 d k) := by
  unfold V
  after_reads_at

theorem wd_apply (k : Fin 2816) (d : Fin 1024) :
    (V m c main_v6 : Vec Ideal S2816x1024 .bf16) (ix2 k d) =
      (m ((c : Thread nD τ).loc main_arg7) : Vec Ideal S1x2816x1024 .f32) (ix3 0 k d) := by
  unfold V
  after_reads_at

theorem gf_apply (d : Fin 1024) :
    (V m c main_v7 : Vec Ideal S1x1024 .f32) (ix2 0 d) =
      (m ((c : Thread nD τ).loc main_arg8) : Vec Ideal S1024 .f32) (ix1 d) := by
  unfold V
  after_reads_at

theorem blk0 (u : Fin 32) (j : Fin 2) (r : Fin 512) (d : Fin 1024) :
    (iblk m c 0 (pt u j) : Vec Ideal S512x1024 .f32) (ix2 r d) =
      (V m c main_v0 : Vec Ideal S16384x1024 .f32) (ix2 (row u r) d) := by
  blk_ext [iblk, V, index0 u j]

theorem blk1 (u : Fin 32) (j : Fin 2) (d : Fin 1024) :
    (iblk m c 1 (pt u j) : Vec Ideal S1x1x1024 .f32) (ix3 0 0 d) =
      (m ((c : Thread nD τ).loc main_arg1) : Vec Ideal S4x1x1024 .f32) (ix3 (⟨u.val / 8, by omega⟩ : Fin 4) 0 d) := by
  rw [← V_main_arg1 m c]
  blk_ext [iblk, V, index1 u j]

theorem blk2 (u : Fin 32) (j : Fin 2) (d : Fin 1024) :
    (iblk m c 2 (pt u j) : Vec Ideal S1x1x1024 .f32) (ix3 0 0 d) =
      (m ((c : Thread nD τ).loc main_arg2) : Vec Ideal S4x1x1024 .f32) (ix3 (⟨u.val / 8, by omega⟩ : Fin 4) 0 d) := by
  rw [← V_main_arg2 m c]
  blk_ext [iblk, V, index2 u j]

theorem blk3 (u : Fin 32) (j : Fin 2) (d : Fin 1024) :
    (iblk m c 3 (pt u j) : Vec Ideal S1x1x1024 .f32) (ix3 0 0 d) =
      (m ((c : Thread nD τ).loc main_arg3) : Vec Ideal S4x1x1024 .f32) (ix3 (⟨u.val / 8, by omega⟩ : Fin 4) 0 d) := by
  rw [← V_main_arg3 m c]
  blk_ext [iblk, V, index3 u j]

theorem blk4 (u : Fin 32) (j : Fin 2) (d : Fin 1024) :
    (iblk m c 4 (pt u j) : Vec Ideal S1x1024 .f32) (ix2 0 d) =
      (m ((c : Thread nD τ).loc main_arg4) : Vec Ideal S1x1024 .f32) (ix2 0 d) := by
  rw [← V_main_arg4 m c]
  blk_ext [iblk, V, index4 u j]

theorem blk5 (u : Fin 32) (j : Fin 2) (d : Fin 1024) (k : Fin 1408) :
    (iblk m c 5 (pt u j) : Vec Ideal S1024x1408 .bf16) (ix2 d k) =
      (m ((c : Thread nD τ).loc main_arg5) : Vec Ideal S1x1024x2816 .f32) (ix3 0 d (⟨1408 * j.val + k.val, by omega⟩ : Fin 2816)) := by
  refine Eq.trans ?_ (wg_apply m c d _)
  blk_ext [iblk, V, index5 u j]

theorem blk6 (u : Fin 32) (j : Fin 2) (d : Fin 1024) (k : Fin 1408) :
    (iblk m c 6 (pt u j) : Vec Ideal S1024x1408 .bf16) (ix2 d k) =
      (m ((c : Thread nD τ).loc main_arg6) : Vec Ideal S1x1024x2816 .f32) (ix3 0 d (⟨1408 * j.val + k.val, by omega⟩ : Fin 2816)) := by
  refine Eq.trans ?_ (wu_apply m c d _)
  blk_ext [iblk, V, index6 u j]

theorem blk7 (u : Fin 32) (j : Fin 2) (k : Fin 1408) (d : Fin 1024) :
    (iblk m c 7 (pt u j) : Vec Ideal S1408x1024 .bf16) (ix2 k d) =
      (m ((c : Thread nD τ).loc main_arg7) : Vec Ideal S1x2816x1024 .f32) (ix3 0 (⟨1408 * j.val + k.val, by omega⟩ : Fin 2816) d) := by
  refine Eq.trans ?_ (wd_apply m c _ d)
  blk_ext [iblk, V, index7 u j]

theorem blk8 (u : Fin 32) (j : Fin 2) (d : Fin 1024) :
    (iblk m c 8 (pt u j) : Vec Ideal S1x1024 .f32) (ix2 0 d) =
      (m ((c : Thread nD τ).loc main_arg8) : Vec Ideal S1024 .f32) (ix1 d) := by
  refine Eq.trans ?_ (gf_apply m c d)
  blk_ext [iblk, V, index8 u j]

theorem emb9 (u : Fin 32) (j : Fin 2) (r : Fin 512) (d : Fin 1024) :
    ((cfg0.win 9).blk (pt u j)).view.emb (ix2 r d) = (ix2 (row u r) d : S16384x1024.Idx) := by
  blk_ext [index9 u j]

/-- The points that write a block back write different blocks. -/
theorem disjoint9 : ∀ t t' : Fin cfg0.N, (cfg0.win 9).flush t = true → (cfg0.win 9).flush t' = true → t ≠ t' →
    Disjoint ((cfg0.win 9).blk t).view.set ((cfg0.win 9).blk t').view.set := by
  intro t t' h h' hne
  have hN : cfg0.N = 64 := N_0
  have e : ∀ t : Fin cfg0.N, t.val % 2 = 1 → t = pt ⟨t.val / 2, by omega⟩ 1 := fun t ht => Fin.ext (by
    show t.val = 2 * (t.val / 2) + 1; omega)
  have a := e t ((flush0_9 t).mp h)
  have a' := e t' ((flush0_9 t').mp h')
  refine (cfg0.win 9).disjoint_blk fun hi => hne ?_
  have hi' : win0_9.index t = win0_9.index t' := hi
  rw [a, a', index9, index9] at hi'
  have h0 := congrFun hi' 0
  have h0' : t.val / 2 = t'.val / 2 := h0
  have b := (flush0_9 t).mp h
  have b' := (flush0_9 t').mp h'
  exact Fin.ext (by omega)

theorem outs_congr {n n' : ℕ} (e : n = n') (h : n < cfg0.N) (h' : n' < cfg0.N) : outsAt0 m c n h = outsAt0 m c n' h' := by
  subst e; rfl

/-- A row of the result, from the arguments. -/
def rowOf (x : Vec Ideal S4x4096x1024 .f32) (sh sc ga : Vec Ideal S4x1x1024 .f32) (g : Vec Ideal S1x1024 .f32)
    (wg wu : Vec Ideal S1x1024x2816 .f32) (wd : Vec Ideal S1x2816x1024 .f32) (gf : Vec Ideal S1024 .f32) (b : Fin 4) (p : Fin 4096)
    (d : Fin 1024) : EReal :=
  rms (after (fun k => x (ix3 b p k)) (fun k => ga (ix3 b 0 k))
      (modulated (fun k => x (ix3 b p k)) (fun k => g (ix2 0 k)) (fun k => sc (ix3 b 0 k)) (fun k => sh (ix3 b 0 k)))
      (fun e k => wg (ix3 0 e k)) (fun e k => wu (ix3 0 e k)) (fun k e => wd (ix3 0 k e)))
    (fun k => gf (ix1 k)) d

/-- The rows that enter the hidden layer, as the point that makes them does. -/
abbrev hidAt (t : Fin cfg0.N) : FVec Ideal S512x1024 .bf16 :=
  k0_pay1 (iblk m c 0 t : Vec Ideal S512x1024 .f32) (iblk m c 4 t) (iblk m c 2 t) (iblk m c 1 t)

/-- What a tile's first point leaves in the first carried buffer. -/
theorem carried_h (t : Fin cfg0.N) (h0 : t.val % 2 = 0) (h1 : ¬t.val % 2 = 1) : (outsAt0 m c t.val t.isLt).2.1 = hidAt m c t := by
  rw [outsAt0_A m c t h0 h1]
  dsimp only
  exact Block.first_h ..

/-- What a tile's first point leaves in the second one. -/
theorem carried_acc (t : Fin cfg0.N) (h0 : t.val % 2 = 0) (h1 : ¬t.val % 2 = 1) : (outsAt0 m c t.val t.isLt).2.2 =
    k0_pay3 (hidAt m c t) (iblk m c 5 t) (iblk m c 6 t) (k0_pay2 (F := Ideal)) (iblk m c 7 t) := by
  rw [outsAt0_A m c t h0 h1]
  dsimp only
  exact Block.first_acc ..

/-- What a tile's second point `t'` writes back, its first point being `t`. -/
theorem written (t t' : Fin cfg0.N) (e : t'.val = t.val + 1) (h : t.val % 2 = 0) (r : Fin 512) (d : Fin 1024) :
    (dats m 0 c).flushed 9 t' (ix2 r d) = k0_pay4 (iblk m c 0 t' : Vec Ideal S512x1024 .f32) (iblk m c 3 t')
      (k0_pay3 (hidAt m c t) (iblk m c 5 t') (iblk m c 6 t')
        (k0_pay3 (hidAt m c t) (iblk m c 5 t) (iblk m c 6 t) (k0_pay2 (F := Ideal)) (iblk m c 7 t)) (iblk m c 7 t'))
      (iblk m c 8 t') (ix2 r d) := by
  have e' : t'.val - 1 = t.val := by omega
  rw [Value.flushed9_B m c t' (by omega) (by omega), outs_congr m c e' _ t.isLt, carried_h m c t h (by omega),
    carried_acc m c t h (by omega)]
  exact congrFun (Block.second_out ..) (ix2 r d)

/-- The rows of tile `u` that enter the hidden layer. -/
abbrev hid (u : Fin 32) : FVec Ideal S512x1024 .bf16 := hidAt m c (pt u 0)

/-- Half `j` of the hidden units at row `r` of tile `u`, in the arguments' terms. -/
theorem half (u : Fin 32) (j : Fin 2) (r : Fin 512) (d : Fin 1024) (k : Fin 1408) (f : Fin 1024 → EReal)
    (hf : (fun e => hid m c u (ix2 r e)) = f) :
    unit (fun e => hid m c u (ix2 r e)) (fun e => (iblk m c 5 (pt u j) : Vec Ideal S1024x1408 .bf16) (ix2 e k))
        (fun e => (iblk m c 6 (pt u j) : Vec Ideal S1024x1408 .bf16) (ix2 e k)) *
      (iblk m c 7 (pt u j) : Vec Ideal S1408x1024 .bf16) (ix2 k d) =
    (fun k : Fin 2816 => unit f (fun e => (m ((c : Thread nD τ).loc main_arg5) : Vec Ideal S1x1024x2816 .f32) (ix3 0 e k))
        (fun e => (m ((c : Thread nD τ).loc main_arg6) : Vec Ideal S1x1024x2816 .f32) (ix3 0 e k)) *
      (m ((c : Thread nD τ).loc main_arg7) : Vec Ideal S1x2816x1024 .f32) (ix3 0 k d)) ⟨1408 * j.val + k.val, by omega⟩ := by
  rw [hf]
  simp only [blk5, blk6, blk7]

/-- The result array at row `r` of tile `u`. -/
theorem point (u : Fin 32) (r : Fin 512) (d : Fin 1024) :
    (dats m 0 c).arrAt 9 cfg0.N (ix2 (row u r) d : S16384x1024.Idx) =
      rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (⟨u.val / 8, by omega⟩ : Fin 4) (⟨512 * (u.val % 8) + r.val, by omega⟩ : Fin 4096) d := by
  have h1 : (pt u 1).val % 2 = 1 := by show (2 * u.val + 1) % 2 = 1; omega
  have key := (dats m 0 c).arrAt_emb_eq_flushed 9 disjoint9 (pt u 1) ((flush0_9 _).mpr h1) (ix2 r d)
  rw [emb9 u 1 r d] at key
  refine key.trans ((written m c (pt u 0) (pt u 1) rfl (by show (2 * u.val + 0) % 2 = 0; omega) r d).trans ?_)
  rw [Tile.out_apply]
  have hx : ∀ (j : Fin 2) (k : Fin 1024), (iblk m c 0 (pt u j) : Vec Ideal S512x1024 .f32) (ix2 r k) =
      (m ((c : Thread nD τ).loc main_arg0) : Vec Ideal S4x4096x1024 .f32)
        (ix3 (⟨u.val / 8, by omega⟩ : Fin 4) (⟨512 * (u.val % 8) + r.val, by omega⟩ : Fin 4096) k) :=
    fun j k => (blk0 m c u j r k).trans (x_apply m c u r k)
  have hh : (fun e => hid m c u (ix2 r e)) = _ := funext fun e => Tile.h_apply _ _ _ _ r e
  simp only [hx, blk1, blk2, blk4] at hh
  simp only [hx, blk3, blk8, Tile.acc_apply, Tile.zero_apply]
  unfold rowOf after
  congr 1
  funext k
  congr 2
  rw [← sum_halves]
  exact congrArg₂ _ (congrArg (0 + ·) (Finset.sum_congr rfl fun l _ => half m c u 0 r k l _ hh))
    (Finset.sum_congr rfl fun l _ => half m c u 1 r k l _ hh)

/-- The result array at position `p` of batch `b`. -/
theorem arr_apply (b : Fin 4) (p : Fin 4096) (d : Fin 1024) :
    (dats m 0 c).arrAt 9 cfg0.N (ix2 (⟨4096 * b.val + p.val, by omega⟩ : Fin 16384) d : S16384x1024.Idx) =
      rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) b p d := by
  have h := point m c ⟨8 * b.val + p.val / 512, by omega⟩ ⟨p.val % 512, by omega⟩ d
  have e1 : row ⟨8 * b.val + p.val / 512, by omega⟩ ⟨p.val % 512, by omega⟩ = (⟨4096 * b.val + p.val, by omega⟩ : Fin 16384) :=
    Fin.ext (by show 512 * (8 * b.val + p.val / 512) + p.val % 512 = 4096 * b.val + p.val; omega)
  have e2 : (⟨(8 * b.val + p.val / 512) / 8, by omega⟩ : Fin 4) = b := Fin.ext (by show (8 * b.val + p.val / 512) / 8 = b.val; omega)
  have e3 : (⟨512 * ((8 * b.val + p.val / 512) % 8) + p.val % 512, by omega⟩ : Fin 4096) = p :=
    Fin.ext (by show 512 * ((8 * b.val + p.val / 512) % 8) + p.val % 512 = p.val; omega)
  rw [e1] at h
  simp only [e2, e3] at h
  exact h

end Cert.FfnIdeal.Arr

end
-- ==== Proof.Ffn.Ref.lean ====
/-
  The feed-forward reference, element by element.
-/
module

public import proofs.«01_k».proof.Proof.Ffn.Spec
public import proofs.«01_k».proof.Proof.Gen.FfnReferenceIdeal.Read
public import Idealize.ShloMosaic.Lib.Pipeline.ValueKit

@[expose] public section

set_option maxRecDepth 16384

noncomputable section

namespace Cert.FfnReferenceIdeal.Ref

open Idealize.ShloMosaic Cert.FfnReferenceIdeal Cert.FfnReferenceIdeal.Gen Cert.FfnReferenceIdeal.Read Cert.Ffn.Spec

theorem zero_lit : (FloatOps.ofBits .f32 0x00000000#32 : Ideal .f32) = (0 : EReal) := by
  show Ideal.ofBits .f32 0x00000000#32 = 0
  simp [Ideal.ofBits, Ideal.ieee]

theorem one_lit : (FloatOps.ofBits .f32 0x3F800000#32 : Ideal .f32) = (1 : EReal) := by
  show Ideal.ofBits .f32 0x3F800000#32 = 1
  simp [Ideal.ofBits, Ideal.ieee]
  rw [← EReal.coe_mul]
  norm_num

variable (x : Vec Ideal S4x4096x1024 .f32) (sh sc ga : Vec Ideal S4x1x1024 .f32) (g : Vec Ideal S1x1024 .f32)
  (wg wu : Vec Ideal S1x1024x2816 .f32) (wd : Vec Ideal S1x2816x1024 .f32) (gf : Vec Ideal S1024 .f32)

/-- The row that enters the hidden layer. -/
abbrev hidden (b : Fin 4) (p : Fin 4096) : Fin 1024 → EReal :=
  modulated (fun k => x (ix3 b p k)) (fun k => g (ix2 0 k)) (fun k => sc (ix3 b 0 k)) (fun k => sh (ix3 b 0 k))

theorem h_apply (b : Fin 4) (p : Fin 4096) (d : Fin 1024) :
    val_main_v19 (F := Ideal) x sh sc g (ix3 b p d) = hidden x sh sc g b p d := by
  have e2 : ∀ k, idx_main_v2 (idx_main_v3 (idx_main_v9 (ix3 b p d))) k = ix3 b p k :=
    fun k => funext fun a => match a with | ⟨0, _⟩ => rfl | ⟨1, _⟩ => rfl | ⟨2, _⟩ => rfl
  have e0 : idx_main_v0 (idx_main_v11 (idx_main_v12 (ix3 b p d))) = ix2 0 d :=
    funext fun a => match a with | ⟨0, _⟩ => rfl | ⟨1, _⟩ => Fin.ext (Nat.mod_eq_of_lt d.isLt)
  have e16 : idx_main_v16 (ix3 b p d) = ix3 b 0 d :=
    funext fun a => match a with | ⟨0, _⟩ => rfl | ⟨1, _⟩ => rfl | ⟨2, _⟩ => rfl
  have e18 : idx_main_v18 (ix3 b p d) = ix3 b 0 d :=
    funext fun a => match a with | ⟨0, _⟩ => rfl | ⟨1, _⟩ => rfl | ⟨2, _⟩ => rfl
  rw [val_main_v19_apply, val_main_v17_apply, val_main_v13_apply, val_main_v10_apply, val_main_v9_apply, val_main_v8_apply,
    val_main_v7_apply, val_main_v5_apply, val_main_v3_apply, val_main_v2_apply, val_main_v4_apply, val_main_v6_apply,
    val_main_v12_apply, val_main_v11_apply, val_main_v0_apply, val_main_v16_apply, val_main_v15_apply, val_main_v14_apply,
    val_main_v18_apply, val_main_cst_apply, val_main_cst_0_apply, val_main_cst_1_apply, val_main_cst_2_apply, zero_lit, one_lit,
    e0, e16, e18]
  simp only [val_main_v1_apply, e2]
  rw [zero_add]
  rfl

/-- A hidden unit. -/
theorem unit_apply (b : Fin 4) (p : Fin 4096) (k : Fin 2816) :
    val_main_v25 (F := Ideal) x sh sc g wg wu (ix3 b p k) =
      unit (hidden x sh sc g b p) (fun e => wg (ix3 0 e k)) (fun e => wu (ix3 0 e k)) := by
  have l21 : ∀ e, lidx_main_v21 (ix3 b p k) e = ix3 b p e :=
    fun e => funext fun a => match a with | ⟨0, _⟩ => rfl | ⟨1, _⟩ => rfl | ⟨2, _⟩ => rfl
  have l24 : ∀ e, lidx_main_v24 (ix3 b p k) e = ix3 b p e :=
    fun e => funext fun a => match a with | ⟨0, _⟩ => rfl | ⟨1, _⟩ => rfl | ⟨2, _⟩ => rfl
  have r21 : ∀ e, idx_main_v20 (ridx_main_v21 (ix3 b p k) e) = ix3 0 e k :=
    fun e => funext fun a => match a with
      | ⟨0, _⟩ => rfl
      | ⟨1, _⟩ => Fin.ext (by show (e.val * 2816 + k.val) / 2816 % 1024 = e.val; omega)
      | ⟨2, _⟩ => Fin.ext (by show (e.val * 2816 + k.val) % 2816 = k.val; omega)
  have r24 : ∀ e, idx_main_v23 (ridx_main_v24 (ix3 b p k) e) = ix3 0 e k :=
    fun e => funext fun a => match a with
      | ⟨0, _⟩ => rfl
      | ⟨1, _⟩ => Fin.ext (by show (e.val * 2816 + k.val) / 2816 % 1024 = e.val; omega)
      | ⟨2, _⟩ => Fin.ext (by show (e.val * 2816 + k.val) % 2816 = k.val; omega)
  have h21 : val_main_v21 (F := Ideal) x sh sc g wg (ix3 b p k) = ∑ e : Fin 1024, hidden x sh sc g b p e * wg (ix3 0 e k) := by
    rw [val_main_v21_apply]
    exact Finset.sum_congr rfl fun e _ => by rw [l21, h_apply, val_main_v20_apply, r21]
  have h24 : val_main_v24 (F := Ideal) x sh sc g wu (ix3 b p k) = ∑ e : Fin 1024, hidden x sh sc g b p e * wu (ix3 0 e k) := by
    rw [val_main_v24_apply]
    exact Finset.sum_congr rfl fun e _ => by rw [l24, h_apply, val_main_v23_apply, r24]
  rw [val_main_v25_apply, val_main_v22_apply, val_main_call0_v5_apply, val_main_call0_v4_apply, val_main_call0_v3_apply,
    val_main_call0_v2_apply, val_main_call0_v1_apply, val_main_call0_v0_apply, val_main_call0_cst_apply, val_main_call0_cst_0_apply,
    one_lit, h21, h24]
  rfl

/-- The row after the layer. -/
abbrev aft (b : Fin 4) (p : Fin 4096) : Fin 1024 → EReal :=
  after (fun k => x (ix3 b p k)) (fun k => ga (ix3 b 0 k)) (hidden x sh sc g b p)
    (fun e k => wg (ix3 0 e k)) (fun e k => wu (ix3 0 e k)) (fun k e => wd (ix3 0 k e))

theorem after_apply (b : Fin 4) (p : Fin 4096) (d : Fin 1024) :
    val_main_v30 (F := Ideal) x sh sc ga g wg wu wd (ix3 b p d) = aft x sh sc ga g wg wu wd b p d := by
  have l27 : ∀ k, lidx_main_v27 (ix3 b p d) k = ix3 b p k :=
    fun e => funext fun a => match a with | ⟨0, _⟩ => rfl | ⟨1, _⟩ => rfl | ⟨2, _⟩ => rfl
  have r27 : ∀ k, idx_main_v26 (ridx_main_v27 (ix3 b p d) k) = ix3 0 k d :=
    fun k => funext fun a => match a with
      | ⟨0, _⟩ => rfl
      | ⟨1, _⟩ => Fin.ext (by show (k.val * 1024 + d.val) / 1024 % 2816 = k.val; omega)
      | ⟨2, _⟩ => Fin.ext (by show (k.val * 1024 + d.val) % 1024 = d.val; omega)
  have e28 : idx_main_v28 (ix3 b p d) = ix3 b 0 d :=
    funext fun a => match a with | ⟨0, _⟩ => rfl | ⟨1, _⟩ => rfl | ⟨2, _⟩ => rfl
  have h27 : val_main_v27 (F := Ideal) x sh sc g wg wu wd (ix3 b p d) = ∑ k : Fin 2816,
      unit (hidden x sh sc g b p) (fun e => wg (ix3 0 e k)) (fun e => wu (ix3 0 e k)) * wd (ix3 0 k d) := by
    rw [val_main_v27_apply]
    exact Finset.sum_congr rfl fun k _ => by rw [l27, unit_apply, val_main_v26_apply, r27]
  rw [val_main_v30_apply, val_main_v29_apply, val_main_v28_apply, e28, h27]
  rfl

/-- The reference's result at position `p` of batch `b`. -/
theorem ref_apply (b : Fin 4) (p : Fin 4096) (d : Fin 1024) :
    val_main_v44 (F := Ideal) x sh sc ga g wg wu wd gf (ix2 (⟨4096 * b.val + p.val, by omega⟩ : Fin 16384) d) =
      rms (aft x sh sc ga g wg wu wd b p) (fun k => gf (ix1 k)) d := by
  have e44 : idx_main_v44 (ix2 (⟨4096 * b.val + p.val, by omega⟩ : Fin 16384) d) = ix3 b p d :=
    funext fun a => match a with
      | ⟨0, _⟩ => Fin.ext (by show ((4096 * b.val + p.val) * 1024 + d.val) / 4194304 = b.val; omega)
      | ⟨1, _⟩ => Fin.ext (by show ((4096 * b.val + p.val) * 1024 + d.val) / 1024 % 4096 = p.val; omega)
      | ⟨2, _⟩ => Fin.ext (by show ((4096 * b.val + p.val) * 1024 + d.val) % 1024 = d.val; omega)
  have e32 : ∀ k, idx_main_v32 (idx_main_v33 (idx_main_v39 (ix3 b p d))) k = ix3 b p k :=
    fun k => funext fun a => match a with | ⟨0, _⟩ => rfl | ⟨1, _⟩ => rfl | ⟨2, _⟩ => rfl
  have e41 : idx_main_v41 (idx_main_v42 (ix3 b p d)) = ix1 d := funext fun a => match a with | ⟨0, _⟩ => rfl
  rw [val_main_v44_apply, e44, val_main_v43_apply, val_main_v40_apply, val_main_v39_apply, val_main_v38_apply, val_main_v37_apply,
    val_main_v35_apply, val_main_v33_apply, val_main_v32_apply, val_main_v34_apply, val_main_v36_apply, val_main_v42_apply,
    val_main_v41_apply, val_main_cst_3_apply, val_main_cst_4_apply, val_main_cst_5_apply, zero_lit, e41]
  simp only [val_main_v31_apply, e32, after_apply]
  rw [zero_add]
  rfl

end Cert.FfnReferenceIdeal.Ref

end
-- ==== Proof.Ffn.Claim.lean ====
/-
  The feed-forward kernel's result is the feed-forward reference's.
-/
module

public import proofs.«01_k».proof.Proof.Ffn.Array
public import proofs.«01_k».proof.Proof.Ffn.Ref
public import proofs.«01_k».proof.Defs
public import proofs.«01_k».proof.Proof.Gen.FfnIdeal.Value
public import proofs.«01_k».proof.Proof.Gen.FfnReferenceIdeal.Run

@[expose] public section

set_option maxRecDepth 16384

noncomputable section

namespace Cert.FfnIdeal.Close

open Idealize.ShloMosaic

/-- Every index of the result is a position of a batch and a feature. -/
theorem idx_form (i : Cert.FfnIdeal.S16384x1024.Idx) : ∃ (b : Fin 4) (p : Fin 4096) (d : Fin 1024),
    i = ix2 (⟨4096 * b.val + p.val, by omega⟩ : Fin 16384) d := by
  have h0 : (i 0).val < 16384 := (i 0).isLt
  refine ⟨⟨(i 0).val / 4096, by omega⟩, ⟨(i 0).val % 4096, by omega⟩, i 1, funext fun a => Fin.ext ?_⟩
  match a with
  | ⟨0, _⟩ =>
    show (i 0).val = 4096 * ((i 0).val / 4096) + (i 0).val % 4096
    omega
  | ⟨1, _⟩ => rfl

/-- The kernel's result array is the reference's. -/
theorem arr_eq (m : (ℓ : Loc Cert.FfnIdeal.nD Cert.FfnIdeal.τ Cert.FfnIdeal.sig) → Buf (Elt Ideal) ℓ)
    (c : Dev Cert.FfnIdeal.nD) :
    (Cert.FfnIdeal.Gen.dats m 0 c).arrAt 9 Cert.FfnIdeal.cfg0.N =
      Cert.FfnReferenceIdeal.Read.val_main_v44 (F := Ideal)
        (m ((c.tc : Thread Cert.FfnIdeal.nD Cert.FfnIdeal.τ).loc Cert.FfnIdeal.main_arg0))
        (m ((c.tc : Thread Cert.FfnIdeal.nD Cert.FfnIdeal.τ).loc Cert.FfnIdeal.main_arg1))
        (m ((c.tc : Thread Cert.FfnIdeal.nD Cert.FfnIdeal.τ).loc Cert.FfnIdeal.main_arg2))
        (m ((c.tc : Thread Cert.FfnIdeal.nD Cert.FfnIdeal.τ).loc Cert.FfnIdeal.main_arg3))
        (m ((c.tc : Thread Cert.FfnIdeal.nD Cert.FfnIdeal.τ).loc Cert.FfnIdeal.main_arg4))
        (m ((c.tc : Thread Cert.FfnIdeal.nD Cert.FfnIdeal.τ).loc Cert.FfnIdeal.main_arg5))
        (m ((c.tc : Thread Cert.FfnIdeal.nD Cert.FfnIdeal.τ).loc Cert.FfnIdeal.main_arg6))
        (m ((c.tc : Thread Cert.FfnIdeal.nD Cert.FfnIdeal.τ).loc Cert.FfnIdeal.main_arg7))
        (m ((c.tc : Thread Cert.FfnIdeal.nD Cert.FfnIdeal.τ).loc Cert.FfnIdeal.main_arg8)) := by
  funext i
  obtain ⟨b, p, d, rfl⟩ := idx_form i
  exact (Cert.FfnIdeal.Arr.arr_apply m c b p d).trans (Cert.FfnReferenceIdeal.Ref.ref_apply _ _ _ _ _ _ _ _ _ b p d).symm

/-- The value claim: the feed-forward kernel's result is the reference's. -/
theorem algebraic : Cert.algebraic_FfnIdeal_FfnReferenceIdeal := by
  intro m ρ m' ρ' _ hag
  refine ⟨fun c => (Cert.FfnIdeal.Gen.dats m 0 c).arrAt 9 Cert.FfnIdeal.cfg0.N, Cert.FfnIdeal.Value.run_blocks m ρ, ?_⟩
  refine (θ_run _ _ _).mono (fun _ h c => ⟨(h c).1.trans ?_, (h c).2⟩) (Cert.FfnReferenceIdeal.Value.run m' ρ')
  rw [Cert.FfnReferenceIdeal.Read.val_main_v44_eq]
  obtain ⟨h0, h1, h2, h3, h4, h5, h6, h7, h8⟩ := hag c
  rw [h0, h1, h2, h3, h4, h5, h6, h7, h8]
  exact (arr_eq m c).symm

end Cert.FfnIdeal.Close

end
-- ==== Proof.Ada.Spec.lean ====
/-
  The modulation terms, for one row, in plain terms.
-/
module

public import Idealize.ShloMosaic.Lib.Pointwise

@[expose] public section

noncomputable section

namespace Cert.Ada.Spec

open Idealize.ShloMosaic

/-- The conditioning rows: four of the prompt, then 128 of the samples, then twelve of zeros. -/
def rows (a : Fin 4 → Fin 1024 → EReal) (b : Fin 128 → Fin 1024 → EReal) (r : Fin 144) (d : Fin 1024) : EReal :=
  if h : r.val < 4 then a ⟨r.val, h⟩ d else if h' : r.val - 4 < 128 then b ⟨r.val - 4, h'⟩ d else 0

/-- A row under x · σ(x), times a column of the weights, plus the bias. -/
def term (a w : Fin 1024 → EReal) (b : EReal) : EReal := (∑ d : Fin 1024, a d * Ideal.logistic (a d) * w d) + b

end Cert.Ada.Spec

end
-- ==== Proof.Ada.Array.lean ====
/-
  The modulation kernel's result array, element by element, in terms of the arguments.
-/
module

public import proofs.«01_k».proof.Proof.Ada.Spec
public import proofs.«01_k».proof.Proof.Gen.AdaIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.AdaIdeal.Arr

open Idealize.ShloMosaic Idealize.ShloMosaic.TcCoe Idealize.ShloMosaic.Tactic Cert.AdaIdeal Cert.AdaIdeal.Gen Cert.Ada.Spec

theorem zero2 : (![0, 0] : Fin 2 → ℕ) = fun _ => 0 := by funext a; fin_cases a <;> rfl

/-- What a tile leaves, at one element. -/
theorem tile_apply (a : Vec Ideal S144x1024 .f32) (w : Vec Ideal S1024x512 .f32) (b : Vec Ideal S1x512 .f32) (r : Fin 144) (e : Fin 512) :
    out0_3 a w b (ix2 r e) = term (fun d => a (ix2 r d)) (fun d => w (ix2 d e)) (b (ix2 0 e)) := by
  unfold out0_3
  rw [View.canon_unit_zero zero2]
  simp only [View.ld_unit_zero (S := S144x1024) zero2, View.ld_unit_zero (S := S1024x512) zero2, View.ld_unit_zero (S := S1x512) zero2]
  pointwise [k0_pay1]
  rfl

/-- The grid point of column tile `u`. -/
def pt (u : Fin 12) : Fin cfg0.N := ⟨u.val, by have : cfg0.N = 12 := N_0; omega⟩

theorem index0 : ∀ u : Fin 12, win0_0.index (pt u) = ![0, 0] := by decide +kernel
theorem index1 : ∀ u : Fin 12, win0_1.index (pt u) = ![0, u.val] := by decide +kernel
theorem index2 : ∀ u : Fin 12, win0_2.index (pt u) = ![0, u.val] := by decide +kernel
theorem index3 : ∀ u : Fin 12, win0_3.index (pt u) = ![0, u.val] := by decide +kernel

variable (m : (ℓ : Loc nD τ sig) → Buf (Elt Ideal) ℓ) (c : Dev nD)

/-- The prompt's conditioning rows. -/
abbrev ap : Vec Ideal S4x1024 .f32 := m ((c : Thread nD τ).loc main_arg0)
/-- The samples' conditioning rows. -/
abbrev aq : Vec Ideal S128x1024 .f32 := m ((c : Thread nD τ).loc main_arg1)
/-- The weights. -/
abbrev aw : Vec Ideal S1x1024x6144 .f32 := m ((c : Thread nD τ).loc main_arg2)
/-- The biases. -/
abbrev ab : Vec Ideal S1x6144 .f32 := m ((c : Thread nD τ).loc main_arg3)

/-- The tile of column `e`. -/
abbrev tile (e : Fin 6144) : Fin 12 := ⟨e.val / 512, by omega⟩
/-- Column `e` in its tile. -/
abbrev inner (e : Fin 6144) : Fin 512 := ⟨e.val % 512, by omega⟩

/-- A column is its tile's first and its place in the tile. -/
theorem col_eq (e : Fin 6144) : e = (⟨512 * (tile e).val + (inner e).val, by omega⟩ : Fin 6144) :=
  Fin.ext (by show e.val = 512 * (e.val / 512) + e.val % 512; omega)

theorem rows_apply (r : Fin 144) (d : Fin 1024) : (V m c main_v1 : Vec Ideal S144x1024 .f32) (ix2 r d) =
    rows (fun q d => ap m c (ix2 q d)) (fun q d => aq m c (ix2 q d)) r d := by
  unfold V rows
  after_reads_at
  split
  · after_reads_at
  · split
    · after_reads_at
    · after_reads_at

theorem w_apply (d : Fin 1024) (e : Fin 6144) : (V m c main_v2 : Vec Ideal S1024x6144 .f32) (ix2 d e) = aw m c (ix3 0 d e) := by
  entry_read
  refine shapeCast_apply _ _ _ _ ?_
  show (S1x1024x6144.rowMajor (ix3 0 d e)).val = (S1024x6144.rowMajor (ix2 d e)).val
  rw [Shape.rowMajor_val_three, Shape.rowMajor_val_two]
  show (0 * 1024 + d.val) * 6144 + e.val = d.val * 6144 + e.val
  omega

theorem b_apply (e : Fin 6144) : (V m c main_v4 : Vec Ideal S1x6144 .f32) (ix2 0 e) = ab m c (ix2 0 e) := by
  unfold V
  after_reads_at

theorem blk0 (u : Fin 12) (r : Fin 144) (d : Fin 1024) :
    (iblk m c 0 (pt u) : Vec Ideal S144x1024 .f32) (ix2 r d) = (V m c main_v1 : Vec Ideal S144x1024 .f32) (ix2 r d) := by
  blk_ext [iblk, V, index0 u]

theorem blk1 (e : Fin 6144) (d : Fin 1024) :
    (iblk m c 1 (pt (tile e)) : Vec Ideal S1024x512 .f32) (ix2 d (inner e)) = aw m c (ix3 0 d e) := by
  refine Eq.trans ?_ (w_apply m c d e)
  conv_rhs => rw [col_eq e]
  blk_ext [iblk, V, index1 (tile e)]

theorem blk2 (e : Fin 6144) :
    (iblk m c 2 (pt (tile e)) : Vec Ideal S1x512 .f32) (ix2 0 (inner e)) = ab m c (ix2 0 e) := by
  refine Eq.trans ?_ (b_apply m c e)
  conv_rhs => rw [col_eq e]
  blk_ext [iblk, V, index2 (tile e)]

theorem emb (r : Fin 144) (e : Fin 6144) :
    ((cfg0.win 3).blk (pt (tile e))).view.emb (ix2 r (inner e)) = (ix2 r e : S144x6144.Idx) := by
  conv_rhs => rw [col_eq e]
  blk_ext [index3 (tile e)]

theorem written (t : Fin cfg0.N) (r : Fin 144) (e : Fin 512) : (dats m 0 c).flushed 3 t (ix2 r e) =
    out0_3 (iblk m c 0 t) (iblk m c 1 t) (iblk m c 2 t) (ix2 r e) := by
  rw [Value.flushed3]
  rfl

/-- Row `r` of the kernel's result. -/
theorem arr_apply (r : Fin 144) (e : Fin 6144) : (dats m 0 c).arrAt 3 cfg0.N (ix2 r e : S144x6144.Idx) =
    term (rows (fun q d => ap m c (ix2 q d)) (fun q d => aq m c (ix2 q d)) r) (fun d => aw m c (ix3 0 d e)) (ab m c (ix2 0 e)) := by
  have key := (dats m 0 c).arrAt_emb_eq_flushed 3 Value.disjoint3 (pt (tile e)) (flush0_3 _) (ix2 r (inner e))
  rw [emb] at key
  refine (key.trans (written m c (pt (tile e)) r (inner e))).trans ?_
  rw [tile_apply]
  simp only [blk0, blk1, blk2]
  exact congrArg (fun a => term a _ _) (funext fun d => rows_apply m c r d)

end Cert.AdaIdeal.Arr

end
-- ==== Proof.Ada.Ref.lean ====
/-
  The modulation terms' reference, element by element.
-/
module

public import proofs.«01_k».proof.Proof.Ada.Spec
public import proofs.«01_k».proof.Proof.Gen.AdaReferenceIdeal.Read
public import Idealize.ShloMosaic.Lib.Pipeline.ValueKit
public import Idealize.ShloMosaic.Lib.Pointwise

@[expose] public section

set_option maxRecDepth 16384

noncomputable section

namespace Cert.AdaReferenceIdeal.Ref

open Idealize.ShloMosaic Cert.AdaReferenceIdeal Cert.AdaReferenceIdeal.Gen Cert.AdaReferenceIdeal.Read Cert.Ada.Spec
  Idealize.ShloMosaic.Tactic

theorem one_lit : (FloatOps.ofBits .f32 0x3F800000#32 : Ideal .f32) = (1 : EReal) := by
  show Ideal.ofBits .f32 0x3F800000#32 = 1
  simp [Ideal.ofBits, Ideal.ieee]
  rw [← EReal.coe_mul]
  norm_num

variable (p : Vec Ideal S4x1024 .f32) (s : Vec Ideal S128x1024 .f32) (w : Vec Ideal S1x1024x6144 .f32) (b : Vec Ideal S1x6144 .f32)

/-- The conditioning rows. -/
theorem rows_apply (r : Fin 144) (d : Fin 1024) :
    val_main_v1 (F := Ideal) p s (ix2 r d) = rows (fun q d => p (ix2 q d)) (fun q d => s (ix2 q d)) r d := by
  unfold val_main_v1 rows
  pointwise [val_main_v0, val_main_cst]

/-- The conditioning rows under x · σ(x). -/
theorem silu_apply (r : Fin 144) (d : Fin 1024) : val_main_v2 (F := Ideal) p s (ix2 r d) =
    rows (fun q d => p (ix2 q d)) (fun q d => s (ix2 q d)) r d * Ideal.logistic (rows (fun q d => p (ix2 q d)) (fun q d => s (ix2 q d)) r d) := by
  rw [val_main_v2_apply, val_main_call0_v5_apply, val_main_call0_v4_apply, val_main_call0_v3_apply,
    val_main_call0_v2_apply, val_main_call0_v1_apply, val_main_call0_v0_apply, val_main_call0_cst_apply, val_main_call0_cst_0_apply,
    one_lit, rows_apply]
  rfl

/-- Row `r` of the reference's result. -/
theorem ref_apply (r : Fin 144) (e : Fin 6144) : val_main_v8 (F := Ideal) p s w b (ix2 r e) =
    term (rows (fun q d => p (ix2 q d)) (fun q d => s (ix2 q d)) r) (fun d => w (ix3 0 d e)) (b (ix2 0 e)) := by
  have l4 : ∀ k, lidx_main_v4 (ix2 r e) k = ix2 r k := fun k => funext fun a => match a with | ⟨0, _⟩ => rfl | ⟨1, _⟩ => rfl
  have r4 : ∀ k, idx_main_v3 (ridx_main_v4 (ix2 r e) k) = ix3 0 k e :=
    fun k => funext fun a => match a with
      | ⟨0, _⟩ => rfl
      | ⟨1, _⟩ => Fin.ext (by show (k.val * 6144 + e.val) / 6144 % 1024 = k.val; omega)
      | ⟨2, _⟩ => Fin.ext (by show (k.val * 6144 + e.val) % 6144 = e.val; omega)
  have e5 : idx_main_v5 (idx_main_v6 (idx_main_v7 (ix2 r e))) = ix2 0 e :=
    funext fun a => match a with | ⟨0, _⟩ => rfl | ⟨1, _⟩ => Fin.ext (Nat.mod_eq_of_lt e.isLt)
  rw [val_main_v8_apply, val_main_v7_apply, val_main_v6_apply, val_main_v5_apply, e5, val_main_v4_apply]
  simp only [val_main_v3_apply, l4, r4, silu_apply]
  rfl

end Cert.AdaReferenceIdeal.Ref

end
-- ==== Proof.Ada.Claim.lean ====
/-
  The modulation kernel's result is the reference's.
-/
module

public import proofs.«01_k».proof.Proof.Ada.Array
public import proofs.«01_k».proof.Proof.Ada.Ref
public import proofs.«01_k».proof.Defs
public import proofs.«01_k».proof.Proof.Gen.AdaIdeal.Value
public import proofs.«01_k».proof.Proof.Gen.AdaReferenceIdeal.Run

@[expose] public section

set_option maxRecDepth 16384

noncomputable section

namespace Cert.AdaIdeal.Close

open Idealize.ShloMosaic

/-- Every index of the result is a row and a column. -/
theorem idx_form (i : Cert.AdaIdeal.S144x6144.Idx) : ∃ (n : Fin 144) (d : Fin 6144), i = ix2 n d :=
  ⟨i 0, i 1, funext fun a => match a with | ⟨0, _⟩ => rfl | ⟨1, _⟩ => rfl⟩

/-- The kernel's result array is the reference's. -/
theorem arr_eq (m : (ℓ : Loc Cert.AdaIdeal.nD Cert.AdaIdeal.τ Cert.AdaIdeal.sig) → Buf (Elt Ideal) ℓ)
    (c : Dev Cert.AdaIdeal.nD) :
    (Cert.AdaIdeal.Gen.dats m 0 c).arrAt 3 Cert.AdaIdeal.cfg0.N =
      Cert.AdaReferenceIdeal.Read.val_main_v8 (F := Ideal)
        (m ((c.tc : Thread Cert.AdaIdeal.nD Cert.AdaIdeal.τ).loc Cert.AdaIdeal.main_arg0))
        (m ((c.tc : Thread Cert.AdaIdeal.nD Cert.AdaIdeal.τ).loc Cert.AdaIdeal.main_arg1))
        (m ((c.tc : Thread Cert.AdaIdeal.nD Cert.AdaIdeal.τ).loc Cert.AdaIdeal.main_arg2))
        (m ((c.tc : Thread Cert.AdaIdeal.nD Cert.AdaIdeal.τ).loc Cert.AdaIdeal.main_arg3)) := by
  funext i
  obtain ⟨n, d, rfl⟩ := idx_form i
  exact (Cert.AdaIdeal.Arr.arr_apply m c n d).trans (Cert.AdaReferenceIdeal.Ref.ref_apply _ _ _ _ n d).symm

set_option maxHeartbeats 2000000 in
/-- The claim: the same arguments, the same result. -/
theorem algebraic : Cert.algebraic_AdaIdeal_AdaReferenceIdeal := by
  intro m ρ m' ρ' _ hag
  refine ⟨fun c => (Cert.AdaIdeal.Gen.dats m 0 c).arrAt 3 Cert.AdaIdeal.cfg0.N, Cert.AdaIdeal.Value.run_blocks m ρ, ?_⟩
  refine (θ_run _ _ _).mono (fun _ h c => ⟨(h c).1.trans ?_, (h c).2⟩) (Cert.AdaReferenceIdeal.Value.run m' ρ')
  refine (Cert.AdaReferenceIdeal.Read.val_main_v8_eq _ _ _ _).trans ?_
  obtain ⟨h0, h1, h2, h3⟩ := hag c
  rw [h0, h1, h2, h3]
  exact (arr_eq m c).symm

end Cert.AdaIdeal.Close

end
-- ==== Proof.InProj.Spec.lean ====
/-
  The input projection of one row, in plain terms.
-/
module

public import proofs.«01_k».proof.Proof.Ffn.Spec

@[expose] public section

noncomputable section

namespace Cert.InProj.Spec

open Idealize.ShloMosaic

/-- The softplus of one number, in the form that does not overflow. -/
def soft (s : EReal) : EReal := max s 0 + Ideal.log1p (Ideal.exp (0 - (FloatOps.absf (s : Ideal .f32) : Ideal .f32)))

/-- A number of the row `h` projected: column `e` of the weights. -/
def val (h : Fin 1024 → EReal) (w : Fin 1024 → Fin 3088 → EReal) (e : Fin 3088) : EReal := ∑ d, h d * w d e

/-- What lane `l` of the eighth result makes of its number: the logarithm of the sigmoid in the first eight, the
    softplus in the others. -/
def lane (l : ℕ) (s : EReal) : EReal := if l < 8 then 0 - soft (0 - s) else soft s

/-- Lane `l` of the eighth result: the forget gates, the step sizes, and padding. -/
def small (h : Fin 1024 → EReal) (w : Fin 1024 → Fin 3088 → EReal) (bf dt : Fin 8 → EReal) (l : Fin 128) : EReal :=
  if h1 : l.val < 8 then 0 - soft (0 - (val h w ⟨1536 + l.val, by omega⟩ + bf ⟨l.val, h1⟩))
  else if h2 : l.val - 8 < 8 then soft (val h w ⟨3080 + (l.val - 8), by omega⟩ + dt ⟨l.val - 8, h2⟩)
  else soft 0

end Cert.InProj.Spec

end
-- ==== Proof.InProj.Tile.lean ====
/-
  What the input projection leaves in the tiles of its eight results, element by element.
-/
module

public import proofs.«01_k».proof.Proof.InProj.Spec
public import proofs.«01_k».proof.Proof.Gen.InProjIdeal.Value
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Tile

open Cert.InProjIdeal Cert.InProjIdeal.Gen Cert.Ffn.Spec Cert.InProj.Spec Idealize.ShloMosaic Idealize.ShloMosaic.TcCoe Idealize.ShloMosaic.Tactic

theorem zero2 : (![0, 0] : Fin 2 → ℕ) = fun _ => 0 := by funext a; fin_cases a <;> rfl
theorem zero3 : (![0, 0, 0] : Fin 3 → ℕ) = fun _ => 0 := by funext a; fin_cases a <;> rfl

variable (x : Vec Ideal S512x1024 .f32) (sh sc : Vec Ideal S1x1x1024 .f32) (g : Vec Ideal S1x1024 .f32)
  (wb : Vec Ideal S1024x3072 .bf16) (ws : Vec Ideal S1024x128 .bf16) (bs : Vec Ideal S1x128 .f32)

/-- A row of the tile after the norm and the modulation. -/
abbrev hid (r : Fin 512) : Fin 1024 → EReal :=
  modulated (fun k => x (ix2 r k)) (fun k => g (ix2 0 k)) (fun k => sc (ix3 0 0 k)) (fun k => sh (ix3 0 0 k))

/-- The payload that normalizes and modulates the tile, at one element. -/
theorem hid_apply (r : Fin 512) (d : Fin 1024) : k0_pay2 (F := Ideal) x g sc sh (ix2 r d) = hid x sh sc g r d := by
  pointwise [k0_pay2]
  rfl

/-- The scaled queries the tile leaves, at one element. -/
theorem q_apply (r : Fin 512) (e : Fin 512) :
    out0_7 x sh sc g wb ws bs (ix2 r e) =
      (∑ d : Fin 1024, hid x sh sc g r d * wb (ix2 d (⟨e.val, by omega⟩ : Fin 3072))) * Ideal.ofBits .f32 0x3E000000#32 := by
  unfold_out out0_7
  rw [View.canon_unit_zero zero2]
  simp only [View.ld_unit_zero (S := S512x1024) zero2, View.ld_unit_zero (S := S1x1024) zero2, View.ld_unit_zero (S := S1x1x1024) zero3]
  pointwise [k0_pay3, k0_pay2]
  rfl

/-- The keys the tile leaves, at one element. -/
theorem k_apply (r : Fin 512) (e : Fin 512) :
    out0_8 x sh sc g wb ws bs (ix2 r e) =
      ∑ d : Fin 1024, hid x sh sc g r d * wb (ix2 d (⟨512 + e.val, by omega⟩ : Fin 3072)) := by
  unfold_out out0_8
  rw [View.canon_unit_zero zero2]
  simp only [View.ld_unit_zero (S := S512x1024) zero2, View.ld_unit_zero (S := S1x1024) zero2, View.ld_unit_zero (S := S1x1x1024) zero3]
  pointwise [k0_pay5, k0_pay4, hid_apply]

/-- The values the tile leaves, at one element. -/
theorem v_apply (r : Fin 512) (e : Fin 512) :
    out0_9 x sh sc g wb ws bs (ix2 r e) =
      ∑ d : Fin 1024, hid x sh sc g r d * wb (ix2 d (⟨1024 + e.val, by omega⟩ : Fin 3072)) := by
  unfold_out out0_9
  rw [View.canon_unit_zero zero2]
  simp only [View.ld_unit_zero (S := S512x1024) zero2, View.ld_unit_zero (S := S1x1024) zero2, View.ld_unit_zero (S := S1x1x1024) zero3]
  pointwise [k0_pay7, hid_apply]

/-- The narrow copy of the keys the tile leaves, at one element. -/
theorem kb_apply (r : Fin 512) (e : Fin 512) :
    out0_10 x sh sc g wb ws bs (ix2 r e) =
      ∑ d : Fin 1024, hid x sh sc g r d * wb (ix2 d (⟨512 + e.val, by omega⟩ : Fin 3072)) := by
  unfold_out out0_10
  rw [View.canon_unit_zero zero2]
  simp only [View.ld_unit_zero (S := S512x1024) zero2, View.ld_unit_zero (S := S1x1024) zero2, View.ld_unit_zero (S := S1x1x1024) zero3]
  pointwise [k0_pay6, k0_pay5, k0_pay4, hid_apply]

/-- The narrow copy of the values the tile leaves, at one element. -/
theorem vb_apply (r : Fin 512) (e : Fin 512) :
    out0_11 x sh sc g wb ws bs (ix2 r e) =
      ∑ d : Fin 1024, hid x sh sc g r d * wb (ix2 d (⟨1024 + e.val, by omega⟩ : Fin 3072)) := by
  unfold_out out0_11
  rw [View.canon_unit_zero zero2]
  simp only [View.ld_unit_zero (S := S512x1024) zero2, View.ld_unit_zero (S := S1x1024) zero2, View.ld_unit_zero (S := S1x1x1024) zero3]
  pointwise [k0_pay8, k0_pay7, hid_apply]

/-- The gates the tile leaves, at one element. -/
theorem z_apply (r : Fin 512) (e : Fin 512) :
    out0_12 x sh sc g wb ws bs (ix2 r e) =
      ∑ d : Fin 1024, hid x sh sc g r d * wb (ix2 d (⟨1536 + e.val, by omega⟩ : Fin 3072)) := by
  unfold_out out0_12
  rw [View.canon_unit_zero zero2]
  simp only [View.ld_unit_zero (S := S512x1024) zero2, View.ld_unit_zero (S := S1x1024) zero2, View.ld_unit_zero (S := S1x1x1024) zero3]
  pointwise [k0_pay9, hid_apply]

/-- The inputs of the convolution the tile leaves, at one element. -/
theorem xbc_apply (r : Fin 512) (e : Fin 1024) :
    out0_13 x sh sc g wb ws bs (ix2 r e) =
      ∑ d : Fin 1024, hid x sh sc g r d * wb (ix2 d (⟨2048 + e.val, by omega⟩ : Fin 3072)) := by
  unfold_out out0_13
  rw [View.canon_unit_zero zero2]
  simp only [View.ld_unit_zero (S := S512x1024) zero2, View.ld_unit_zero (S := S1x1024) zero2, View.ld_unit_zero (S := S1x1x1024) zero3]
  pointwise [k0_pay10, hid_apply]

/-- The lanes of the eighth result the tile leaves, at one element. -/
theorem small_apply (r : Fin 512) (e : Fin 128) :
    out0_14 x sh sc g wb ws bs (ix2 r e) =
      lane e.val (∑ d : Fin 1024, hid x sh sc g r d * ws (ix2 d e) + bs (ix2 0 e)) := by
  unfold_out out0_14
  rw [View.canon_unit_zero zero2]
  simp only [View.ld_unit_zero (S := S512x1024) zero2, View.ld_unit_zero (S := S1x1024) zero2, View.ld_unit_zero (S := S1x1x1024) zero3,
    View.ld_unit_zero (S := S1024x128) zero2, View.ld_unit_zero (S := S1x128) zero2]
  pointwise [k0_pay1, k0_pay11, k0_pay12, hid_apply]
  have hc : IntOp.cmpi .slt (BitVec.ofNat 32 e.val) 8#32 = BitVec.ofBool (decide (e.val < 8)) :=
    WordCmp.cmpi_slt_ofNat (by omega) (by norm_num)
  rw [hc, WordCmp.select_ofBool]
  simp only [decide_eq_true_eq]
  rfl

end Cert.InProjIdeal.Tile

end
-- ==== Proof.InProj.Array.lean ====
/-
  The input projection kernel's eight result arrays, element by element, in terms of the arguments.
-/
module

public import proofs.«01_k».proof.Proof.InProj.Tile
public import Idealize.ShloMosaic.Lib.Claim
public import Idealize.ShloMosaic.Lib.StableHlo.ReadAt

@[expose] public section

set_option maxRecDepth 16384

noncomputable section

namespace Cert.InProjIdeal.Arr

open Idealize.ShloMosaic Idealize.ShloMosaic.TcCoe Cert.InProjIdeal Cert.InProjIdeal.Gen Cert.Ffn.Spec Cert.InProj.Spec

/-- The grid point of row tile `u`. -/
def pt (u : Fin 32) : Fin cfg0.N := ⟨u.val, by have : cfg0.N = 32 := N_0; omega⟩

theorem index0 : ∀ u : Fin 32, win0_0.index (pt u) = ![u.val, 0] := by decide +kernel
theorem index1 : ∀ u : Fin 32, win0_1.index (pt u) = ![u.val / 8, 0, 0] := by decide +kernel
theorem index2 : ∀ u : Fin 32, win0_2.index (pt u) = ![u.val / 8, 0, 0] := by decide +kernel
theorem index3 : ∀ u : Fin 32, win0_3.index (pt u) = ![0, 0] := by decide +kernel
theorem index4 : ∀ u : Fin 32, win0_4.index (pt u) = ![0, 0] := by decide +kernel
theorem index5 : ∀ u : Fin 32, win0_5.index (pt u) = ![0, 0] := by decide +kernel
theorem index6 : ∀ u : Fin 32, win0_6.index (pt u) = ![0, 0] := by decide +kernel
theorem index7 : ∀ u : Fin 32, win0_7.index (pt u) = ![u.val, 0] := by decide +kernel
theorem index8 : ∀ u : Fin 32, win0_8.index (pt u) = ![u.val, 0] := by decide +kernel
theorem index9 : ∀ u : Fin 32, win0_9.index (pt u) = ![u.val, 0] := by decide +kernel
theorem index10 : ∀ u : Fin 32, win0_10.index (pt u) = ![u.val, 0] := by decide +kernel
theorem index11 : ∀ u : Fin 32, win0_11.index (pt u) = ![u.val, 0] := by decide +kernel
theorem index12 : ∀ u : Fin 32, win0_12.index (pt u) = ![u.val, 0] := by decide +kernel
theorem index13 : ∀ u : Fin 32, win0_13.index (pt u) = ![u.val, 0] := by decide +kernel
theorem index14 : ∀ u : Fin 32, win0_14.index (pt u) = ![u.val, 0] := by decide +kernel

variable (m : (ℓ : Loc nD τ sig) → Buf (Elt Ideal) ℓ) (c : Dev nD)

/-- The rows. -/
abbrev ax : Vec Ideal S4x4096x1024 .f32 := m ((c : Thread nD τ).loc main_arg0)
/-- The shifts. -/
abbrev ash : Vec Ideal S4x1x1024 .f32 := m ((c : Thread nD τ).loc main_arg1)
/-- The scales. -/
abbrev asc : Vec Ideal S4x1x1024 .f32 := m ((c : Thread nD τ).loc main_arg2)
/-- The gains. -/
abbrev ag : Vec Ideal S1x1024 .f32 := m ((c : Thread nD τ).loc main_arg3)
/-- The weights. -/
abbrev aw : Vec Ideal S1x1024x3088 .f32 := m ((c : Thread nD τ).loc main_arg4)
/-- The forget gates' biases. -/
abbrev abf : Vec Ideal S1x8 .f32 := m ((c : Thread nD τ).loc main_arg5)
/-- The step sizes' biases. -/
abbrev adt : Vec Ideal S1x8 .f32 := m ((c : Thread nD τ).loc main_arg6)

/-- The tile of row `n`. -/
abbrev tile (n : Fin 16384) : Fin 32 := ⟨n.val / 512, by omega⟩
/-- Row `n` in its tile. -/
abbrev inner (n : Fin 16384) : Fin 512 := ⟨n.val % 512, by omega⟩

theorem x_apply (n : Fin 16384) (d : Fin 1024) :
    (V m c main_v15 : Vec Ideal S16384x1024 .f32) (ix2 n d) =
      ax m c (ix3 (⟨n.val / 4096, by omega⟩ : Fin 4) (⟨n.val % 4096, by omega⟩ : Fin 4096) d) := by
  entry_read
  refine shapeCast_apply _ _ _ _ ?_
  show (S4x4096x1024.rowMajor (ix3 (⟨n.val / 4096, by omega⟩ : Fin 4) (⟨n.val % 4096, by omega⟩ : Fin 4096) d)).val =
    (S16384x1024.rowMajor (ix2 n d)).val
  rw [Shape.rowMajor_val_three, Shape.rowMajor_val_two]
  show (n.val / 4096 * 4096 + n.val % 4096) * 1024 + d.val = n.val * 1024 + d.val
  omega

/-- The wide weights are the projection's but for the columns of the gates and the step sizes. -/
theorem wb_apply (d : Fin 1024) (k : Fin 3072) :
    (V m c main_v4 : Vec Ideal S1024x3072 .bf16) (ix2 d k) =
      if h : k.val < 1536 then aw m c (ix3 0 d ⟨k.val, by omega⟩) else aw m c (ix3 0 d ⟨k.val + 8, by omega⟩) := by
  unfold V
  after_reads_at
  split
  · after_reads_at
  · after_reads_at
    exact congrArg (fun k => aw m c (ix3 0 d k)) (Fin.ext (by show 1544 + (k.val - 1536) = k.val + 8; omega))

/-- The narrow weights are those columns, and zeros. -/
theorem ws_apply (d : Fin 1024) (k : Fin 128) :
    (V m c main_v9 : Vec Ideal S1024x128 .bf16) (ix2 d k) =
      if h : k.val < 8 then aw m c (ix3 0 d ⟨1536 + k.val, by omega⟩)
      else if h' : k.val - 8 < 8 then aw m c (ix3 0 d ⟨3080 + (k.val - 8), by omega⟩) else (0 : EReal) := by
  unfold V
  after_reads_at
  split
  · after_reads_at
  · split
    · after_reads_at
    · after_reads_at

/-- The biases are the gates', the step sizes', and zeros. -/
theorem bs_apply (k : Fin 128) :
    (V m c main_v14 : Vec Ideal S1x128 .f32) (ix2 0 k) =
      if h : k.val < 8 then abf m c (ix2 0 ⟨k.val, h⟩)
      else if h' : k.val - 8 < 8 then adt m c (ix2 0 ⟨k.val - 8, h'⟩) else (0 : EReal) := by
  unfold V
  after_reads_at
  split
  · after_reads_at
  · split
    · after_reads_at
    · after_reads_at

theorem blk0 (n : Fin 16384) (d : Fin 1024) :
    (iblk m c 0 (pt (tile n)) : Vec Ideal S512x1024 .f32) (ix2 (inner n) d) =
      ax m c (ix3 (⟨n.val / 4096, by omega⟩ : Fin 4) (⟨n.val % 4096, by omega⟩ : Fin 4096) d) := by
  refine Eq.trans ?_ (x_apply m c n d)
  have e : n = (⟨512 * (tile n).val + (inner n).val, by omega⟩ : Fin 16384) := Fin.ext (by show n.val = 512 * (n.val / 512) + n.val % 512; omega)
  conv_rhs => rw [e]
  blk_ext [iblk, V, index0 (tile n)]

theorem blk1 (n : Fin 16384) (d : Fin 1024) :
    (iblk m c 1 (pt (tile n)) : Vec Ideal S1x1x1024 .f32) (ix3 0 0 d) = ash m c (ix3 (⟨n.val / 4096, by omega⟩ : Fin 4) 0 d) := by
  have e : (⟨n.val / 4096, by omega⟩ : Fin 4) = ⟨(tile n).val / 8, by omega⟩ := Fin.ext (by show n.val / 4096 = n.val / 512 / 8; omega)
  rw [e, ash, ← V_main_arg1 m c]
  blk_ext [iblk, V, index1 (tile n)]

theorem blk2 (n : Fin 16384) (d : Fin 1024) :
    (iblk m c 2 (pt (tile n)) : Vec Ideal S1x1x1024 .f32) (ix3 0 0 d) = asc m c (ix3 (⟨n.val / 4096, by omega⟩ : Fin 4) 0 d) := by
  have e : (⟨n.val / 4096, by omega⟩ : Fin 4) = ⟨(tile n).val / 8, by omega⟩ := Fin.ext (by show n.val / 4096 = n.val / 512 / 8; omega)
  rw [e, asc, ← V_main_arg2 m c]
  blk_ext [iblk, V, index2 (tile n)]

theorem blk3 (u : Fin 32) (d : Fin 1024) :
    (iblk m c 3 (pt u) : Vec Ideal S1x1024 .f32) (ix2 0 d) = ag m c (ix2 0 d) := by
  rw [ag, ← V_main_arg3 m c]
  blk_ext [iblk, V, index3 u]

theorem blk4 (u : Fin 32) (d : Fin 1024) (k : Fin 3072) :
    (iblk m c 4 (pt u) : Vec Ideal S1024x3072 .bf16) (ix2 d k) = (V m c main_v4 : Vec Ideal S1024x3072 .bf16) (ix2 d k) := by
  blk_ext [iblk, V, index4 u]

theorem blk5 (u : Fin 32) (d : Fin 1024) (k : Fin 128) :
    (iblk m c 5 (pt u) : Vec Ideal S1024x128 .bf16) (ix2 d k) = (V m c main_v9 : Vec Ideal S1024x128 .bf16) (ix2 d k) := by
  blk_ext [iblk, V, index5 u]

theorem blk6 (u : Fin 32) (k : Fin 128) :
    (iblk m c 6 (pt u) : Vec Ideal S1x128 .f32) (ix2 0 k) = (V m c main_v14 : Vec Ideal S1x128 .f32) (ix2 0 k) := by
  blk_ext [iblk, V, index6 u]

/-- Row `n` after the norm and the modulation. -/
abbrev hidden (n : Fin 16384) : Fin 1024 → EReal :=
  modulated (fun k => ax m c (ix3 (⟨n.val / 4096, by omega⟩ : Fin 4) (⟨n.val % 4096, by omega⟩ : Fin 4096) k)) (fun k => ag m c (ix2 0 k))
    (fun k => asc m c (ix3 (⟨n.val / 4096, by omega⟩ : Fin 4) 0 k)) (fun k => ash m c (ix3 (⟨n.val / 4096, by omega⟩ : Fin 4) 0 k))

theorem hid_at (n : Fin 16384) :
    Tile.hid (iblk m c 0 (pt (tile n))) (iblk m c 1 (pt (tile n))) (iblk m c 2 (pt (tile n))) (iblk m c 3 (pt (tile n))) (inner n) =
      hidden m c n := by
  unfold Tile.hid hidden
  simp only [blk0, blk1, blk2, blk3]

/-- Row `n` projected. -/
abbrev proj (n : Fin 16384) : Fin 3088 → EReal := val (hidden m c n) (fun d e => aw m c (ix3 0 d e))

/-- A column of the wide product before the gates' columns. -/
theorem low (n : Fin 16384) (k : Fin 3072) (h : k.val < 1536) :
    (∑ d : Fin 1024, Tile.hid (iblk m c 0 (pt (tile n))) (iblk m c 1 (pt (tile n))) (iblk m c 2 (pt (tile n))) (iblk m c 3 (pt (tile n)))
        (inner n) d * (iblk m c 4 (pt (tile n)) : Vec Ideal S1024x3072 .bf16) (ix2 d k)) = proj m c n ⟨k.val, by omega⟩ :=
  Finset.sum_congr rfl fun d _ => by rw [hid_at, blk4, wb_apply, dif_pos h]

/-- A column of the wide product after the gates' columns. -/
theorem high (n : Fin 16384) (k : Fin 3072) (h : ¬k.val < 1536) (k' : Fin 3088) (e : k'.val = k.val + 8) :
    (∑ d : Fin 1024, Tile.hid (iblk m c 0 (pt (tile n))) (iblk m c 1 (pt (tile n))) (iblk m c 2 (pt (tile n))) (iblk m c 3 (pt (tile n)))
        (inner n) d * (iblk m c 4 (pt (tile n)) : Vec Ideal S1024x3072 .bf16) (ix2 d k)) = proj m c n k' := by
  have e' : k' = ⟨k.val + 8, by omega⟩ := Fin.ext e
  rw [e']
  exact Finset.sum_congr rfl fun d _ => by rw [hid_at, blk4, wb_apply, dif_neg h]

/-- The lane of the gates, the step sizes and the padding. -/
theorem lanes (n : Fin 16384) (l : Fin 128) :
    lane l.val ((∑ d : Fin 1024, Tile.hid (iblk m c 0 (pt (tile n))) (iblk m c 1 (pt (tile n))) (iblk m c 2 (pt (tile n))) (iblk m c 3 (pt (tile n)))
        (inner n) d * (iblk m c 5 (pt (tile n)) : Vec Ideal S1024x128 .bf16) (ix2 d l)) +
        (iblk m c 6 (pt (tile n)) : Vec Ideal S1x128 .f32) (ix2 0 l)) =
      small (hidden m c n) (fun d e => aw m c (ix3 0 d e)) (fun l => abf m c (ix2 0 l)) (fun l => adt m c (ix2 0 l)) l := by
  simp only [hid_at, blk5, blk6]
  unfold lane small val
  rw [bs_apply]
  by_cases h1 : l.val < 8
  · rw [dif_pos h1, dif_pos h1, if_pos h1]
    exact congrArg (fun s => 0 - soft (0 - (s + abf m c (ix2 0 ⟨l.val, h1⟩))))
      (Finset.sum_congr rfl fun d _ => by rw [ws_apply, dif_pos h1])
  · by_cases h2 : l.val - 8 < 8
    · rw [dif_neg h1, dif_pos h2, dif_neg h1, dif_pos h2, if_neg h1]
      exact congrArg (fun s => soft (s + adt m c (ix2 0 ⟨l.val - 8, h2⟩)))
        (Finset.sum_congr rfl fun d _ => by rw [ws_apply, dif_neg h1, dif_pos h2])
    · rw [dif_neg h1, dif_neg h2, dif_neg h1, dif_neg h2, if_neg h1, add_zero]
      refine congrArg soft (Finset.sum_eq_zero fun d _ => ?_)
      rw [ws_apply, dif_neg h1, dif_neg h2, mul_zero]

theorem written7 (t : Fin cfg0.N) (r : Fin 512) (e : Fin 512) : (dats m 0 c).flushed 7 t (ix2 r e) =
    out0_7 (iblk m c 0 t) (iblk m c 1 t) (iblk m c 2 t) (iblk m c 3 t) (iblk m c 4 t) (iblk m c 5 t) (iblk m c 6 t) (ix2 r e) := by
  rw [Value.flushed7]
  rfl

theorem emb7 (n : Fin 16384) (e : Fin 512) :
    ((cfg0.win 7).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index7 (tile n)]

/-- The array of the queries. -/
theorem q_apply (n : Fin 16384) (e : Fin 512) :
    (dats m 0 c).arrAt 7 cfg0.N (ix2 n e : S16384x512.Idx) =
      proj m c n ⟨e.val, by omega⟩ * Ideal.ofBits .f32 0x3E000000#32 := by
  have key := (dats m 0 c).arrAt_emb_eq_flushed 7 Value.disjoint7 (pt (tile n)) (flush0_7 _) (ix2 (inner n) e)
  rw [emb7] at key
  refine (key.trans (written7 m c (pt (tile n)) (inner n) e)).trans ?_
  rw [Tile.q_apply]
  exact congrArg (· * _) (low m c n ⟨e.val, by omega⟩ (by show e.val < 1536; omega))

theorem written8 (t : Fin cfg0.N) (r : Fin 512) (e : Fin 512) : (dats m 0 c).flushed 8 t (ix2 r e) =
    out0_8 (iblk m c 0 t) (iblk m c 1 t) (iblk m c 2 t) (iblk m c 3 t) (iblk m c 4 t) (iblk m c 5 t) (iblk m c 6 t) (ix2 r e) := by
  rw [Value.flushed8]
  rfl

theorem emb8 (n : Fin 16384) (e : Fin 512) :
    ((cfg0.win 8).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index8 (tile n)]

/-- The array of the keys. -/
theorem k_apply (n : Fin 16384) (e : Fin 512) :
    (dats m 0 c).arrAt 8 cfg0.N (ix2 n e : S16384x512.Idx) =
      proj m c n ⟨512 + e.val, by omega⟩ := by
  have key := (dats m 0 c).arrAt_emb_eq_flushed 8 Value.disjoint8 (pt (tile n)) (flush0_8 _) (ix2 (inner n) e)
  rw [emb8] at key
  refine (key.trans (written8 m c (pt (tile n)) (inner n) e)).trans ?_
  rw [Tile.k_apply]
  exact low m c n ⟨512 + e.val, by omega⟩ (by show 512 + e.val < 1536; omega)

theorem written9 (t : Fin cfg0.N) (r : Fin 512) (e : Fin 512) : (dats m 0 c).flushed 9 t (ix2 r e) =
    out0_9 (iblk m c 0 t) (iblk m c 1 t) (iblk m c 2 t) (iblk m c 3 t) (iblk m c 4 t) (iblk m c 5 t) (iblk m c 6 t) (ix2 r e) := by
  rw [Value.flushed9]
  rfl

theorem emb9 (n : Fin 16384) (e : Fin 512) :
    ((cfg0.win 9).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index9 (tile n)]

/-- The array of the values. -/
theorem v_apply (n : Fin 16384) (e : Fin 512) :
    (dats m 0 c).arrAt 9 cfg0.N (ix2 n e : S16384x512.Idx) =
      proj m c n ⟨1024 + e.val, by omega⟩ := by
  have key := (dats m 0 c).arrAt_emb_eq_flushed 9 Value.disjoint9 (pt (tile n)) (flush0_9 _) (ix2 (inner n) e)
  rw [emb9] at key
  refine (key.trans (written9 m c (pt (tile n)) (inner n) e)).trans ?_
  rw [Tile.v_apply]
  exact low m c n ⟨1024 + e.val, by omega⟩ (by show 1024 + e.val < 1536; omega)

theorem written10 (t : Fin cfg0.N) (r : Fin 512) (e : Fin 512) : (dats m 0 c).flushed 10 t (ix2 r e) =
    out0_10 (iblk m c 0 t) (iblk m c 1 t) (iblk m c 2 t) (iblk m c 3 t) (iblk m c 4 t) (iblk m c 5 t) (iblk m c 6 t) (ix2 r e) := by
  rw [Value.flushed10]
  rfl

theorem emb10 (n : Fin 16384) (e : Fin 512) :
    ((cfg0.win 10).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index10 (tile n)]

/-- The array of the narrow keys. -/
theorem kb_apply (n : Fin 16384) (e : Fin 512) :
    (dats m 0 c).arrAt 10 cfg0.N (ix2 n e : S16384x512.Idx) =
      proj m c n ⟨512 + e.val, by omega⟩ := by
  have key := (dats m 0 c).arrAt_emb_eq_flushed 10 Value.disjoint10 (pt (tile n)) (flush0_10 _) (ix2 (inner n) e)
  rw [emb10] at key
  refine (key.trans (written10 m c (pt (tile n)) (inner n) e)).trans ?_
  rw [Tile.kb_apply]
  exact low m c n ⟨512 + e.val, by omega⟩ (by show 512 + e.val < 1536; omega)

theorem written11 (t : Fin cfg0.N) (r : Fin 512) (e : Fin 512) : (dats m 0 c).flushed 11 t (ix2 r e) =
    out0_11 (iblk m c 0 t) (iblk m c 1 t) (iblk m c 2 t) (iblk m c 3 t) (iblk m c 4 t) (iblk m c 5 t) (iblk m c 6 t) (ix2 r e) := by
  rw [Value.flushed11]
  rfl

theorem emb11 (n : Fin 16384) (e : Fin 512) :
    ((cfg0.win 11).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index11 (tile n)]

/-- The array of the narrow values. -/
theorem vb_apply (n : Fin 16384) (e : Fin 512) :
    (dats m 0 c).arrAt 11 cfg0.N (ix2 n e : S16384x512.Idx) =
      proj m c n ⟨1024 + e.val, by omega⟩ := by
  have key := (dats m 0 c).arrAt_emb_eq_flushed 11 Value.disjoint11 (pt (tile n)) (flush0_11 _) (ix2 (inner n) e)
  rw [emb11] at key
  refine (key.trans (written11 m c (pt (tile n)) (inner n) e)).trans ?_
  rw [Tile.vb_apply]
  exact low m c n ⟨1024 + e.val, by omega⟩ (by show 1024 + e.val < 1536; omega)

theorem written12 (t : Fin cfg0.N) (r : Fin 512) (e : Fin 512) : (dats m 0 c).flushed 12 t (ix2 r e) =
    out0_12 (iblk m c 0 t) (iblk m c 1 t) (iblk m c 2 t) (iblk m c 3 t) (iblk m c 4 t) (iblk m c 5 t) (iblk m c 6 t) (ix2 r e) := by
  rw [Value.flushed12]
  rfl

theorem emb12 (n : Fin 16384) (e : Fin 512) :
    ((cfg0.win 12).blk (pt (tile n))).view.emb (ix2 (inner n) e) = (ix2 n e : S16384x512.Idx) := by
  have h : n = (⟨512 * (tile n).val + (inner n).val, by omega⟩ : Fin 16384) := Fin.ext (by show n.val = 512 * (n.val / 512) + n.val % 512; omega)
  conv_rhs => rw [h]
  blk_ext [index12 (tile n)]

/-- The array of the gates of the mixer. -/
theorem z_apply (n : Fin 16384) (e : Fin 512) :
    (dats m 0 c).arrAt 12 cfg0.N (ix2 n e : S16384x512.Idx) =
      proj m c n ⟨1544 + e.val, by omega⟩ := by
  have key := (dats m 0 c).arrAt_emb_eq_flushed 12 Value.disjoint12 (pt (tile n)) (flush0_12 _) (ix2 (inner n) e)
  rw [emb12] at key
  refine (key.trans (written12 m c (pt (tile n)) (inner n) e)).trans ?_
  rw [Tile.z_apply]
  exact high m c n ⟨1536 + e.val, by omega⟩ (by show ¬1536 + e.val < 1536; omega) _ (by show 1544 + e.val = 1536 + e.val + 8; omega)

theorem written13 (t : Fin cfg0.N) (r : Fin 512) (e : Fin 1024) : (dats m 0 c).flushed 13 t (ix2 r e) =
    out0_13 (iblk m c 0 t) (iblk m c 1 t) (iblk m c 2 t) (iblk m c 3 t) (iblk m c 4 t) (iblk m c 5 t) (iblk m c 6 t) (ix2 r e) := by
  rw [Value.flushed13]
  rfl

theorem emb13 (n : Fin 16384) (e : Fin 1024) :
    ((cfg0.win 13).blk (pt (tile n))).view.emb (ix2 (inner n) e) = (ix2 n e : S16384x1024.Idx) := by
  have h : n = (⟨512 * (tile n).val + (inner n).val, by omega⟩ : Fin 16384) := Fin.ext (by show n.val = 512 * (n.val / 512) + n.val % 512; omega)
  conv_rhs => rw [h]
  blk_ext [index13 (tile n)]

/-- The array of the convolution's inputs. -/
theorem xbc_apply (n : Fin 16384) (e : Fin 1024) :
    (dats m 0 c).arrAt 13 cfg0.N (ix2 n e : S16384x1024.Idx) =
      proj m c n ⟨2056 + e.val, by omega⟩ := by
  have key := (dats m 0 c).arrAt_emb_eq_flushed 13 Value.disjoint13 (pt (tile n)) (flush0_13 _) (ix2 (inner n) e)
  rw [emb13] at key
  refine (key.trans (written13 m c (pt (tile n)) (inner n) e)).trans ?_
  rw [Tile.xbc_apply]
  exact high m c n ⟨2048 + e.val, by omega⟩ (by show ¬2048 + e.val < 1536; omega) _ (by show 2056 + e.val = 2048 + e.val + 8; omega)

theorem written14 (t : Fin cfg0.N) (r : Fin 512) (e : Fin 128) : (dats m 0 c).flushed 14 t (ix2 r e) =
    out0_14 (iblk m c 0 t) (iblk m c 1 t) (iblk m c 2 t) (iblk m c 3 t) (iblk m c 4 t) (iblk m c 5 t) (iblk m c 6 t) (ix2 r e) := by
  rw [Value.flushed14]
  rfl

theorem emb14 (n : Fin 16384) (e : Fin 128) :
    ((cfg0.win 14).blk (pt (tile n))).view.emb (ix2 (inner n) e) = (ix2 n e : S16384x128.Idx) := by
  have h : n = (⟨512 * (tile n).val + (inner n).val, by omega⟩ : Fin 16384) := Fin.ext (by show n.val = 512 * (n.val / 512) + n.val % 512; omega)
  conv_rhs => rw [h]
  blk_ext [index14 (tile n)]

/-- The array of the lanes of the gates and the step sizes. -/
theorem small_apply (n : Fin 16384) (e : Fin 128) :
    (dats m 0 c).arrAt 14 cfg0.N (ix2 n e : S16384x128.Idx) =
      small (hidden m c n) (fun d e => aw m c (ix3 0 d e)) (fun l => abf m c (ix2 0 l)) (fun l => adt m c (ix2 0 l)) e := by
  have key := (dats m 0 c).arrAt_emb_eq_flushed 14 Value.disjoint14 (pt (tile n)) (flush0_14 _) (ix2 (inner n) e)
  rw [emb14] at key
  refine (key.trans (written14 m c (pt (tile n)) (inner n) e)).trans ?_
  rw [Tile.small_apply]
  exact lanes m c n e

end Cert.InProjIdeal.Arr

end
-- ==== Proof.InProj.Ref.lean ====
/-
  The input projection's reference, element by element.
-/
module

public import proofs.«01_k».proof.Proof.InProj.Spec
public import proofs.«01_k».proof.Proof.Gen.InProjReferenceIdeal.Read
public import Idealize.ShloMosaic.Lib.Pipeline.ValueKit
public import Idealize.ShloMosaic.Lib.Pointwise
public import Idealize.ShloMosaic.Lib.WordCmp

@[expose] public section

set_option maxRecDepth 16384

noncomputable section

namespace Cert.InProjReferenceIdeal.Ref

open Idealize.ShloMosaic Cert.InProjReferenceIdeal Cert.InProjReferenceIdeal.Gen Cert.InProjReferenceIdeal.Read Cert.Ffn.Spec
  Cert.InProj.Spec Idealize.ShloMosaic.Tactic

theorem zero_lit : (FloatOps.ofBits .f32 0x00000000#32 : Ideal .f32) = (0 : EReal) := by
  show Ideal.ofBits .f32 0x00000000#32 = 0
  simp [Ideal.ofBits, Ideal.ieee]

theorem one_lit : (FloatOps.ofBits .f32 0x3F800000#32 : Ideal .f32) = (1 : EReal) := by
  show Ideal.ofBits .f32 0x3F800000#32 = 1
  simp [Ideal.ofBits, Ideal.ieee]
  rw [← EReal.coe_mul]
  norm_num

/-- The library's softplus, which tests for a number that differs from itself, is the plain one. -/
theorem soft_ref (s : Ideal .f32) :
    (Scalar.select (FloatOps.cmpf .une (FloatOps.subf s (0 : EReal)) (FloatOps.subf s (0 : EReal))) (FloatOps.addf s (0 : EReal))
      (FloatOps.addf (FloatOps.maximumf s (0 : EReal)) (FloatOps.hostUnary .log1p (FloatOps.hostUnary .exp
        (FloatOps.hostNegf (FloatOps.hostAbsf (FloatOps.subf s (0 : EReal))))))) : Ideal .f32) = soft s := by
  have e0 : (FloatOps.subf s (0 : EReal) : Ideal .f32) = s := sub_zero (s : EReal)
  have e1 : (FloatOps.cmpf .une s s : BitVec 1) = BitVec.ofBool false := by
    show BitVec.ofBool (decide _) = _
    simp
  rw [e0, e1, WordCmp.select_ofBool]
  unfold soft
  rw [zero_sub]
  rfl

variable (x : Vec Ideal S4x4096x1024 .f32) (sh sc : Vec Ideal S4x1x1024 .f32) (g : Vec Ideal S1x1024 .f32)
  (w : Vec Ideal S1x1024x3088 .f32) (bf dt : Vec Ideal S1x8 .f32)

/-- Row `n` after the norm and the modulation. -/
abbrev hidden (n : Fin 16384) : Fin 1024 → EReal :=
  modulated (fun k => x (ix3 (⟨n.val / 4096, by omega⟩ : Fin 4) (⟨n.val % 4096, by omega⟩ : Fin 4096) k)) (fun k => g (ix2 0 k))
    (fun k => sc (ix3 (⟨n.val / 4096, by omega⟩ : Fin 4) 0 k)) (fun k => sh (ix3 (⟨n.val / 4096, by omega⟩ : Fin 4) 0 k))

theorem h_apply (n : Fin 16384) (d : Fin 1024) :
    val_main_v19 (F := Ideal) x sh sc g (ix3 (⟨n.val / 4096, by omega⟩ : Fin 4) (⟨n.val % 4096, by omega⟩ : Fin 4096) d) =
      hidden x sh sc g n d := by
  unfold hidden
  generalize (⟨n.val / 4096, by omega⟩ : Fin 4) = b
  generalize (⟨n.val % 4096, by omega⟩ : Fin 4096) = p
  have e2 : ∀ k, idx_main_v2 (idx_main_v3 (idx_main_v9 (ix3 b p d))) k = ix3 b p k :=
    fun k => funext fun a => match a with | ⟨0, _⟩ => rfl | ⟨1, _⟩ => rfl | ⟨2, _⟩ => rfl
  have e0 : idx_main_v0 (idx_main_v11 (idx_main_v12 (ix3 b p d))) = ix2 0 d :=
    funext fun a => match a with | ⟨0, _⟩ => rfl | ⟨1, _⟩ => Fin.ext (Nat.mod_eq_of_lt d.isLt)
  have e16 : idx_main_v16 (ix3 b p d) = ix3 b 0 d :=
    funext fun a => match a with | ⟨0, _⟩ => rfl | ⟨1, _⟩ => rfl | ⟨2, _⟩ => rfl
  have e18 : idx_main_v18 (ix3 b p d) = ix3 b 0 d :=
    funext fun a => match a with | ⟨0, _⟩ => rfl | ⟨1, _⟩ => rfl | ⟨2, _⟩ => rfl
  rw [val_main_v19_apply, val_main_v17_apply, val_main_v13_apply, val_main_v10_apply, val_main_v9_apply, val_main_v8_apply,
    val_main_v7_apply, val_main_v5_apply, val_main_v3_apply, val_main_v2_apply, val_main_v4_apply, val_main_v6_apply,
    val_main_v12_apply, val_main_v11_apply, val_main_v0_apply, val_main_v16_apply, val_main_v15_apply, val_main_v14_apply,
    val_main_v18_apply, val_main_cst_apply, val_main_cst_0_apply, val_main_cst_1_apply, val_main_cst_2_apply, zero_lit, one_lit,
    e0, e16, e18]
  simp only [val_main_v1_apply, e2]
  rw [zero_add]
  rfl

/-- Row `n` projected. -/
abbrev proj (n : Fin 16384) : Fin 3088 → EReal := val (hidden x sh sc g n) (fun d e => w (ix3 0 d e))

theorem proj_apply (n : Fin 16384) (e : Fin 3088) : val_main_v22 (F := Ideal) x sh sc g w (ix2 n e) = proj x sh sc g w n e := by
  have e22 : idx_main_v22 (ix2 n e) = ix3 (⟨n.val / 4096, by omega⟩ : Fin 4) (⟨n.val % 4096, by omega⟩ : Fin 4096) e :=
    funext fun a => match a with
      | ⟨0, _⟩ => Fin.ext (by show (n.val * 3088 + e.val) / 12648448 = n.val / 4096; omega)
      | ⟨1, _⟩ => Fin.ext (by show (n.val * 3088 + e.val) / 3088 % 4096 = n.val % 4096; omega)
      | ⟨2, _⟩ => Fin.ext (by show (n.val * 3088 + e.val) % 3088 = e.val; omega)
  rw [val_main_v22_apply, e22, val_main_v21_apply]
  refine Finset.sum_congr rfl fun d _ => ?_
  have l21 : lidx_main_v21 (ix3 (⟨n.val / 4096, by omega⟩ : Fin 4) (⟨n.val % 4096, by omega⟩ : Fin 4096) e) d =
      ix3 (⟨n.val / 4096, by omega⟩ : Fin 4) (⟨n.val % 4096, by omega⟩ : Fin 4096) d :=
    funext fun a => match a with | ⟨0, _⟩ => rfl | ⟨1, _⟩ => rfl | ⟨2, _⟩ => rfl
  have r21 : idx_main_v20 (ridx_main_v21 (ix3 (⟨n.val / 4096, by omega⟩ : Fin 4) (⟨n.val % 4096, by omega⟩ : Fin 4096) e) d) = ix3 0 d e :=
    funext fun a => match a with
      | ⟨0, _⟩ => rfl
      | ⟨1, _⟩ => Fin.ext (by show (d.val * 3088 + e.val) / 3088 % 1024 = d.val; omega)
      | ⟨2, _⟩ => Fin.ext (by show (d.val * 3088 + e.val) % 3088 = e.val; omega)
  rw [l21, h_apply, val_main_v20_apply, r21]

theorem q_apply (n : Fin 16384) (e : Fin 512) : val_main_v44 (F := Ideal) x sh sc g w (ix2 n e) =
    proj x sh sc g w n ⟨e.val, by omega⟩ * Ideal.ofBits .f32 0x3E000000#32 := by
  rw [val_main_v44_apply, val_main_v43_apply, val_main_v23_apply, val_main_v42_apply, val_main_cst_4_apply, ← proj_apply]
  exact congrArg (fun i => val_main_v22 (F := Ideal) x sh sc g w i * Ideal.ofBits .f32 0x3E000000#32)
    (funext fun a => match a with | ⟨0, _⟩ => rfl | ⟨1, _⟩ => rfl)

theorem k_apply (n : Fin 16384) (e : Fin 512) : val_main_v24 (F := Ideal) x sh sc g w (ix2 n e) =
    proj x sh sc g w n ⟨512 + e.val, by omega⟩ := by
  rw [val_main_v24_apply, ← proj_apply]
  exact congrArg _ (funext fun a => match a with | ⟨0, _⟩ => rfl | ⟨1, _⟩ => rfl)

theorem v_apply (n : Fin 16384) (e : Fin 512) : val_main_v25 (F := Ideal) x sh sc g w (ix2 n e) =
    proj x sh sc g w n ⟨1024 + e.val, by omega⟩ := by
  rw [val_main_v25_apply, ← proj_apply]
  exact congrArg _ (funext fun a => match a with | ⟨0, _⟩ => rfl | ⟨1, _⟩ => rfl)

theorem z_apply (n : Fin 16384) (e : Fin 512) : val_main_v27 (F := Ideal) x sh sc g w (ix2 n e) =
    proj x sh sc g w n ⟨1544 + e.val, by omega⟩ := by
  rw [val_main_v27_apply, ← proj_apply]
  exact congrArg _ (funext fun a => match a with | ⟨0, _⟩ => rfl | ⟨1, _⟩ => rfl)

theorem xbc_apply (n : Fin 16384) (e : Fin 1024) : val_main_v28 (F := Ideal) x sh sc g w (ix2 n e) =
    proj x sh sc g w n ⟨2056 + e.val, by omega⟩ := by
  rw [val_main_v28_apply, ← proj_apply]
  exact congrArg _ (funext fun a => match a with | ⟨0, _⟩ => rfl | ⟨1, _⟩ => rfl)

/-- A forget gate. -/
theorem gate_apply (n : Fin 16384) (l : Fin 8) : val_main_v34 (F := Ideal) x sh sc g w bf (ix2 n l) =
    0 - soft (0 - (proj x sh sc g w n ⟨1536 + l.val, by omega⟩ + bf (ix2 0 l))) := by
  have e26 : val_main_v26 (F := Ideal) x sh sc g w (ix2 n l) = proj x sh sc g w n ⟨1536 + l.val, by omega⟩ := by
    rw [val_main_v26_apply, ← proj_apply]
    exact congrArg _ (funext fun a => match a with | ⟨0, _⟩ => rfl | ⟨1, _⟩ => rfl)
  have e32 : val_main_v32 (F := Ideal) bf (ix2 n l) = bf (ix2 0 l) := by
    rw [val_main_v32_apply, val_main_v31_apply, val_main_v30_apply]
    exact congrArg bf (funext fun a => match a with | ⟨0, _⟩ => rfl | ⟨1, _⟩ => Fin.ext (Nat.mod_eq_of_lt l.isLt))
  rw [val_main_v34_apply, val_main_call0_v1_apply, val_main_call0_call0_v4_apply, val_main_call0_call0_v6_apply,
    val_main_call0_call0_v11_apply, val_main_call0_call0_v10_apply, val_main_call0_call0_v9_apply, val_main_call0_call0_v8_apply,
    val_main_call0_call0_v7_apply, val_main_call0_call0_v1_apply, val_main_call0_call0_v3_apply, val_main_call0_call0_v0_apply,
    val_main_call0_call0_v2_apply, val_main_call0_call0_v5_apply, val_main_call0_call0_cst_apply, zero_lit, soft_ref,
    val_main_call0_v0_apply, val_main_v33_apply, e26, e32, zero_sub, zero_sub]
  rfl

/-- A step size. -/
theorem step_apply (n : Fin 16384) (l : Fin 8) : val_main_v39 (F := Ideal) x sh sc g w dt (ix2 n l) =
    soft (proj x sh sc g w n ⟨3080 + l.val, by omega⟩ + dt (ix2 0 l)) := by
  have e29 : val_main_v29 (F := Ideal) x sh sc g w (ix2 n l) = proj x sh sc g w n ⟨3080 + l.val, by omega⟩ := by
    rw [val_main_v29_apply, ← proj_apply]
    exact congrArg _ (funext fun a => match a with | ⟨0, _⟩ => rfl | ⟨1, _⟩ => rfl)
  have e37 : val_main_v37 (F := Ideal) dt (ix2 n l) = dt (ix2 0 l) := by
    rw [val_main_v37_apply, val_main_v36_apply, val_main_v35_apply]
    exact congrArg dt (funext fun a => match a with | ⟨0, _⟩ => rfl | ⟨1, _⟩ => Fin.ext (Nat.mod_eq_of_lt l.isLt))
  rw [val_main_v39_apply, val_main_call1_v4_apply, val_main_call1_v6_apply, val_main_call1_v11_apply, val_main_call1_v10_apply,
    val_main_call1_v9_apply, val_main_call1_v8_apply, val_main_call1_v7_apply, val_main_call1_v1_apply, val_main_call1_v3_apply,
    val_main_call1_v0_apply, val_main_call1_v2_apply, val_main_call1_v5_apply, val_main_call1_cst_apply, zero_lit, soft_ref,
    val_main_v38_apply, e29, e37]
  rfl

/-- A lane of padding. -/
theorem pad_apply (n : Fin 16384) (l : Fin 112) : val_main_v41 (F := Ideal) (ix2 n l) = soft 0 := by
  rw [val_main_v41_apply, val_main_call2_v4_apply, val_main_call2_v6_apply, val_main_call2_v11_apply, val_main_call2_v10_apply,
    val_main_call2_v9_apply, val_main_call2_v8_apply, val_main_call2_v7_apply, val_main_call2_v1_apply, val_main_call2_v3_apply,
    val_main_call2_v0_apply, val_main_call2_v2_apply, val_main_call2_v5_apply, val_main_call2_cst_apply, zero_lit, soft_ref,
    val_main_v40_apply, val_main_cst_3_apply, zero_lit]

theorem small_apply (n : Fin 16384) (l : Fin 128) : val_main_v47 (F := Ideal) x sh sc g w bf dt (ix2 n l) =
    small (hidden x sh sc g n) (fun d e => w (ix3 0 d e)) (fun l => bf (ix2 0 l)) (fun l => dt (ix2 0 l)) l := by
  unfold val_main_v47 small
  pointwise
  split
  · exact gate_apply ..
  · split
    · exact step_apply ..
    · exact pad_apply ..

end Cert.InProjReferenceIdeal.Ref

end
-- ==== Proof.InProj.Claim.lean ====
/-
  The input projection kernel's results are the input projection reference's.
-/
module

public import proofs.«01_k».proof.Proof.InProj.Array
public import proofs.«01_k».proof.Proof.InProj.Ref
public import proofs.«01_k».proof.Defs
public import proofs.«01_k».proof.Proof.Gen.InProjIdeal.Value
public import proofs.«01_k».proof.Proof.Gen.InProjReferenceIdeal.Run

@[expose] public section

set_option maxRecDepth 16384

noncomputable section

namespace Cert.InProjIdeal.Close

open Idealize.ShloMosaic Cert.InProjReferenceIdeal.Read

theorem idx_form512 (i : Cert.InProjIdeal.S16384x512.Idx) : ∃ (r : Fin 16384) (e : Fin 512), i = ix2 r e :=
  ⟨i 0, i 1, funext fun a => match a with | ⟨0, _⟩ => rfl | ⟨1, _⟩ => rfl⟩

theorem idx_form1024 (i : Cert.InProjIdeal.S16384x1024.Idx) : ∃ (r : Fin 16384) (e : Fin 1024), i = ix2 r e :=
  ⟨i 0, i 1, funext fun a => match a with | ⟨0, _⟩ => rfl | ⟨1, _⟩ => rfl⟩

theorem idx_form128 (i : Cert.InProjIdeal.S16384x128.Idx) : ∃ (r : Fin 16384) (e : Fin 128), i = ix2 r e :=
  ⟨i 0, i 1, funext fun a => match a with | ⟨0, _⟩ => rfl | ⟨1, _⟩ => rfl⟩

variable (m : (ℓ : Loc Cert.InProjIdeal.nD Cert.InProjIdeal.τ Cert.InProjIdeal.sig) → Buf (Elt Ideal) ℓ)
  (c : Dev Cert.InProjIdeal.nD)

theorem arr7_eq : (Cert.InProjIdeal.Gen.dats m 0 c).arrAt 7 Cert.InProjIdeal.cfg0.N =
    val_main_v44 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.q_apply m c r e).trans (Cert.InProjReferenceIdeal.Ref.q_apply _ _ _ _ _ r e).symm

theorem arr8_eq : (Cert.InProjIdeal.Gen.dats m 0 c).arrAt 8 Cert.InProjIdeal.cfg0.N =
    val_main_v24 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.k_apply m c r e).trans (Cert.InProjReferenceIdeal.Ref.k_apply _ _ _ _ _ r e).symm

theorem arr9_eq : (Cert.InProjIdeal.Gen.dats m 0 c).arrAt 9 Cert.InProjIdeal.cfg0.N =
    val_main_v25 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.v_apply m c r e).trans (Cert.InProjReferenceIdeal.Ref.v_apply _ _ _ _ _ r e).symm

theorem arr10_eq : (Cert.InProjIdeal.Gen.dats m 0 c).arrAt 10 Cert.InProjIdeal.cfg0.N =
    val_main_v45 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.kb_apply m c r e).trans (Cert.InProjReferenceIdeal.Ref.k_apply _ _ _ _ _ r e).symm

theorem arr11_eq : (Cert.InProjIdeal.Gen.dats m 0 c).arrAt 11 Cert.InProjIdeal.cfg0.N =
    val_main_v46 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.vb_apply m c r e).trans (Cert.InProjReferenceIdeal.Ref.v_apply _ _ _ _ _ r e).symm

theorem arr12_eq : (Cert.InProjIdeal.Gen.dats m 0 c).arrAt 12 Cert.InProjIdeal.cfg0.N =
    val_main_v27 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form512 i
  exact (Cert.InProjIdeal.Arr.z_apply m c r e).trans (Cert.InProjReferenceIdeal.Ref.z_apply _ _ _ _ _ r e).symm

theorem arr13_eq : (Cert.InProjIdeal.Gen.dats m 0 c).arrAt 13 Cert.InProjIdeal.cfg0.N =
    val_main_v28 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4)) := by
  funext i
  obtain ⟨r, e, rfl⟩ := idx_form1024 i
  exact (Cert.InProjIdeal.Arr.xbc_apply m c r e).trans (Cert.InProjReferenceIdeal.Ref.xbc_apply _ _ _ _ _ r e).symm

theorem arr14_eq : (Cert.InProjIdeal.Gen.dats m 0 c).arrAt 14 Cert.InProjIdeal.cfg0.N =
    val_main_v47 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3))
      (m ((c.tc : Thread Cert.InProjIdeal.nD Cert.InProjIdeal.τ).loc Cert.InProjIdeal.main_arg4))
      (m ((c.tc : Thread Cert.InProjIdeal.nD Cert.InProjIdeal.τ).loc Cert.InProjIdeal.main_arg5))
      (m ((c.tc : Thread Cert.InProjIdeal.nD Cert.InProjIdeal.τ).loc Cert.InProjIdeal.main_arg6)) := by
  funext i
  obtain ⟨r, e, rfl⟩ := idx_form128 i
  exact (Cert.InProjIdeal.Arr.small_apply m c r e).trans (Cert.InProjReferenceIdeal.Ref.small_apply _ _ _ _ _ _ _ r e).symm

set_option maxHeartbeats 4000000 in
/-- The claim: the same memory, the same arguments, the same eight results. -/
theorem algebraic : Cert.algebraic_InProjIdeal_InProjReferenceIdeal := by
  intro m ρ m' ρ' _ hag
  refine ⟨fun c => (Cert.InProjIdeal.Gen.dats m 0 c).arrAt 7 Cert.InProjIdeal.cfg0.N,
    fun c => (Cert.InProjIdeal.Gen.dats m 0 c).arrAt 8 Cert.InProjIdeal.cfg0.N,
    fun c => (Cert.InProjIdeal.Gen.dats m 0 c).arrAt 9 Cert.InProjIdeal.cfg0.N,
    fun c => (Cert.InProjIdeal.Gen.dats m 0 c).arrAt 10 Cert.InProjIdeal.cfg0.N,
    fun c => (Cert.InProjIdeal.Gen.dats m 0 c).arrAt 11 Cert.InProjIdeal.cfg0.N,
    fun c => (Cert.InProjIdeal.Gen.dats m 0 c).arrAt 12 Cert.InProjIdeal.cfg0.N,
    fun c => (Cert.InProjIdeal.Gen.dats m 0 c).arrAt 13 Cert.InProjIdeal.cfg0.N,
    fun c => (Cert.InProjIdeal.Gen.dats m 0 c).arrAt 14 Cert.InProjIdeal.cfg0.N,
    Cert.InProjIdeal.Value.run_blocks m ρ, ?_⟩
  refine (θ_run _ _ _).mono (fun _ h c => ?_) (Cert.InProjReferenceIdeal.Value.run m' ρ')
  obtain ⟨r0, r1, r2, r3, r4, r5, r6, r7, hr⟩ := h c
  obtain ⟨h0, h1, h2, h3, h4, h5, h6⟩ := hag c
  refine ⟨r0.trans ?_, r1.trans ?_, r2.trans ?_, r3.trans ?_, r4.trans ?_, r5.trans ?_, r6.trans ?_, r7.trans ?_, hr⟩
  · refine (val_main_v44_eq _ _ _ _ _).trans ?_
    rw [h0, h1, h2, h3, h4]
    exact (arr7_eq m c).symm
  · refine (val_main_v24_eq _ _ _ _ _).trans ?_
    rw [h0, h1, h2, h3, h4]
    exact (arr8_eq m c).symm
  · refine (val_main_v25_eq _ _ _ _ _).trans ?_
    rw [h0, h1, h2, h3, h4]
    exact (arr9_eq m c).symm
  · refine (val_main_v45_eq _ _ _ _ _).trans ?_
    rw [h0, h1, h2, h3, h4]
    exact (arr10_eq m c).symm
  · refine (val_main_v46_eq _ _ _ _ _).trans ?_
    rw [h0, h1, h2, h3, h4]
    exact (arr11_eq m c).symm
  · refine (val_main_v27_eq _ _ _ _ _).trans ?_
    rw [h0, h1, h2, h3, h4]
    exact (arr12_eq m c).symm
  · refine (val_main_v28_eq _ _ _ _ _).trans ?_
    rw [h0, h1, h2, h3, h4]
    exact (arr13_eq m c).symm
  · refine (val_main_v47_eq m' c).trans ?_
    rw [h0, h1, h2, h3, h4, h5, h6]
    exact (arr14_eq m c).symm

end Cert.InProjIdeal.Close

end
-- ==== Proof.Merge.Spec.lean ====
/-
  The merge of the two mixers and the output projection, for one row, in plain terms.
-/
module

public import Idealize.ShloMosaic.Lib.Pointwise

@[expose] public section

noncomputable section

namespace Cert.Merge.Spec

open Idealize.ShloMosaic

/-- Element `d` of a row of 512, divided by the root of the row's mean square, times the gain. -/
def rms (a g : Fin 512 → EReal) (d : Fin 512) : EReal :=
  a d * Ideal.rsqrt (Ideal.div (∑ k : Fin 512, a k * a k) (Ideal.ofBits .f32 0x44000000#32) + Ideal.ofBits .f32 0x358637BD#32) * g d

/-- The state-space row under its gate. -/
def gated (y z : Fin 512 → EReal) (d : Fin 512) : EReal := y d * (z d * Ideal.logistic (z d))

/-- The two normalized rows, side by side, projected. -/
def out (o y z ga gs : Fin 512 → EReal) (w : Fin 1024 → EReal) : EReal :=
  (∑ k : Fin 512, rms o ga k * w ⟨k.val, by omega⟩) + ∑ k : Fin 512, rms (gated y z) gs k * w ⟨512 + k.val, by omega⟩

end Cert.Merge.Spec

end
-- ==== Proof.Merge.Array.lean ====
/-
  The merge kernel's result array, element by element, in terms of the arguments.
-/
module

public import proofs.«01_k».proof.Proof.Merge.Spec
public import proofs.«01_k».proof.Proof.Gen.MergeIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.MergeIdeal.Arr

open Idealize.ShloMosaic Idealize.ShloMosaic.TcCoe Idealize.ShloMosaic.Tactic Cert.MergeIdeal Cert.MergeIdeal.Gen Cert.Merge.Spec

theorem zero2 : (![0, 0] : Fin 2 → ℕ) = fun _ => 0 := by funext a; fin_cases a <;> rfl
theorem zero3 : (![0, 0, 0] : Fin 3 → ℕ) = fun _ => 0 := by funext a; fin_cases a <;> rfl

/-- What a tile leaves, at one element. -/
theorem tile_apply (o y z : Vec Ideal S512x512 .f32) (x : Vec Ideal S512x1024 .f32) (ga : Vec Ideal S1x1x1024 .f32)
    (go gs : Vec Ideal S1x512 .f32) (w : Vec Ideal S1024x1024 .bf16) (r : Fin 512) (d : Fin 1024) :
    out0_8 o y z x ga go gs w (ix2 r d) = x (ix2 r d) + ga (ix3 0 0 d) *
      out (fun k => o (ix2 r k)) (fun k => y (ix2 r k)) (fun k => z (ix2 r k)) (fun k => go (ix2 0 k)) (fun k => gs (ix2 0 k))
        (fun k => w (ix2 k d)) := by
  unfold out0_8
  rw [View.canon_unit_zero zero2]
  simp only [View.ld_unit_zero (S := S512x512) zero2, View.ld_unit_zero (S := S1x512) zero2, View.ld_unit_zero (S := S1x1x1024) zero3,
    View.ld_unit_zero (S := S512x1024) zero2]
  pointwise [k0_pay1, k0_pay2, k0_pay3]
  rfl

/-- The grid point of row tile `u`. -/
def pt (u : Fin 32) : Fin cfg0.N := ⟨u.val, by have : cfg0.N = 32 := N_0; omega⟩

theorem index0 : ∀ u : Fin 32, win0_0.index (pt u) = ![u.val, 0] := by decide +kernel
theorem index1 : ∀ u : Fin 32, win0_1.index (pt u) = ![u.val, 0] := by decide +kernel
theorem index2 : ∀ u : Fin 32, win0_2.index (pt u) = ![u.val, 0] := by decide +kernel
theorem index3 : ∀ u : Fin 32, win0_3.index (pt u) = ![u.val, 0] := by decide +kernel
theorem index4 : ∀ u : Fin 32, win0_4.index (pt u) = ![u.val / 8, 0, 0] := by decide +kernel
theorem index5 : ∀ u : Fin 32, win0_5.index (pt u) = ![0, 0] := by decide +kernel
theorem index6 : ∀ u : Fin 32, win0_6.index (pt u) = ![0, 0] := by decide +kernel
theorem index7 : ∀ u : Fin 32, win0_7.index (pt u) = ![0, 0] := by decide +kernel
theorem index8 : ∀ u : Fin 32, win0_8.index (pt u) = ![u.val, 0] := by decide +kernel

variable (m : (ℓ : Loc nD τ sig) → Buf (Elt Ideal) ℓ) (c : Dev nD)

/-- The attention's rows. -/
abbrev ao : Vec Ideal S16384x512 .f32 := m ((c : Thread nD τ).loc main_arg0)
/-- The state-space rows. -/
abbrev ay : Vec Ideal S16384x512 .f32 := m ((c : Thread nD τ).loc main_arg1)
/-- Their gates. -/
abbrev az : Vec Ideal S16384x512 .f32 := m ((c : Thread nD τ).loc main_arg2)
/-- The rows before the mixer. -/
abbrev ax : Vec Ideal S4x4096x1024 .f32 := m ((c : Thread nD τ).loc main_arg3)
/-- The gates of the residual. -/
abbrev aga : Vec Ideal S4x1x1024 .f32 := m ((c : Thread nD τ).loc main_arg4)
/-- The attention's gains. -/
abbrev ago : Vec Ideal S1x512 .f32 := m ((c : Thread nD τ).loc main_arg5)
/-- The state space's gains. -/
abbrev ags : Vec Ideal S1x512 .f32 := m ((c : Thread nD τ).loc main_arg6)
/-- The weights. -/
abbrev aw : Vec Ideal S1x1024x1024 .f32 := m ((c : Thread nD τ).loc main_arg7)

/-- The tile of row `n`. -/
abbrev tile (n : Fin 16384) : Fin 32 := ⟨n.val / 512, by omega⟩
/-- Row `n` in its tile. -/
abbrev inner (n : Fin 16384) : Fin 512 := ⟨n.val % 512, by omega⟩

theorem row_eq (n : Fin 16384) : n = (⟨512 * (tile n).val + (inner n).val, by omega⟩ : Fin 16384) :=
  Fin.ext (by show n.val = 512 * (n.val / 512) + n.val % 512; omega)

theorem batch_eq (n : Fin 16384) : (⟨n.val / 4096, by omega⟩ : Fin 4) = ⟨(tile n).val / 8, by omega⟩ :=
  Fin.ext (by show n.val / 4096 = n.val / 512 / 8; omega)

theorem x_apply (n : Fin 16384) (d : Fin 1024) :
    (V m c main_v0 : Vec Ideal S16384x1024 .f32) (ix2 n d) =
      ax m c (ix3 (⟨n.val / 4096, by omega⟩ : Fin 4) (⟨n.val % 4096, by omega⟩ : Fin 4096) d) := by
  entry_read
  refine shapeCast_apply _ _ _ _ ?_
  show (S4x4096x1024.rowMajor (ix3 (⟨n.val / 4096, by omega⟩ : Fin 4) (⟨n.val % 4096, by omega⟩ : Fin 4096) d)).val =
    (S16384x1024.rowMajor (ix2 n d)).val
  rw [Shape.rowMajor_val_three, Shape.rowMajor_val_two]
  show (n.val / 4096 * 4096 + n.val % 4096) * 1024 + d.val = n.val * 1024 + d.val
  omega

theorem w_apply (k d : Fin 1024) : (V m c main_v2 : Vec Ideal S1024x1024 .bf16) (ix2 k d) = aw m c (ix3 0 k d) := by
  unfold V
  after_reads_at

theorem blk0 (n : Fin 16384) (d : Fin 512) :
    (iblk m c 0 (pt (tile n)) : Vec Ideal S512x512 .f32) (ix2 (inner n) d) = ao m c (ix2 n d) := by
  rw [ao, ← V_main_arg0 m c]
  conv_rhs => rw [row_eq n]
  blk_ext [iblk, V, index0 (tile n)]

theorem blk1 (n : Fin 16384) (d : Fin 512) :
    (iblk m c 1 (pt (tile n)) : Vec Ideal S512x512 .f32) (ix2 (inner n) d) = ay m c (ix2 n d) := by
  rw [ay, ← V_main_arg1 m c]
  conv_rhs => rw [row_eq n]
  blk_ext [iblk, V, index1 (tile n)]

theorem blk2 (n : Fin 16384) (d : Fin 512) :
    (iblk m c 2 (pt (tile n)) : Vec Ideal S512x512 .f32) (ix2 (inner n) d) = az m c (ix2 n d) := by
  rw [az, ← V_main_arg2 m c]
  conv_rhs => rw [row_eq n]
  blk_ext [iblk, V, index2 (tile n)]

theorem blk3 (n : Fin 16384) (d : Fin 1024) :
    (iblk m c 3 (pt (tile n)) : Vec Ideal S512x1024 .f32) (ix2 (inner n) d) =
      ax m c (ix3 (⟨n.val / 4096, by omega⟩ : Fin 4) (⟨n.val % 4096, by omega⟩ : Fin 4096) d) := by
  refine Eq.trans ?_ (x_apply m c n d)
  conv_rhs => rw [row_eq n]
  blk_ext [iblk, V, index3 (tile n)]

theorem blk4 (n : Fin 16384) (d : Fin 1024) :
    (iblk m c 4 (pt (tile n)) : Vec Ideal S1x1x1024 .f32) (ix3 0 0 d) = aga m c (ix3 (⟨n.val / 4096, by omega⟩ : Fin 4) 0 d) := by
  rw [batch_eq, aga, ← V_main_arg4 m c]
  blk_ext [iblk, V, index4 (tile n)]

theorem blk5 (u : Fin 32) (d : Fin 512) : (iblk m c 5 (pt u) : Vec Ideal S1x512 .f32) (ix2 0 d) = ago m c (ix2 0 d) := by
  rw [ago, ← V_main_arg5 m c]
  blk_ext [iblk, V, index5 u]

theorem blk6 (u : Fin 32) (d : Fin 512) : (iblk m c 6 (pt u) : Vec Ideal S1x512 .f32) (ix2 0 d) = ags m c (ix2 0 d) := by
  rw [ags, ← V_main_arg6 m c]
  blk_ext [iblk, V, index6 u]

theorem blk7 (u : Fin 32) (k d : Fin 1024) : (iblk m c 7 (pt u) : Vec Ideal S1024x1024 .bf16) (ix2 k d) = aw m c (ix3 0 k d) := by
  refine Eq.trans ?_ (w_apply m c k d)
  blk_ext [iblk, V, index7 u]

theorem emb8 (n : Fin 16384) (e : Fin 1024) :
    ((cfg0.win 8).blk (pt (tile n))).view.emb (ix2 (inner n) e) = (ix2 n e : S16384x1024.Idx) := by
  conv_rhs => rw [row_eq n]
  blk_ext [index8 (tile n)]

theorem written (t : Fin cfg0.N) (r : Fin 512) (e : Fin 1024) : (dats m 0 c).flushed 8 t (ix2 r e) =
    out0_8 (iblk m c 0 t) (iblk m c 1 t) (iblk m c 2 t) (iblk m c 3 t) (iblk m c 4 t) (iblk m c 5 t) (iblk m c 6 t) (iblk m c 7 t)
      (ix2 r e) := by
  rw [Value.flushed8]
  rfl

/-- Row `n` of the result. -/
theorem arr_apply (n : Fin 16384) (d : Fin 1024) :
    (dats m 0 c).arrAt 8 cfg0.N (ix2 n d : S16384x1024.Idx) =
      ax m c (ix3 (⟨n.val / 4096, by omega⟩ : Fin 4) (⟨n.val % 4096, by omega⟩ : Fin 4096) d) +
        aga m c (ix3 (⟨n.val / 4096, by omega⟩ : Fin 4) 0 d) *
        out (fun k => ao m c (ix2 n k)) (fun k => ay m c (ix2 n k)) (fun k => az m c (ix2 n k)) (fun k => ago m c (ix2 0 k))
          (fun k => ags m c (ix2 0 k)) (fun k => aw m c (ix3 0 k d)) := by
  have key := (dats m 0 c).arrAt_emb_eq_flushed 8 Value.disjoint8 (pt (tile n)) (flush0_8 _) (ix2 (inner n) d)
  rw [emb8] at key
  refine (key.trans (written m c (pt (tile n)) (inner n) d)).trans ?_
  rw [tile_apply]
  simp only [blk0, blk1, blk2, blk3, blk4, blk5, blk6, blk7]

end Cert.MergeIdeal.Arr

end
-- ==== Proof.Merge.Ref.lean ====
/-
  The merge's reference, element by element.
-/
module

public import proofs.«01_k».proof.Proof.Merge.Spec
public import proofs.«01_k».proof.Proof.Gen.MergeReferenceIdeal.Read
public import Idealize.ShloMosaic.Lib.Pipeline.ValueKit
public import Idealize.ShloMosaic.Lib.Pointwise

@[expose] public section

set_option maxRecDepth 16384

noncomputable section

namespace Cert.MergeReferenceIdeal.Ref

open Idealize.ShloMosaic Cert.MergeReferenceIdeal Cert.MergeReferenceIdeal.Gen Cert.MergeReferenceIdeal.Read Cert.Merge.Spec
  Idealize.ShloMosaic.Tactic

theorem zero_lit : (FloatOps.ofBits .f32 0x00000000#32 : Ideal .f32) = (0 : EReal) := by
  show Ideal.ofBits .f32 0x00000000#32 = 0
  simp [Ideal.ofBits, Ideal.ieee]

theorem one_lit : (FloatOps.ofBits .f32 0x3F800000#32 : Ideal .f32) = (1 : EReal) := by
  show Ideal.ofBits .f32 0x3F800000#32 = 1
  simp [Ideal.ofBits, Ideal.ieee]
  rw [← EReal.coe_mul]
  norm_num

variable (o y z : Vec Ideal S16384x512 .f32) (x : Vec Ideal S4x4096x1024 .f32) (ga : Vec Ideal S4x1x1024 .f32)
  (go gs : Vec Ideal S1x512 .f32) (w : Vec Ideal S1x1024x1024 .f32)

/-- The attention's rows under their norm. -/
theorem att_apply (n : Fin 16384) (d : Fin 512) :
    val_main_v13 (F := Ideal) o go (ix2 n d) = rms (fun k => o (ix2 n k)) (fun k => go (ix2 0 k)) d := by
  have e2 : ∀ k, idx_main_v2 (idx_main_v3 (idx_main_v9 (ix2 n d))) k = ix2 n k :=
    fun k => funext fun a => match a with | ⟨0, _⟩ => rfl | ⟨1, _⟩ => rfl
  have e0 : idx_main_v0 (idx_main_v11 (idx_main_v12 (ix2 n d))) = ix2 0 d :=
    funext fun a => match a with | ⟨0, _⟩ => rfl | ⟨1, _⟩ => Fin.ext (Nat.mod_eq_of_lt d.isLt)
  rw [val_main_v13_apply, val_main_v10_apply, val_main_v9_apply, val_main_v8_apply, val_main_v7_apply, val_main_v5_apply,
    val_main_v3_apply, val_main_v2_apply, val_main_v4_apply, val_main_v6_apply, val_main_v12_apply, val_main_v11_apply,
    val_main_v0_apply, val_main_cst_apply, val_main_cst_0_apply, val_main_cst_1_apply, zero_lit, e0]
  simp only [val_main_v1_apply, e2]
  rw [zero_add]
  rfl

/-- The state-space rows under their gates. -/
theorem gated_apply (n : Fin 16384) (d : Fin 512) :
    val_main_v15 (F := Ideal) y z (ix2 n d) = gated (fun k => y (ix2 n k)) (fun k => z (ix2 n k)) d := by
  rw [val_main_v15_apply, val_main_v14_apply, val_main_call0_v5_apply, val_main_call0_v4_apply, val_main_call0_v3_apply,
    val_main_call0_v2_apply, val_main_call0_v1_apply, val_main_call0_v0_apply, val_main_call0_cst_apply, val_main_call0_cst_0_apply,
    one_lit]
  rfl

/-- The same under their norm. -/
theorem ssd_apply (n : Fin 16384) (d : Fin 512) :
    val_main_v29 (F := Ideal) y z gs (ix2 n d) =
      rms (gated (fun k => y (ix2 n k)) (fun k => z (ix2 n k))) (fun k => gs (ix2 0 k)) d := by
  have e2 : ∀ k, idx_main_v18 (idx_main_v19 (idx_main_v25 (ix2 n d))) k = ix2 n k :=
    fun k => funext fun a => match a with | ⟨0, _⟩ => rfl | ⟨1, _⟩ => rfl
  have e0 : idx_main_v16 (idx_main_v27 (idx_main_v28 (ix2 n d))) = ix2 0 d :=
    funext fun a => match a with | ⟨0, _⟩ => rfl | ⟨1, _⟩ => Fin.ext (Nat.mod_eq_of_lt d.isLt)
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply,
    val_main_v16_apply, val_main_cst_2_apply, val_main_cst_3_apply, val_main_cst_4_apply, zero_lit, e0]
  simp only [val_main_v17_apply, e2, gated_apply]
  rw [zero_add]
  rfl

/-- The two, side by side: the first half. -/
theorem mix_low (n : Fin 16384) (k : Fin 512) : val_main_v30 (F := Ideal) o y z go gs (ix2 n (⟨k.val, by omega⟩ : Fin 1024)) =
    rms (fun k => o (ix2 n k)) (fun k => go (ix2 0 k)) k := by
  unfold val_main_v30
  pointwise
  exact att_apply ..

/-- The second half. -/
theorem mix_high (n : Fin 16384) (k : Fin 512) : val_main_v30 (F := Ideal) o y z go gs (ix2 n (⟨512 + k.val, by omega⟩ : Fin 1024)) =
    rms (gated (fun k => y (ix2 n k)) (fun k => z (ix2 n k))) (fun k => gs (ix2 0 k)) k := by
  unfold val_main_v30
  pointwise
  exact ssd_apply ..

theorem proj_apply (n : Fin 16384) (d : Fin 1024) : val_main_v32 (F := Ideal) o y z go gs w (ix2 n d) =
    out (fun k => o (ix2 n k)) (fun k => y (ix2 n k)) (fun k => z (ix2 n k)) (fun k => go (ix2 0 k)) (fun k => gs (ix2 0 k))
      (fun k => w (ix3 0 k d)) := by
  have l32 : ∀ k, lidx_main_v32 (ix2 n d) k = ix2 n k := fun k => funext fun a => match a with | ⟨0, _⟩ => rfl | ⟨1, _⟩ => rfl
  have r32 : ∀ k, idx_main_v31 (ridx_main_v32 (ix2 n d) k) = ix3 0 k d :=
    fun k => funext fun a => match a with
      | ⟨0, _⟩ => rfl
      | ⟨1, _⟩ => Fin.ext (by show (k.val * 1024 + d.val) / 1024 % 1024 = k.val; omega)
      | ⟨2, _⟩ => Fin.ext (by show (k.val * 1024 + d.val) % 1024 = d.val; omega)
  rw [val_main_v32_apply]
  simp only [val_main_v31_apply, l32, r32]
  refine (Fin.sum_univ_add (a := 512) (b := 512) _).trans ?_
  exact congrArg₂ _ (Finset.sum_congr rfl fun k _ => congrArg (· * w _) (mix_low o y z go gs n k))
    (Finset.sum_congr rfl fun k _ => congrArg (· * w _) (mix_high o y z go gs n k))

/-- Row `n` of the reference's result. -/
theorem ref_apply (n : Fin 16384) (d : Fin 1024) : val_main_v37 (F := Ideal) o y z x ga go gs w (ix2 n d) =
    x (ix3 (⟨n.val / 4096, by omega⟩ : Fin 4) (⟨n.val % 4096, by omega⟩ : Fin 4096) d) +
      ga (ix3 (⟨n.val / 4096, by omega⟩ : Fin 4) 0 d) *
      out (fun k => o (ix2 n k)) (fun k => y (ix2 n k)) (fun k => z (ix2 n k)) (fun k => go (ix2 0 k)) (fun k => gs (ix2 0 k))
        (fun k => w (ix3 0 k d)) := by
  have e37 : idx_main_v37 (ix2 n d) = ix3 (⟨n.val / 4096, by omega⟩ : Fin 4) (⟨n.val % 4096, by omega⟩ : Fin 4096) d :=
    funext fun a => match a with
      | ⟨0, _⟩ => Fin.ext (by show (n.val * 1024 + d.val) / 4194304 = n.val / 4096; omega)
      | ⟨1, _⟩ => Fin.ext (by show (n.val * 1024 + d.val) / 1024 % 4096 = n.val % 4096; omega)
      | ⟨2, _⟩ => Fin.ext (by show (n.val * 1024 + d.val) % 1024 = d.val; omega)
  have e33 : idx_main_v33 (ix3 (⟨n.val / 4096, by omega⟩ : Fin 4) (⟨n.val % 4096, by omega⟩ : Fin 4096) d) = ix2 n d :=
    funext fun a => match a with
      | ⟨0, _⟩ => Fin.ext (by show ((n.val / 4096 * 4096 + n.val % 4096) * 1024 + d.val) / 1024 = n.val; omega)
      | ⟨1, _⟩ => Fin.ext (by show ((n.val / 4096 * 4096 + n.val % 4096) * 1024 + d.val) % 1024 = d.val; omega)
  have e34 : idx_main_v34 (ix3 (⟨n.val / 4096, by omega⟩ : Fin 4) (⟨n.val % 4096, by omega⟩ : Fin 4096) d) =
      ix3 (⟨n.val / 4096, by omega⟩ : Fin 4) 0 d :=
    funext fun a => match a with | ⟨0, _⟩ => rfl | ⟨1, _⟩ => rfl | ⟨2, _⟩ => rfl
  rw [val_main_v37_apply, e37, val_main_v36_apply, val_main_v35_apply, val_main_v34_apply, val_main_v33_apply, e33, e34, proj_apply]
  rfl

end Cert.MergeReferenceIdeal.Ref

end
-- ==== Proof.Merge.Claim.lean ====
/-
  The merge kernel's result is the merge reference's.
-/
module

public import proofs.«01_k».proof.Proof.Merge.Array
public import proofs.«01_k».proof.Proof.Merge.Ref
public import proofs.«01_k».proof.Defs
public import proofs.«01_k».proof.Proof.Gen.MergeIdeal.Value
public import proofs.«01_k».proof.Proof.Gen.MergeReferenceIdeal.Run

@[expose] public section

set_option maxRecDepth 16384

noncomputable section

namespace Cert.MergeIdeal.Close

open Idealize.ShloMosaic

/-- Every index of the result is a row and a column. -/
theorem idx_form (i : Cert.MergeIdeal.S16384x1024.Idx) : ∃ (n : Fin 16384) (d : Fin 1024), i = ix2 n d :=
  ⟨i 0, i 1, funext fun a => match a with | ⟨0, _⟩ => rfl | ⟨1, _⟩ => rfl⟩

/-- The kernel's result array is the reference's. -/
theorem arr_eq (m : (ℓ : Loc Cert.MergeIdeal.nD Cert.MergeIdeal.τ Cert.MergeIdeal.sig) → Buf (Elt Ideal) ℓ)
    (c : Dev Cert.MergeIdeal.nD) :
    (Cert.MergeIdeal.Gen.dats m 0 c).arrAt 8 Cert.MergeIdeal.cfg0.N =
      Cert.MergeReferenceIdeal.Read.val_main_v37 (F := Ideal)
        (m ((c.tc : Thread Cert.MergeIdeal.nD Cert.MergeIdeal.τ).loc Cert.MergeIdeal.main_arg0))
        (m ((c.tc : Thread Cert.MergeIdeal.nD Cert.MergeIdeal.τ).loc Cert.MergeIdeal.main_arg1))
        (m ((c.tc : Thread Cert.MergeIdeal.nD Cert.MergeIdeal.τ).loc Cert.MergeIdeal.main_arg2))
        (m ((c.tc : Thread Cert.MergeIdeal.nD Cert.MergeIdeal.τ).loc Cert.MergeIdeal.main_arg3))
        (m ((c.tc : Thread Cert.MergeIdeal.nD Cert.MergeIdeal.τ).loc Cert.MergeIdeal.main_arg4))
        (m ((c.tc : Thread Cert.MergeIdeal.nD Cert.MergeIdeal.τ).loc Cert.MergeIdeal.main_arg5))
        (m ((c.tc : Thread Cert.MergeIdeal.nD Cert.MergeIdeal.τ).loc Cert.MergeIdeal.main_arg6))
        (m ((c.tc : Thread Cert.MergeIdeal.nD Cert.MergeIdeal.τ).loc Cert.MergeIdeal.main_arg7)) := by
  funext i
  obtain ⟨n, d, rfl⟩ := idx_form i
  exact (Cert.MergeIdeal.Arr.arr_apply m c n d).trans (Cert.MergeReferenceIdeal.Ref.ref_apply _ _ _ _ _ _ _ _ n d).symm

set_option maxHeartbeats 2000000 in
/-- The claim: the same arguments, the same result. -/
theorem algebraic : Cert.algebraic_MergeIdeal_MergeReferenceIdeal := by
  intro m ρ m' ρ' _ hag
  refine ⟨fun c => (Cert.MergeIdeal.Gen.dats m 0 c).arrAt 8 Cert.MergeIdeal.cfg0.N, Cert.MergeIdeal.Value.run_blocks m ρ, ?_⟩
  refine (θ_run _ _ _).mono (fun _ h c => ⟨(h c).1.trans ?_, (h c).2⟩) (Cert.MergeReferenceIdeal.Value.run m' ρ')
  refine (Cert.MergeReferenceIdeal.Read.val_main_v37_eq _ _ _ _ _ _ _ _).trans ?_
  obtain ⟨h0, h1, h2, h3, h4, h5, h6, h7⟩ := hag c
  rw [h0, h1, h2, h3, h4, h5, h6, h7]
  exact (arr_eq m c).symm

end Cert.MergeIdeal.Close

end
-- ==== Proof.Conv.Spec.lean ====
/-
  One new row of the causal convolution and its decays, in plain terms.
-/
module

public import Idealize.ShloMosaic.Lib.Pointwise

@[expose] public section

noncomputable section

namespace Cert.Conv.Spec

open Idealize.ShloMosaic

/-- The four taps on one channel, and the bias. -/
def taps (b s0 s1 s2 x w0 w1 w2 w3 : EReal) : EReal := b + s0 * w0 + s1 * w1 + s2 * w2 + x * w3

/-- The convolution's result on one channel. -/
def conv (b s0 s1 s2 x w0 w1 w2 w3 : EReal) : EReal :=
  taps b s0 s1 s2 x w0 w1 w2 w3 * Ideal.logistic (taps b s0 s1 s2 x w0 w1 w2 w3)

/-- The logarithms of the decay rates, at lanes 8 to 15; zero elsewhere. -/
def rate (a : Fin 8 → EReal) (k : Fin 128) : EReal :=
  if k.val < 8 then 0 else if h : k.val - 8 < 8 then a ⟨k.val - 8, h⟩ else 0

/-- The decay of a step. -/
def decay (s : EReal) (a : EReal) : EReal := Ideal.exp (s * (0 - Ideal.exp a))

end Cert.Conv.Spec

end
-- ==== Proof.Conv.Array.lean ====
/-
  The two results of the samples' convolution, element by element, in terms of the arguments.
-/
module

public import proofs.«01_k».proof.Proof.Conv.Spec
public import proofs.«01_k».proof.Proof.Merge.Ref
public import proofs.«01_k».proof.Proof.Gen.ConvIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.ConvIdeal.Arr

open Idealize.ShloMosaic Idealize.ShloMosaic.TcCoe Idealize.ShloMosaic.Tactic Cert.ConvIdeal Cert.ConvIdeal.Gen Cert.Conv.Spec

theorem zero2 : (![0, 0] : Fin 2 → ℕ) = fun _ => 0 := by funext a; fin_cases a <;> rfl

/-- What the body leaves of the convolution, at one element. -/
theorem conv_apply (s0 s1 s2 x : Vec Ideal S128x1024 .f32) (sa : Vec Ideal S128x128 .f32) (w : Vec Ideal S4x1024 .f32)
    (b : Vec Ideal S1x1024 .f32) (a : Vec Ideal S1x128 .f32) (n : Fin 128) (d : Fin 1024) :
    out0_8 s0 s1 s2 x sa w b a (ix2 n d) = conv (b (ix2 0 d)) (s0 (ix2 n d)) (s1 (ix2 n d)) (s2 (ix2 n d)) (x (ix2 n d))
      (w (ix2 0 d)) (w (ix2 1 d)) (w (ix2 2 d)) (w (ix2 3 d)) := by
  unfold out0_8
  rw [View.canon_unit_zero zero2]
  simp only [View.ld_unit_zero (S := S128x1024) zero2, View.ld_unit_zero (S := S1x1024) zero2,
    View.ld_unit_zero (S := S4x1024) zero2]
  pointwise [k0_pay1]
  rfl

/-- What it leaves of the decays. -/
theorem decay_apply (s0 s1 s2 x : Vec Ideal S128x1024 .f32) (sa : Vec Ideal S128x128 .f32) (w : Vec Ideal S4x1024 .f32)
    (b : Vec Ideal S1x1024 .f32) (a : Vec Ideal S1x128 .f32) (n k : Fin 128) :
    out0_9 s0 s1 s2 x sa w b a (ix2 n k) = decay (sa (ix2 n k)) (a (ix2 0 k)) := by
  unfold out0_9
  rw [View.canon_unit_zero zero2]
  simp only [View.ld_unit_zero (S := S128x128) zero2, View.ld_unit_zero (S := S1x128) zero2]
  pointwise [k0_pay2]
  rfl

/-- The one point. -/
def pt : Fin cfg0.N := ⟨0, by have : cfg0.N = 1 := N_0; omega⟩

theorem index0 : win0_0.index pt = ![0, 0] := by decide +kernel
theorem index1 : win0_1.index pt = ![0, 0] := by decide +kernel
theorem index2 : win0_2.index pt = ![0, 0] := by decide +kernel
theorem index3 : win0_3.index pt = ![0, 0] := by decide +kernel
theorem index4 : win0_4.index pt = ![0, 0] := by decide +kernel
theorem index5 : win0_5.index pt = ![0, 0] := by decide +kernel
theorem index6 : win0_6.index pt = ![0, 0] := by decide +kernel
theorem index7 : win0_7.index pt = ![0, 0] := by decide +kernel
theorem index8 : win0_8.index pt = ![0, 0] := by decide +kernel
theorem index9 : win0_9.index pt = ![0, 0] := by decide +kernel

variable (m : (ℓ : Loc nD τ sig) → Buf (Elt Ideal) ℓ) (c : Dev nD)

/-- The three rows before. -/
abbrev asc : Vec Ideal S1x128x3x1024 .f32 := m ((c : Thread nD τ).loc main_arg0)
/-- The new row. -/
abbrev ax : Vec Ideal S128x1024 .f32 := m ((c : Thread nD τ).loc main_arg1)
/-- The step sizes. -/
abbrev asa : Vec Ideal S128x128 .f32 := m ((c : Thread nD τ).loc main_arg2)
/-- The taps. -/
abbrev aw : Vec Ideal S1x4x1024 .f32 := m ((c : Thread nD τ).loc main_arg3)
/-- The biases. -/
abbrev ab : Vec Ideal S1x1024 .f32 := m ((c : Thread nD τ).loc main_arg4)
/-- The logarithms of the rates. -/
abbrev aa : Vec Ideal S1x8 .f32 := m ((c : Thread nD τ).loc main_arg5)

theorem s0_apply (n : Fin 128) (d : Fin 1024) : (V m c main_v7 : Vec Ideal S128x1024 .f32) (ix2 n d) = asc m c (ix4 0 n 0 d) := by
  unfold V
  after_reads_at

theorem s1_apply (n : Fin 128) (d : Fin 1024) : (V m c main_v9 : Vec Ideal S128x1024 .f32) (ix2 n d) = asc m c (ix4 0 n 1 d) := by
  unfold V
  after_reads_at

theorem s2_apply (n : Fin 128) (d : Fin 1024) : (V m c main_v11 : Vec Ideal S128x1024 .f32) (ix2 n d) = asc m c (ix4 0 n 2 d) := by
  unfold V
  after_reads_at

theorem w_apply (j : Fin 4) (d : Fin 1024) : (V m c main_v12 : Vec Ideal S4x1024 .f32) (ix2 j d) = aw m c (ix3 0 j d) := by
  unfold V
  after_reads_at

theorem b_apply (d : Fin 1024) : (V m c main_v14 : Vec Ideal S1x1024 .f32) (ix2 0 d) = ab m c (ix2 0 d) := by
  unfold V
  after_reads_at

theorem a_apply (k : Fin 128) : (V m c main_v5 : Vec Ideal S1x128 .f32) (ix2 0 k) = rate (fun h => aa m c (ix2 0 h)) k := by
  unfold V rate
  after_reads_at
  split
  · after_reads_at
  · split
    · after_reads_at
    · after_reads_at

theorem blk0 (n : Fin 128) (d : Fin 1024) : (iblk m c 0 pt : Vec Ideal S128x1024 .f32) (ix2 n d) = asc m c (ix4 0 n 0 d) := by
  refine Eq.trans ?_ (s0_apply m c n d)
  blk_ext [iblk, V, index0]

theorem blk1 (n : Fin 128) (d : Fin 1024) : (iblk m c 1 pt : Vec Ideal S128x1024 .f32) (ix2 n d) = asc m c (ix4 0 n 1 d) := by
  refine Eq.trans ?_ (s1_apply m c n d)
  blk_ext [iblk, V, index1]

theorem blk2 (n : Fin 128) (d : Fin 1024) : (iblk m c 2 pt : Vec Ideal S128x1024 .f32) (ix2 n d) = asc m c (ix4 0 n 2 d) := by
  refine Eq.trans ?_ (s2_apply m c n d)
  blk_ext [iblk, V, index2]

theorem blk3 (n : Fin 128) (d : Fin 1024) : (iblk m c 3 pt : Vec Ideal S128x1024 .f32) (ix2 n d) = ax m c (ix2 n d) := by
  rw [ax, ← V_main_arg1 m c]
  blk_ext [iblk, V, index3]

theorem blk4 (n k : Fin 128) : (iblk m c 4 pt : Vec Ideal S128x128 .f32) (ix2 n k) = asa m c (ix2 n k) := by
  rw [asa, ← V_main_arg2 m c]
  blk_ext [iblk, V, index4]

theorem blk5 (j : Fin 4) (d : Fin 1024) : (iblk m c 5 pt : Vec Ideal S4x1024 .f32) (ix2 j d) = aw m c (ix3 0 j d) := by
  refine Eq.trans ?_ (w_apply m c j d)
  blk_ext [iblk, V, index5]

theorem blk6 (d : Fin 1024) : (iblk m c 6 pt : Vec Ideal S1x1024 .f32) (ix2 0 d) = ab m c (ix2 0 d) := by
  refine Eq.trans ?_ (b_apply m c d)
  blk_ext [iblk, V, index6]

theorem blk7 (k : Fin 128) :
    (iblk m c 7 pt : Vec Ideal S1x128 .f32) (ix2 0 k) = rate (fun h => aa m c (ix2 0 h)) k := by
  refine Eq.trans ?_ (a_apply m c k)
  blk_ext [iblk, V, index7]

theorem emb8 (n : Fin 128) (d : Fin 1024) :
    ((cfg0.win 8).blk pt).view.emb (ix2 n d) = (ix2 n d : S128x1024.Idx) := by
  blk_ext [index8]

theorem emb9 (n k : Fin 128) :
    ((cfg0.win 9).blk pt).view.emb (ix2 n k) = (ix2 n k : S128x128.Idx) := by
  blk_ext [index9]

theorem written8 (n : Fin 128) (d : Fin 1024) : (dats m 0 c).flushed 8 pt (ix2 n d) =
    out0_8 (iblk m c 0 pt) (iblk m c 1 pt) (iblk m c 2 pt) (iblk m c 3 pt) (iblk m c 4 pt) (iblk m c 5 pt) (iblk m c 6 pt)
      (iblk m c 7 pt) (ix2 n d) := by
  rw [Value.flushed8]
  rfl

theorem written9 (n k : Fin 128) : (dats m 0 c).flushed 9 pt (ix2 n k) =
    out0_9 (iblk m c 0 pt) (iblk m c 1 pt) (iblk m c 2 pt) (iblk m c 3 pt) (iblk m c 4 pt) (iblk m c 5 pt) (iblk m c 6 pt)
      (iblk m c 7 pt) (ix2 n k) := by
  rw [Value.flushed9]
  rfl

/-- Row `n` of the convolution. -/
theorem arr8_apply (n : Fin 128) (d : Fin 1024) :
    (dats m 0 c).arrAt 8 cfg0.N (ix2 n d : S128x1024.Idx) =
      conv (ab m c (ix2 0 d)) (asc m c (ix4 0 n 0 d)) (asc m c (ix4 0 n 1 d)) (asc m c (ix4 0 n 2 d)) (ax m c (ix2 n d))
        (aw m c (ix3 0 0 d)) (aw m c (ix3 0 1 d)) (aw m c (ix3 0 2 d)) (aw m c (ix3 0 3 d)) := by
  have key := (dats m 0 c).arrAt_emb_eq_flushed 8 Value.disjoint8 pt (flush0_8 _) (ix2 n d)
  rw [emb8] at key
  refine (key.trans (written8 m c n d)).trans ?_
  rw [conv_apply]
  simp only [blk0, blk1, blk2, blk3, blk5, blk6]

/-- Row `n` of the decays. -/
theorem arr9_apply (n k : Fin 128) :
    (dats m 0 c).arrAt 9 cfg0.N (ix2 n k : S128x128.Idx) =
      decay (asa m c (ix2 n k)) (rate (fun h => aa m c (ix2 0 h)) k) := by
  have key := (dats m 0 c).arrAt_emb_eq_flushed 9 Value.disjoint9 pt (flush0_9 _) (ix2 n k)
  rw [emb9] at key
  refine (key.trans (written9 m c n k)).trans ?_
  rw [decay_apply]
  simp only [blk4, blk7]

end Cert.ConvIdeal.Arr

end
-- ==== Proof.Conv.Ref.lean ====
/-
  The reference of the samples' convolution, element by element.
-/
module

public import proofs.«01_k».proof.Proof.Conv.Spec
public import proofs.«01_k».proof.Proof.Merge.Ref
public import proofs.«01_k».proof.Proof.Gen.ConvReferenceIdeal.Read
public import Idealize.ShloMosaic.Lib.Pipeline.ValueKit
public import Idealize.ShloMosaic.Lib.Pointwise

@[expose] public section

set_option maxRecDepth 16384

noncomputable section

namespace Cert.ConvReferenceIdeal.Ref

open Idealize.ShloMosaic Cert.ConvReferenceIdeal Cert.ConvReferenceIdeal.Gen Cert.ConvReferenceIdeal.Read Cert.Conv.Spec
  Idealize.ShloMosaic.Tactic

variable (sc : Vec Ideal S1x128x3x1024 .f32) (x : Vec Ideal S128x1024 .f32) (sa : Vec Ideal S128x128 .f32)
  (w : Vec Ideal S1x4x1024 .f32) (b : Vec Ideal S1x1024 .f32) (a : Vec Ideal S1x8 .f32)

/-- The rows the taps meet: the three before, then the new one. -/
theorem rows_before (n : Fin 128) (j : Fin 3) (d : Fin 1024) :
    val_main_v2 (F := Ideal) sc x (ix3 n (⟨j.val, by omega⟩ : Fin 4) d) = sc (ix4 0 n j d) := by
  unfold val_main_v2 val_main_v0
  pointwise

theorem row_new (n : Fin 128) (d : Fin 1024) : val_main_v2 (F := Ideal) sc x (ix3 n 3 d) = x (ix2 n d) := by
  unfold val_main_v2 val_main_v1
  pointwise

theorem row0 (n : Fin 128) (d : Fin 1024) : val_main_v5 (F := Ideal) sc x (ix2 n d) = sc (ix4 0 n 0 d) := by
  refine Eq.trans ?_ (rows_before sc x n 0 d)
  unfold val_main_v5 val_main_v4
  generalize val_main_v2 (F := Ideal) sc x = y
  pointwise

theorem row1 (n : Fin 128) (d : Fin 1024) : val_main_v15 (F := Ideal) sc x (ix2 n d) = sc (ix4 0 n 1 d) := by
  refine Eq.trans ?_ (rows_before sc x n 1 d)
  unfold val_main_v15 val_main_v14
  generalize val_main_v2 (F := Ideal) sc x = y
  pointwise

theorem row2 (n : Fin 128) (d : Fin 1024) : val_main_v23 (F := Ideal) sc x (ix2 n d) = sc (ix4 0 n 2 d) := by
  refine Eq.trans ?_ (rows_before sc x n 2 d)
  unfold val_main_v23 val_main_v22
  generalize val_main_v2 (F := Ideal) sc x = y
  pointwise

theorem row3 (n : Fin 128) (d : Fin 1024) : val_main_v31 (F := Ideal) sc x (ix2 n d) = x (ix2 n d) := by
  refine Eq.trans ?_ (row_new sc x n d)
  unfold val_main_v31 val_main_v30
  generalize val_main_v2 (F := Ideal) sc x = y
  pointwise

theorem tap0 (n : Fin 128) (d : Fin 1024) : val_main_v9 (F := Ideal) w (ix2 n d) = w (ix3 0 0 d) := by
  unfold val_main_v9 val_main_v8 val_main_v7 val_main_v6
  pointwise

theorem tap1 (n : Fin 128) (d : Fin 1024) : val_main_v19 (F := Ideal) w (ix2 n d) = w (ix3 0 1 d) := by
  unfold val_main_v19 val_main_v18 val_main_v17 val_main_v16
  pointwise

theorem tap2 (n : Fin 128) (d : Fin 1024) : val_main_v27 (F := Ideal) w (ix2 n d) = w (ix3 0 2 d) := by
  unfold val_main_v27 val_main_v26 val_main_v25 val_main_v24
  pointwise

theorem tap3 (n : Fin 128) (d : Fin 1024) : val_main_v35 (F := Ideal) w (ix2 n d) = w (ix3 0 3 d) := by
  unfold val_main_v35 val_main_v34 val_main_v33 val_main_v32
  pointwise

theorem bias_apply (n : Fin 128) (d : Fin 1024) : val_main_v12 (F := Ideal) b (ix2 n d) = b (ix2 0 d) := by
  unfold val_main_v12 val_main_v11 val_main_v3
  pointwise

theorem taps_apply (n : Fin 128) (d : Fin 1024) : val_main_v37 (F := Ideal) sc x w b (ix2 n d) =
    taps (b (ix2 0 d)) (sc (ix4 0 n 0 d)) (sc (ix4 0 n 1 d)) (sc (ix4 0 n 2 d)) (x (ix2 n d))
      (w (ix3 0 0 d)) (w (ix3 0 1 d)) (w (ix3 0 2 d)) (w (ix3 0 3 d)) := by
  rw [val_main_v37_apply, val_main_v29_apply, val_main_v21_apply, val_main_v13_apply, val_main_v36_apply, val_main_v28_apply,
    val_main_v20_apply, val_main_v10_apply, row0, row1, row2, row3, tap0, tap1, tap2, tap3, bias_apply]
  rfl

/-- Row `n` of the convolution. -/
theorem conv_apply (n : Fin 128) (d : Fin 1024) : val_main_v44 (F := Ideal) sc x w b (ix2 n d) =
    conv (b (ix2 0 d)) (sc (ix4 0 n 0 d)) (sc (ix4 0 n 1 d)) (sc (ix4 0 n 2 d)) (x (ix2 n d))
      (w (ix3 0 0 d)) (w (ix3 0 1 d)) (w (ix3 0 2 d)) (w (ix3 0 3 d)) := by
  rw [val_main_v44_apply, val_main_call0_v5_apply, val_main_call0_v4_apply, val_main_call0_v3_apply, val_main_call0_v2_apply,
    val_main_call0_v1_apply, val_main_call0_v0_apply, val_main_call0_cst_apply, val_main_call0_cst_0_apply, taps_apply,
    Cert.MergeReferenceIdeal.Ref.one_lit]
  rfl

theorem rate_apply (k : Fin 128) : val_main_v41 (F := Ideal) a (ix1 k) = rate (fun h => a (ix2 0 h)) k := by
  unfold val_main_v41 val_main_v38 val_main_v39 val_main_v40 val_main_cst val_main_cst_0 rate
  pointwise
  split
  · pointwise
  · split
    · pointwise
    · pointwise

/-- Row `n` of the decays. -/
theorem decay_apply (n k : Fin 128) : val_main_v48 (F := Ideal) sa a (ix2 n k) =
    decay (sa (ix2 n k)) (rate (fun h => a (ix2 0 h)) k) := by
  have e : idx_main_v45 (idx_main_v46 (ix2 n k)) = ix1 k := funext fun a => match a with | ⟨0, _⟩ => rfl
  rw [val_main_v48_apply, val_main_v47_apply, val_main_v46_apply, val_main_v45_apply, val_main_v43_apply, val_main_v42_apply, e,
    rate_apply, decay, zero_sub]
  rfl

end Cert.ConvReferenceIdeal.Ref

end
-- ==== Proof.Conv.Claim.lean ====
/-
  The two results of the samples' convolution are its reference's.
-/
module

public import proofs.«01_k».proof.Proof.Conv.Array
public import proofs.«01_k».proof.Proof.Conv.Ref
public import proofs.«01_k».proof.Defs
public import proofs.«01_k».proof.Proof.Gen.ConvIdeal.Value
public import proofs.«01_k».proof.Proof.Gen.ConvReferenceIdeal.Run

@[expose] public section

set_option maxRecDepth 16384

noncomputable section

namespace Cert.ConvIdeal.Close

open Idealize.ShloMosaic Cert.ConvReferenceIdeal.Read

theorem idx_form1024 (i : Cert.ConvIdeal.S128x1024.Idx) : ∃ (n : Fin 128) (d : Fin 1024), i = ix2 n d :=
  ⟨i 0, i 1, funext fun a => match a with | ⟨0, _⟩ => rfl | ⟨1, _⟩ => rfl⟩

theorem idx_form128 (i : Cert.ConvIdeal.S128x128.Idx) : ∃ (n d : Fin 128), i = ix2 n d :=
  ⟨i 0, i 1, funext fun a => match a with | ⟨0, _⟩ => rfl | ⟨1, _⟩ => rfl⟩

variable (m : (ℓ : Loc Cert.ConvIdeal.nD Cert.ConvIdeal.τ Cert.ConvIdeal.sig) → Buf (Elt Ideal) ℓ) (c : Dev Cert.ConvIdeal.nD)

theorem arr8_eq : (Cert.ConvIdeal.Gen.dats m 0 c).arrAt 8 Cert.ConvIdeal.cfg0.N =
      val_main_v44 (F := Ideal)
        (m ((c.tc : Thread Cert.ConvIdeal.nD Cert.ConvIdeal.τ).loc Cert.ConvIdeal.main_arg0))
        (m ((c.tc : Thread Cert.ConvIdeal.nD Cert.ConvIdeal.τ).loc Cert.ConvIdeal.main_arg1))
        (m ((c.tc : Thread Cert.ConvIdeal.nD Cert.ConvIdeal.τ).loc Cert.ConvIdeal.main_arg3))
        (m ((c.tc : Thread Cert.ConvIdeal.nD Cert.ConvIdeal.τ).loc Cert.ConvIdeal.main_arg4)) := by
  funext i
  obtain ⟨n, d, rfl⟩ := idx_form1024 i
  exact (Cert.ConvIdeal.Arr.arr8_apply m c n d).trans (Cert.ConvReferenceIdeal.Ref.conv_apply _ _ _ _ n d).symm

theorem arr9_eq : (Cert.ConvIdeal.Gen.dats m 0 c).arrAt 9 Cert.ConvIdeal.cfg0.N =
      val_main_v48 (F := Ideal)
        (m ((c.tc : Thread Cert.ConvIdeal.nD Cert.ConvIdeal.τ).loc Cert.ConvIdeal.main_arg2))
        (m ((c.tc : Thread Cert.ConvIdeal.nD Cert.ConvIdeal.τ).loc Cert.ConvIdeal.main_arg5)) := by
  funext i
  obtain ⟨n, d, rfl⟩ := idx_form128 i
  exact (Cert.ConvIdeal.Arr.arr9_apply m c n d).trans (Cert.ConvReferenceIdeal.Ref.decay_apply _ _ n d).symm

set_option maxHeartbeats 2000000 in
/-- The claim: the same arguments, the same two results. -/
theorem algebraic : Cert.algebraic_ConvIdeal_ConvReferenceIdeal := by
  intro m ρ m' ρ' _ hag
  refine ⟨fun c => (Cert.ConvIdeal.Gen.dats m 0 c).arrAt 8 Cert.ConvIdeal.cfg0.N,
    fun c => (Cert.ConvIdeal.Gen.dats m 0 c).arrAt 9 Cert.ConvIdeal.cfg0.N, Cert.ConvIdeal.Value.run_blocks m ρ, ?_⟩
  refine (θ_run _ _ _).mono (fun _ h c => ?_) (Cert.ConvReferenceIdeal.Value.run m' ρ')
  obtain ⟨r0, r1, hr⟩ := h c
  obtain ⟨h0, h1, h2, h3, h4, h5⟩ := hag c
  refine ⟨r0.trans ?_, r1.trans ?_, hr⟩
  · refine (val_main_v44_eq m' c).trans ?_
    rw [h0, h1, h3, h4]
    exact (arr8_eq m c).symm
  · refine (val_main_v48_eq _ _).trans ?_
    rw [h2, h5]
    exact (arr9_eq m c).symm

end Cert.ConvIdeal.Close

end
-- ==== Proof.InProjS.Tile.lean ====
/-
  What the input projection of the samples leaves in the tiles of its eight results, element by element.
-/
module

public import proofs.«01_k».proof.Proof.InProj.Spec
public import proofs.«01_k».proof.Proof.Gen.InProjSIdeal.Value
public import Idealize.ShloMosaic.Lib.Pipeline.ValueKit
public import Idealize.ShloMosaic.Lib.Pointwise
public import Idealize.ShloMosaic.Lib.Claim

@[expose] public section

set_option maxRecDepth 16384

noncomputable section

namespace Cert.InProjSIdeal.Tile

open Cert.InProjSIdeal Cert.InProjSIdeal.Gen Cert.Ffn.Spec Cert.InProj.Spec Idealize.ShloMosaic Idealize.ShloMosaic.TcCoe Idealize.ShloMosaic.Tactic

theorem zero2 : (![0, 0] : Fin 2 → ℕ) = fun _ => 0 := by funext a; fin_cases a <;> rfl

variable (x sh sc : Vec Ideal S128x1024 .f32) (g : Vec Ideal S1x1024 .f32)
  (wb : Vec Ideal S1024x3072 .bf16) (ws : Vec Ideal S1024x128 .bf16) (bs : Vec Ideal S1x128 .f32)

/-- A row of the tile after the norm and the modulation. -/
abbrev hid (r : Fin 128) : Fin 1024 → EReal :=
  modulated (fun k => x (ix2 r k)) (fun k => g (ix2 0 k)) (fun k => sc (ix2 r k)) (fun k => sh (ix2 r k))

/-- The payload that normalizes and modulates the tile, at one element. -/
theorem hid_apply (r : Fin 128) (d : Fin 1024) : k0_pay2 (F := Ideal) x g sc sh (ix2 r d) = hid x sh sc g r d := by
  pointwise [k0_pay2]
  rfl

/-- The scaled queries the tile leaves, at one element. -/
theorem q_apply (r : Fin 128) (e : Fin 512) :
    out0_7 x sh sc g wb ws bs (ix2 r e) =
      (∑ d : Fin 1024, hid x sh sc g r d * wb (ix2 d (⟨e.val, by omega⟩ : Fin 3072))) * Ideal.ofBits .f32 0x3E000000#32 := by
  unfold_out out0_7
  rw [View.canon_unit_zero zero2]
  simp only [View.ld_unit_zero (S := S128x1024) zero2, View.ld_unit_zero (S := S1x1024) zero2]
  pointwise [k0_pay3, k0_pay2]
  rfl

/-- The keys the tile leaves, at one element. -/
theorem k_apply (r : Fin 128) (e : Fin 512) :
    out0_8 x sh sc g wb ws bs (ix2 r e) =
      ∑ d : Fin 1024, hid x sh sc g r d * wb (ix2 d (⟨512 + e.val, by omega⟩ : Fin 3072)) := by
  unfold_out out0_8
  rw [View.canon_unit_zero zero2]
  simp only [View.ld_unit_zero (S := S128x1024) zero2, View.ld_unit_zero (S := S1x1024) zero2]
  pointwise [k0_pay4, hid_apply]

/-- The values the tile leaves, at one element. -/
theorem v_apply (r : Fin 128) (e : Fin 512) :
    out0_9 x sh sc g wb ws bs (ix2 r e) =
      ∑ d : Fin 1024, hid x sh sc g r d * wb (ix2 d (⟨1024 + e.val, by omega⟩ : Fin 3072)) := by
  unfold_out out0_9
  rw [View.canon_unit_zero zero2]
  simp only [View.ld_unit_zero (S := S128x1024) zero2, View.ld_unit_zero (S := S1x1024) zero2]
  pointwise [k0_pay6, hid_apply]

/-- The narrow copy of the keys the tile leaves, at one element. -/
theorem kb_apply (r : Fin 128) (e : Fin 512) :
    out0_10 x sh sc g wb ws bs (ix2 r e) =
      ∑ d : Fin 1024, hid x sh sc g r d * wb (ix2 d (⟨512 + e.val, by omega⟩ : Fin 3072)) := by
  unfold_out out0_10
  rw [View.canon_unit_zero zero2]
  simp only [View.ld_unit_zero (S := S128x1024) zero2, View.ld_unit_zero (S := S1x1024) zero2]
  pointwise [k0_pay5, k0_pay4, hid_apply]

/-- The narrow copy of the values the tile leaves, at one element. -/
theorem vb_apply (r : Fin 128) (e : Fin 512) :
    out0_11 x sh sc g wb ws bs (ix2 r e) =
      ∑ d : Fin 1024, hid x sh sc g r d * wb (ix2 d (⟨1024 + e.val, by omega⟩ : Fin 3072)) := by
  unfold_out out0_11
  rw [View.canon_unit_zero zero2]
  simp only [View.ld_unit_zero (S := S128x1024) zero2, View.ld_unit_zero (S := S1x1024) zero2]
  pointwise [k0_pay7, k0_pay6, hid_apply]

/-- The gates the tile leaves, at one element. -/
theorem z_apply (r : Fin 128) (e : Fin 512) :
    out0_12 x sh sc g wb ws bs (ix2 r e) =
      ∑ d : Fin 1024, hid x sh sc g r d * wb (ix2 d (⟨1536 + e.val, by omega⟩ : Fin 3072)) := by
  unfold_out out0_12
  rw [View.canon_unit_zero zero2]
  simp only [View.ld_unit_zero (S := S128x1024) zero2, View.ld_unit_zero (S := S1x1024) zero2]
  pointwise [k0_pay8, hid_apply]

/-- The inputs of the convolution the tile leaves, at one element. -/
theorem xbc_apply (r : Fin 128) (e : Fin 1024) :
    out0_13 x sh sc g wb ws bs (ix2 r e) =
      ∑ d : Fin 1024, hid x sh sc g r d * wb (ix2 d (⟨2048 + e.val, by omega⟩ : Fin 3072)) := by
  unfold_out out0_13
  rw [View.canon_unit_zero zero2]
  simp only [View.ld_unit_zero (S := S128x1024) zero2, View.ld_unit_zero (S := S1x1024) zero2]
  pointwise [k0_pay9, hid_apply]

/-- The lanes of the eighth result the tile leaves, at one element. -/
theorem small_apply (r : Fin 128) (e : Fin 128) :
    out0_14 x sh sc g wb ws bs (ix2 r e) =
      lane e.val (∑ d : Fin 1024, hid x sh sc g r d * ws (ix2 d e) + bs (ix2 0 e)) := by
  unfold_out out0_14
  rw [View.canon_unit_zero zero2]
  simp only [View.ld_unit_zero (S := S128x1024) zero2, View.ld_unit_zero (S := S1x1024) zero2,
    View.ld_unit_zero (S := S1024x128) zero2, View.ld_unit_zero (S := S1x128) zero2]
  pointwise [k0_pay1, k0_pay10, k0_pay11, k0_pay12, k0_pay13, hid_apply]
  have hc : IntOp.cmpi .slt (BitVec.ofNat 32 e.val) 8#32 = BitVec.ofBool (decide (e.val < 8)) :=
    WordCmp.cmpi_slt_ofNat (by omega) (by norm_num)
  rw [hc, WordCmp.select_ofBool]
  simp only [decide_eq_true_eq]
  rfl

end Cert.InProjSIdeal.Tile

end
-- ==== Proof.InProjS.Array.lean ====
/-
  The eight result arrays of the input projection of the samples, element by element, in terms of the arguments.
-/
module

public import proofs.«01_k».proof.Proof.InProjS.Tile
public import Idealize.ShloMosaic.Lib.Claim
public import Idealize.ShloMosaic.Lib.StableHlo.ReadAt

@[expose] public section

set_option maxRecDepth 16384

noncomputable section

namespace Cert.InProjSIdeal.Arr

open Idealize.ShloMosaic Idealize.ShloMosaic.TcCoe Cert.InProjSIdeal Cert.InProjSIdeal.Gen Cert.Ffn.Spec Cert.InProj.Spec

/-- The grid point of row tile `u`. -/
def pt (u : Fin 1) : Fin cfg0.N := ⟨u.val, by have : cfg0.N = 1 := N_0; omega⟩

theorem index0 : ∀ u : Fin 1, win0_0.index (pt u) = ![u.val, 0] := by decide +kernel
theorem index1 : ∀ u : Fin 1, win0_1.index (pt u) = ![u.val, 0] := by decide +kernel
theorem index2 : ∀ u : Fin 1, win0_2.index (pt u) = ![u.val, 0] := by decide +kernel
theorem index3 : ∀ u : Fin 1, win0_3.index (pt u) = ![0, 0] := by decide +kernel
theorem index4 : ∀ u : Fin 1, win0_4.index (pt u) = ![0, 0] := by decide +kernel
theorem index5 : ∀ u : Fin 1, win0_5.index (pt u) = ![0, 0] := by decide +kernel
theorem index6 : ∀ u : Fin 1, win0_6.index (pt u) = ![0, 0] := by decide +kernel
theorem index7 : ∀ u : Fin 1, win0_7.index (pt u) = ![u.val, 0] := by decide +kernel
theorem index8 : ∀ u : Fin 1, win0_8.index (pt u) = ![u.val, 0] := by decide +kernel
theorem index9 : ∀ u : Fin 1, win0_9.index (pt u) = ![u.val, 0] := by decide +kernel
theorem index10 : ∀ u : Fin 1, win0_10.index (pt u) = ![u.val, 0] := by decide +kernel
theorem index11 : ∀ u : Fin 1, win0_11.index (pt u) = ![u.val, 0] := by decide +kernel
theorem index12 : ∀ u : Fin 1, win0_12.index (pt u) = ![u.val, 0] := by decide +kernel
theorem index13 : ∀ u : Fin 1, win0_13.index (pt u) = ![u.val, 0] := by decide +kernel
theorem index14 : ∀ u : Fin 1, win0_14.index (pt u) = ![u.val, 0] := by decide +kernel

variable (m : (ℓ : Loc nD τ sig) → Buf (Elt Ideal) ℓ) (c : Dev nD)

/-- The rows. -/
abbrev ax : Vec Ideal S128x1x1024 .f32 := m ((c : Thread nD τ).loc main_arg0)
/-- The shifts. -/
abbrev ash : Vec Ideal S128x1024 .f32 := m ((c : Thread nD τ).loc main_arg1)
/-- The scales. -/
abbrev asc : Vec Ideal S128x1024 .f32 := m ((c : Thread nD τ).loc main_arg2)
/-- The gains. -/
abbrev ag : Vec Ideal S1x1024 .f32 := m ((c : Thread nD τ).loc main_arg3)
/-- The weights. -/
abbrev aw : Vec Ideal S1x1024x3088 .f32 := m ((c : Thread nD τ).loc main_arg4)
/-- The forget gates' biases. -/
abbrev abf : Vec Ideal S1x8 .f32 := m ((c : Thread nD τ).loc main_arg5)
/-- The step sizes' biases. -/
abbrev adt : Vec Ideal S1x8 .f32 := m ((c : Thread nD τ).loc main_arg6)

/-- The tile of row `n`. -/
abbrev tile (n : Fin 128) : Fin 1 := ⟨n.val / 128, by omega⟩
/-- Row `n` in its tile. -/
abbrev inner (n : Fin 128) : Fin 128 := ⟨n.val % 128, by omega⟩

theorem x_apply (n : Fin 128) (d : Fin 1024) :
    (V m c main_v15 : Vec Ideal S128x1024 .f32) (ix2 n d) =
      ax m c (ix3 n 0 d) := by
  entry_read
  refine shapeCast_apply _ _ _ _ ?_
  show (S128x1x1024.rowMajor (ix3 n 0 d)).val =
    (S128x1024.rowMajor (ix2 n d)).val
  rw [Shape.rowMajor_val_three, Shape.rowMajor_val_two]
  show (n.val * 1 + 0) * 1024 + d.val = n.val * 1024 + d.val
  omega

/-- The wide weights are the projection's but for the columns of the gates and the step sizes. -/
theorem wb_apply (d : Fin 1024) (k : Fin 3072) :
    (V m c main_v4 : Vec Ideal S1024x3072 .bf16) (ix2 d k) =
      if h : k.val < 1536 then aw m c (ix3 0 d ⟨k.val, by omega⟩) else aw m c (ix3 0 d ⟨k.val + 8, by omega⟩) := by
  unfold V
  after_reads_at
  split
  · after_reads_at
  · after_reads_at
    exact congrArg (fun k => aw m c (ix3 0 d k)) (Fin.ext (by show 1544 + (k.val - 1536) = k.val + 8; omega))

/-- The narrow weights are those columns, and zeros. -/
theorem ws_apply (d : Fin 1024) (k : Fin 128) :
    (V m c main_v9 : Vec Ideal S1024x128 .bf16) (ix2 d k) =
      if h : k.val < 8 then aw m c (ix3 0 d ⟨1536 + k.val, by omega⟩)
      else if h' : k.val - 8 < 8 then aw m c (ix3 0 d ⟨3080 + (k.val - 8), by omega⟩) else (0 : EReal) := by
  unfold V
  after_reads_at
  split
  · after_reads_at
  · split
    · after_reads_at
    · after_reads_at

/-- The biases are the gates', the step sizes', and zeros. -/
theorem bs_apply (k : Fin 128) :
    (V m c main_v14 : Vec Ideal S1x128 .f32) (ix2 0 k) =
      if h : k.val < 8 then abf m c (ix2 0 ⟨k.val, h⟩)
      else if h' : k.val - 8 < 8 then adt m c (ix2 0 ⟨k.val - 8, h'⟩) else (0 : EReal) := by
  unfold V
  after_reads_at
  split
  · after_reads_at
  · split
    · after_reads_at
    · after_reads_at

theorem blk0 (n : Fin 128) (d : Fin 1024) :
    (iblk m c 0 (pt (tile n)) : Vec Ideal S128x1024 .f32) (ix2 (inner n) d) =
      ax m c (ix3 n 0 d) := by
  refine Eq.trans ?_ (x_apply m c n d)
  have e : n = (⟨128 * (tile n).val + (inner n).val, by omega⟩ : Fin 128) := Fin.ext (by show n.val = 128 * (n.val / 128) + n.val % 128; omega)
  conv_rhs => rw [e]
  blk_ext [iblk, V, index0 (tile n)]

theorem blk1 (n : Fin 128) (d : Fin 1024) :
    (iblk m c 1 (pt (tile n)) : Vec Ideal S128x1024 .f32) (ix2 (inner n) d) = ash m c (ix2 n d) := by
  rw [ash, ← V_main_arg1 m c]
  have e : n = (⟨128 * (tile n).val + (inner n).val, by omega⟩ : Fin 128) := Fin.ext (by show n.val = 128 * (n.val / 128) + n.val % 128; omega)
  conv_rhs => rw [e]
  blk_ext [iblk, V, index1 (tile n)]

theorem blk2 (n : Fin 128) (d : Fin 1024) :
    (iblk m c 2 (pt (tile n)) : Vec Ideal S128x1024 .f32) (ix2 (inner n) d) = asc m c (ix2 n d) := by
  rw [asc, ← V_main_arg2 m c]
  have e : n = (⟨128 * (tile n).val + (inner n).val, by omega⟩ : Fin 128) := Fin.ext (by show n.val = 128 * (n.val / 128) + n.val % 128; omega)
  conv_rhs => rw [e]
  blk_ext [iblk, V, index2 (tile n)]

theorem blk3 (u : Fin 1) (d : Fin 1024) :
    (iblk m c 3 (pt u) : Vec Ideal S1x1024 .f32) (ix2 0 d) = ag m c (ix2 0 d) := by
  rw [ag, ← V_main_arg3 m c]
  blk_ext [iblk, V, index3 u]

theorem blk4 (u : Fin 1) (d : Fin 1024) (k : Fin 3072) :
    (iblk m c 4 (pt u) : Vec Ideal S1024x3072 .bf16) (ix2 d k) = (V m c main_v4 : Vec Ideal S1024x3072 .bf16) (ix2 d k) := by
  blk_ext [iblk, V, index4 u]

theorem blk5 (u : Fin 1) (d : Fin 1024) (k : Fin 128) :
    (iblk m c 5 (pt u) : Vec Ideal S1024x128 .bf16) (ix2 d k) = (V m c main_v9 : Vec Ideal S1024x128 .bf16) (ix2 d k) := by
  blk_ext [iblk, V, index5 u]

theorem blk6 (u : Fin 1) (k : Fin 128) :
    (iblk m c 6 (pt u) : Vec Ideal S1x128 .f32) (ix2 0 k) = (V m c main_v14 : Vec Ideal S1x128 .f32) (ix2 0 k) := by
  blk_ext [iblk, V, index6 u]

/-- Row `n` after the norm and the modulation. -/
abbrev hidden (n : Fin 128) : Fin 1024 → EReal :=
  modulated (fun k => ax m c (ix3 n 0 k)) (fun k => ag m c (ix2 0 k))
    (fun k => asc m c (ix2 n k)) (fun k => ash m c (ix2 n k))

theorem hid_at (n : Fin 128) :
    Tile.hid (iblk m c 0 (pt (tile n))) (iblk m c 1 (pt (tile n))) (iblk m c 2 (pt (tile n))) (iblk m c 3 (pt (tile n))) (inner n) =
      hidden m c n := by
  unfold Tile.hid hidden
  simp only [blk0, blk1, blk2, blk3]

/-- Row `n` projected. -/
abbrev proj (n : Fin 128) : Fin 3088 → EReal := val (hidden m c n) (fun d e => aw m c (ix3 0 d e))

/-- A column of the wide product before the gates' columns. -/
theorem low (n : Fin 128) (k : Fin 3072) (h : k.val < 1536) :
    (∑ d : Fin 1024, Tile.hid (iblk m c 0 (pt (tile n))) (iblk m c 1 (pt (tile n))) (iblk m c 2 (pt (tile n))) (iblk m c 3 (pt (tile n)))
        (inner n) d * (iblk m c 4 (pt (tile n)) : Vec Ideal S1024x3072 .bf16) (ix2 d k)) = proj m c n ⟨k.val, by omega⟩ :=
  Finset.sum_congr rfl fun d _ => by rw [hid_at, blk4, wb_apply, dif_pos h]

/-- A column of the wide product after the gates' columns. -/
theorem high (n : Fin 128) (k : Fin 3072) (h : ¬k.val < 1536) (k' : Fin 3088) (e : k'.val = k.val + 8) :
    (∑ d : Fin 1024, Tile.hid (iblk m c 0 (pt (tile n))) (iblk m c 1 (pt (tile n))) (iblk m c 2 (pt (tile n))) (iblk m c 3 (pt (tile n)))
        (inner n) d * (iblk m c 4 (pt (tile n)) : Vec Ideal S1024x3072 .bf16) (ix2 d k)) = proj m c n k' := by
  have e' : k' = ⟨k.val + 8, by omega⟩ := Fin.ext e
  rw [e']
  exact Finset.sum_congr rfl fun d _ => by rw [hid_at, blk4, wb_apply, dif_neg h]

/-- The lane of the gates, the step sizes and the padding. -/
theorem lanes (n : Fin 128) (l : Fin 128) :
    lane l.val ((∑ d : Fin 1024, Tile.hid (iblk m c 0 (pt (tile n))) (iblk m c 1 (pt (tile n))) (iblk m c 2 (pt (tile n))) (iblk m c 3 (pt (tile n)))
        (inner n) d * (iblk m c 5 (pt (tile n)) : Vec Ideal S1024x128 .bf16) (ix2 d l)) +
        (iblk m c 6 (pt (tile n)) : Vec Ideal S1x128 .f32) (ix2 0 l)) =
      small (hidden m c n) (fun d e => aw m c (ix3 0 d e)) (fun l => abf m c (ix2 0 l)) (fun l => adt m c (ix2 0 l)) l := by
  simp only [hid_at, blk5, blk6]
  unfold lane small val
  rw [bs_apply]
  by_cases h1 : l.val < 8
  · rw [dif_pos h1, dif_pos h1, if_pos h1]
    exact congrArg (fun s => 0 - soft (0 - (s + abf m c (ix2 0 ⟨l.val, h1⟩))))
      (Finset.sum_congr rfl fun d _ => by rw [ws_apply, dif_pos h1])
  · by_cases h2 : l.val - 8 < 8
    · rw [dif_neg h1, dif_pos h2, dif_neg h1, dif_pos h2, if_neg h1]
      exact congrArg (fun s => soft (s + adt m c (ix2 0 ⟨l.val - 8, h2⟩)))
        (Finset.sum_congr rfl fun d _ => by rw [ws_apply, dif_neg h1, dif_pos h2])
    · rw [dif_neg h1, dif_neg h2, dif_neg h1, dif_neg h2, if_neg h1, add_zero]
      refine congrArg soft (Finset.sum_eq_zero fun d _ => ?_)
      rw [ws_apply, dif_neg h1, dif_neg h2, mul_zero]

theorem written7 (t : Fin cfg0.N) (r : Fin 128) (e : Fin 512) : (dats m 0 c).flushed 7 t (ix2 r e) =
    out0_7 (iblk m c 0 t) (iblk m c 1 t) (iblk m c 2 t) (iblk m c 3 t) (iblk m c 4 t) (iblk m c 5 t) (iblk m c 6 t) (ix2 r e) := by
  rw [Value.flushed7]
  rfl

theorem emb7 (n : Fin 128) (e : Fin 512) :
    ((cfg0.win 7).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index7 (tile n)]

/-- The array of the queries. -/
theorem q_apply (n : Fin 128) (e : Fin 512) :
    (dats m 0 c).arrAt 7 cfg0.N (ix2 n e : S128x512.Idx) =
      proj m c n ⟨e.val, by omega⟩ * Ideal.ofBits .f32 0x3E000000#32 := by
  have key := (dats m 0 c).arrAt_emb_eq_flushed 7 Value.disjoint7 (pt (tile n)) (flush0_7 _) (ix2 (inner n) e)
  rw [emb7] at key
  refine (key.trans (written7 m c (pt (tile n)) (inner n) e)).trans ?_
  rw [Tile.q_apply]
  exact congrArg (· * _) (low m c n ⟨e.val, by omega⟩ (by show e.val < 1536; omega))

theorem written8 (t : Fin cfg0.N) (r : Fin 128) (e : Fin 512) : (dats m 0 c).flushed 8 t (ix2 r e) =
    out0_8 (iblk m c 0 t) (iblk m c 1 t) (iblk m c 2 t) (iblk m c 3 t) (iblk m c 4 t) (iblk m c 5 t) (iblk m c 6 t) (ix2 r e) := by
  rw [Value.flushed8]
  rfl

theorem emb8 (n : Fin 128) (e : Fin 512) :
    ((cfg0.win 8).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index8 (tile n)]

/-- The array of the keys. -/
theorem k_apply (n : Fin 128) (e : Fin 512) :
    (dats m 0 c).arrAt 8 cfg0.N (ix2 n e : S128x512.Idx) =
      proj m c n ⟨512 + e.val, by omega⟩ := by
  have key := (dats m 0 c).arrAt_emb_eq_flushed 8 Value.disjoint8 (pt (tile n)) (flush0_8 _) (ix2 (inner n) e)
  rw [emb8] at key
  refine (key.trans (written8 m c (pt (tile n)) (inner n) e)).trans ?_
  rw [Tile.k_apply]
  exact low m c n ⟨512 + e.val, by omega⟩ (by show 512 + e.val < 1536; omega)

theorem written9 (t : Fin cfg0.N) (r : Fin 128) (e : Fin 512) : (dats m 0 c).flushed 9 t (ix2 r e) =
    out0_9 (iblk m c 0 t) (iblk m c 1 t) (iblk m c 2 t) (iblk m c 3 t) (iblk m c 4 t) (iblk m c 5 t) (iblk m c 6 t) (ix2 r e) := by
  rw [Value.flushed9]
  rfl

theorem emb9 (n : Fin 128) (e : Fin 512) :
    ((cfg0.win 9).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index9 (tile n)]

/-- The array of the values. -/
theorem v_apply (n : Fin 128) (e : Fin 512) :
    (dats m 0 c).arrAt 9 cfg0.N (ix2 n e : S128x512.Idx) =
      proj m c n ⟨1024 + e.val, by omega⟩ := by
  have key := (dats m 0 c).arrAt_emb_eq_flushed 9 Value.disjoint9 (pt (tile n)) (flush0_9 _) (ix2 (inner n) e)
  rw [emb9] at key
  refine (key.trans (written9 m c (pt (tile n)) (inner n) e)).trans ?_
  rw [Tile.v_apply]
  exact low m c n ⟨1024 + e.val, by omega⟩ (by show 1024 + e.val < 1536; omega)

theorem written10 (t : Fin cfg0.N) (r : Fin 128) (e : Fin 512) : (dats m 0 c).flushed 10 t (ix2 r e) =
    out0_10 (iblk m c 0 t) (iblk m c 1 t) (iblk m c 2 t) (iblk m c 3 t) (iblk m c 4 t) (iblk m c 5 t) (iblk m c 6 t) (ix2 r e) := by
  rw [Value.flushed10]
  rfl

theorem emb10 (n : Fin 128) (e : Fin 512) :
    ((cfg0.win 10).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index10 (tile n)]

/-- The array of the narrow keys. -/
theorem kb_apply (n : Fin 128) (e : Fin 512) :
    (dats m 0 c).arrAt 10 cfg0.N (ix2 n e : S128x512.Idx) =
      proj m c n ⟨512 + e.val, by omega⟩ := by
  have key := (dats m 0 c).arrAt_emb_eq_flushed 10 Value.disjoint10 (pt (tile n)) (flush0_10 _) (ix2 (inner n) e)
  rw [emb10] at key
  refine (key.trans (written10 m c (pt (tile n)) (inner n) e)).trans ?_
  rw [Tile.kb_apply]
  exact low m c n ⟨512 + e.val, by omega⟩ (by show 512 + e.val < 1536; omega)

theorem written11 (t : Fin cfg0.N) (r : Fin 128) (e : Fin 512) : (dats m 0 c).flushed 11 t (ix2 r e) =
    out0_11 (iblk m c 0 t) (iblk m c 1 t) (iblk m c 2 t) (iblk m c 3 t) (iblk m c 4 t) (iblk m c 5 t) (iblk m c 6 t) (ix2 r e) := by
  rw [Value.flushed11]
  rfl

theorem emb11 (n : Fin 128) (e : Fin 512) :
    ((cfg0.win 11).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index11 (tile n)]

/-- The array of the narrow values. -/
theorem vb_apply (n : Fin 128) (e : Fin 512) :
    (dats m 0 c).arrAt 11 cfg0.N (ix2 n e : S128x512.Idx) =
      proj m c n ⟨1024 + e.val, by omega⟩ := by
  have key := (dats m 0 c).arrAt_emb_eq_flushed 11 Value.disjoint11 (pt (tile n)) (flush0_11 _) (ix2 (inner n) e)
  rw [emb11] at key
  refine (key.trans (written11 m c (pt (tile n)) (inner n) e)).trans ?_
  rw [Tile.vb_apply]
  exact low m c n ⟨1024 + e.val, by omega⟩ (by show 1024 + e.val < 1536; omega)

theorem written12 (t : Fin cfg0.N) (r : Fin 128) (e : Fin 512) : (dats m 0 c).flushed 12 t (ix2 r e) =
    out0_12 (iblk m c 0 t) (iblk m c 1 t) (iblk m c 2 t) (iblk m c 3 t) (iblk m c 4 t) (iblk m c 5 t) (iblk m c 6 t) (ix2 r e) := by
  rw [Value.flushed12]
  rfl

theorem emb12 (n : Fin 128) (e : Fin 512) :
    ((cfg0.win 12).blk (pt (tile n))).view.emb (ix2 (inner n) e) = (ix2 n e : S128x512.Idx) := by
  have h : n = (⟨128 * (tile n).val + (inner n).val, by omega⟩ : Fin 128) := Fin.ext (by show n.val = 128 * (n.val / 128) + n.val % 128; omega)
  conv_rhs => rw [h]
  blk_ext [index12 (tile n)]

/-- The array of the gates of the mixer. -/
theorem z_apply (n : Fin 128) (e : Fin 512) :
    (dats m 0 c).arrAt 12 cfg0.N (ix2 n e : S128x512.Idx) =
      proj m c n ⟨1544 + e.val, by omega⟩ := by
  have key := (dats m 0 c).arrAt_emb_eq_flushed 12 Value.disjoint12 (pt (tile n)) (flush0_12 _) (ix2 (inner n) e)
  rw [emb12] at key
  refine (key.trans (written12 m c (pt (tile n)) (inner n) e)).trans ?_
  rw [Tile.z_apply]
  exact high m c n ⟨1536 + e.val, by omega⟩ (by show ¬1536 + e.val < 1536; omega) _ (by show 1544 + e.val = 1536 + e.val + 8; omega)

theorem written13 (t : Fin cfg0.N) (r : Fin 128) (e : Fin 1024) : (dats m 0 c).flushed 13 t (ix2 r e) =
    out0_13 (iblk m c 0 t) (iblk m c 1 t) (iblk m c 2 t) (iblk m c 3 t) (iblk m c 4 t) (iblk m c 5 t) (iblk m c 6 t) (ix2 r e) := by
  rw [Value.flushed13]
  rfl

theorem emb13 (n : Fin 128) (e : Fin 1024) :
    ((cfg0.win 13).blk (pt (tile n))).view.emb (ix2 (inner n) e) = (ix2 n e : S128x1024.Idx) := by
  have h : n = (⟨128 * (tile n).val + (inner n).val, by omega⟩ : Fin 128) := Fin.ext (by show n.val = 128 * (n.val / 128) + n.val % 128; omega)
  conv_rhs => rw [h]
  blk_ext [index13 (tile n)]

/-- The array of the convolution's inputs. -/
theorem xbc_apply (n : Fin 128) (e : Fin 1024) :
    (dats m 0 c).arrAt 13 cfg0.N (ix2 n e : S128x1024.Idx) =
      proj m c n ⟨2056 + e.val, by omega⟩ := by
  have key := (dats m 0 c).arrAt_emb_eq_flushed 13 Value.disjoint13 (pt (tile n)) (flush0_13 _) (ix2 (inner n) e)
  rw [emb13] at key
  refine (key.trans (written13 m c (pt (tile n)) (inner n) e)).trans ?_
  rw [Tile.xbc_apply]
  exact high m c n ⟨2048 + e.val, by omega⟩ (by show ¬2048 + e.val < 1536; omega) _ (by show 2056 + e.val = 2048 + e.val + 8; omega)

theorem written14 (t : Fin cfg0.N) (r : Fin 128) (e : Fin 128) : (dats m 0 c).flushed 14 t (ix2 r e) =
    out0_14 (iblk m c 0 t) (iblk m c 1 t) (iblk m c 2 t) (iblk m c 3 t) (iblk m c 4 t) (iblk m c 5 t) (iblk m c 6 t) (ix2 r e) := by
  rw [Value.flushed14]
  rfl

theorem emb14 (n : Fin 128) (e : Fin 128) :
    ((cfg0.win 14).blk (pt (tile n))).view.emb (ix2 (inner n) e) = (ix2 n e : S128x128.Idx) := by
  have h : n = (⟨128 * (tile n).val + (inner n).val, by omega⟩ : Fin 128) := Fin.ext (by show n.val = 128 * (n.val / 128) + n.val % 128; omega)
  conv_rhs => rw [h]
  blk_ext [index14 (tile n)]

/-- The array of the lanes of the gates and the step sizes. -/
theorem small_apply (n : Fin 128) (e : Fin 128) :
    (dats m 0 c).arrAt 14 cfg0.N (ix2 n e : S128x128.Idx) =
      small (hidden m c n) (fun d e => aw m c (ix3 0 d e)) (fun l => abf m c (ix2 0 l)) (fun l => adt m c (ix2 0 l)) e := by
  have key := (dats m 0 c).arrAt_emb_eq_flushed 14 Value.disjoint14 (pt (tile n)) (flush0_14 _) (ix2 (inner n) e)
  rw [emb14] at key
  refine (key.trans (written14 m c (pt (tile n)) (inner n) e)).trans ?_
  rw [Tile.small_apply]
  exact lanes m c n e

end Cert.InProjSIdeal.Arr

end
-- ==== Proof.InProjS.Ref.lean ====
/-
  The reference of the samples' input projection, element by element.
-/
module

public import proofs.«01_k».proof.Proof.InProj.Ref
public import proofs.«01_k».proof.Proof.Gen.InProjSReferenceIdeal.Read
public import Idealize.ShloMosaic.Lib.Pipeline.ValueKit
public import Idealize.ShloMosaic.Lib.Pointwise
public import Idealize.ShloMosaic.Lib.WordCmp

@[expose] public section

set_option maxRecDepth 16384

noncomputable section

namespace Cert.InProjSReferenceIdeal.Ref

open Idealize.ShloMosaic Cert.InProjSReferenceIdeal Cert.InProjSReferenceIdeal.Gen Cert.InProjSReferenceIdeal.Read Cert.Ffn.Spec
  Cert.InProj.Spec Idealize.ShloMosaic.Tactic

variable (x : Vec Ideal S128x1x1024 .f32) (sh sc : Vec Ideal S128x1024 .f32) (g : Vec Ideal S1x1024 .f32)
  (w : Vec Ideal S1x1024x3088 .f32) (bf dt : Vec Ideal S1x8 .f32)

/-- Row `n` after the norm and the modulation. -/
abbrev hidden (n : Fin 128) : Fin 1024 → EReal :=
  modulated (fun k => x (ix3 n 0 k)) (fun k => g (ix2 0 k)) (fun k => sc (ix2 n k)) (fun k => sh (ix2 n k))

theorem row_apply (n : Fin 128) (d : Fin 1024) : val_main_v0 (F := Ideal) x (ix2 n d) = x (ix3 n 0 d) := by
  rw [val_main_v0_apply]
  exact congrArg x (funext fun a => match a with
    | ⟨0, _⟩ => Fin.ext (by show (n.val * 1024 + d.val) / 1024 = n.val; omega)
    | ⟨1, _⟩ => Fin.ext (by first | rfl | (show (n.val * 1024 + d.val) / 1024 % 1 = 0; omega))
    | ⟨2, _⟩ => Fin.ext (by show (n.val * 1024 + d.val) % 1024 = d.val; omega))

theorem h_apply (n : Fin 128) (d : Fin 1024) :
    val_main_v18 (F := Ideal) x sh sc g (ix2 n d) = hidden x sh sc g n d := by
  unfold hidden
  have e3 : ∀ k, idx_main_v3 (idx_main_v4 (idx_main_v10 (ix2 n d))) k = ix2 n k :=
    fun k => funext fun a => match a with | ⟨0, _⟩ => rfl | ⟨1, _⟩ => rfl
  have e1 : idx_main_v1 (idx_main_v12 (idx_main_v13 (ix2 n d))) = ix2 0 d :=
    funext fun a => match a with | ⟨0, _⟩ => rfl | ⟨1, _⟩ => Fin.ext (Nat.mod_eq_of_lt d.isLt)
  rw [val_main_v18_apply, val_main_v17_apply, val_main_v14_apply, val_main_v11_apply, val_main_v10_apply, val_main_v9_apply,
    val_main_v8_apply, val_main_v6_apply, val_main_v4_apply, val_main_v3_apply, val_main_v5_apply, val_main_v7_apply,
    val_main_v13_apply, val_main_v12_apply, val_main_v1_apply, val_main_v16_apply, val_main_v15_apply,
    val_main_cst_apply, val_main_cst_0_apply, val_main_cst_1_apply, val_main_cst_2_apply, Cert.InProjReferenceIdeal.Ref.zero_lit,
    Cert.InProjReferenceIdeal.Ref.one_lit, e1]
  simp only [val_main_v2_apply, e3, row_apply]
  rw [zero_add]
  rfl

/-- Row `n` projected. -/
abbrev proj (n : Fin 128) : Fin 3088 → EReal := val (hidden x sh sc g n) (fun d e => w (ix3 0 d e))

theorem proj_apply (n : Fin 128) (e : Fin 3088) : val_main_v20 (F := Ideal) x sh sc g w (ix2 n e) = proj x sh sc g w n e := by
  rw [val_main_v20_apply]
  refine Finset.sum_congr rfl fun d _ => ?_
  have l22 : lidx_main_v20 (ix2 n e) d = ix2 n d := funext fun a => match a with | ⟨0, _⟩ => rfl | ⟨1, _⟩ => rfl
  have r22 : idx_main_v19 (ridx_main_v20 (ix2 n e) d) = ix3 0 d e :=
    funext fun a => match a with
      | ⟨0, _⟩ => rfl
      | ⟨1, _⟩ => Fin.ext (by show (d.val * 3088 + e.val) / 3088 % 1024 = d.val; omega)
      | ⟨2, _⟩ => Fin.ext (by show (d.val * 3088 + e.val) % 3088 = e.val; omega)
  rw [l22, h_apply, val_main_v19_apply, r22]

theorem q_apply (n : Fin 128) (e : Fin 512) : val_main_v42 (F := Ideal) x sh sc g w (ix2 n e) =
    proj x sh sc g w n ⟨e.val, by omega⟩ * Ideal.ofBits .f32 0x3E000000#32 := by
  rw [val_main_v42_apply, val_main_v41_apply, val_main_v21_apply, val_main_v40_apply, val_main_cst_4_apply, ← proj_apply]
  exact congrArg (fun i => val_main_v20 (F := Ideal) x sh sc g w i * Ideal.ofBits .f32 0x3E000000#32)
    (funext fun a => match a with | ⟨0, _⟩ => rfl | ⟨1, _⟩ => rfl)

theorem k_apply (n : Fin 128) (e : Fin 512) : val_main_v22 (F := Ideal) x sh sc g w (ix2 n e) =
    proj x sh sc g w n ⟨512 + e.val, by omega⟩ := by
  rw [val_main_v22_apply, ← proj_apply]
  exact congrArg _ (funext fun a => match a with | ⟨0, _⟩ => rfl | ⟨1, _⟩ => rfl)

theorem v_apply (n : Fin 128) (e : Fin 512) : val_main_v23 (F := Ideal) x sh sc g w (ix2 n e) =
    proj x sh sc g w n ⟨1024 + e.val, by omega⟩ := by
  rw [val_main_v23_apply, ← proj_apply]
  exact congrArg _ (funext fun a => match a with | ⟨0, _⟩ => rfl | ⟨1, _⟩ => rfl)

theorem z_apply (n : Fin 128) (e : Fin 512) : val_main_v25 (F := Ideal) x sh sc g w (ix2 n e) =
    proj x sh sc g w n ⟨1544 + e.val, by omega⟩ := by
  rw [val_main_v25_apply, ← proj_apply]
  exact congrArg _ (funext fun a => match a with | ⟨0, _⟩ => rfl | ⟨1, _⟩ => rfl)

theorem xbc_apply (n : Fin 128) (e : Fin 1024) : val_main_v26 (F := Ideal) x sh sc g w (ix2 n e) =
    proj x sh sc g w n ⟨2056 + e.val, by omega⟩ := by
  rw [val_main_v26_apply, ← proj_apply]
  exact congrArg _ (funext fun a => match a with | ⟨0, _⟩ => rfl | ⟨1, _⟩ => rfl)

/-- A forget gate. -/
theorem gate_apply (n : Fin 128) (l : Fin 8) : val_main_v32 (F := Ideal) x sh sc g w bf (ix2 n l) =
    0 - soft (0 - (proj x sh sc g w n ⟨1536 + l.val, by omega⟩ + bf (ix2 0 l))) := by
  have e26 : val_main_v24 (F := Ideal) x sh sc g w (ix2 n l) = proj x sh sc g w n ⟨1536 + l.val, by omega⟩ := by
    rw [val_main_v24_apply, ← proj_apply]
    exact congrArg _ (funext fun a => match a with | ⟨0, _⟩ => rfl | ⟨1, _⟩ => rfl)
  have e32 : val_main_v30 (F := Ideal) bf (ix2 n l) = bf (ix2 0 l) := by
    rw [val_main_v30_apply, val_main_v29_apply, val_main_v28_apply]
    exact congrArg bf (funext fun a => match a with | ⟨0, _⟩ => rfl | ⟨1, _⟩ => Fin.ext (Nat.mod_eq_of_lt l.isLt))
  rw [val_main_v32_apply, val_main_call0_v1_apply, val_main_call0_call0_v4_apply, val_main_call0_call0_v6_apply,
    val_main_call0_call0_v11_apply, val_main_call0_call0_v10_apply, val_main_call0_call0_v9_apply, val_main_call0_call0_v8_apply,
    val_main_call0_call0_v7_apply, val_main_call0_call0_v1_apply, val_main_call0_call0_v3_apply, val_main_call0_call0_v0_apply,
    val_main_call0_call0_v2_apply, val_main_call0_call0_v5_apply, val_main_call0_call0_cst_apply, Cert.InProjReferenceIdeal.Ref.zero_lit, Cert.InProjReferenceIdeal.Ref.soft_ref,
    val_main_call0_v0_apply, val_main_v31_apply, e26, e32, zero_sub, zero_sub]
  rfl

/-- A step size. -/
theorem step_apply (n : Fin 128) (l : Fin 8) : val_main_v37 (F := Ideal) x sh sc g w dt (ix2 n l) =
    soft (proj x sh sc g w n ⟨3080 + l.val, by omega⟩ + dt (ix2 0 l)) := by
  have e29 : val_main_v27 (F := Ideal) x sh sc g w (ix2 n l) = proj x sh sc g w n ⟨3080 + l.val, by omega⟩ := by
    rw [val_main_v27_apply, ← proj_apply]
    exact congrArg _ (funext fun a => match a with | ⟨0, _⟩ => rfl | ⟨1, _⟩ => rfl)
  have e37 : val_main_v35 (F := Ideal) dt (ix2 n l) = dt (ix2 0 l) := by
    rw [val_main_v35_apply, val_main_v34_apply, val_main_v33_apply]
    exact congrArg dt (funext fun a => match a with | ⟨0, _⟩ => rfl | ⟨1, _⟩ => Fin.ext (Nat.mod_eq_of_lt l.isLt))
  rw [val_main_v37_apply, val_main_call1_v4_apply, val_main_call1_v6_apply, val_main_call1_v11_apply, val_main_call1_v10_apply,
    val_main_call1_v9_apply, val_main_call1_v8_apply, val_main_call1_v7_apply, val_main_call1_v1_apply, val_main_call1_v3_apply,
    val_main_call1_v0_apply, val_main_call1_v2_apply, val_main_call1_v5_apply, val_main_call1_cst_apply, Cert.InProjReferenceIdeal.Ref.zero_lit, Cert.InProjReferenceIdeal.Ref.soft_ref,
    val_main_v36_apply, e29, e37]
  rfl

/-- A lane of padding. -/
theorem pad_apply (n : Fin 128) (l : Fin 112) : val_main_v39 (F := Ideal) (ix2 n l) = soft 0 := by
  rw [val_main_v39_apply, val_main_call2_v4_apply, val_main_call2_v6_apply, val_main_call2_v11_apply, val_main_call2_v10_apply,
    val_main_call2_v9_apply, val_main_call2_v8_apply, val_main_call2_v7_apply, val_main_call2_v1_apply, val_main_call2_v3_apply,
    val_main_call2_v0_apply, val_main_call2_v2_apply, val_main_call2_v5_apply, val_main_call2_cst_apply, Cert.InProjReferenceIdeal.Ref.zero_lit, Cert.InProjReferenceIdeal.Ref.soft_ref,
    val_main_v38_apply, val_main_cst_3_apply, Cert.InProjReferenceIdeal.Ref.zero_lit]

theorem small_apply (n : Fin 128) (l : Fin 128) : val_main_v45 (F := Ideal) x sh sc g w bf dt (ix2 n l) =
    small (hidden x sh sc g n) (fun d e => w (ix3 0 d e)) (fun l => bf (ix2 0 l)) (fun l => dt (ix2 0 l)) l := by
  unfold val_main_v45 small
  pointwise
  split
  · exact gate_apply ..
  · split
    · exact step_apply ..
    · exact pad_apply ..

end Cert.InProjSReferenceIdeal.Ref

end
-- ==== Proof.InProjS.Claim.lean ====
/-
  The results of the samples' input projection are its reference's.
-/
module

public import proofs.«01_k».proof.Proof.InProjS.Array
public import proofs.«01_k».proof.Proof.InProjS.Ref
public import proofs.«01_k».proof.Defs
public import proofs.«01_k».proof.Proof.Gen.InProjSIdeal.Value
public import proofs.«01_k».proof.Proof.Gen.InProjSReferenceIdeal.Run

@[expose] public section

set_option maxRecDepth 16384

noncomputable section

namespace Cert.InProjSIdeal.Close

open Idealize.ShloMosaic Cert.InProjSReferenceIdeal.Read

theorem idx_form512 (i : Cert.InProjSIdeal.S128x512.Idx) : ∃ (r : Fin 128) (e : Fin 512), i = ix2 r e :=
  ⟨i 0, i 1, funext fun a => match a with | ⟨0, _⟩ => rfl | ⟨1, _⟩ => rfl⟩

theorem idx_form1024 (i : Cert.InProjSIdeal.S128x1024.Idx) : ∃ (r : Fin 128) (e : Fin 1024), i = ix2 r e :=
  ⟨i 0, i 1, funext fun a => match a with | ⟨0, _⟩ => rfl | ⟨1, _⟩ => rfl⟩

theorem idx_form128 (i : Cert.InProjSIdeal.S128x128.Idx) : ∃ (r : Fin 128) (e : Fin 128), i = ix2 r e :=
  ⟨i 0, i 1, funext fun a => match a with | ⟨0, _⟩ => rfl | ⟨1, _⟩ => rfl⟩

variable (m : (ℓ : Loc Cert.InProjSIdeal.nD Cert.InProjSIdeal.τ Cert.InProjSIdeal.sig) → Buf (Elt Ideal) ℓ)
  (c : Dev Cert.InProjSIdeal.nD)

theorem arr7_eq : (Cert.InProjSIdeal.Gen.dats m 0 c).arrAt 7 Cert.InProjSIdeal.cfg0.N =
    val_main_v42 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.q_apply m c r e).trans (Cert.InProjSReferenceIdeal.Ref.q_apply _ _ _ _ _ r e).symm

theorem arr8_eq : (Cert.InProjSIdeal.Gen.dats m 0 c).arrAt 8 Cert.InProjSIdeal.cfg0.N =
    val_main_v22 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.k_apply m c r e).trans (Cert.InProjSReferenceIdeal.Ref.k_apply _ _ _ _ _ r e).symm

theorem arr9_eq : (Cert.InProjSIdeal.Gen.dats m 0 c).arrAt 9 Cert.InProjSIdeal.cfg0.N =
    val_main_v23 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.v_apply m c r e).trans (Cert.InProjSReferenceIdeal.Ref.v_apply _ _ _ _ _ r e).symm

theorem arr10_eq : (Cert.InProjSIdeal.Gen.dats m 0 c).arrAt 10 Cert.InProjSIdeal.cfg0.N =
    val_main_v43 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.kb_apply m c r e).trans (Cert.InProjSReferenceIdeal.Ref.k_apply _ _ _ _ _ r e).symm

theorem arr11_eq : (Cert.InProjSIdeal.Gen.dats m 0 c).arrAt 11 Cert.InProjSIdeal.cfg0.N =
    val_main_v44 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.vb_apply m c r e).trans (Cert.InProjSReferenceIdeal.Ref.v_apply _ _ _ _ _ r e).symm

theorem arr12_eq : (Cert.InProjSIdeal.Gen.dats m 0 c).arrAt 12 Cert.InProjSIdeal.cfg0.N =
    val_main_v25 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form512 i
  exact (Cert.InProjSIdeal.Arr.z_apply m c r e).trans (Cert.InProjSReferenceIdeal.Ref.z_apply _ _ _ _ _ r e).symm

theorem arr13_eq : (Cert.InProjSIdeal.Gen.dats m 0 c).arrAt 13 Cert.InProjSIdeal.cfg0.N =
    val_main_v26 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4)) := by
  funext i
  obtain ⟨r, e, rfl⟩ := idx_form1024 i
  exact (Cert.InProjSIdeal.Arr.xbc_apply m c r e).trans (Cert.InProjSReferenceIdeal.Ref.xbc_apply _ _ _ _ _ r e).symm

theorem arr14_eq : (Cert.InProjSIdeal.Gen.dats m 0 c).arrAt 14 Cert.InProjSIdeal.cfg0.N =
    val_main_v45 (F := Ideal)
      (m ((c.tc : Thread Cert.InProjSIdeal.nD Cert.InProjSIdeal.τ).loc Cert.InProjSIdeal.main_arg0))
      (m ((c.tc : Thread Cert.InProjSIdeal.nD Cert.InProjSIdeal.τ).loc Cert.InProjSIdeal.main_arg1))
      (m ((c.tc : Thread Cert.InProjSIdeal.nD Cert.InProjSIdeal.τ).loc Cert.InProjSIdeal.main_arg2))
      (m ((c.tc : Thread Cert.InProjSIdeal.nD Cert.InProjSIdeal.τ).loc Cert.InProjSIdeal.main_arg3))
      (m ((c.tc : Thread Cert.InProjSIdeal.nD Cert.InProjSIdeal.τ).loc Cert.InProjSIdeal.main_arg4))
      (m ((c.tc : Thread Cert.InProjSIdeal.nD Cert.InProjSIdeal.τ).loc Cert.InProjSIdeal.main_arg5))
      (m ((c.tc : Thread Cert.InProjSIdeal.nD Cert.InProjSIdeal.τ).loc Cert.InProjSIdeal.main_arg6)) := by
  funext i
  obtain ⟨r, e, rfl⟩ := idx_form128 i
  exact (Cert.InProjSIdeal.Arr.small_apply m c r e).trans (Cert.InProjSReferenceIdeal.Ref.small_apply _ _ _ _ _ _ _ r e).symm

set_option maxHeartbeats 4000000 in
/-- The claim: the same memory, the same arguments, the same eight results. -/
theorem algebraic : Cert.algebraic_InProjSIdeal_InProjSReferenceIdeal := by
  intro m ρ m' ρ' _ hag
  refine ⟨fun c => (Cert.InProjSIdeal.Gen.dats m 0 c).arrAt 7 Cert.InProjSIdeal.cfg0.N,
    fun c => (Cert.InProjSIdeal.Gen.dats m 0 c).arrAt 8 Cert.InProjSIdeal.cfg0.N,
    fun c => (Cert.InProjSIdeal.Gen.dats m 0 c).arrAt 9 Cert.InProjSIdeal.cfg0.N,
    fun c => (Cert.InProjSIdeal.Gen.dats m 0 c).arrAt 10 Cert.InProjSIdeal.cfg0.N,
    fun c => (Cert.InProjSIdeal.Gen.dats m 0 c).arrAt 11 Cert.InProjSIdeal.cfg0.N,
    fun c => (Cert.InProjSIdeal.Gen.dats m 0 c).arrAt 12 Cert.InProjSIdeal.cfg0.N,
    fun c => (Cert.InProjSIdeal.Gen.dats m 0 c).arrAt 13 Cert.InProjSIdeal.cfg0.N,
    fun c => (Cert.InProjSIdeal.Gen.dats m 0 c).arrAt 14 Cert.InProjSIdeal.cfg0.N,
    Cert.InProjSIdeal.Value.run_blocks m ρ, ?_⟩
  refine (θ_run _ _ _).mono (fun _ h c => ?_) (Cert.InProjSReferenceIdeal.Value.run m' ρ')
  obtain ⟨r0, r1, r2, r3, r4, r5, r6, r7, hr⟩ := h c
  obtain ⟨h0, h1, h2, h3, h4, h5, h6⟩ := hag c
  refine ⟨r0.trans ?_, r1.trans ?_, r2.trans ?_, r3.trans ?_, r4.trans ?_, r5.trans ?_, r6.trans ?_, r7.trans ?_, hr⟩
  · refine (val_main_v42_eq _ _ _ _ _).trans ?_
    rw [h0, h1, h2, h3, h4]
    exact (arr7_eq m c).symm
  · refine (val_main_v22_eq _ _ _ _ _).trans ?_
    rw [h0, h1, h2, h3, h4]
    exact (arr8_eq m c).symm
  · refine (val_main_v23_eq _ _ _ _ _).trans ?_
    rw [h0, h1, h2, h3, h4]
    exact (arr9_eq m c).symm
  · refine (val_main_v43_eq _ _ _ _ _).trans ?_
    rw [h0, h1, h2, h3, h4]
    exact (arr10_eq m c).symm
  · refine (val_main_v44_eq _ _ _ _ _).trans ?_
    rw [h0, h1, h2, h3, h4]
    exact (arr11_eq m c).symm
  · refine (val_main_v25_eq _ _ _ _ _).trans ?_
    rw [h0, h1, h2, h3, h4]
    exact (arr12_eq m c).symm
  · refine (val_main_v26_eq _ _ _ _ _).trans ?_
    rw [h0, h1, h2, h3, h4]
    exact (arr13_eq m c).symm
  · refine (val_main_v45_eq m' c).trans ?_
    rw [h0, h1, h2, h3, h4, h5, h6]
    exact (arr14_eq m c).symm

end Cert.InProjSIdeal.Close

end
-- ==== Proof.MergeS.Array.lean ====
/-
   The result array of the samples' merge, element by element, in terms of the arguments.
-/
module

public import proofs.«01_k».proof.Proof.Merge.Spec
public import proofs.«01_k».proof.Proof.Gen.MergeSIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.MergeSIdeal.Arr

open Idealize.ShloMosaic Idealize.ShloMosaic.TcCoe Idealize.ShloMosaic.Tactic Cert.MergeSIdeal Cert.MergeSIdeal.Gen Cert.Merge.Spec

theorem zero2 : (![0, 0] : Fin 2 → ℕ) = fun _ => 0 := by funext a; fin_cases a <;> rfl

/-- What a tile leaves, at one element. -/
theorem tile_apply (o y z : Vec Ideal S128x512 .f32) (x : Vec Ideal S128x1024 .f32) (ga : Vec Ideal S128x1024 .f32)
    (go gs : Vec Ideal S1x512 .f32) (w : Vec Ideal S1024x1024 .bf16) (r : Fin 128) (d : Fin 1024) :
    out0_8 o y z x ga go gs w (ix2 r d) = x (ix2 r d) + ga (ix2 r d) *
      out (fun k => o (ix2 r k)) (fun k => y (ix2 r k)) (fun k => z (ix2 r k)) (fun k => go (ix2 0 k)) (fun k => gs (ix2 0 k))
        (fun k => w (ix2 k d)) := by
  unfold out0_8
  rw [View.canon_unit_zero zero2]
  simp only [View.ld_unit_zero (S := S128x512) zero2, View.ld_unit_zero (S := S1x512) zero2,
    View.ld_unit_zero (S := S128x1024) zero2]
  pointwise [k0_pay1, k0_pay2, k0_pay3]
  rfl

/-- The grid point of row tile `u`. -/
def pt (u : Fin 1) : Fin cfg0.N := ⟨u.val, by have : cfg0.N = 1 := N_0; omega⟩

theorem index0 : ∀ u : Fin 1, win0_0.index (pt u) = ![u.val, 0] := by decide +kernel
theorem index1 : ∀ u : Fin 1, win0_1.index (pt u) = ![u.val, 0] := by decide +kernel
theorem index2 : ∀ u : Fin 1, win0_2.index (pt u) = ![u.val, 0] := by decide +kernel
theorem index3 : ∀ u : Fin 1, win0_3.index (pt u) = ![u.val, 0] := by decide +kernel
theorem index4 : ∀ u : Fin 1, win0_4.index (pt u) = ![u.val, 0] := by decide +kernel
theorem index5 : ∀ u : Fin 1, win0_5.index (pt u) = ![0, 0] := by decide +kernel
theorem index6 : ∀ u : Fin 1, win0_6.index (pt u) = ![0, 0] := by decide +kernel
theorem index7 : ∀ u : Fin 1, win0_7.index (pt u) = ![0, 0] := by decide +kernel
theorem index8 : ∀ u : Fin 1, win0_8.index (pt u) = ![u.val, 0] := by decide +kernel

variable (m : (ℓ : Loc nD τ sig) → Buf (Elt Ideal) ℓ) (c : Dev nD)

/-- The attention's rows. -/
abbrev ao : Vec Ideal S128x512 .f32 := m ((c : Thread nD τ).loc main_arg0)
/-- The state-space rows. -/
abbrev ay : Vec Ideal S128x512 .f32 := m ((c : Thread nD τ).loc main_arg1)
/-- Their gates. -/
abbrev az : Vec Ideal S128x512 .f32 := m ((c : Thread nD τ).loc main_arg2)
/-- The rows before the mixer. -/
abbrev ax : Vec Ideal S128x1x1024 .f32 := m ((c : Thread nD τ).loc main_arg3)
/-- The gates of the residual. -/
abbrev aga : Vec Ideal S128x1024 .f32 := m ((c : Thread nD τ).loc main_arg4)
/-- The attention's gains. -/
abbrev ago : Vec Ideal S1x512 .f32 := m ((c : Thread nD τ).loc main_arg5)
/-- The state space's gains. -/
abbrev ags : Vec Ideal S1x512 .f32 := m ((c : Thread nD τ).loc main_arg6)
/-- The weights. -/
abbrev aw : Vec Ideal S1x1024x1024 .f32 := m ((c : Thread nD τ).loc main_arg7)

/-- The tile of row `n`. -/
abbrev tile (n : Fin 128) : Fin 1 := ⟨n.val / 128, by omega⟩
/-- Row `n` in its tile. -/
abbrev inner (n : Fin 128) : Fin 128 := ⟨n.val % 128, by omega⟩

theorem row_eq (n : Fin 128) : n = (⟨128 * (tile n).val + (inner n).val, by omega⟩ : Fin 128) :=
  Fin.ext (by show n.val = 128 * (n.val / 128) + n.val % 128; omega)

theorem x_apply (n : Fin 128) (d : Fin 1024) :
    (V m c main_v0 : Vec Ideal S128x1024 .f32) (ix2 n d) =
      ax m c (ix3 n 0 d) := by
  entry_read
  refine shapeCast_apply _ _ _ _ ?_
  show (S128x1x1024.rowMajor (ix3 n 0 d)).val =
    (S128x1024.rowMajor (ix2 n d)).val
  rw [Shape.rowMajor_val_three, Shape.rowMajor_val_two]
  show (n.val * 1 + 0) * 1024 + d.val = n.val * 1024 + d.val
  omega

theorem w_apply (k d : Fin 1024) : (V m c main_v2 : Vec Ideal S1024x1024 .bf16) (ix2 k d) = aw m c (ix3 0 k d) := by
  unfold V
  after_reads_at

theorem blk0 (n : Fin 128) (d : Fin 512) :
    (iblk m c 0 (pt (tile n)) : Vec Ideal S128x512 .f32) (ix2 (inner n) d) = ao m c (ix2 n d) := by
  rw [ao, ← V_main_arg0 m c]
  conv_rhs => rw [row_eq n]
  blk_ext [iblk, V, index0 (tile n)]

theorem blk1 (n : Fin 128) (d : Fin 512) :
    (iblk m c 1 (pt (tile n)) : Vec Ideal S128x512 .f32) (ix2 (inner n) d) = ay m c (ix2 n d) := by
  rw [ay, ← V_main_arg1 m c]
  conv_rhs => rw [row_eq n]
  blk_ext [iblk, V, index1 (tile n)]

theorem blk2 (n : Fin 128) (d : Fin 512) :
    (iblk m c 2 (pt (tile n)) : Vec Ideal S128x512 .f32) (ix2 (inner n) d) = az m c (ix2 n d) := by
  rw [az, ← V_main_arg2 m c]
  conv_rhs => rw [row_eq n]
  blk_ext [iblk, V, index2 (tile n)]

theorem blk3 (n : Fin 128) (d : Fin 1024) :
    (iblk m c 3 (pt (tile n)) : Vec Ideal S128x1024 .f32) (ix2 (inner n) d) =
      ax m c (ix3 n 0 d) := by
  refine Eq.trans ?_ (x_apply m c n d)
  conv_rhs => rw [row_eq n]
  blk_ext [iblk, V, index3 (tile n)]

theorem blk4 (n : Fin 128) (d : Fin 1024) :
    (iblk m c 4 (pt (tile n)) : Vec Ideal S128x1024 .f32) (ix2 (inner n) d) = aga m c (ix2 n d) := by
  rw [aga, ← V_main_arg4 m c]
  conv_rhs => rw [row_eq n]
  blk_ext [iblk, V, index4 (tile n)]

theorem blk5 (u : Fin 1) (d : Fin 512) : (iblk m c 5 (pt u) : Vec Ideal S1x512 .f32) (ix2 0 d) = ago m c (ix2 0 d) := by
  rw [ago, ← V_main_arg5 m c]
  blk_ext [iblk, V, index5 u]

theorem blk6 (u : Fin 1) (d : Fin 512) : (iblk m c 6 (pt u) : Vec Ideal S1x512 .f32) (ix2 0 d) = ags m c (ix2 0 d) := by
  rw [ags, ← V_main_arg6 m c]
  blk_ext [iblk, V, index6 u]

theorem blk7 (u : Fin 1) (k d : Fin 1024) : (iblk m c 7 (pt u) : Vec Ideal S1024x1024 .bf16) (ix2 k d) = aw m c (ix3 0 k d) := by
  refine Eq.trans ?_ (w_apply m c k d)
  blk_ext [iblk, V, index7 u]

theorem emb8 (n : Fin 128) (e : Fin 1024) :
    ((cfg0.win 8).blk (pt (tile n))).view.emb (ix2 (inner n) e) = (ix2 n e : S128x1024.Idx) := by
  conv_rhs => rw [row_eq n]
  blk_ext [index8 (tile n)]

theorem written (t : Fin cfg0.N) (r : Fin 128) (e : Fin 1024) : (dats m 0 c).flushed 8 t (ix2 r e) =
    out0_8 (iblk m c 0 t) (iblk m c 1 t) (iblk m c 2 t) (iblk m c 3 t) (iblk m c 4 t) (iblk m c 5 t) (iblk m c 6 t) (iblk m c 7 t)
      (ix2 r e) := by
  rw [Value.flushed8]
  rfl

/-- Row `n` of the result. -/
theorem arr_apply (n : Fin 128) (d : Fin 1024) :
    (dats m 0 c).arrAt 8 cfg0.N (ix2 n d : S128x1024.Idx) =
      ax m c (ix3 n 0 d) +
        aga m c (ix2 n d) *
        out (fun k => ao m c (ix2 n k)) (fun k => ay m c (ix2 n k)) (fun k => az m c (ix2 n k)) (fun k => ago m c (ix2 0 k))
          (fun k => ags m c (ix2 0 k)) (fun k => aw m c (ix3 0 k d)) := by
  have key := (dats m 0 c).arrAt_emb_eq_flushed 8 Value.disjoint8 (pt (tile n)) (flush0_8 _) (ix2 (inner n) d)
  rw [emb8] at key
  refine (key.trans (written m c (pt (tile n)) (inner n) d)).trans ?_
  rw [tile_apply]
  simp only [blk0, blk1, blk2, blk3, blk4, blk5, blk6, blk7]

end Cert.MergeSIdeal.Arr

end
-- ==== Proof.MergeS.Ref.lean ====
/-
   The reference of the samples' merge, element by element.
-/
module

public import proofs.«01_k».proof.Proof.Merge.Ref
public import proofs.«01_k».proof.Proof.Gen.MergeSReferenceIdeal.Read
public import Idealize.ShloMosaic.Lib.Pipeline.ValueKit
public import Idealize.ShloMosaic.Lib.Pointwise

@[expose] public section

set_option maxRecDepth 16384

noncomputable section

namespace Cert.MergeSReferenceIdeal.Ref

open Idealize.ShloMosaic Cert.MergeSReferenceIdeal Cert.MergeSReferenceIdeal.Gen Cert.MergeSReferenceIdeal.Read Cert.Merge.Spec
  Idealize.ShloMosaic.Tactic

variable (o y z : Vec Ideal S128x512 .f32) (x : Vec Ideal S128x1x1024 .f32) (ga : Vec Ideal S128x1024 .f32)
  (go gs : Vec Ideal S1x512 .f32) (w : Vec Ideal S1x1024x1024 .f32)

/-- The attention's rows under their norm. -/
theorem att_apply (n : Fin 128) (d : Fin 512) :
    val_main_v13 (F := Ideal) o go (ix2 n d) = rms (fun k => o (ix2 n k)) (fun k => go (ix2 0 k)) d := by
  have e2 : ∀ k, idx_main_v2 (idx_main_v3 (idx_main_v9 (ix2 n d))) k = ix2 n k :=
    fun k => funext fun a => match a with | ⟨0, _⟩ => rfl | ⟨1, _⟩ => rfl
  have e0 : idx_main_v0 (idx_main_v11 (idx_main_v12 (ix2 n d))) = ix2 0 d :=
    funext fun a => match a with | ⟨0, _⟩ => rfl | ⟨1, _⟩ => Fin.ext (Nat.mod_eq_of_lt d.isLt)
  rw [val_main_v13_apply, val_main_v10_apply, val_main_v9_apply, val_main_v8_apply, val_main_v7_apply, val_main_v5_apply,
    val_main_v3_apply, val_main_v2_apply, val_main_v4_apply, val_main_v6_apply, val_main_v12_apply, val_main_v11_apply,
    val_main_v0_apply, val_main_cst_apply, val_main_cst_0_apply, val_main_cst_1_apply, Cert.MergeReferenceIdeal.Ref.zero_lit, e0]
  simp only [val_main_v1_apply, e2]
  rw [zero_add]
  rfl

/-- The state-space rows under their gates. -/
theorem gated_apply (n : Fin 128) (d : Fin 512) :
    val_main_v15 (F := Ideal) y z (ix2 n d) = gated (fun k => y (ix2 n k)) (fun k => z (ix2 n k)) d := by
  rw [val_main_v15_apply, val_main_v14_apply, val_main_call0_v5_apply, val_main_call0_v4_apply, val_main_call0_v3_apply,
    val_main_call0_v2_apply, val_main_call0_v1_apply, val_main_call0_v0_apply, val_main_call0_cst_apply, val_main_call0_cst_0_apply,
    Cert.MergeReferenceIdeal.Ref.one_lit]
  rfl

/-- The same under their norm. -/
theorem ssd_apply (n : Fin 128) (d : Fin 512) :
    val_main_v29 (F := Ideal) y z gs (ix2 n d) =
      rms (gated (fun k => y (ix2 n k)) (fun k => z (ix2 n k))) (fun k => gs (ix2 0 k)) d := by
  have e2 : ∀ k, idx_main_v18 (idx_main_v19 (idx_main_v25 (ix2 n d))) k = ix2 n k :=
    fun k => funext fun a => match a with | ⟨0, _⟩ => rfl | ⟨1, _⟩ => rfl
  have e0 : idx_main_v16 (idx_main_v27 (idx_main_v28 (ix2 n d))) = ix2 0 d :=
    funext fun a => match a with | ⟨0, _⟩ => rfl | ⟨1, _⟩ => Fin.ext (Nat.mod_eq_of_lt d.isLt)
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply,
    val_main_v16_apply, val_main_cst_2_apply, val_main_cst_3_apply, val_main_cst_4_apply, Cert.MergeReferenceIdeal.Ref.zero_lit, e0]
  simp only [val_main_v17_apply, e2, gated_apply]
  rw [zero_add]
  rfl

/-- The two, side by side: the first half. -/
theorem mix_low (n : Fin 128) (k : Fin 512) : val_main_v30 (F := Ideal) o y z go gs (ix2 n (⟨k.val, by omega⟩ : Fin 1024)) =
    rms (fun k => o (ix2 n k)) (fun k => go (ix2 0 k)) k := by
  unfold val_main_v30
  pointwise
  exact att_apply ..

/-- The second half. -/
theorem mix_high (n : Fin 128) (k : Fin 512) : val_main_v30 (F := Ideal) o y z go gs (ix2 n (⟨512 + k.val, by omega⟩ : Fin 1024)) =
    rms (gated (fun k => y (ix2 n k)) (fun k => z (ix2 n k))) (fun k => gs (ix2 0 k)) k := by
  unfold val_main_v30
  pointwise
  exact ssd_apply ..

theorem proj_apply (n : Fin 128) (d : Fin 1024) : val_main_v33 (F := Ideal) o y z go gs w (ix2 n d) =
    out (fun k => o (ix2 n k)) (fun k => y (ix2 n k)) (fun k => z (ix2 n k)) (fun k => go (ix2 0 k)) (fun k => gs (ix2 0 k))
      (fun k => w (ix3 0 k d)) := by
  have l33 : ∀ k, lidx_main_v33 (ix2 n d) k = ix2 n k := fun k => funext fun a => match a with | ⟨0, _⟩ => rfl | ⟨1, _⟩ => rfl
  have r33 : ∀ k, idx_main_v32 (ridx_main_v33 (ix2 n d) k) = ix3 0 k d :=
    fun k => funext fun a => match a with
      | ⟨0, _⟩ => rfl
      | ⟨1, _⟩ => Fin.ext (by show (k.val * 1024 + d.val) / 1024 % 1024 = k.val; omega)
      | ⟨2, _⟩ => Fin.ext (by show (k.val * 1024 + d.val) % 1024 = d.val; omega)
  rw [val_main_v33_apply]
  simp only [val_main_v32_apply, l33, r33]
  refine (Fin.sum_univ_add (a := 512) (b := 512) _).trans ?_
  exact congrArg₂ _ (Finset.sum_congr rfl fun k _ => congrArg (· * w _) (mix_low o y z go gs n k))
    (Finset.sum_congr rfl fun k _ => congrArg (· * w _) (mix_high o y z go gs n k))

theorem row_apply (n : Fin 128) (d : Fin 1024) : val_main_v31 (F := Ideal) x (ix2 n d) = x (ix3 n 0 d) := by
  rw [val_main_v31_apply]
  exact congrArg x (funext fun a => match a with
    | ⟨0, _⟩ => Fin.ext (by show (n.val * 1024 + d.val) / 1024 = n.val; omega)
    | ⟨1, _⟩ => Fin.ext (by first | rfl | (show (n.val * 1024 + d.val) / 1024 % 1 = 0; omega))
    | ⟨2, _⟩ => Fin.ext (by show (n.val * 1024 + d.val) % 1024 = d.val; omega))

/-- Row `n` of the reference's result. -/
theorem ref_apply (n : Fin 128) (d : Fin 1024) : val_main_v35 (F := Ideal) o y z x ga go gs w (ix2 n d) =
    x (ix3 n 0 d) + ga (ix2 n d) *
      out (fun k => o (ix2 n k)) (fun k => y (ix2 n k)) (fun k => z (ix2 n k)) (fun k => go (ix2 0 k)) (fun k => gs (ix2 0 k))
        (fun k => w (ix3 0 k d)) := by
  rw [val_main_v35_apply, val_main_v34_apply, row_apply, proj_apply]
  rfl

end Cert.MergeSReferenceIdeal.Ref

end
-- ==== Proof.MergeS.Claim.lean ====
/-
   The samples' merge is its reference's.
-/
module

public import proofs.«01_k».proof.Proof.MergeS.Array
public import proofs.«01_k».proof.Proof.MergeS.Ref
public import proofs.«01_k».proof.Defs
public import proofs.«01_k».proof.Proof.Gen.MergeSIdeal.Value
public import proofs.«01_k».proof.Proof.Gen.MergeSReferenceIdeal.Run

@[expose] public section

set_option maxRecDepth 16384

noncomputable section

namespace Cert.MergeSIdeal.Close

open Idealize.ShloMosaic

/-- Every index of the result is a row and a column. -/
theorem idx_form (i : Cert.MergeSIdeal.S128x1024.Idx) : ∃ (n : Fin 128) (d : Fin 1024), i = ix2 n d :=
  ⟨i 0, i 1, funext fun a => match a with | ⟨0, _⟩ => rfl | ⟨1, _⟩ => rfl⟩

/-- The kernel's result array is the reference's. -/
theorem arr_eq (m : (ℓ : Loc Cert.MergeSIdeal.nD Cert.MergeSIdeal.τ Cert.MergeSIdeal.sig) → Buf (Elt Ideal) ℓ)
    (c : Dev Cert.MergeSIdeal.nD) :
    (Cert.MergeSIdeal.Gen.dats m 0 c).arrAt 8 Cert.MergeSIdeal.cfg0.N =
      Cert.MergeSReferenceIdeal.Read.val_main_v35 (F := Ideal)
        (m ((c.tc : Thread Cert.MergeSIdeal.nD Cert.MergeSIdeal.τ).loc Cert.MergeSIdeal.main_arg0))
        (m ((c.tc : Thread Cert.MergeSIdeal.nD Cert.MergeSIdeal.τ).loc Cert.MergeSIdeal.main_arg1))
        (m ((c.tc : Thread Cert.MergeSIdeal.nD Cert.MergeSIdeal.τ).loc Cert.MergeSIdeal.main_arg2))
        (m ((c.tc : Thread Cert.MergeSIdeal.nD Cert.MergeSIdeal.τ).loc Cert.MergeSIdeal.main_arg3))
        (m ((c.tc : Thread Cert.MergeSIdeal.nD Cert.MergeSIdeal.τ).loc Cert.MergeSIdeal.main_arg4))
        (m ((c.tc : Thread Cert.MergeSIdeal.nD Cert.MergeSIdeal.τ).loc Cert.MergeSIdeal.main_arg5))
        (m ((c.tc : Thread Cert.MergeSIdeal.nD Cert.MergeSIdeal.τ).loc Cert.MergeSIdeal.main_arg6))
        (m ((c.tc : Thread Cert.MergeSIdeal.nD Cert.MergeSIdeal.τ).loc Cert.MergeSIdeal.main_arg7)) := by
  funext i
  obtain ⟨n, d, rfl⟩ := idx_form i
  exact (Cert.MergeSIdeal.Arr.arr_apply m c n d).trans (Cert.MergeSReferenceIdeal.Ref.ref_apply _ _ _ _ _ _ _ _ n d).symm

set_option maxHeartbeats 2000000 in
/-- The claim: the same arguments, the same result. -/
theorem algebraic : Cert.algebraic_MergeSIdeal_MergeSReferenceIdeal := by
  intro m ρ m' ρ' _ hag
  refine ⟨fun c => (Cert.MergeSIdeal.Gen.dats m 0 c).arrAt 8 Cert.MergeSIdeal.cfg0.N, Cert.MergeSIdeal.Value.run_blocks m ρ, ?_⟩
  refine (θ_run _ _ _).mono (fun _ h c => ⟨(h c).1.trans ?_, (h c).2⟩) (Cert.MergeSReferenceIdeal.Value.run m' ρ')
  refine (Cert.MergeSReferenceIdeal.Read.val_main_v35_eq _ _ _ _ _ _ _ _).trans ?_
  obtain ⟨h0, h1, h2, h3, h4, h5, h6, h7⟩ := hag c
  rw [h0, h1, h2, h3, h4, h5, h6, h7]
  exact (arr_eq m c).symm

end Cert.MergeSIdeal.Close

end
-- ==== Proof.FfnS.Block.lean ====
/-
  One grid point of the feed-forward kernel of the samples: what it leaves in the two carried buffers (the modulated norm of the rows, and the
  sum over the hidden units so far) and in the result's block, as the printed terms of what it reads.
-/
module

public import proofs.«01_k».proof.Proof.Gen.FfnSIdeal.Value
public import Idealize.ShloMosaic.Lib.Pipeline.ValueKit
public import Idealize.ShloMosaic.Lib.Pointwise

@[expose] public section

set_option maxRecDepth 16384

noncomputable section

namespace Cert.FfnSIdeal.Block

open Cert.FfnSIdeal Cert.FfnSIdeal.Gen Idealize.ShloMosaic Idealize.ShloMosaic.TcCoe Idealize.ShloMosaic.Tactic

theorem zero2 : (![0, 0] : Fin 2 → ℕ) = fun _ => 0 := by funext a; fin_cases a <;> rfl

variable (c : Dev nD) (i : grid0.Coords)
  (arg2 : Memref sig .tc .vmem S128x1024 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S128x1024 .f32) (harg5 : arg5.IsWhole)
  (arg6 : Memref sig .tc .vmem S1x1024 .f32) (harg6 : arg6.IsWhole) (arg7 : Memref sig .tc .vmem S1024x1408 .bf16) (harg7 : arg7.IsWhole)
  (arg8 : Memref sig .tc .vmem S1024x1408 .bf16) (harg8 : arg8.IsWhole) (arg9 : Memref sig .tc .vmem S1408x1024 .bf16) (harg9 : arg9.IsWhole)
  (arg10 : Memref sig .tc .vmem S1x1024 .f32) (harg10 : arg10.IsWhole) (arg11 : Memref sig .tc .vmem S128x1024 .f32) (harg11 : arg11.IsWhole)
  (arg12 : Memref sig .tc .vmem S128x1024 .bf16) (harg12 : arg12.IsWhole) (arg13 : Memref sig .tc .vmem S128x1024 .f32) (harg13 : arg13.IsWhole)
  (x0 : Vec Ideal S128x1024 .f32) (x1 x2 x3 : Vec Ideal S128x1024 .f32) (x4 : Vec Ideal S1x1024 .f32)
  (x5 x6 : Vec Ideal S1024x1408 .bf16) (x7 : Vec Ideal S1408x1024 .bf16) (x8 : Vec Ideal S1x1024 .f32)

/-- At a tile's first point the first carried buffer ends with the modulated norm. -/
theorem first_h (hc0 : cond0_0 i) (hc1 : ¬cond0_1 i) :
    sout0_A_0 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 = k0_pay1 x0 x4 x2 x1 := by
  unfold sout0_A_0
  rw [View.read_writes_eq_canon _ _ _ (scover0_A_0 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8)]
  unfold kernelRun0_A
  dsimp only
  sl_unfold_words
  simp only [View.readAt_eq_ld, harg2.read_unread, harg3.read_unread, harg4.read_unread, harg6.read_unread]
  simp only [View.ld_unit_zero (S := S128x1024) zero2, View.ld_unit_zero (S := S1x1024) zero2]
  exact View.canon_unit_zero zero2 _ _

/-- … and the second one with the first half of the hidden units' products. -/
theorem first_acc (hc0 : cond0_0 i) (hc1 : ¬cond0_1 i) :
    sout0_A_1 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 =
      k0_pay3 (k0_pay1 x0 x4 x2 x1) x5 x6 (k0_pay2 (F := Ideal)) x7 := by
  unfold sout0_A_1
  rw [View.read_writes_eq_canon _ _ _ (scover0_A_1 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8)]
  unfold kernelRun0_A
  dsimp only
  sl_unfold_words
  simp only [View.readAt_eq_ld, harg2.read_unread, harg3.read_unread, harg4.read_unread, harg6.read_unread, harg7.read_unread,
    harg8.read_unread, harg9.read_unread]
  rw [View.canon_cons_unit_zero zero2]
  simp only [View.ld_unit_zero (S := S128x1024) zero2, View.ld_unit_zero (S := S1x1024) zero2,
    View.ld_unit_zero (S := S1024x1408) zero2, View.ld_unit_zero (S := S1408x1024) zero2]
  simp only [View.readCov_unit_zero arg12.view zero2, View.readCov_unit_zero arg13.view zero2]

/-- At a tile's second point the result's block is the final norm of the rows plus the gated sum over both halves. -/
theorem second_out (hc0 : ¬cond0_0 i) (hc1 : cond0_1 i) (xs0 : Vec Ideal S128x1024 .bf16) (xs1 : Vec Ideal S128x1024 .f32) :
    out0_B_9 (F := Ideal) c i arg2 harg2 arg3 harg3 arg4 harg4 arg5 harg5 arg6 harg6 arg7 harg7 arg8 harg8 arg9 harg9 arg10 harg10
      arg11 harg11 arg12 harg12 arg13 harg13 hc0 hc1 x0 x1 x2 x3 x4 x5 x6 x7 x8 xs0 xs1 =
      k0_pay4 x0 x3 (k0_pay3 xs0 x5 x6 xs1 x7) x8 := by
  unfold out0_B_9
  rw [View.read_writes_eq_canon _ _ _ (cover0_B_9 c i arg2 harg2 arg3 harg3 arg4 harg4 arg5 harg5 arg6 harg6 arg7 harg7 arg8 harg8 arg9 harg9
    arg10 harg10 arg11 harg11 arg12 harg12 arg13 harg13 hc0 hc1 x0 x1 x2 x3 x4 x5 x6 x7 x8 xs0 xs1)]
  unfold kernelRun0_B
  dsimp only
  sl_unfold_words
  simp only [View.readAt_eq_ld, harg2.read_unread, harg5.read_unread, harg7.read_unread, harg8.read_unread, harg9.read_unread,
    harg10.read_unread, harg12.read_unread, harg13.read_unread]
  rw [View.canon_unit_zero zero2]
  simp only [View.ld_unit_zero (S := S128x1024) zero2, View.ld_unit_zero (S := S1x1024) zero2,
    View.ld_unit_zero (S := S1024x1408) zero2, View.ld_unit_zero (S := S1408x1024) zero2]
  simp only [View.readCov_unit_zero arg12.view zero2, View.readCov_unit_zero arg13.view zero2]

end Cert.FfnSIdeal.Block

end
-- ==== Proof.FfnS.Tile.lean ====
/-
  The terms of one grid point of the feed-forward kernel of the samples, read element by element.
-/
module

public import proofs.«01_k».proof.Proof.Ffn.Spec
public import proofs.«01_k».proof.Proof.FfnS.Block

@[expose] public section

set_option maxRecDepth 16384

noncomputable section

namespace Cert.FfnSIdeal.Tile

open Cert.FfnSIdeal Cert.FfnSIdeal.Gen Cert.Ffn.Spec Idealize.ShloMosaic

theorem zero_lit : Ideal.ofBits .f32 0x00000000#32 = 0 := by
  simp [Ideal.ofBits, Ideal.ieee]

/-- The rows that enter the hidden layer. -/
theorem h_apply (x : Vec Ideal S128x1024 .f32) (g : Vec Ideal S1x1024 .f32) (sc sh : Vec Ideal S128x1024 .f32) (r : Fin 128) (d : Fin 1024) :
    k0_pay1 x g sc sh (ix2 r d) =
      modulated (fun k => x (ix2 r k)) (fun k => g (ix2 0 k)) (fun k => sc (ix2 r k)) (fun k => sh (ix2 r k)) d := by
  pointwise [k0_pay1]
  rfl

/-- The accumulator starts at zero. -/
theorem zero_apply (r : Fin 128) (d : Fin 1024) : k0_pay2 (F := Ideal) (ix2 r d) = 0 := by
  pointwise [k0_pay2]

/-- A half of the hidden units adds its products to the accumulator. -/
theorem acc_apply (h : Vec Ideal S128x1024 .bf16) (wg wu : Vec Ideal S1024x1408 .bf16) (a : Vec Ideal S128x1024 .f32)
    (wd : Vec Ideal S1408x1024 .bf16) (r : Fin 128) (d : Fin 1024) :
    k0_pay3 h wg wu a wd (ix2 r d) = a (ix2 r d) +
      ∑ k : Fin 1408, unit (fun e => h (ix2 r e)) (fun e => wg (ix2 e k)) (fun e => wu (ix2 e k)) * wd (ix2 k d) := by
  pointwise [k0_pay3]
  rfl

/-- The block written. -/
theorem out_apply (x : Vec Ideal S128x1024 .f32) (ga : Vec Ideal S128x1024 .f32) (a : Vec Ideal S128x1024 .f32)
    (g : Vec Ideal S1x1024 .f32) (r : Fin 128) (d : Fin 1024) :
    k0_pay4 x ga a g (ix2 r d) =
      rms (fun k => x (ix2 r k) + ga (ix2 r k) * a (ix2 r k)) (fun k => g (ix2 0 k)) d := by
  pointwise [k0_pay4]
  rfl

end Cert.FfnSIdeal.Tile

end
-- ==== Proof.FfnS.Array.lean ====
/-
   The result array of the samples' feed-forward call, element by element, in terms of the arguments.
-/
module

public import proofs.«01_k».proof.Proof.FfnS.Tile
public import Idealize.ShloMosaic.Lib.Claim
public import Idealize.ShloMosaic.Lib.StableHlo.ReadAt

@[expose] public section

set_option maxRecDepth 16384

noncomputable section

namespace Cert.FfnSIdeal.Arr

open Idealize.ShloMosaic Idealize.ShloMosaic.TcCoe Cert.FfnSIdeal Cert.FfnSIdeal.Gen Cert.Ffn.Spec

/-- The grid point of row tile `u` and half `j` of the hidden units. -/
def pt (u : Fin 1) (j : Fin 2) : Fin cfg0.N := ⟨2 * u.val + j.val, by have : cfg0.N = 2 := N_0; omega⟩

theorem index0 : ∀ (u : Fin 1) (j : Fin 2), win0_0.index (pt u j) = ![u.val, 0] := by decide +kernel
theorem index1 : ∀ (u : Fin 1) (j : Fin 2), win0_1.index (pt u j) = ![u.val, 0] := by decide +kernel
theorem index2 : ∀ (u : Fin 1) (j : Fin 2), win0_2.index (pt u j) = ![u.val, 0] := by decide +kernel
theorem index3 : ∀ (u : Fin 1) (j : Fin 2), win0_3.index (pt u j) = ![u.val, 0] := by decide +kernel
theorem index4 : ∀ (u : Fin 1) (j : Fin 2), win0_4.index (pt u j) = ![0, 0] := by decide +kernel
theorem index5 : ∀ (u : Fin 1) (j : Fin 2), win0_5.index (pt u j) = ![0, j.val] := by decide +kernel
theorem index6 : ∀ (u : Fin 1) (j : Fin 2), win0_6.index (pt u j) = ![0, j.val] := by decide +kernel
theorem index7 : ∀ (u : Fin 1) (j : Fin 2), win0_7.index (pt u j) = ![j.val, 0] := by decide +kernel
theorem index8 : ∀ (u : Fin 1) (j : Fin 2), win0_8.index (pt u j) = ![0, 0] := by decide +kernel
theorem index9 : ∀ (u : Fin 1) (j : Fin 2), win0_9.index (pt u j) = ![u.val, 0] := by decide +kernel

variable (m : (ℓ : Loc nD τ sig) → Buf (Elt Ideal) ℓ) (c : Dev nD)

/-- Row `r` of tile `u`, among all rows. -/
abbrev row (u : Fin 1) (r : Fin 128) : Fin 128 := ⟨128 * u.val + r.val, by omega⟩

theorem wg_apply (d : Fin 1024) (k : Fin 2816) :
    (V m c main_v1 : Vec Ideal S1024x2816 .bf16) (ix2 d k) =
      (m ((c : Thread nD τ).loc main_arg5) : Vec Ideal S1x1024x2816 .f32) (ix3 0 d k) := by
  unfold V
  after_reads_at

theorem wu_apply (d : Fin 1024) (k : Fin 2816) :
    (V m c main_v3 : Vec Ideal S1024x2816 .bf16) (ix2 d k) =
      (m ((c : Thread nD τ).loc main_arg6) : Vec Ideal S1x1024x2816 .f32) (ix3 0 d k) := by
  unfold V
  after_reads_at

theorem wd_apply (k : Fin 2816) (d : Fin 1024) :
    (V m c main_v5 : Vec Ideal S2816x1024 .bf16) (ix2 k d) =
      (m ((c : Thread nD τ).loc main_arg7) : Vec Ideal S1x2816x1024 .f32) (ix3 0 k d) := by
  unfold V
  after_reads_at

theorem gf_apply (d : Fin 1024) :
    (V m c main_v6 : Vec Ideal S1x1024 .f32) (ix2 0 d) =
      (m ((c : Thread nD τ).loc main_arg8) : Vec Ideal S1024 .f32) (ix1 d) := by
  unfold V
  after_reads_at

theorem blk0 (u : Fin 1) (j : Fin 2) (r : Fin 128) (d : Fin 1024) :
    (iblk m c 0 (pt u j) : Vec Ideal S128x1024 .f32) (ix2 r d) =
      (m ((c : Thread nD τ).loc main_arg0) : Vec Ideal S128x1024 .f32) (ix2 (row u r) d) := by
  rw [← V_main_arg0 m c]
  blk_ext [iblk, V, index0 u j]

theorem blk1 (u : Fin 1) (j : Fin 2) (r : Fin 128) (d : Fin 1024) :
    (iblk m c 1 (pt u j) : Vec Ideal S128x1024 .f32) (ix2 r d) =
      (m ((c : Thread nD τ).loc main_arg1) : Vec Ideal S128x1024 .f32) (ix2 (row u r) d) := by
  rw [← V_main_arg1 m c]
  blk_ext [iblk, V, index1 u j]

theorem blk2 (u : Fin 1) (j : Fin 2) (r : Fin 128) (d : Fin 1024) :
    (iblk m c 2 (pt u j) : Vec Ideal S128x1024 .f32) (ix2 r d) =
      (m ((c : Thread nD τ).loc main_arg2) : Vec Ideal S128x1024 .f32) (ix2 (row u r) d) := by
  rw [← V_main_arg2 m c]
  blk_ext [iblk, V, index2 u j]

theorem blk3 (u : Fin 1) (j : Fin 2) (r : Fin 128) (d : Fin 1024) :
    (iblk m c 3 (pt u j) : Vec Ideal S128x1024 .f32) (ix2 r d) =
      (m ((c : Thread nD τ).loc main_arg3) : Vec Ideal S128x1024 .f32) (ix2 (row u r) d) := by
  rw [← V_main_arg3 m c]
  blk_ext [iblk, V, index3 u j]

theorem blk4 (u : Fin 1) (j : Fin 2) (d : Fin 1024) :
    (iblk m c 4 (pt u j) : Vec Ideal S1x1024 .f32) (ix2 0 d) =
      (m ((c : Thread nD τ).loc main_arg4) : Vec Ideal S1x1024 .f32) (ix2 0 d) := by
  rw [← V_main_arg4 m c]
  blk_ext [iblk, V, index4 u j]

theorem blk5 (u : Fin 1) (j : Fin 2) (d : Fin 1024) (k : Fin 1408) :
    (iblk m c 5 (pt u j) : Vec Ideal S1024x1408 .bf16) (ix2 d k) =
      (m ((c : Thread nD τ).loc main_arg5) : Vec Ideal S1x1024x2816 .f32) (ix3 0 d (⟨1408 * j.val + k.val, by omega⟩ : Fin 2816)) := by
  refine Eq.trans ?_ (wg_apply m c d _)
  blk_ext [iblk, V, index5 u j]

theorem blk6 (u : Fin 1) (j : Fin 2) (d : Fin 1024) (k : Fin 1408) :
    (iblk m c 6 (pt u j) : Vec Ideal S1024x1408 .bf16) (ix2 d k) =
      (m ((c : Thread nD τ).loc main_arg6) : Vec Ideal S1x1024x2816 .f32) (ix3 0 d (⟨1408 * j.val + k.val, by omega⟩ : Fin 2816)) := by
  refine Eq.trans ?_ (wu_apply m c d _)
  blk_ext [iblk, V, index6 u j]

theorem blk7 (u : Fin 1) (j : Fin 2) (k : Fin 1408) (d : Fin 1024) :
    (iblk m c 7 (pt u j) : Vec Ideal S1408x1024 .bf16) (ix2 k d) =
      (m ((c : Thread nD τ).loc main_arg7) : Vec Ideal S1x2816x1024 .f32) (ix3 0 (⟨1408 * j.val + k.val, by omega⟩ : Fin 2816) d) := by
  refine Eq.trans ?_ (wd_apply m c _ d)
  blk_ext [iblk, V, index7 u j]

theorem blk8 (u : Fin 1) (j : Fin 2) (d : Fin 1024) :
    (iblk m c 8 (pt u j) : Vec Ideal S1x1024 .f32) (ix2 0 d) =
      (m ((c : Thread nD τ).loc main_arg8) : Vec Ideal S1024 .f32) (ix1 d) := by
  refine Eq.trans ?_ (gf_apply m c d)
  blk_ext [iblk, V, index8 u j]

theorem emb9 (u : Fin 1) (j : Fin 2) (r : Fin 128) (d : Fin 1024) :
    ((cfg0.win 9).blk (pt u j)).view.emb (ix2 r d) = (ix2 (row u r) d : S128x1024.Idx) := by
  blk_ext [index9 u j]

/-- The points that write a block back write different blocks. -/
theorem disjoint9 : ∀ t t' : Fin cfg0.N, (cfg0.win 9).flush t = true → (cfg0.win 9).flush t' = true → t ≠ t' →
    Disjoint ((cfg0.win 9).blk t).view.set ((cfg0.win 9).blk t').view.set := by
  intro t t' h h' hne
  have hN : cfg0.N = 2 := N_0
  have e : ∀ t : Fin cfg0.N, t.val % 2 = 1 → t = pt ⟨t.val / 2, by omega⟩ 1 := fun t ht => Fin.ext (by
    show t.val = 2 * (t.val / 2) + 1; omega)
  have a := e t ((flush0_9 t).mp h)
  have a' := e t' ((flush0_9 t').mp h')
  refine (cfg0.win 9).disjoint_blk fun hi => hne ?_
  have hi' : win0_9.index t = win0_9.index t' := hi
  rw [a, a', index9, index9] at hi'
  have h0 := congrFun hi' 0
  have h0' : t.val / 2 = t'.val / 2 := h0
  have b := (flush0_9 t).mp h
  have b' := (flush0_9 t').mp h'
  exact Fin.ext (by omega)

theorem outs_congr {n n' : ℕ} (e : n = n') (h : n < cfg0.N) (h' : n' < cfg0.N) : outsAt0 m c n h = outsAt0 m c n' h' := by
  subst e; rfl

/-- A row of the result, from the arguments. -/
def rowOf (x sh sc ga : Vec Ideal S128x1024 .f32) (g : Vec Ideal S1x1024 .f32)
    (wg wu : Vec Ideal S1x1024x2816 .f32) (wd : Vec Ideal S1x2816x1024 .f32) (gf : Vec Ideal S1024 .f32) (n : Fin 128)
    (d : Fin 1024) : EReal :=
  rms (after (fun k => x (ix2 n k)) (fun k => ga (ix2 n k))
      (modulated (fun k => x (ix2 n k)) (fun k => g (ix2 0 k)) (fun k => sc (ix2 n k)) (fun k => sh (ix2 n k)))
      (fun e k => wg (ix3 0 e k)) (fun e k => wu (ix3 0 e k)) (fun k e => wd (ix3 0 k e)))
    (fun k => gf (ix1 k)) d

/-- The rows that enter the hidden layer, as the point that makes them does. -/
abbrev hidAt (t : Fin cfg0.N) : FVec Ideal S128x1024 .bf16 :=
  k0_pay1 (iblk m c 0 t : Vec Ideal S128x1024 .f32) (iblk m c 4 t) (iblk m c 2 t) (iblk m c 1 t)

/-- What a tile's first point leaves in the first carried buffer. -/
theorem carried_h (t : Fin cfg0.N) (h0 : t.val % 2 = 0) (h1 : ¬t.val % 2 = 1) : (outsAt0 m c t.val t.isLt).2.1 = hidAt m c t := by
  rw [outsAt0_A m c t h0 h1]
  dsimp only
  exact Block.first_h ..

/-- What a tile's first point leaves in the second one. -/
theorem carried_acc (t : Fin cfg0.N) (h0 : t.val % 2 = 0) (h1 : ¬t.val % 2 = 1) : (outsAt0 m c t.val t.isLt).2.2 =
    k0_pay3 (hidAt m c t) (iblk m c 5 t) (iblk m c 6 t) (k0_pay2 (F := Ideal)) (iblk m c 7 t) := by
  rw [outsAt0_A m c t h0 h1]
  dsimp only
  exact Block.first_acc ..

/-- What a tile's second point `t'` writes back, its first point being `t`. -/
theorem written (t t' : Fin cfg0.N) (e : t'.val = t.val + 1) (h : t.val % 2 = 0) (r : Fin 128) (d : Fin 1024) :
    (dats m 0 c).flushed 9 t' (ix2 r d) = k0_pay4 (iblk m c 0 t' : Vec Ideal S128x1024 .f32) (iblk m c 3 t')
      (k0_pay3 (hidAt m c t) (iblk m c 5 t') (iblk m c 6 t')
        (k0_pay3 (hidAt m c t) (iblk m c 5 t) (iblk m c 6 t) (k0_pay2 (F := Ideal)) (iblk m c 7 t)) (iblk m c 7 t'))
      (iblk m c 8 t') (ix2 r d) := by
  have e' : t'.val - 1 = t.val := by omega
  rw [Value.flushed9_B m c t' (by omega) (by omega), outs_congr m c e' _ t.isLt, carried_h m c t h (by omega),
    carried_acc m c t h (by omega)]
  exact congrFun (Block.second_out ..) (ix2 r d)

/-- The rows of tile `u` that enter the hidden layer. -/
abbrev hid (u : Fin 1) : FVec Ideal S128x1024 .bf16 := hidAt m c (pt u 0)

/-- Half `j` of the hidden units at row `r` of tile `u`, in the arguments' terms. -/
theorem half (u : Fin 1) (j : Fin 2) (r : Fin 128) (d : Fin 1024) (k : Fin 1408) (f : Fin 1024 → EReal)
    (hf : (fun e => hid m c u (ix2 r e)) = f) :
    unit (fun e => hid m c u (ix2 r e)) (fun e => (iblk m c 5 (pt u j) : Vec Ideal S1024x1408 .bf16) (ix2 e k))
        (fun e => (iblk m c 6 (pt u j) : Vec Ideal S1024x1408 .bf16) (ix2 e k)) *
      (iblk m c 7 (pt u j) : Vec Ideal S1408x1024 .bf16) (ix2 k d) =
    (fun k : Fin 2816 => unit f (fun e => (m ((c : Thread nD τ).loc main_arg5) : Vec Ideal S1x1024x2816 .f32) (ix3 0 e k))
        (fun e => (m ((c : Thread nD τ).loc main_arg6) : Vec Ideal S1x1024x2816 .f32) (ix3 0 e k)) *
      (m ((c : Thread nD τ).loc main_arg7) : Vec Ideal S1x2816x1024 .f32) (ix3 0 k d)) ⟨1408 * j.val + k.val, by omega⟩ := by
  rw [hf]
  simp only [blk5, blk6, blk7]

/-- The result array at row `r` of tile `u`. -/
theorem point (u : Fin 1) (r : Fin 128) (d : Fin 1024) :
    (dats m 0 c).arrAt 9 cfg0.N (ix2 (row u r) d : S128x1024.Idx) =
      rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (row u r) d := by
  have h1 : (pt u 1).val % 2 = 1 := by show (2 * u.val + 1) % 2 = 1; omega
  have key := (dats m 0 c).arrAt_emb_eq_flushed 9 disjoint9 (pt u 1) ((flush0_9 _).mpr h1) (ix2 r d)
  rw [emb9 u 1 r d] at key
  refine key.trans ((written m c (pt u 0) (pt u 1) rfl (by show (2 * u.val + 0) % 2 = 0; omega) r d).trans ?_)
  rw [Tile.out_apply]
  have hh : (fun e => hid m c u (ix2 r e)) = _ := funext fun e => Tile.h_apply _ _ _ _ r e
  simp only [blk0, blk1, blk2, blk4] at hh
  simp only [blk0, blk3, blk8, Tile.acc_apply, Tile.zero_apply]
  unfold rowOf after
  congr 1
  funext k
  congr 2
  rw [← sum_halves]
  exact congrArg₂ _ (congrArg (0 + ·) (Finset.sum_congr rfl fun l _ => half m c u 0 r k l _ hh))
    (Finset.sum_congr rfl fun l _ => half m c u 1 r k l _ hh)

/-- The result array at row `n`. -/
theorem arr_apply (n : Fin 128) (d : Fin 1024) :
    (dats m 0 c).arrAt 9 cfg0.N (ix2 n d : S128x1024.Idx) =
      rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) n d := by
  have h := point m c 0 n d
  have e : row 0 n = n := Fin.ext (by show 128 * 0 + n.val = n.val; omega)
  rw [e] at h
  exact h

end Cert.FfnSIdeal.Arr

end
-- ==== Proof.FfnS.Ref.lean ====
/-
   The samples' feed-forward reference, element by element.
-/
module

public import proofs.«01_k».proof.Proof.Ffn.Ref
public import proofs.«01_k».proof.Proof.Gen.FfnSReferenceIdeal.Read
public import Idealize.ShloMosaic.Lib.Pipeline.ValueKit

@[expose] public section

set_option maxRecDepth 16384

noncomputable section

namespace Cert.FfnSReferenceIdeal.Ref

open Idealize.ShloMosaic Cert.FfnSReferenceIdeal Cert.FfnSReferenceIdeal.Gen Cert.FfnSReferenceIdeal.Read Cert.Ffn.Spec

variable (x sh sc ga : Vec Ideal S128x1024 .f32) (g : Vec Ideal S1x1024 .f32)
  (wg wu : Vec Ideal S1x1024x2816 .f32) (wd : Vec Ideal S1x2816x1024 .f32) (gf : Vec Ideal S1024 .f32)

/-- The row that enters the hidden layer. -/
abbrev hidden (n : Fin 128) : Fin 1024 → EReal :=
  modulated (fun k => x (ix2 n k)) (fun k => g (ix2 0 k)) (fun k => sc (ix2 n k)) (fun k => sh (ix2 n k))

theorem h_apply (n : Fin 128) (d : Fin 1024) :
    val_main_v17 (F := Ideal) x sh sc g (ix2 n d) = hidden x sh sc g n d := by
  have e2 : ∀ k, idx_main_v2 (idx_main_v3 (idx_main_v9 (ix2 n d))) k = ix2 n k :=
    fun k => funext fun a => match a with | ⟨0, _⟩ => rfl | ⟨1, _⟩ => rfl
  have e0 : idx_main_v0 (idx_main_v11 (idx_main_v12 (ix2 n d))) = ix2 0 d :=
    funext fun a => match a with | ⟨0, _⟩ => rfl | ⟨1, _⟩ => Fin.ext (Nat.mod_eq_of_lt d.isLt)
  rw [val_main_v17_apply, val_main_v16_apply, val_main_v13_apply, val_main_v10_apply, val_main_v9_apply, val_main_v8_apply,
    val_main_v7_apply, val_main_v5_apply, val_main_v3_apply, val_main_v2_apply, val_main_v4_apply, val_main_v6_apply,
    val_main_v12_apply, val_main_v11_apply, val_main_v0_apply, val_main_v15_apply, val_main_v14_apply,
    val_main_cst_apply, val_main_cst_0_apply, val_main_cst_1_apply, val_main_cst_2_apply, Cert.FfnReferenceIdeal.Ref.zero_lit, Cert.FfnReferenceIdeal.Ref.one_lit,
    e0]
  simp only [val_main_v1_apply, e2]
  rw [zero_add]
  rfl

/-- A hidden unit. -/
theorem unit_apply (n : Fin 128) (k : Fin 2816) :
    val_main_v23 (F := Ideal) x sh sc g wg wu (ix2 n k) =
      unit (hidden x sh sc g n) (fun e => wg (ix3 0 e k)) (fun e => wu (ix3 0 e k)) := by
  have l19 : ∀ e, lidx_main_v19 (ix2 n k) e = ix2 n e :=
    fun e => funext fun a => match a with | ⟨0, _⟩ => rfl | ⟨1, _⟩ => rfl
  have l22 : ∀ e, lidx_main_v22 (ix2 n k) e = ix2 n e :=
    fun e => funext fun a => match a with | ⟨0, _⟩ => rfl | ⟨1, _⟩ => rfl
  have r19 : ∀ e, idx_main_v18 (ridx_main_v19 (ix2 n k) e) = ix3 0 e k :=
    fun e => funext fun a => match a with
      | ⟨0, _⟩ => rfl
      | ⟨1, _⟩ => Fin.ext (by show (e.val * 2816 + k.val) / 2816 % 1024 = e.val; omega)
      | ⟨2, _⟩ => Fin.ext (by show (e.val * 2816 + k.val) % 2816 = k.val; omega)
  have r22 : ∀ e, idx_main_v21 (ridx_main_v22 (ix2 n k) e) = ix3 0 e k :=
    fun e => funext fun a => match a with
      | ⟨0, _⟩ => rfl
      | ⟨1, _⟩ => Fin.ext (by show (e.val * 2816 + k.val) / 2816 % 1024 = e.val; omega)
      | ⟨2, _⟩ => Fin.ext (by show (e.val * 2816 + k.val) % 2816 = k.val; omega)
  have h19 : val_main_v19 (F := Ideal) x sh sc g wg (ix2 n k) = ∑ e : Fin 1024, hidden x sh sc g n e * wg (ix3 0 e k) := by
    rw [val_main_v19_apply]
    exact Finset.sum_congr rfl fun e _ => by rw [l19, h_apply, val_main_v18_apply, r19]
  have h22 : val_main_v22 (F := Ideal) x sh sc g wu (ix2 n k) = ∑ e : Fin 1024, hidden x sh sc g n e * wu (ix3 0 e k) := by
    rw [val_main_v22_apply]
    exact Finset.sum_congr rfl fun e _ => by rw [l22, h_apply, val_main_v21_apply, r22]
  rw [val_main_v23_apply, val_main_v20_apply, val_main_call0_v5_apply, val_main_call0_v4_apply, val_main_call0_v3_apply,
    val_main_call0_v2_apply, val_main_call0_v1_apply, val_main_call0_v0_apply, val_main_call0_cst_apply, val_main_call0_cst_0_apply,
    Cert.FfnReferenceIdeal.Ref.one_lit, h19, h22]
  rfl

/-- The row after the layer. -/
abbrev aft (n : Fin 128) : Fin 1024 → EReal :=
  after (fun k => x (ix2 n k)) (fun k => ga (ix2 n k)) (hidden x sh sc g n)
    (fun e k => wg (ix3 0 e k)) (fun e k => wu (ix3 0 e k)) (fun k e => wd (ix3 0 k e))

theorem after_apply (n : Fin 128) (d : Fin 1024) :
    val_main_v27 (F := Ideal) x sh sc ga g wg wu wd (ix2 n d) = aft x sh sc ga g wg wu wd n d := by
  have l25 : ∀ k, lidx_main_v25 (ix2 n d) k = ix2 n k :=
    fun e => funext fun a => match a with | ⟨0, _⟩ => rfl | ⟨1, _⟩ => rfl
  have r25 : ∀ k, idx_main_v24 (ridx_main_v25 (ix2 n d) k) = ix3 0 k d :=
    fun k => funext fun a => match a with
      | ⟨0, _⟩ => rfl
      | ⟨1, _⟩ => Fin.ext (by show (k.val * 1024 + d.val) / 1024 % 2816 = k.val; omega)
      | ⟨2, _⟩ => Fin.ext (by show (k.val * 1024 + d.val) % 1024 = d.val; omega)
  have h25 : val_main_v25 (F := Ideal) x sh sc g wg wu wd (ix2 n d) = ∑ k : Fin 2816,
      unit (hidden x sh sc g n) (fun e => wg (ix3 0 e k)) (fun e => wu (ix3 0 e k)) * wd (ix3 0 k d) := by
    rw [val_main_v25_apply]
    exact Finset.sum_congr rfl fun k _ => by rw [l25, unit_apply, val_main_v24_apply, r25]
  rw [val_main_v27_apply, val_main_v26_apply,  h25]
  rfl

/-- The reference's result at position `p` of batch `b`. -/
theorem ref_apply (n : Fin 128) (d : Fin 1024) :
    val_main_v40 (F := Ideal) x sh sc ga g wg wu wd gf (ix2 n d) =
      rms (aft x sh sc ga g wg wu wd n) (fun k => gf (ix1 k)) d := by
  have e29 : ∀ k, idx_main_v29 (idx_main_v30 (idx_main_v36 (ix2 n d))) k = ix2 n k :=
    fun k => funext fun a => match a with | ⟨0, _⟩ => rfl | ⟨1, _⟩ => rfl
  have e38 : idx_main_v38 (idx_main_v39 (ix2 n d)) = ix1 d := funext fun a => match a with | ⟨0, _⟩ => rfl
  rw [val_main_v40_apply, val_main_v37_apply, val_main_v36_apply, val_main_v35_apply, val_main_v34_apply,
    val_main_v32_apply, val_main_v30_apply, val_main_v29_apply, val_main_v31_apply, val_main_v33_apply, val_main_v39_apply,
    val_main_v38_apply, val_main_cst_3_apply, val_main_cst_4_apply, val_main_cst_5_apply, Cert.FfnReferenceIdeal.Ref.zero_lit, e38]
  simp only [val_main_v28_apply, e29, after_apply]
  rw [zero_add]
  rfl

end Cert.FfnSReferenceIdeal.Ref

end
-- ==== Proof.FfnS.Claim.lean ====
/-
   The samples' feed-forward result is its reference's.
-/
module

public import proofs.«01_k».proof.Proof.FfnS.Array
public import proofs.«01_k».proof.Proof.FfnS.Ref
public import proofs.«01_k».proof.Defs
public import proofs.«01_k».proof.Proof.Gen.FfnSIdeal.Value
public import proofs.«01_k».proof.Proof.Gen.FfnSReferenceIdeal.Run

@[expose] public section

set_option maxRecDepth 16384

noncomputable section

namespace Cert.FfnSIdeal.Close

open Idealize.ShloMosaic

/-- Every index of the result is a row and a feature. -/
theorem idx_form (i : Cert.FfnSIdeal.S128x1024.Idx) : ∃ (n : Fin 128) (d : Fin 1024), i = ix2 n d :=
  ⟨i 0, i 1, funext fun a => match a with | ⟨0, _⟩ => rfl | ⟨1, _⟩ => rfl⟩

/-- The kernel's result array is the reference's. -/
theorem arr_eq (m : (ℓ : Loc Cert.FfnSIdeal.nD Cert.FfnSIdeal.τ Cert.FfnSIdeal.sig) → Buf (Elt Ideal) ℓ)
    (c : Dev Cert.FfnSIdeal.nD) :
    (Cert.FfnSIdeal.Gen.dats m 0 c).arrAt 9 Cert.FfnSIdeal.cfg0.N =
      Cert.FfnSReferenceIdeal.Read.val_main_v40 (F := Ideal)
        (m ((c.tc : Thread Cert.FfnSIdeal.nD Cert.FfnSIdeal.τ).loc Cert.FfnSIdeal.main_arg0))
        (m ((c.tc : Thread Cert.FfnSIdeal.nD Cert.FfnSIdeal.τ).loc Cert.FfnSIdeal.main_arg1))
        (m ((c.tc : Thread Cert.FfnSIdeal.nD Cert.FfnSIdeal.τ).loc Cert.FfnSIdeal.main_arg2))
        (m ((c.tc : Thread Cert.FfnSIdeal.nD Cert.FfnSIdeal.τ).loc Cert.FfnSIdeal.main_arg3))
        (m ((c.tc : Thread Cert.FfnSIdeal.nD Cert.FfnSIdeal.τ).loc Cert.FfnSIdeal.main_arg4))
        (m ((c.tc : Thread Cert.FfnSIdeal.nD Cert.FfnSIdeal.τ).loc Cert.FfnSIdeal.main_arg5))
        (m ((c.tc : Thread Cert.FfnSIdeal.nD Cert.FfnSIdeal.τ).loc Cert.FfnSIdeal.main_arg6))
        (m ((c.tc : Thread Cert.FfnSIdeal.nD Cert.FfnSIdeal.τ).loc Cert.FfnSIdeal.main_arg7))
        (m ((c.tc : Thread Cert.FfnSIdeal.nD Cert.FfnSIdeal.τ).loc Cert.FfnSIdeal.main_arg8)) := by
  funext i
  obtain ⟨n, d, rfl⟩ := idx_form i
  exact (Cert.FfnSIdeal.Arr.arr_apply m c n d).trans (Cert.FfnSReferenceIdeal.Ref.ref_apply _ _ _ _ _ _ _ _ _ n d).symm

/-- The value claim: the feed-forward kernel's result is the reference's. -/
theorem algebraic : Cert.algebraic_FfnSIdeal_FfnSReferenceIdeal := by
  intro m ρ m' ρ' _ hag
  refine ⟨fun c => (Cert.FfnSIdeal.Gen.dats m 0 c).arrAt 9 Cert.FfnSIdeal.cfg0.N, Cert.FfnSIdeal.Value.run_blocks m ρ, ?_⟩
  refine (θ_run _ _ _).mono (fun _ h c => ⟨(h c).1.trans ?_, (h c).2⟩) (Cert.FfnSReferenceIdeal.Value.run m' ρ')
  refine (Cert.FfnSReferenceIdeal.Read.val_main_v40_eq m' c).trans ?_
  obtain ⟨h0, h1, h2, h3, h4, h5, h6, h7, h8⟩ := hag c
  rw [h0, h1, h2, h3, h4, h5, h6, h7, h8]
  exact (arr_eq m c).symm

end Cert.FfnSIdeal.Close

end
-- ==== Proof.Step.Spec.lean ====
/-
  One step of the recurrence, in plain terms.
-/
module

public import Idealize.ShloMosaic.Lib.Pointwise

@[expose] public section

noncomputable section

namespace Cert.Step.Spec

open Idealize.ShloMosaic

/-- The column of head `k`'s element `p`. -/
def col (k : Fin 8) (p : Fin 64) : Fin 512 := ⟨k.val * 64 + p.val, by omega⟩

/-- Where B lies, for the group of head `k`. -/
def colB (k : Fin 8) (q : Fin 128) : Fin 512 := ⟨k.val / 4 * 128 + q.val, by omega⟩

/-- Where C lies, for the group of head `k`. -/
def colC (k : Fin 8) (q : Fin 128) : Fin 512 := ⟨256 + k.val / 4 * 128 + q.val, by omega⟩

/-- The new state: the old one decayed, plus the step's outer product. -/
def next (d h t x b : EReal) : EReal := d * h + t * x * b

/-- What the new state gives, with the skip. -/
def emit (h c : Fin 128 → EReal) (s x : EReal) : EReal := ∑ q : Fin 128, h q * c q + s * x

end Cert.Step.Spec

end
-- ==== Proof.Step.Pieces.lean ====
/-
  The stores of one step of the recurrence: one piece of each result for every row and head.
-/
module

public import proofs.«01_k».proof.Proof.Gen.StepIdeal.Value
public import Idealize.ShloMosaic.Lib.Pipeline.ValueKit

@[expose] public section

set_option maxRecDepth 16384

noncomputable section

namespace Cert.StepIdeal.Pieces

open Idealize.ShloMosaic Idealize.ShloMosaic.TcCoe Idealize.ShloMosaic.Tactic Cert.StepIdeal Cert.StepIdeal.Gen

variable {F : FTy → Type} [FloatOps F]

/-- The row of store `n`, within the block. -/
def row (n : Fin 64) : Fin 8 := ⟨n.val / 8, by omega⟩
/-- The head of store `n`. -/
def head (n : Fin 64) : Fin 8 := ⟨n.val % 8, by omega⟩

/-- The word read for a row and a head. -/
def off (i : grid0.Coords) (r k : Fin 8) : Fin 2 → ℕ :=
  ![(Scalar.indexCast (Scalar.addi (Scalar.muli (BitVec.ofNat 32 (i 0).val) 8#32) (BitVec.ofNat 32 r.val))).toNat, k.val]

theorem off_zero (i : grid0.Coords) (r k : Fin 8) : off i r k 0 = (i 0).val * 8 + r.val := by
  have h : (i 0).val < 16 := (i 0).isLt
  have := r.isLt
  show (Scalar.indexCast (Scalar.addi (Scalar.muli (BitVec.ofNat 32 (i 0).val) 8#32) (BitVec.ofNat 32 r.val))).toNat = _
  simp [Scalar.indexCast, Scalar.muli, Scalar.addi, IntOp.muli, IntOp.addi, BitVec.toNat_mul, BitVec.toNat_add, BitVec.toNat_ofNat]
  omega

theorem off_inb (i : grid0.Coords) (r k : Fin 8) : ∀ a, off i r k a + S1x1.size a ≤ S128x8.size a := by
  have h : (i 0).val < 16 := (i 0).isLt
  have e := off_zero i r k
  intro a
  match a with
  | ⟨0, _⟩ => show off i r k 0 + 1 ≤ 128; omega
  | ⟨1, _⟩ => show k.val + 1 ≤ 8; omega

theorem inb_state (r k : Fin 8) : ∀ a, (![r.val, k.val, 0, 0] : Fin 4 → ℕ) a + S1x1x64x128.size a ≤ S8x8x64x128.size a := by
  intro a
  match a with
  | ⟨0, _⟩ => show r.val + 1 ≤ 8; omega
  | ⟨1, _⟩ => show k.val + 1 ≤ 8; omega
  | ⟨2, _⟩ => exact le_refl 64
  | ⟨3, _⟩ => exact le_refl 128

theorem inb_col (r k : Fin 8) : ∀ a, (![r.val, k.val * 64, 0] : Fin 3 → ℕ) a + S1x64x1.size a ≤ S8x512x1.size a := by
  intro a
  match a with
  | ⟨0, _⟩ => show r.val + 1 ≤ 8; omega
  | ⟨1, _⟩ => show k.val * 64 + 64 ≤ 512; omega
  | ⟨2, _⟩ => exact le_refl 1

theorem inb_b (r k : Fin 8) : ∀ a, (![r.val, 0, k.val / 4 * 128] : Fin 3 → ℕ) a + S1x1x128.size a ≤ S8x1x512.size a := by
  intro a
  match a with
  | ⟨0, _⟩ => show r.val + 1 ≤ 8; omega
  | ⟨1, _⟩ => exact le_refl 1
  | ⟨2, _⟩ => show k.val / 4 * 128 + 128 ≤ 512; omega

theorem inb_c (r k : Fin 8) : ∀ a, (![r.val, 0, 256 + k.val / 4 * 128] : Fin 3 → ℕ) a + S1x1x128.size a ≤ S8x1x512.size a := by
  intro a
  match a with
  | ⟨0, _⟩ => show r.val + 1 ≤ 8; omega
  | ⟨1, _⟩ => exact le_refl 1
  | ⟨2, _⟩ => show 256 + k.val / 4 * 128 + 128 ≤ 512; omega

theorem inb_skip (k : Fin 8) : ∀ a, (![0, k.val] : Fin 2 → ℕ) a + S1x1.size a ≤ S1x8.size a := by
  intro a
  match a with
  | ⟨0, _⟩ => exact le_refl 1
  | ⟨1, _⟩ => show k.val + 1 ≤ 8; omega

/-- A word of a table in scalar memory. -/
def word {s : Shape} (a : Memref sig .tc .smem s .f32) (ha : a.IsWhole) (x : Vec F s .f32) (o : Fin s.rank → ℕ)
    (z : Fin s.rank → ℕ) (inb : ∀ d, o d + z d ≤ s.size d) (j : (Rect.unit (s := s) o z inb).shape.Idx) : Elt F .f32 :=
  a.view.readAt (Elt F) (Rect.unit (s := s) o z inb).toLoadRect (ha.unread x) j

/-- A block's piece in vector memory. -/
def part {s : Shape} (a : Memref sig .tc .vmem s .f32) (ha : a.IsWhole) (x : Vec F s .f32) (o : Fin s.rank → ℕ)
    (z : Fin s.rank → ℕ) (inb : ∀ d, o d + z d ≤ s.size d) : (Rect.unit (s := s) o z inb).shape.Idx → Elt F .f32 :=
  a.view.readAt (Elt F) (Rect.unit (s := s) o z inb).toLoadRect (ha.unread x)

/-- Reading a piece is reading the block at the piece's place. -/
theorem part_apply {s : Shape} (a : Memref sig .tc .vmem s .f32) (ha : a.IsWhole) (x : Vec F s .f32) (o z : Fin s.rank → ℕ)
    (inb : ∀ d, o d + z d ≤ s.size d) (j : (Rect.unit (s := s) o z inb).shape.Idx) :
    part a ha x o z inb j = x ((Rect.unit (s := s) o z inb).idx j) := by
  unfold part
  rw [View.readAt_apply, ha.read_unread]

/-- Reading a word is reading the table at the word's place. -/
theorem word_apply {s : Shape} (a : Memref sig .tc .smem s .f32) (ha : a.IsWhole) (x : Vec F s .f32) (o z : Fin s.rank → ℕ)
    (inb : ∀ d, o d + z d ≤ s.size d) (j : (Rect.unit (s := s) o z inb).shape.Idx) :
    word a ha x o z inb j = x ((Rect.unit (s := s) o z inb).idx j) := by
  unfold word
  rw [View.readAt_apply, ha.read_unread]

variable (c : Dev nD) (i : grid0.Coords)
  (arg1 : Memref sig .tc .smem S128x8 .f32) (harg1 : arg1.IsWhole) (arg2 : Memref sig .tc .smem S128x8 .f32) (harg2 : arg2.IsWhole)
  (arg3 : Memref sig .tc .smem S1x8 .f32) (harg3 : arg3.IsWhole) (arg4 : Memref sig .tc .vmem S8x8x64x128 .f32) (harg4 : arg4.IsWhole)
  (arg5 : Memref sig .tc .vmem S8x512x1 .f32) (harg5 : arg5.IsWhole) (arg6 : Memref sig .tc .vmem S8x1x512 .f32) (harg6 : arg6.IsWhole)
  (arg7 : Memref sig .tc .vmem S8x8x64x128 .f32) (harg7 : arg7.IsWhole) (arg8 : Memref sig .tc .vmem S8x512x1 .f32) (harg8 : arg8.IsWhole)
  (x0 x1 : Vec F S128x8 .f32) (x2 : Vec F S1x8 .f32) (x3 : Vec F S8x8x64x128 .f32) (x4 : Vec F S8x512x1 .f32) (x5 : Vec F S8x1x512 .f32)

/-- The one element of a word's box. -/
abbrev one : S1x1.Idx := Shape.Idx.first (numel1_S1x1.symm ▸ Nat.one_pos)

/-- The new state's piece for store `n`. -/
def stateAt (n : Fin 64) : View.Piece (Elt F) S8x8x64x128 .f32 :=
  ⟨Rect.unit (s := S8x8x64x128) ![(row n).val, (head n).val, 0, 0] S1x1x64x128.size (inb_state (row n) (head n)),
    k0_pay6 (part arg5 harg5 x4 ![(row n).val, (head n).val * 64, 0] S1x64x1.size (inb_col (row n) (head n)))
      (part arg6 harg6 x5 ![(row n).val, 0, (head n).val / 4 * 128] S1x1x128.size (inb_b (row n) (head n)))
      (word arg2 harg2 x1 (off i (row n) (head n)) S1x1.size (off_inb i (row n) (head n)) one)
      (part arg4 harg4 x3 ![(row n).val, (head n).val, 0, 0] S1x1x64x128.size (inb_state (row n) (head n)))
      (word arg1 harg1 x0 (off i (row n) (head n)) S1x1.size (off_inb i (row n) (head n)) one)⟩

/-- The result's piece for store `n`. -/
def emitAt (n : Fin 64) : View.Piece (Elt F) S8x512x1 .f32 :=
  ⟨Rect.unit (s := S8x512x1) ![(row n).val, (head n).val * 64, 0] S1x64x1.size (inb_col (row n) (head n)),
    k0_pay8 (k0_pay7 (part arg5 harg5 x4 ![(row n).val, (head n).val * 64, 0] S1x64x1.size (inb_col (row n) (head n)))
      (part arg6 harg6 x5 ![(row n).val, 0, (head n).val / 4 * 128] S1x1x128.size (inb_b (row n) (head n)))
      (part arg6 harg6 x5 ![(row n).val, 0, 256 + (head n).val / 4 * 128] S1x1x128.size (inb_c (row n) (head n)))
      (word arg2 harg2 x1 (off i (row n) (head n)) S1x1.size (off_inb i (row n) (head n)) one)
      (part arg4 harg4 x3 ![(row n).val, (head n).val, 0, 0] S1x1x64x128.size (inb_state (row n) (head n)))
      (word arg1 harg1 x0 (off i (row n) (head n)) S1x1.size (off_inb i (row n) (head n)) one)
      (word arg3 harg3 x2 ![0, (head n).val] S1x1.size (inb_skip (head n)) one))⟩

/-- The new state's stores are these, last first. -/
theorem state_pieces :
    (kernelRun0_A (F := F) c i arg1 harg1 arg2 harg2 arg3 harg3 arg4 harg4 arg5 harg5 arg6 harg6 arg7 harg7 arg8 harg8 x0 x1 x2 x3 x4 x5).1 =
      ((List.finRange 64).map (stateAt i arg1 harg1 arg2 harg2 arg4 harg4 arg5 harg5 arg6 harg6 x0 x1 x3 x4 x5)).reverse := by
  sl_kernel_rfl

/-- The result's stores are these, last first. -/
theorem emit_pieces :
    (kernelRun0_A (F := F) c i arg1 harg1 arg2 harg2 arg3 harg3 arg4 harg4 arg5 harg5 arg6 harg6 arg7 harg7 arg8 harg8 x0 x1 x2 x3 x4 x5).2.1 =
      ((List.finRange 64).map (emitAt i arg1 harg1 arg2 harg2 arg3 harg3 arg4 harg4 arg5 harg5 arg6 harg6 x0 x1 x2 x3 x4 x5)).reverse := by
  sl_kernel_rfl

end Cert.StepIdeal.Pieces

end
-- ==== Proof.Step.Block.lean ====
/-
  What one step of the recurrence leaves in its two blocks, element by element.
-/
module

public import proofs.«01_k».proof.Proof.Step.Spec
public import proofs.«01_k».proof.Proof.Step.Pieces
public import proofs.«01_k».proof.Proof.Merge.Ref

@[expose] public section

set_option maxRecDepth 16384

noncomputable section

namespace Cert.StepIdeal.Block

open Idealize.ShloMosaic Idealize.ShloMosaic.TcCoe Idealize.ShloMosaic.Tactic Cert.StepIdeal Cert.StepIdeal.Gen
  Cert.StepIdeal.Pieces Cert.Step.Spec

/-- One element of a new state's piece. -/
theorem state_val (x : Vec Ideal S1x64x1 .f32) (b : Vec Ideal S1x1x128 .f32) (d : Elt Ideal .f32) (h : Vec Ideal S1x1x64x128 .f32)
    (t : Elt Ideal .f32) (p : Fin 64) (q : Fin 128) :
    k0_pay6 (F := Ideal) x b d h t (ix4 0 0 p q) = next d (h (ix4 0 0 p q)) t (x (ix3 0 p 0)) (b (ix3 0 0 q)) := by
  pointwise [k0_pay6, k0_pay5, k0_pay4]
  rfl

/-- The same before its two outer axes are put on. -/
theorem state_flat (x : Vec Ideal S1x64x1 .f32) (b : Vec Ideal S1x1x128 .f32) (d : Elt Ideal .f32) (h : Vec Ideal S1x1x64x128 .f32)
    (t : Elt Ideal .f32) (p : Fin 64) (q : Fin 128) :
    k0_pay5 (F := Ideal) x b d h t (ix2 p q) = next d (h (ix4 0 0 p q)) t (x (ix3 0 p 0)) (b (ix3 0 0 q)) := by
  pointwise [k0_pay5, k0_pay4]
  rfl

/-- One element of a result's piece. -/
theorem emit_val (x : Vec Ideal S1x64x1 .f32) (b c : Vec Ideal S1x1x128 .f32) (d : Elt Ideal .f32) (h : Vec Ideal S1x1x64x128 .f32)
    (t s : Elt Ideal .f32) (p : Fin 64) :
    k0_pay8 (F := Ideal) (k0_pay7 x b c d h t s) (ix3 0 p 0) =
      emit (fun q => next d (h (ix4 0 0 p q)) t (x (ix3 0 p 0)) (b (ix3 0 0 q))) (fun q => c (ix3 0 0 q)) s (x (ix3 0 p 0)) := by
  unfold emit
  simp only [← state_flat x b d h t]
  unfold k0_pay8 k0_pay7 k0_pay4
  generalize k0_pay5 (F := Ideal) x b d h t = y
  pointwise

/-- The row of a table that row `r` of point `i` has. -/
def at' (i : grid0.Coords) (r : Fin 8) : Fin 128 := ⟨(i 0).val * 8 + r.val, by have : (i 0).val < 16 := (i 0).isLt; omega⟩

theorem emb_state (r k : Fin 8) (p : Fin 64) (q : Fin 128) :
    (Rect.unit (s := S8x8x64x128) ![r.val, k.val, 0, 0] S1x1x64x128.size (inb_state r k)).idx (ix4 (0 : Fin 1) (0 : Fin 1) p q) =
      (ix4 r k p q : S8x8x64x128.Idx) := by
  funext a; apply Fin.ext
  rw [Rect.idx_unit_val]
  match a with
  | ⟨0, _⟩ => rfl
  | ⟨1, _⟩ => rfl
  | ⟨2, _⟩ => exact Nat.zero_add _
  | ⟨3, _⟩ => exact Nat.zero_add _

theorem emb_col (r k : Fin 8) (p : Fin 64) :
    (Rect.unit (s := S8x512x1) ![r.val, k.val * 64, 0] S1x64x1.size (inb_col r k)).idx (ix3 (0 : Fin 1) p (0 : Fin 1)) =
      (ix3 r (col k p) 0 : S8x512x1.Idx) := by
  funext a; apply Fin.ext
  rw [Rect.idx_unit_val]
  match a with
  | ⟨0, _⟩ => rfl
  | ⟨1, _⟩ => rfl
  | ⟨2, _⟩ => rfl

theorem emb_b (r k : Fin 8) (q : Fin 128) :
    (Rect.unit (s := S8x1x512) ![r.val, 0, k.val / 4 * 128] S1x1x128.size (inb_b r k)).idx (ix3 (0 : Fin 1) (0 : Fin 1) q) =
      (ix3 r 0 (colB k q) : S8x1x512.Idx) := by
  funext a; apply Fin.ext
  rw [Rect.idx_unit_val]
  match a with
  | ⟨0, _⟩ => rfl
  | ⟨1, _⟩ => rfl
  | ⟨2, _⟩ => rfl

theorem emb_c (r k : Fin 8) (q : Fin 128) :
    (Rect.unit (s := S8x1x512) ![r.val, 0, 256 + k.val / 4 * 128] S1x1x128.size (inb_c r k)).idx (ix3 (0 : Fin 1) (0 : Fin 1) q) =
      (ix3 r 0 (colC k q) : S8x1x512.Idx) := by
  funext a; apply Fin.ext
  rw [Rect.idx_unit_val]
  match a with
  | ⟨0, _⟩ => rfl
  | ⟨1, _⟩ => rfl
  | ⟨2, _⟩ => rfl

theorem emb_word (i : grid0.Coords) (r k : Fin 8) :
    (Rect.unit (s := S128x8) (off i r k) S1x1.size (off_inb i r k)).idx one = (ix2 (at' i r) k : S128x8.Idx) := by
  funext a; apply Fin.ext
  rw [Rect.idx_unit_val]
  match a with
  | ⟨0, _⟩ => exact (Nat.add_zero _).trans (off_zero i r k)
  | ⟨1, _⟩ => rfl

theorem emb_skip (k : Fin 8) :
    (Rect.unit (s := S1x8) ![0, k.val] S1x1.size (inb_skip k)).idx one = (ix2 0 k : S1x8.Idx) := by
  funext a; apply Fin.ext
  rw [Rect.idx_unit_val]
  match a with
  | ⟨0, _⟩ => rfl
  | ⟨1, _⟩ => rfl

variable (c : Dev nD) (i : grid0.Coords)
  (arg1 : Memref sig .tc .smem S128x8 .f32) (harg1 : arg1.IsWhole) (arg2 : Memref sig .tc .smem S128x8 .f32) (harg2 : arg2.IsWhole)
  (arg3 : Memref sig .tc .smem S1x8 .f32) (harg3 : arg3.IsWhole) (arg4 : Memref sig .tc .vmem S8x8x64x128 .f32) (harg4 : arg4.IsWhole)
  (arg5 : Memref sig .tc .vmem S8x512x1 .f32) (harg5 : arg5.IsWhole) (arg6 : Memref sig .tc .vmem S8x1x512 .f32) (harg6 : arg6.IsWhole)
  (arg7 : Memref sig .tc .vmem S8x8x64x128 .f32) (harg7 : arg7.IsWhole) (arg8 : Memref sig .tc .vmem S8x512x1 .f32) (harg8 : arg8.IsWhole)
  (x0 x1 : Vec Ideal S128x8 .f32) (x2 : Vec Ideal S1x8 .f32) (x3 : Vec Ideal S8x8x64x128 .f32) (x4 : Vec Ideal S8x512x1 .f32)
  (x5 : Vec Ideal S8x1x512 .f32)

/-- The new state of the block. -/
def state (r k : Fin 8) (p : Fin 64) (q : Fin 128) : EReal :=
  next (x1 (ix2 (at' i r) k)) (x3 (ix4 r k p q)) (x0 (ix2 (at' i r) k)) (x4 (ix3 r (col k p) 0)) (x5 (ix3 r 0 (colB k q)))

/-- The result of the block. -/
def result (r k : Fin 8) (p : Fin 64) : EReal :=
  emit (state i x0 x1 x3 x4 x5 r k p) (fun q => x5 (ix3 r 0 (colC k q))) (x2 (ix2 0 k)) (x4 (ix3 r (col k p) 0))

theorem state_piece (n : Fin 64) (p : Fin 64) (q : Fin 128) :
    (stateAt i arg1 harg1 arg2 harg2 arg4 harg4 arg5 harg5 arg6 harg6 x0 x1 x3 x4 x5 n).2 (ix4 (0 : Fin 1) (0 : Fin 1) p q) =
      state i x0 x1 x3 x4 x5 (row n) (head n) p q := by
  refine (state_val _ _ _ _ _ p q).trans ?_
  rw [part_apply, part_apply, part_apply, word_apply, word_apply, emb_word]
  erw [emb_state, emb_col, emb_b]
  rfl

theorem emit_piece (n : Fin 64) (p : Fin 64) :
    (emitAt i arg1 harg1 arg2 harg2 arg3 harg3 arg4 harg4 arg5 harg5 arg6 harg6 x0 x1 x2 x3 x4 x5 n).2 (ix3 (0 : Fin 1) p (0 : Fin 1)) =
      result i x0 x1 x2 x3 x4 x5 (row n) (head n) p := by
  refine (emit_val _ _ _ _ _ _ _ p).trans ?_
  unfold result state
  congr 1
  · funext q
    rw [part_apply, part_apply, part_apply, word_apply, word_apply, emb_word]
    erw [emb_state, emb_col, emb_b]
  · funext q
    rw [part_apply]
    erw [emb_c]
  · rw [word_apply, emb_skip]
  · rw [part_apply]
    erw [emb_col]

/-- What the body leaves of the state. -/
theorem out_state (r k : Fin 8) (p : Fin 64) (q : Fin 128) :
    out0_A_6 (F := Ideal) c i arg1 harg1 arg2 harg2 arg3 harg3 arg4 harg4 arg5 harg5 arg6 harg6 arg7 harg7 arg8 harg8 x0 x1 x2 x3 x4 x5
      (ix4 r k p q) = state i x0 x1 x3 x4 x5 r k p q := by
  unfold out0_A_6
  rw [View.read_writes_junk_eq_canon]
  refine View.canon_apply_of_pieces (fun y : S8x8x64x128.Idx => state i x0 x1 x3 x4 x5 (y 0) (y 1) (y 2) (y 3)) _ (fun w hw j => ?_) _
    (cover0_A_6 c i arg1 harg1 arg2 harg2 arg3 harg3 arg4 harg4 arg5 harg5 arg6 harg6 arg7 harg7 arg8 harg8 x0 x1 x2 x3 x4 x5 _)
  rw [state_pieces, List.mem_reverse, List.mem_map] at hw
  obtain ⟨n, -, rfl⟩ := hw
  have hj : j = ix4 (0 : Fin 1) (0 : Fin 1) (j 2 : Fin 64) (j 3 : Fin 128) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [hj]
  refine (state_piece i arg1 harg1 arg2 harg2 arg4 harg4 arg5 harg5 arg6 harg6 x0 x1 x3 x4 x5 n _ _).trans ?_
  have e := emb_state (row n) (head n) (j 2) (j 3)
  exact (congrArg (fun y : S8x8x64x128.Idx => state i x0 x1 x3 x4 x5 (y 0) (y 1) (y 2) (y 3)) e).symm

/-- What it leaves of the result. -/
theorem out_emit (r k : Fin 8) (p : Fin 64) :
    out0_A_7 (F := Ideal) c i arg1 harg1 arg2 harg2 arg3 harg3 arg4 harg4 arg5 harg5 arg6 harg6 arg7 harg7 arg8 harg8 x0 x1 x2 x3 x4 x5
      (ix3 r (col k p) 0) = result i x0 x1 x2 x3 x4 x5 r k p := by
  have back : ∀ (k : Fin 8) (p : Fin 64) (h1 : (col k p).val / 64 < 8) (h2 : (col k p).val % 64 < 64),
      (⟨(col k p).val / 64, h1⟩ : Fin 8) = k ∧ (⟨(col k p).val % 64, h2⟩ : Fin 64) = p := fun k p _ _ =>
    ⟨Fin.ext (by show (k.val * 64 + p.val) / 64 = k.val; omega), Fin.ext (by show (k.val * 64 + p.val) % 64 = p.val; omega)⟩
  let G : S8x512x1.Idx → EReal := fun y => result i x0 x1 x2 x3 x4 x5 (y 0)
    ⟨(y 1).val / 64, by have : (y 1).val < 512 := (y 1).isLt; omega⟩ ⟨(y 1).val % 64, by omega⟩
  have hG : ∀ (r k : Fin 8) (p : Fin 64), G (ix3 r (col k p) 0) = result i x0 x1 x2 x3 x4 x5 r k p := fun r k p => by
    obtain ⟨e1, e2⟩ := back k p (by have := (col k p).isLt; omega) (by omega)
    exact congrArg₂ (result i x0 x1 x2 x3 x4 x5 r) e1 e2
  unfold out0_A_7
  rw [View.read_writes_junk_eq_canon, ← hG]
  refine View.canon_apply_of_pieces G _ (fun w hw j => ?_) _
    (cover0_A_7 c i arg1 harg1 arg2 harg2 arg3 harg3 arg4 harg4 arg5 harg5 arg6 harg6 arg7 harg7 arg8 harg8 x0 x1 x2 x3 x4 x5 _)
  rw [emit_pieces, List.mem_reverse, List.mem_map] at hw
  obtain ⟨n, -, rfl⟩ := hw
  have hj : j = ix3 (0 : Fin 1) (j 1 : Fin 64) (0 : Fin 1) := by
    funext a
    match a with
    | ⟨0, _⟩ => exact Subsingleton.elim (α := Fin 1) _ _
    | ⟨1, _⟩ => rfl
    | ⟨2, _⟩ => exact Subsingleton.elim (α := Fin 1) _ _
  rw [hj]
  refine (emit_piece i arg1 harg1 arg2 harg2 arg3 harg3 arg4 harg4 arg5 harg5 arg6 harg6 x0 x1 x2 x3 x4 x5 n _).trans ?_
  refine (hG _ _ _).symm.trans ?_
  exact (congrArg G (emb_col (row n) (head n) (j 1))).symm

end Cert.StepIdeal.Block

end
-- ==== Proof.Step.Array.lean ====
/-
  The two results of the recurrence's step, element by element, in terms of the arguments.
-/
module

public import proofs.«01_k».proof.Proof.Step.Block
public import Idealize.ShloMosaic.Lib.Claim
public import Idealize.ShloMosaic.Lib.StableHlo.ReadAt

@[expose] public section

set_option maxRecDepth 16384

noncomputable section

namespace Cert.StepIdeal.Arr

open Idealize.ShloMosaic Idealize.ShloMosaic.TcCoe Idealize.ShloMosaic.Tactic Cert.StepIdeal Cert.StepIdeal.Gen
  Cert.StepIdeal.Block Cert.Step.Spec

/-- Point `u` of the grid. -/
def pt (u : Fin 16) : Fin cfg0.N := ⟨u.val, by have : cfg0.N = 16 := N_0; omega⟩

/-- Row `r` of block `u`. -/
def nth (u : Fin 16) (r : Fin 8) : Fin 128 := ⟨u.val * 8 + r.val, by omega⟩

theorem coord : ∀ u : Fin 16, (grid0.coords (pt u) 0).val = u.val := by decide +kernel

theorem at_nth (u : Fin 16) (r : Fin 8) : at' (grid0.coords (pt u)) r = nth u r :=
  Fin.ext (by show (grid0.coords (pt u) 0).val * 8 + r.val = u.val * 8 + r.val; rw [coord])

theorem index0 : ∀ u : Fin 16, win0_0.index (pt u) = ![0, 0] := by decide +kernel
theorem index1 : ∀ u : Fin 16, win0_1.index (pt u) = ![0, 0] := by decide +kernel
theorem index2 : ∀ u : Fin 16, win0_2.index (pt u) = ![0, 0] := by decide +kernel
theorem index3 : ∀ u : Fin 16, win0_3.index (pt u) = ![u.val, 0, 0, 0] := by decide +kernel
theorem index4 : ∀ u : Fin 16, win0_4.index (pt u) = ![u.val, 0, 0] := by decide +kernel
theorem index5 : ∀ u : Fin 16, win0_5.index (pt u) = ![u.val, 0, 0] := by decide +kernel
theorem index6 : ∀ u : Fin 16, win0_6.index (pt u) = ![u.val, 0, 0, 0] := by decide +kernel
theorem index7 : ∀ u : Fin 16, win0_7.index (pt u) = ![u.val, 0, 0] := by decide +kernel

variable (m : (ℓ : Loc nD τ sig) → Buf (Elt Ideal) ℓ) (c : Dev nD)

/-- The step sizes. -/
abbrev at0 : Vec Ideal S128x8 .f32 := m ((c : Thread nD τ).loc main_arg0)
/-- The decays. -/
abbrev ad : Vec Ideal S128x8 .f32 := m ((c : Thread nD τ).loc main_arg1)
/-- The skips. -/
abbrev asd : Vec Ideal S1x8 .f32 := m ((c : Thread nD τ).loc main_arg2)
/-- The state before. -/
abbrev ah : Vec Ideal S1x128x8x64x128 .f32 := m ((c : Thread nD τ).loc main_arg3)
/-- The inputs. -/
abbrev ax : Vec Ideal S128x512 .f32 := m ((c : Thread nD τ).loc main_arg4)
/-- B and C. -/
abbrev abc : Vec Ideal S128x512 .f32 := m ((c : Thread nD τ).loc main_arg5)

theorem h_apply (n : Fin 128) (k : Fin 8) (p : Fin 64) (q : Fin 128) :
    (V m c main_v0 : Vec Ideal S128x8x64x128 .f32) (ix4 n k p q) = ah m c (ix5 0 n k p q) := by
  unfold V
  after_reads_at

theorem x_apply (n : Fin 128) (e : Fin 512) : (V m c main_v1 : Vec Ideal S128x512x1 .f32) (ix3 n e 0) = ax m c (ix2 n e) := by
  unfold V
  after_reads_at

theorem bc_apply (n : Fin 128) (e : Fin 512) : (V m c main_v2 : Vec Ideal S128x1x512 .f32) (ix3 n 0 e) = abc m c (ix2 n e) := by
  unfold V
  after_reads_at

theorem blk0 (u : Fin 16) (n : Fin 128) (k : Fin 8) : (iblk m c 0 (pt u) : Vec Ideal S128x8 .f32) (ix2 n k) = at0 m c (ix2 n k) := by
  rw [at0, ← V_main_arg0 m c]
  blk_ext [iblk, V, index0]

theorem blk1 (u : Fin 16) (n : Fin 128) (k : Fin 8) : (iblk m c 1 (pt u) : Vec Ideal S128x8 .f32) (ix2 n k) = ad m c (ix2 n k) := by
  rw [ad, ← V_main_arg1 m c]
  blk_ext [iblk, V, index1]

theorem blk2 (u : Fin 16) (k : Fin 8) : (iblk m c 2 (pt u) : Vec Ideal S1x8 .f32) (ix2 0 k) = asd m c (ix2 0 k) := by
  rw [asd, ← V_main_arg2 m c]
  blk_ext [iblk, V, index2]

theorem blk3 (u : Fin 16) (r k : Fin 8) (p : Fin 64) (q : Fin 128) :
    (iblk m c 3 (pt u) : Vec Ideal S8x8x64x128 .f32) (ix4 r k p q) = ah m c (ix5 0 (nth u r) k p q) := by
  refine Eq.trans ?_ (h_apply m c (nth u r) k p q)
  blk_ext [iblk, V, index3, nth]

theorem blk4 (u : Fin 16) (r : Fin 8) (e : Fin 512) :
    (iblk m c 4 (pt u) : Vec Ideal S8x512x1 .f32) (ix3 r e 0) = ax m c (ix2 (nth u r) e) := by
  refine Eq.trans ?_ (x_apply m c (nth u r) e)
  blk_ext [iblk, V, index4, nth]

theorem blk5 (u : Fin 16) (r : Fin 8) (e : Fin 512) :
    (iblk m c 5 (pt u) : Vec Ideal S8x1x512 .f32) (ix3 r 0 e) = abc m c (ix2 (nth u r) e) := by
  refine Eq.trans ?_ (bc_apply m c (nth u r) e)
  blk_ext [iblk, V, index5, nth]

theorem emb6 (u : Fin 16) (r k : Fin 8) (p : Fin 64) (q : Fin 128) :
    ((cfg0.win 6).blk (pt u)).view.emb (ix4 r k p q) = (ix4 (nth u r) k p q : S128x8x64x128.Idx) := by
  blk_ext [index6, nth]

theorem emb7 (u : Fin 16) (r : Fin 8) (e : Fin 512) :
    ((cfg0.win 7).blk (pt u)).view.emb (ix3 r e (0 : Fin 1)) = (ix3 (nth u r) e 0 : S128x512x1.Idx) := by
  blk_ext [index7, nth]

/-- The new state at one element. -/
def newState (n : Fin 128) (k : Fin 8) (p : Fin 64) (q : Fin 128) : EReal :=
  next (ad m c (ix2 n k)) (ah m c (ix5 0 n k p q)) (at0 m c (ix2 n k)) (ax m c (ix2 n (col k p))) (abc m c (ix2 n (colB k q)))

/-- The block's state in terms of the arguments. -/
theorem state_eq (u : Fin 16) (r k : Fin 8) (p : Fin 64) (q : Fin 128) :
    state (grid0.coords (pt u)) (iblk m c 0 (pt u)) (iblk m c 1 (pt u)) (iblk m c 3 (pt u)) (iblk m c 4 (pt u)) (iblk m c 5 (pt u))
      r k p q = newState m c (nth u r) k p q := by
  unfold state newState
  simp only [blk0, blk1, blk3, blk4, blk5, at_nth]

theorem written6 (u : Fin 16) (r k : Fin 8) (p : Fin 64) (q : Fin 128) : (dats m 0 c).flushed 6 (pt u) (ix4 r k p q) =
    state (grid0.coords (pt u)) (iblk m c 0 (pt u)) (iblk m c 1 (pt u)) (iblk m c 3 (pt u)) (iblk m c 4 (pt u)) (iblk m c 5 (pt u))
      r k p q := by
  rw [Value.flushed6_A]
  exact out_state _ _ _ _ _ _ _ _ _ _ _ _ _ _ _ _ _ _ _ _ _ _ _ _ r k p q

theorem written7 (u : Fin 16) (r k : Fin 8) (p : Fin 64) : (dats m 0 c).flushed 7 (pt u) (ix3 r (col k p) (0 : Fin 1)) =
    result (grid0.coords (pt u)) (iblk m c 0 (pt u)) (iblk m c 1 (pt u)) (iblk m c 2 (pt u)) (iblk m c 3 (pt u)) (iblk m c 4 (pt u))
      (iblk m c 5 (pt u)) r k p := by
  rw [Value.flushed7_A]
  exact out_emit _ _ _ _ _ _ _ _ _ _ _ _ _ _ _ _ _ _ _ _ _ _ _ _ r k p

/-- The new state. -/
theorem arr6_apply (u : Fin 16) (r k : Fin 8) (p : Fin 64) (q : Fin 128) :
    (dats m 0 c).arrAt 6 cfg0.N (ix4 (nth u r) k p q : S128x8x64x128.Idx) = newState m c (nth u r) k p q := by
  have key := (dats m 0 c).arrAt_emb_eq_flushed 6 Value.disjoint6 (pt u) (flush0_6 _) (ix4 r k p q)
  rw [emb6] at key
  exact (key.trans (written6 m c u r k p q)).trans (state_eq m c u r k p q)

/-- The result. -/
theorem arr7_apply (u : Fin 16) (r k : Fin 8) (p : Fin 64) :
    (dats m 0 c).arrAt 7 cfg0.N (ix3 (nth u r) (col k p) 0 : S128x512x1.Idx) =
      emit (newState m c (nth u r) k p) (fun q => abc m c (ix2 (nth u r) (colC k q))) (asd m c (ix2 0 k))
        (ax m c (ix2 (nth u r) (col k p))) := by
  have key := (dats m 0 c).arrAt_emb_eq_flushed 7 Value.disjoint7 (pt u) (flush0_7 _) (ix3 r (col k p) (0 : Fin 1))
  rw [emb7] at key
  refine (key.trans (written7 m c u r k p)).trans ?_
  unfold result
  simp only [blk2, blk4, blk5]
  exact congrArg (fun h => emit h _ _ _) (funext fun q => state_eq m c u r k p q)

end Cert.StepIdeal.Arr

end
-- ==== Proof.Step.Ref.lean ====
/-
  The reference of the recurrence's step, element by element.
-/
module

public import proofs.«01_k».proof.Proof.Step.Spec
public import proofs.«01_k».proof.Proof.Merge.Ref
public import proofs.«01_k».proof.Proof.Gen.StepReferenceIdeal.Read
public import Idealize.ShloMosaic.Lib.Pipeline.ValueKit
public import Idealize.ShloMosaic.Lib.Pointwise

@[expose] public section

set_option maxRecDepth 16384

noncomputable section

namespace Cert.StepReferenceIdeal.Ref

open Idealize.ShloMosaic Cert.StepReferenceIdeal Cert.StepReferenceIdeal.Gen Cert.StepReferenceIdeal.Read Cert.Step.Spec
  Idealize.ShloMosaic.Tactic

variable (t d : Vec Ideal S128x8 .f32) (s : Vec Ideal S1x8 .f32) (h : Vec Ideal S1x128x8x64x128 .f32) (x bc : Vec Ideal S128x512 .f32)

/-- The group of head `k`. -/
def grp (k : Fin 8) : Fin 2 := ⟨k.val / 4, by omega⟩
/-- Its place within the group. -/
def mem (k : Fin 8) : Fin 4 := ⟨k.val % 4, by omega⟩

/-- A table of heads read by group and place. -/
theorem table (y : Vec Ideal S128x8 .f32) (n : Fin 128) (k : Fin 8) :
    shapeCast S128x2x4 y shapeCasts_S128x8_S128x2x4 (ix3 n (grp k) (mem k)) = y (ix2 n k) := by
  refine shapeCast_apply y shapeCasts_S128x8_S128x2x4 _ _ ?_
  rewrite [Shape.rowMajor_val_two, Shape.rowMajor_val_three]
  show n.val * 8 + k.val = (n.val * 2 + k.val / 4) * 4 + k.val % 4
  omega

theorem decay_apply (n : Fin 128) (k : Fin 8) (p : Fin 64) (q : Fin 128) :
    val_main_v10 (F := Ideal) d (ix5 n (grp k) (mem k) p q) = d (ix2 n k) := by
  refine Eq.trans ?_ (table d n k)
  unfold val_main_v10 val_main_v9 val_main_v8 val_main_v7
  generalize shapeCast S128x2x4 d shapeCasts_S128x8_S128x2x4 = y
  pointwise

theorem step_apply (n : Fin 128) (k : Fin 8) (p : Fin 64) :
    val_main_v14 (F := Ideal) t (ix4 n (grp k) (mem k) p) = t (ix2 n k) := by
  refine Eq.trans ?_ (table t n k)
  unfold val_main_v14 val_main_v13 val_main_v12
  generalize shapeCast S128x2x4 t shapeCasts_S128x8_S128x2x4 = y
  pointwise

theorem skip_apply (n : Fin 128) (k : Fin 8) (p : Fin 64) :
    val_main_v28 (F := Ideal) s (ix4 n (grp k) (mem k) p) = s (ix2 0 k) := by
  have e : val_main_v26 (F := Ideal) s (ix3 0 (grp k) (mem k)) = s (ix2 0 k) := by
    unfold val_main_v26
    refine shapeCast_apply s shapeCasts_S1x8_S1x2x4 _ _ ?_
    rewrite [Shape.rowMajor_val_two, Shape.rowMajor_val_three]
    show 0 * 8 + k.val = (0 * 2 + k.val / 4) * 4 + k.val % 4
    omega
  refine Eq.trans ?_ e
  unfold val_main_v28 val_main_v27
  generalize val_main_v26 (F := Ideal) s = y
  pointwise

theorem input_apply (n : Fin 128) (k : Fin 8) (p : Fin 64) :
    val_main_v0 (F := Ideal) x (ix4 n (grp k) (mem k) p) = x (ix2 n (col k p)) := by
  unfold val_main_v0
  refine shapeCast_apply x shapeCasts_S128x512_S128x2x4x64 _ _ ?_
  rewrite [Shape.rowMajor_val_two, Shape.rowMajor_val_four]
  show n.val * 512 + (k.val * 64 + p.val) = ((n.val * 2 + k.val / 4) * 4 + k.val % 4) * 64 + p.val
  omega

theorem old_apply (n : Fin 128) (k : Fin 8) (p : Fin 64) (q : Fin 128) :
    val_main_v6 (F := Ideal) h (ix5 n (grp k) (mem k) p q) = h (ix5 0 n k p q) := by
  have e : val_main_v5 (F := Ideal) h (ix4 n k p q) = h (ix5 0 n k p q) := by
    unfold val_main_v5
    pointwise
  refine Eq.trans ?_ e
  unfold val_main_v6
  refine shapeCast_apply _ shapeCasts_S128x8x64x128_S128x2x4x64x128 _ _ ?_
  rewrite [Shape.rowMajor_val_four, Shape.rowMajor_val_five]
  show ((n.val * 8 + k.val) * 64 + p.val) * 128 + q.val = (((n.val * 2 + k.val / 4) * 4 + k.val % 4) * 64 + p.val) * 128 + q.val
  omega

/-- A half of the columns read by group. -/
theorem half (y : Vec Ideal S128x256 .f32) (n : Fin 128) (k : Fin 8) (q : Fin 128) :
    shapeCast S128x2x128 y shapeCasts_S128x256_S128x2x128 (ix3 n (grp k) q) =
      y (ix2 n (⟨k.val / 4 * 128 + q.val, by omega⟩ : Fin 256)) := by
  refine shapeCast_apply y shapeCasts_S128x256_S128x2x128 _ _ ?_
  rewrite [Shape.rowMajor_val_two, Shape.rowMajor_val_three]
  show n.val * 256 + (k.val / 4 * 128 + q.val) = (n.val * 2 + k.val / 4) * 128 + q.val
  omega

theorem b_apply (n : Fin 128) (k : Fin 8) (p : Fin 64) (q : Fin 128) :
    val_main_v19 (F := Ideal) bc (ix5 n (grp k) (mem k) p q) = bc (ix2 n (colB k q)) := by
  have e : val_main_v2 (F := Ideal) bc (ix3 n (grp k) q) = bc (ix2 n (colB k q)) := by
    unfold val_main_v2
    refine (half _ n k q).trans ?_
    unfold val_main_v1
    pointwise
    congr 2
  refine Eq.trans ?_ e
  unfold val_main_v19 val_main_v17
  generalize val_main_v2 (F := Ideal) bc = y
  pointwise

theorem c_apply (n : Fin 128) (k : Fin 8) (p : Fin 64) (q : Fin 128) :
    val_main_v23 (F := Ideal) bc (ix5 n (grp k) (mem k) p q) = bc (ix2 n (colC k q)) := by
  have e : val_main_v4 (F := Ideal) bc (ix3 n (grp k) q) = bc (ix2 n (colC k q)) := by
    unfold val_main_v4
    refine (half _ n k q).trans ?_
    rw [val_main_v3_apply]
    congr 1
    funext a
    match a with
    | ⟨0, _⟩ => rfl
    | ⟨1, _⟩ => exact Fin.ext (by show _ = 256 + k.val / 4 * 128 + q.val; simp; omega)
  refine Eq.trans ?_ e
  unfold val_main_v23 val_main_v22
  generalize val_main_v4 (F := Ideal) bc = y
  pointwise

theorem outer_apply (n : Fin 128) (k : Fin 8) (p : Fin 64) (q : Fin 128) :
    val_main_v18 (F := Ideal) t x (ix5 n (grp k) (mem k) p q) = t (ix2 n k) * x (ix2 n (col k p)) := by
  have e : val_main_v15 (F := Ideal) t x (ix4 n (grp k) (mem k) p) = t (ix2 n k) * x (ix2 n (col k p)) := by
    rw [val_main_v15_apply, step_apply, input_apply]
    rfl
  refine Eq.trans ?_ e
  unfold val_main_v18 val_main_v16
  generalize val_main_v15 (F := Ideal) t x = y
  pointwise

/-- The new state, by group and place. -/
theorem grouped_apply (n : Fin 128) (k : Fin 8) (p : Fin 64) (q : Fin 128) :
    val_main_v21 (F := Ideal) t d h x bc (ix5 n (grp k) (mem k) p q) =
      next (d (ix2 n k)) (h (ix5 0 n k p q)) (t (ix2 n k)) (x (ix2 n (col k p))) (bc (ix2 n (colB k q))) := by
  rw [val_main_v21_apply, val_main_v11_apply, val_main_v20_apply, decay_apply, old_apply, outer_apply, b_apply]
  rfl

/-- The new state. -/
theorem state_apply (n : Fin 128) (k : Fin 8) (p : Fin 64) (q : Fin 128) :
    val_main_v31 (F := Ideal) t d h x bc (ix4 n k p q) =
      next (d (ix2 n k)) (h (ix5 0 n k p q)) (t (ix2 n k)) (x (ix2 n (col k p))) (bc (ix2 n (colB k q))) := by
  refine Eq.trans ?_ (grouped_apply t d h x bc n k p q)
  unfold val_main_v31
  refine shapeCast_apply _ shapeCasts_S128x2x4x64x128_S128x8x64x128 _ _ ?_
  rewrite [Shape.rowMajor_val_four, Shape.rowMajor_val_five]
  show (((n.val * 2 + k.val / 4) * 4 + k.val % 4) * 64 + p.val) * 128 + q.val = ((n.val * 8 + k.val) * 64 + p.val) * 128 + q.val
  omega

/-- The result. -/
theorem emit_apply (n : Fin 128) (k : Fin 8) (p : Fin 64) :
    val_main_v32 (F := Ideal) t d s h x bc (ix3 n (col k p) 0) =
      emit (fun q => next (d (ix2 n k)) (h (ix5 0 n k p q)) (t (ix2 n k)) (x (ix2 n (col k p))) (bc (ix2 n (colB k q))))
        (fun q => bc (ix2 n (colC k q))) (s (ix2 0 k)) (x (ix2 n (col k p))) := by
  have e : val_main_v32 (F := Ideal) t d s h x bc (ix3 n (col k p) 0) =
      val_main_v30 (F := Ideal) t d s h x bc (ix4 n (grp k) (mem k) p) := by
    unfold val_main_v32
    refine shapeCast_apply _ shapeCasts_S128x2x4x64_S128x512x1 _ _ ?_
    rewrite [Shape.rowMajor_val_three, Shape.rowMajor_val_four]
    show ((n.val * 2 + k.val / 4) * 4 + k.val % 4) * 64 + p.val = (n.val * 512 + (k.val * 64 + p.val)) * 1 + 0
    omega
  have i : ∀ q : Fin 128, idx_main_v25 (ix4 n (grp k) (mem k) p) q = ix5 n (grp k) (mem k) p q := fun q => by
    funext a
    match a with
    | ⟨0, _⟩ => rfl
    | ⟨1, _⟩ => rfl
    | ⟨2, _⟩ => rfl
    | ⟨3, _⟩ => rfl
    | ⟨4, _⟩ => rfl
  rw [e, val_main_v30_apply, val_main_v29_apply, val_main_v25_apply, val_main_cst_apply, skip_apply, input_apply,
    Cert.MergeReferenceIdeal.Ref.zero_lit, zero_add]
  unfold emit
  refine congrArg (· + s (ix2 0 k) * x (ix2 n (col k p))) (Finset.sum_congr rfl fun q _ => ?_)
  rw [val_main_v24_apply, i, c_apply, grouped_apply]
  exact mul_comm _ _

end Cert.StepReferenceIdeal.Ref

end
-- ==== Proof.Step.Claim.lean ====
/-
  The two results of the recurrence's step are its reference's.
-/
module

public import proofs.«01_k».proof.Proof.Step.Array
public import proofs.«01_k».proof.Proof.Step.Ref
public import proofs.«01_k».proof.Defs
public import proofs.«01_k».proof.Proof.Gen.StepReferenceIdeal.Run

@[expose] public section

set_option maxRecDepth 16384

noncomputable section

namespace Cert.StepIdeal.Close

open Idealize.ShloMosaic Cert.StepReferenceIdeal.Read Cert.StepIdeal.Arr Cert.Step.Spec

theorem row_form (n : Fin 128) : ∃ (u : Fin 16) (r : Fin 8), n = nth u r :=
  ⟨⟨n.val / 8, by omega⟩, ⟨n.val % 8, by omega⟩, Fin.ext (by show n.val = n.val / 8 * 8 + n.val % 8; omega)⟩

theorem col_form (e : Fin 512) : ∃ (k : Fin 8) (p : Fin 64), e = col k p :=
  ⟨⟨e.val / 64, by omega⟩, ⟨e.val % 64, by omega⟩, Fin.ext (by show e.val = e.val / 64 * 64 + e.val % 64; omega)⟩

variable (m : (ℓ : Loc Cert.StepIdeal.nD Cert.StepIdeal.τ Cert.StepIdeal.sig) → Buf (Elt Ideal) ℓ) (c : Dev Cert.StepIdeal.nD)

theorem arr6_eq : (Cert.StepIdeal.Gen.dats m 0 c).arrAt 6 Cert.StepIdeal.cfg0.N =
      val_main_v31 (F := Ideal)
        (m ((c.tc : Thread Cert.StepIdeal.nD Cert.StepIdeal.τ).loc Cert.StepIdeal.main_arg0))
        (m ((c.tc : Thread Cert.StepIdeal.nD Cert.StepIdeal.τ).loc Cert.StepIdeal.main_arg1))
        (m ((c.tc : Thread Cert.StepIdeal.nD Cert.StepIdeal.τ).loc Cert.StepIdeal.main_arg3))
        (m ((c.tc : Thread Cert.StepIdeal.nD Cert.StepIdeal.τ).loc Cert.StepIdeal.main_arg4))
        (m ((c.tc : Thread Cert.StepIdeal.nD Cert.StepIdeal.τ).loc Cert.StepIdeal.main_arg5)) := by
  funext i
  obtain ⟨n, k, p, q, rfl⟩ : ∃ (n : Fin 128) (k : Fin 8) (p : Fin 64) (q : Fin 128), i = ix4 n k p q :=
    ⟨i 0, i 1, i 2, i 3, funext fun a => match a with | ⟨0, _⟩ => rfl | ⟨1, _⟩ => rfl | ⟨2, _⟩ => rfl | ⟨3, _⟩ => rfl⟩
  obtain ⟨u, r, rfl⟩ := row_form n
  exact (arr6_apply m c u r k p q).trans (Cert.StepReferenceIdeal.Ref.state_apply _ _ _ _ _ _ k p q).symm

theorem arr7_eq : (Cert.StepIdeal.Gen.dats m 0 c).arrAt 7 Cert.StepIdeal.cfg0.N =
      val_main_v32 (F := Ideal)
        (m ((c.tc : Thread Cert.StepIdeal.nD Cert.StepIdeal.τ).loc Cert.StepIdeal.main_arg0))
        (m ((c.tc : Thread Cert.StepIdeal.nD Cert.StepIdeal.τ).loc Cert.StepIdeal.main_arg1))
        (m ((c.tc : Thread Cert.StepIdeal.nD Cert.StepIdeal.τ).loc Cert.StepIdeal.main_arg2))
        (m ((c.tc : Thread Cert.StepIdeal.nD Cert.StepIdeal.τ).loc Cert.StepIdeal.main_arg3))
        (m ((c.tc : Thread Cert.StepIdeal.nD Cert.StepIdeal.τ).loc Cert.StepIdeal.main_arg4))
        (m ((c.tc : Thread Cert.StepIdeal.nD Cert.StepIdeal.τ).loc Cert.StepIdeal.main_arg5)) := by
  funext i
  obtain ⟨n, e, rfl⟩ : ∃ (n : Fin 128) (e : Fin 512), i = ix3 n e 0 :=
    ⟨i 0, i 1, funext fun a => match a with
      | ⟨0, _⟩ => rfl | ⟨1, _⟩ => rfl | ⟨2, _⟩ => Subsingleton.elim (α := Fin 1) _ _⟩
  obtain ⟨u, r, rfl⟩ := row_form n
  obtain ⟨k, p, rfl⟩ := col_form e
  exact (arr7_apply m c u r k p).trans (Cert.StepReferenceIdeal.Ref.emit_apply _ _ _ _ _ _ _ k p).symm

set_option maxHeartbeats 2000000 in
/-- The claim: the same arguments, the same two results. -/
theorem algebraic : Cert.algebraic_StepIdeal_StepReferenceIdeal := by
  intro m ρ m' ρ' _ hag
  refine ⟨fun c => (Cert.StepIdeal.Gen.dats m 0 c).arrAt 6 Cert.StepIdeal.cfg0.N,
    fun c => (Cert.StepIdeal.Gen.dats m 0 c).arrAt 7 Cert.StepIdeal.cfg0.N, Cert.StepIdeal.Value.run_blocks m ρ, ?_⟩
  refine (θ_run _ _ _).mono (fun _ h c => ?_) (Cert.StepReferenceIdeal.Value.run m' ρ')
  obtain ⟨r0, r1, hr⟩ := h c
  obtain ⟨h0, h1, h2, h3, h4, h5⟩ := hag c
  refine ⟨r0.trans ?_, r1.trans ?_, hr⟩
  · refine (val_main_v31_eq _ _ _ _ _).trans ?_
    rw [h0, h1, h3, h4, h5]
    exact (arr6_eq m c).symm
  · refine (val_main_v32_eq _ _ _ _ _ _).trans ?_
    rw [h0, h1, h2, h3, h4, h5]
    exact (arr7_eq m c).symm

end Cert.StepIdeal.Close

end
-- ==== Proof.Pages.Spec.lean ====
/-
  Sums of some of the entries of a row, and the three parts in which the kernel takes them.
-/
module

public import Idealize.ShloMosaic.Lib.Pointwise

@[expose] public section

noncomputable section

namespace Cert.Pages.Spec

open Idealize.ShloMosaic

/-- The sum of the entries that `P` picks. -/
def pick {n : ℕ} (P : Fin n → Prop) [DecidablePred P] (x : Fin n → EReal) : EReal := ∑ k : Fin n, if P k then x k else 0

/-- One where `p` holds, else zero. -/
def mark (p : Prop) [Decidable p] : EReal := if p then 1 else 0

/-- A value below infinity, what rounding leaves of it, and what rounding leaves of that, add up to the value. -/
theorem parts (x : EReal) (h : x ≠ ⊤) : x + (x - x) + (x - x - (x - x)) = x := by
  induction x with
  | bot => rfl
  | top => exact absurd rfl h
  | coe r =>
    rw [← EReal.coe_sub, sub_self, ← EReal.coe_sub, sub_self, ← EReal.coe_add, add_zero, ← EReal.coe_add, add_zero]

/-- The three products with a matrix of ones and zeros add up to the sum of the entries picked. -/
theorem three {n : ℕ} (P : Fin n → Prop) [DecidablePred P] (x : Fin n → EReal) (h : ∀ k, x k ≠ ⊤) :
    (∑ k, x k * mark (P k)) + (∑ k, (x k - x k) * mark (P k)) + (∑ k, (x k - x k - (x k - x k)) * mark (P k)) = pick P x := by
  rw [← Finset.sum_add_distrib, ← Finset.sum_add_distrib]
  refine Finset.sum_congr rfl fun k _ => ?_
  unfold mark
  split
  · simp only [mul_one]
    exact parts _ (h k)
  · simp only [mul_zero, add_zero]

/-- A comparison's bit, as a number, is the mark of what it says. -/
theorem mark_of_bit (p : Prop) [Decidable p] :
    ((((BitVec.ofBool (decide p)).setWidth 32).toInt : ℝ) : EReal) = mark p := by
  have h1 : ((BitVec.ofBool true).setWidth 32).toInt = 1 := by decide
  have h0 : ((BitVec.ofBool false).setWidth 32).toInt = 0 := by decide
  unfold mark
  by_cases hp : p
  · rw [if_pos hp, decide_eq_true hp, h1]
    norm_num
  · rw [if_neg hp, decide_eq_false hp, h0]
    norm_num

/-- A small number as a word is itself. -/
theorem word_toInt (a : ℕ) (ha : a < 2 ^ 31) : (BitVec.ofNat 32 a).toInt = a := by
  rw [BitVec.toInt_eq_toNat_cond, BitVec.toNat_ofNat]
  split <;> omega

/-- Small numbers compare as words the way they compare. -/
theorem word_lt (a b : ℕ) (ha : a < 2 ^ 31) (hb : b < 2 ^ 31) : (BitVec.ofNat 32 a).slt (BitVec.ofNat 32 b) = decide (a < b) := by
  rw [BitVec.slt_eq_decide, word_toInt a ha, word_toInt b hb]
  exact decide_eq_decide.mpr (by omega)

/-- Small numbers compare as words the way they compare. -/
theorem word_le (a b : ℕ) (ha : a < 2 ^ 31) (hb : b < 2 ^ 31) : (BitVec.ofNat 32 a).sle (BitVec.ofNat 32 b) = decide (a ≤ b) := by
  rw [BitVec.sle_eq_decide, word_toInt a ha, word_toInt b hb]
  exact decide_eq_decide.mpr (by omega)

/-- A choice by a comparison's bit is a choice by what it says. -/
theorem select_bit (p : Prop) [Decidable p] (a b : EReal) : Scalar.select (BitVec.ofBool (decide p)) a b = if p then a else b := by
  by_cases hp : p
  · rw [if_pos hp, decide_eq_true hp]
    rfl
  · rw [if_neg hp, decide_eq_false hp]
    rfl

/-- A comparison that came out true. -/
theorem of_bit (p : Prop) [Decidable p] (h : BitVec.ofBool (decide p) = 1#1) : p := by
  by_contra hp
  rw [decide_eq_false hp] at h
  exact absurd h (by decide)

theorem zero_lit : (FloatOps.ofBits .f32 0x00000000#32 : Ideal .f32) = (0 : EReal) := by
  show Ideal.ofBits .f32 0x00000000#32 = 0
  simp [Ideal.ofBits, Ideal.ieee]

theorem top_lit : Ideal.ofBits FTy.f32 2139095040#32 = ⊤ := by simp [Ideal.ofBits, Ideal.ieee]

end Cert.Pages.Spec

end
-- ==== Proof.Pages.Array.lean ====
/-
  The two result arrays of the pages' sums, element by element, in terms of the argument.
-/
module

public import proofs.«01_k».proof.Proof.Pages.Spec
public import proofs.«01_k».proof.Proof.Gen.PagesIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.PagesIdeal.Arr

open Idealize.ShloMosaic Idealize.ShloMosaic.TcCoe Idealize.ShloMosaic.Tactic Cert.PagesIdeal Cert.PagesIdeal.Gen Cert.Pages.Spec

theorem zero2 : (![0, 0] : Fin 2 → ℕ) = fun _ => 0 := by funext a; fin_cases a <;> rfl

/-- What a tile leaves in the first result, at one element. -/
theorem tile1_apply (a : Vec Ideal S2048x128 .f32) (r : Fin 2048) (e : Fin 128) (h : ∀ k : Fin 128, a (ix2 r k) ≠ (⊤ : EReal)) :
    out0_1 a (ix2 r e) = pick (fun k : Fin 128 => e.val < k.val) (fun k => a (ix2 r k)) := by
  unfold out0_1
  rw [View.canon_unit_zero zero2]
  simp only [View.ld_unit_zero (S := S2048x128) zero2]
  rw [← three (fun k : Fin 128 => e.val < k.val) (fun k => a (ix2 r k)) h]
  simp only [← mark_of_bit]
  have hw : ∀ k : Fin 128, decide (e.val < k.val) = (BitVec.ofNat 32 e.val).slt (BitVec.ofNat 32 k.val) :=
    fun k => (word_lt _ _ (by omega) (by omega)).symm
  simp only [hw]
  pointwise [k0_pay2, k0_pay1]
  rfl

/-- What a tile leaves in the second result, at one element. -/
theorem tile2_apply (a : Vec Ideal S2048x128 .f32) (r : Fin 2048) (e : Fin 128) (h : ∀ k : Fin 128, a (ix2 r k) ≠ (⊤ : EReal)) :
    out0_2 a (ix2 r e) = pick (fun _ : Fin 128 => True) (fun k => a (ix2 r k)) := by
  unfold out0_2
  rw [View.canon_unit_zero zero2]
  simp only [View.ld_unit_zero (S := S2048x128) zero2]
  rw [← three (fun _ : Fin 128 => True) (fun k => a (ix2 r k)) h]
  pointwise [k0_pay3, k0_pay1]
  simp only [mark, if_true, mul_one]

/-- The grid point of row tile `u`. -/
def pt (u : Fin 40) : Fin cfg0.N := ⟨u.val, by have : cfg0.N = 40 := N_0; omega⟩

theorem index0 : ∀ u : Fin 40, win0_0.index (pt u) = ![u.val, 0] := by decide +kernel
theorem index1 : ∀ u : Fin 40, win0_1.index (pt u) = ![u.val, 0] := by decide +kernel
theorem index2 : ∀ u : Fin 40, win0_2.index (pt u) = ![u.val, 0] := by decide +kernel

variable (m : (ℓ : Loc nD τ sig) → Buf (Elt Ideal) ℓ) (c : Dev nD)

/-- The log forget gates of the pages. -/
abbrev ag : Vec Ideal S1x10240x128x8 .f32 := m ((c : Thread nD τ).loc main_arg0)

/-- Row `R` of the kernel's input: a page and a head. -/
abbrev gates (g : Vec Ideal S1x10240x128x8 .f32) (R : Fin 81920) (k : Fin 128) : EReal :=
  g (ix4 0 (⟨R.val / 8, by omega⟩ : Fin 10240) k (⟨R.val % 8, by omega⟩ : Fin 8))

theorem gates_apply (R : Fin 81920) (k : Fin 128) : (V m c main_v2 : Vec Ideal S81920x128 .f32) (ix2 R k) = gates (ag m c) R k := by
  unfold V
  after_reads_at

/-- The row of a tile and a place in it. -/
abbrev row (u : Fin 40) (r : Fin 2048) : Fin 81920 := ⟨2048 * u.val + r.val, by omega⟩

theorem blk0 (u : Fin 40) (r : Fin 2048) (k : Fin 128) :
    (iblk m c 0 (pt u) : Vec Ideal S2048x128 .f32) (ix2 r k) = gates (ag m c) (row u r) k := by
  refine Eq.trans ?_ (gates_apply m c (row u r) k)
  blk_ext [iblk, V, index0 u]

theorem emb1 (u : Fin 40) (r : Fin 2048) (e : Fin 128) :
    ((cfg0.win 1).blk (pt u)).view.emb (ix2 r e) = (ix2 (row u r) e : S81920x128.Idx) := by
  blk_ext [index1 u]

theorem emb2 (u : Fin 40) (r : Fin 2048) (e : Fin 128) :
    ((cfg0.win 2).blk (pt u)).view.emb (ix2 r e) = (ix2 (row u r) e : S81920x128.Idx) := by
  blk_ext [index2 u]

theorem written1 (t : Fin cfg0.N) (r : Fin 2048) (e : Fin 128) :
    (dats m 0 c).flushed 1 t (ix2 r e) = out0_1 (iblk m c 0 t) (ix2 r e) := by
  rw [Value.flushed1]
  rfl

theorem written2 (t : Fin cfg0.N) (r : Fin 2048) (e : Fin 128) :
    (dats m 0 c).flushed 2 t (ix2 r e) = out0_2 (iblk m c 0 t) (ix2 r e) := by
  rw [Value.flushed2]
  rfl

/-- The first result: for a page and a head, the sums over the later places of the page. -/
theorem arr1_apply (h : ∀ i, ag m c i ≠ (⊤ : EReal)) (u : Fin 40) (r : Fin 2048) (e : Fin 128) :
    (dats m 0 c).arrAt 1 cfg0.N (ix2 (row u r) e : S81920x128.Idx) =
      pick (fun k : Fin 128 => e.val < k.val) (gates (ag m c) (row u r)) := by
  have key := (dats m 0 c).arrAt_emb_eq_flushed 1 Value.disjoint1 (pt u) (flush0_1 _) (ix2 r e)
  rw [emb1] at key
  refine (key.trans (written1 m c (pt u) r e)).trans ?_
  rw [tile1_apply _ r e (fun k => by rw [blk0]; exact h _)]
  exact congrArg (pick _) (funext fun k => blk0 m c u r k)

/-- The second result: for a page and a head, the sum over the page. -/
theorem arr2_apply (h : ∀ i, ag m c i ≠ (⊤ : EReal)) (u : Fin 40) (r : Fin 2048) (e : Fin 128) :
    (dats m 0 c).arrAt 2 cfg0.N (ix2 (row u r) e : S81920x128.Idx) =
      pick (fun _ : Fin 128 => True) (gates (ag m c) (row u r)) := by
  have key := (dats m 0 c).arrAt_emb_eq_flushed 2 Value.disjoint2 (pt u) (flush0_2 _) (ix2 r e)
  rw [emb2] at key
  refine (key.trans (written2 m c (pt u) r e)).trans ?_
  rw [tile2_apply _ r e (fun k => by rw [blk0]; exact h _)]
  exact congrArg (pick _) (funext fun k => blk0 m c u r k)

end Cert.PagesIdeal.Arr

end
-- ==== Proof.Pages.Ref.lean ====
/-
  The reference of the pages' sums, element by element, and what the precondition says.
-/
module

public import proofs.«01_k».proof.Proof.Pages.Spec
public import proofs.«01_k».proof.Proof.Gen.PagesReferenceIdeal.Read
public import proofs.«01_k».proof.Proof.Gen.Pre_pages_below
public import Idealize.ShloMosaic.Lib.Pipeline.ValueKit
public import Idealize.ShloMosaic.Lib.Pointwise

@[expose] public section

set_option maxRecDepth 16384

noncomputable section

namespace Cert.PagesReferenceIdeal.Ref

open Idealize.ShloMosaic Cert.PagesReferenceIdeal Cert.PagesReferenceIdeal.Gen Cert.PagesReferenceIdeal.Read Cert.Pages.Spec
  Idealize.ShloMosaic.Tactic

variable (g : Vec Ideal S1x10240x128x8 .f32)

/-- No gate is infinite upwards. -/
theorem below (h : Cert.Pre_pages_below.fn (F := Ideal) g = fun _ => 1#1) (i : S1x10240x128x8.Idx) : g i ≠ (⊤ : EReal) := by
  have e := congrFun h i
  pointwise [Cert.Pre_pages_below.fn] at e
  have e' := of_bit _ e
  rw [top_lit] at e'
  exact ne_of_lt e'

theorem place_page (R k : ℕ) (hR : R < 81920) (hk : k < 128) :
    (((R * 128 + k) / 1024 * 128 + (R * 128 + k) % 128) * 8 + (R * 128 + k) / 128 % 8) / 1024 % 10240 = R / 8 := by
  rw [show (R * 128 + k) / 1024 = R / 8 by omega, show (R * 128 + k) % 128 = k by omega, show (R * 128 + k) / 128 = R by omega]
  omega
theorem place_row (R k : ℕ) (hk : k < 128) :
    (((R * 128 + k) / 1024 * 128 + (R * 128 + k) % 128) * 8 + (R * 128 + k) / 128 % 8) / 8 % 128 = k := by
  rw [show (R * 128 + k) / 1024 = R / 8 by omega, show (R * 128 + k) % 128 = k by omega, show (R * 128 + k) / 128 = R by omega]
  omega
theorem place_head (R k : ℕ) (hk : k < 128) :
    (((R * 128 + k) / 1024 * 128 + (R * 128 + k) % 128) * 8 + (R * 128 + k) / 128 % 8) % 8 = R % 8 := by
  rw [show (R * 128 + k) / 1024 = R / 8 by omega, show (R * 128 + k) % 128 = k by omega, show (R * 128 + k) / 128 = R by omega]
  omega

theorem gates_apply (R : Fin 81920) (k : Fin 128) :
    val_main_v2 (F := Ideal) g (ix2 R k) = g (ix4 0 (⟨R.val / 8, by omega⟩ : Fin 10240) k (⟨R.val % 8, by omega⟩ : Fin 8)) := by
  have e : idx_main_v0 (idx_main_v1 (idx_main_v2 (ix2 R k))) =
      ix4 0 (⟨R.val / 8, by omega⟩ : Fin 10240) k (⟨R.val % 8, by omega⟩ : Fin 8) := by
    funext a
    match a with
    | ⟨0, _⟩ => rfl
    | ⟨1, _⟩ => exact Fin.ext (place_page R.val k.val R.isLt k.isLt)
    | ⟨2, _⟩ => exact Fin.ext (place_row R.val k.val k.isLt)
    | ⟨3, _⟩ => exact Fin.ext (place_head R.val k.val k.isLt)
  rw [val_main_v2_apply, val_main_v1_apply, val_main_v0_apply, e]

/-- The first result: the sum over the later places. -/
theorem suffix_apply (R : Fin 81920) (e : Fin 128) : val_main_v11 (F := Ideal) g (ix2 R e) =
    pick (fun k : Fin 128 => e.val < k.val) (fun k => g (ix4 0 (⟨R.val / 8, by omega⟩ : Fin 10240) k (⟨R.val % 8, by omega⟩ : Fin 8))) := by
  rw [val_main_v11_apply, val_main_cst_0_apply, zero_lit, zero_add]
  refine Finset.sum_congr rfl fun k _ => ?_
  have i9 : idx_main_v9 (idx_main_call0_v2 (idx_main_v11 (ix2 R e) k)) = ix2 R k :=
    funext fun a => match a with | ⟨0, _⟩ => rfl | ⟨1, _⟩ => rfl
  rw [val_main_v10_apply, val_main_call0_v1_apply, val_main_v8_apply, val_main_v6_apply, val_main_v7_apply, val_main_v4_apply,
    val_main_v5_apply, val_main_v3_apply, val_main_v3_apply, val_main_call0_v2_apply, val_main_v9_apply, i9, gates_apply,
    val_main_call0_v3_apply, val_main_call0_v0_apply, val_main_cst_apply, zero_lit, ← select_bit, ← word_lt _ _ (by omega) (by omega)]
  rfl

/-- The second result: the sum over the page. -/
theorem total_apply (R : Fin 81920) (e : Fin 128) : val_main_v14 (F := Ideal) g (ix2 R e) =
    pick (fun _ : Fin 128 => True) (fun k => g (ix4 0 (⟨R.val / 8, by omega⟩ : Fin 10240) k (⟨R.val % 8, by omega⟩ : Fin 8))) := by
  rw [val_main_v14_apply, val_main_v13_apply, val_main_v12_apply, val_main_cst_1_apply, zero_lit, zero_add]
  refine Finset.sum_congr rfl fun k _ => ?_
  have i12 : idx_main_v12 (idx_main_v13 (idx_main_v14 (ix2 R e))) k = ix2 R k :=
    funext fun a => match a with | ⟨0, _⟩ => rfl | ⟨1, _⟩ => rfl
  rw [i12, gates_apply, if_pos trivial]

end Cert.PagesReferenceIdeal.Ref

end
-- ==== Proof.Pages.Claim.lean ====
/-
  The pages' sums are the reference's.
-/
module

public import proofs.«01_k».proof.Proof.Pages.Array
public import proofs.«01_k».proof.Proof.Pages.Ref
public import proofs.«01_k».proof.Defs
public import proofs.«01_k».proof.Proof.Gen.PagesIdeal.Value
public import proofs.«01_k».proof.Proof.Gen.PagesReferenceIdeal.Run

@[expose] public section

set_option maxRecDepth 16384

noncomputable section

namespace Cert.PagesIdeal.Close

open Idealize.ShloMosaic Idealize.ShloMosaic.TcCoe Cert.PagesReferenceIdeal.Read

variable (m : (ℓ : Loc Cert.PagesIdeal.nD Cert.PagesIdeal.τ Cert.PagesIdeal.sig) → Buf (Elt Ideal) ℓ) (c : Dev Cert.PagesIdeal.nD)
  (hp : Cert.Pre_pages_below.fn (F := Ideal)
    (m ((c.tc : Thread Cert.PagesIdeal.nD Cert.PagesIdeal.τ).loc Cert.PagesIdeal.main_arg0)) = fun _ => 1#1)

/-- Every index of a result is a tile, a row of it and a place. -/
theorem idx_form (i : Cert.PagesIdeal.S81920x128.Idx) :
    ∃ (u : Fin 40) (r : Fin 2048) (e : Fin 128), i = ix2 (Cert.PagesIdeal.Arr.row u r) e := by
  have h : (i 0).val < 81920 := (i 0).isLt
  refine ⟨⟨(i 0).val / 2048, by omega⟩, ⟨(i 0).val % 2048, by omega⟩, i 1, funext fun a => ?_⟩
  match a with
  | ⟨0, _⟩ => exact Fin.ext (by show (i 0).val = 2048 * ((i 0).val / 2048) + (i 0).val % 2048; omega)
  | ⟨1, _⟩ => rfl

include hp

theorem arr1_eq : (Cert.PagesIdeal.Gen.dats m 0 c).arrAt 1 Cert.PagesIdeal.cfg0.N =
    val_main_v11 (F := Ideal) (m ((c.tc : Thread Cert.PagesIdeal.nD Cert.PagesIdeal.τ).loc Cert.PagesIdeal.main_arg0)) := by
  funext i
  obtain ⟨u, r, e, rfl⟩ := idx_form i
  exact (Cert.PagesIdeal.Arr.arr1_apply m c (Cert.PagesReferenceIdeal.Ref.below _ hp) u r e).trans
    (Cert.PagesReferenceIdeal.Ref.suffix_apply _ _ e).symm

theorem arr2_eq : (Cert.PagesIdeal.Gen.dats m 0 c).arrAt 2 Cert.PagesIdeal.cfg0.N =
    val_main_v14 (F := Ideal) (m ((c.tc : Thread Cert.PagesIdeal.nD Cert.PagesIdeal.τ).loc Cert.PagesIdeal.main_arg0)) := by
  funext i
  obtain ⟨u, r, e, rfl⟩ := idx_form i
  exact (Cert.PagesIdeal.Arr.arr2_apply m c (Cert.PagesReferenceIdeal.Ref.below _ hp) u r e).trans
    (Cert.PagesReferenceIdeal.Ref.total_apply _ _ e).symm

omit hp

/-- The claim: gates below infinity, the same two results. -/
theorem algebraic : Cert.algebraic_PagesIdeal_PagesReferenceIdeal_pre_pages_below := by
  intro m ρ m' ρ' hp hag
  refine ⟨fun c => (Cert.PagesIdeal.Gen.dats m 0 c).arrAt 1 Cert.PagesIdeal.cfg0.N,
    fun c => (Cert.PagesIdeal.Gen.dats m 0 c).arrAt 2 Cert.PagesIdeal.cfg0.N, Cert.PagesIdeal.Value.run_blocks m ρ, ?_⟩
  refine (θ_run _ _ _).mono (fun _ h c => ?_) (Cert.PagesReferenceIdeal.Value.run m' ρ')
  obtain ⟨r0, r1, hr⟩ := h c
  have h0 := hag c
  refine ⟨r0.trans ?_, r1.trans ?_, hr⟩
  · refine (val_main_v11_eq _).trans ?_
    rw [h0]
    exact (arr1_eq m c (hp c)).symm
  · refine (val_main_v14_eq _).trans ?_
    rw [h0]
    exact (arr2_eq m c (hp c)).symm

end Cert.PagesIdeal.Close

end
-- ==== Proof.Sums.Spec.lean ====
/-
  Running sums, block by block.
-/
module

public import proofs.«01_k».proof.Proof.Pages.Spec

@[expose] public section

noncomputable section

namespace Cert.Sums.Spec

open Idealize.ShloMosaic Cert.Pages.Spec

/-- A row's entry, or zero beyond its end. -/
def ext {n : ℕ} (x : Fin n → EReal) (j : ℕ) : EReal := if h : j < n then x ⟨j, h⟩ else 0

/-- The entries below a place, added up. -/
theorem pick_range {n : ℕ} (x : Fin n → EReal) (N : ℕ) (h : N ≤ n) :
    pick (fun k : Fin n => k.val < N) x = ∑ j ∈ Finset.range N, ext x j := by
  have e : ∀ k : Fin n, (if k.val < N then x k else 0) = (fun j : ℕ => if j < N then ext x j else 0) k.val := fun k => by
    show _ = if k.val < N then ext x k.val else 0
    unfold ext
    rw [dif_pos k.isLt]
  unfold pick
  rw [Finset.sum_congr rfl fun k _ => e k, Fin.sum_univ_eq_sum_range (fun j : ℕ => if j < N then ext x j else 0) n, ← Finset.sum_filter]
  refine Finset.sum_congr (Finset.ext fun j => ?_) fun _ _ => rfl
  simp only [Finset.mem_filter, Finset.mem_range]
  omega

/-- The sum up to a place in a block: the sum of the blocks before, and the block's sum up to there. -/
theorem pick_block (x : Fin 4096 → EReal) (n : Fin 32) (e : Fin 128) :
    pick (fun k : Fin 128 => k.val ≤ e.val) (fun k => x ⟨n.val * 128 + k.val, by omega⟩) + pick (fun j : Fin 4096 => j.val < n.val * 128) x =
      pick (fun j : Fin 4096 => j.val < n.val * 128 + e.val + 1) x := by
  have h : pick (fun k : Fin 128 => k.val ≤ e.val) (fun k => x ⟨n.val * 128 + k.val, by omega⟩) =
      pick (fun k : Fin 128 => k.val < e.val + 1) (fun k => x ⟨n.val * 128 + k.val, by omega⟩) := by
    unfold pick
    exact Finset.sum_congr rfl fun k _ => if_congr Nat.lt_succ_iff.symm rfl rfl
  have g : ∑ j ∈ Finset.range (e.val + 1), ext (fun k : Fin 128 => x ⟨n.val * 128 + k.val, by omega⟩) j =
      ∑ j ∈ Finset.range (e.val + 1), ext x (n.val * 128 + j) := Finset.sum_congr rfl fun k hk => by
    have hk' : k < e.val + 1 := Finset.mem_range.mp hk
    have he := e.isLt
    have hn := n.isLt
    unfold ext
    rw [dif_pos (by omega), dif_pos (by omega)]
  rw [h, pick_range _ _ (by omega), pick_range _ _ (by omega), pick_range _ _ (by omega), g, Nat.add_assoc,
    Finset.sum_range_add (fun j => ext x j)]
  exact add_comm _ _

end Cert.Sums.Spec

end
-- ==== Proof.Sums.Pieces.lean ====
/-
  The stores of the running sum: one block of the result after another.
-/
module

public import proofs.«01_k».proof.Proof.Gen.SumsIdeal.Value
public import Idealize.ShloMosaic.Lib.Pipeline.ValueKit

@[expose] public section

set_option maxRecDepth 16384

noncomputable section

namespace Cert.SumsIdeal.Pieces

open Idealize.ShloMosaic Idealize.ShloMosaic.TcCoe Idealize.ShloMosaic.Tactic Cert.SumsIdeal Cert.SumsIdeal.Gen

variable {F : FTy → Type} [FloatOps F]

theorem inb_block (n : ℕ) : ∀ a, (![0, n % 32 * 128] : Fin 2 → ℕ) a + S32x128.size a ≤ S32x4096.size a := by
  intro a
  match a with
  | ⟨0, _⟩ => exact le_refl 32
  | ⟨1, _⟩ => show n % 32 * 128 + 128 ≤ 4096; omega

/-- Block `n` of the rows. -/
abbrev rect (n : ℕ) : Rect S32x4096 := Rect.unit (s := S32x4096) ![0, n % 32 * 128] S32x128.size (inb_block n)

/-- What rounding to the short format leaves over. -/
def left (v : FVec F S32x128 .f32) : FVec F S32x128 .f32 := subf v (extf .f32 (truncf .bf16 v bitsLt_bf16_f32) bitsLt_bf16_f32)

/-- One part's product with the mask. -/
def part (v : FVec F S32x128 .f32) : FVec F S32x128 .f32 :=
  matmul dot_S32x128_S128x128_S32x128_1_0_0_1_n_n none (truncf .bf16 v bitsLt_bf16_f32) (k0_pay3 (F := F)) (constant S32x128 .f32 0x00000000#32)

/-- The three parts' products. -/
def parts (v : FVec F S32x128 .f32) : FVec F S32x128 .f32 := addf (addf (part v) (part (left v))) (part (left (left v)))

/-- The next block's running sum, from the last one's. -/
def next (acc v : FVec F S32x128 .f32) : FVec F S32x128 .f32 :=
  addf (parts (shapeCast S32x128 v shapeCasts_S32x128_S32x128))
    (broadcastTo S32x128 (extractStridedSlice S32x1 ![0, 127] acc slices_S32x128_o0_127_S32x1) broadcasts_S32x1_S32x128)

/-- The first block's running sum. -/
def first (v : FVec F S32x128 .f32) : FVec F S32x128 .f32 :=
  addf (parts (shapeCast S32x128 v shapeCasts_S32x128_S32x128))
    (broadcastTo S32x128 (broadcast S32x1 (Scalar.ofBits .f32 0x00000000#32 : F .f32)) broadcasts_S32x1_S32x128)

/-- The running sum over block `n`. -/
def sumTo (x : Vec F S32x4096 .f32) : ℕ → FVec F S32x128 .f32
  | 0 => first (View.ld x (rect 0))
  | n + 1 => next (sumTo x n) (View.ld x (rect (n + 1)))

/-- The store of block `n`. -/
def piece (x : Vec F S32x4096 .f32) (n : Fin 32) : View.Piece (Elt F) S32x4096 .f32 :=
  ⟨rect n.val, (subf (broadcast S32x128 (Scalar.ofBits .f32 0x00000000#32 : F .f32)) (sumTo x n.val) : FVec F S32x128 .f32)⟩

/-- The result is the 32 stores. -/
theorem out_eq (x : Vec F S32x4096 .f32) : out0_1 x = View.canon (((List.finRange 32).map (piece x)).reverse) := by
  sl_kernel_rfl

end Cert.SumsIdeal.Pieces

end
-- ==== Proof.Sums.Array.lean ====
/-
  The result array of the running sum, element by element, in terms of the argument.
-/
module

public import proofs.«01_k».proof.Proof.Sums.Spec
public import proofs.«01_k».proof.Proof.Sums.Pieces
public import Idealize.ShloMosaic.Lib.Claim
public import Idealize.ShloMosaic.Lib.StableHlo.ReadAt

@[expose] public section

set_option maxRecDepth 16384

noncomputable section

namespace Cert.SumsIdeal.Arr

open Idealize.ShloMosaic Idealize.ShloMosaic.TcCoe Idealize.ShloMosaic.Tactic Cert.SumsIdeal Cert.SumsIdeal.Gen Cert.SumsIdeal.Pieces
  Cert.Pages.Spec Cert.Sums.Spec

/-- A block's products with the mask: at a place, the block's sum up to it. -/
theorem parts_apply (v : FVec Ideal S32x128 .f32) (r : Fin 32) (e : Fin 128) (h : ∀ k : Fin 128, v (ix2 r k) ≠ (⊤ : EReal)) :
    Pieces.parts (shapeCast S32x128 v shapeCasts_S32x128_S32x128) (ix2 r e) = pick (fun k : Fin 128 => k.val ≤ e.val) (fun k => v (ix2 r k)) := by
  rw [← three (fun k : Fin 128 => k.val ≤ e.val) (fun k => v (ix2 r k)) h]
  simp only [← mark_of_bit]
  have hw : ∀ k : Fin 128, decide (k.val ≤ e.val) = (BitVec.ofNat 32 k.val).sle (BitVec.ofNat 32 e.val) :=
    fun k => (word_le _ _ (by omega) (by omega)).symm
  simp only [hw]
  pointwise [Pieces.parts, part, left, k0_pay3]
  rfl

theorem next_apply (acc v : FVec Ideal S32x128 .f32) (r : Fin 32) (e : Fin 128) :
    next acc v (ix2 r e) = Pieces.parts (shapeCast S32x128 v shapeCasts_S32x128_S32x128) (ix2 r e) + acc (ix2 r (127 : Fin 128)) := by
  unfold next
  generalize Pieces.parts (shapeCast S32x128 v shapeCasts_S32x128_S32x128) = p
  pointwise []
  try rfl

theorem first_apply (v : FVec Ideal S32x128 .f32) (r : Fin 32) (e : Fin 128) :
    first v (ix2 r e) = Pieces.parts (shapeCast S32x128 v shapeCasts_S32x128_S32x128) (ix2 r e) + (0 : EReal) := by
  unfold first
  generalize Pieces.parts (shapeCast S32x128 v shapeCasts_S32x128_S32x128) = p
  rw [← zero_lit]
  pointwise []
  try rfl

/-- A place in a block, within the row. -/
abbrev col (n : Fin 32) (e : Fin 128) : Fin 4096 := ⟨n.val * 128 + e.val, by omega⟩

theorem emb_rect (n : Fin 32) (r : Fin 32) (e : Fin 128) : (rect n.val).emb (ix2 r e) = (ix2 r (col n e) : S32x4096.Idx) := by
  have hn : n.val % 32 = n.val := Nat.mod_eq_of_lt n.isLt
  funext a; apply Fin.ext
  refine (Rect.idx_unit_val _ _ _ _ _).trans ?_
  match a with
  | ⟨0, _⟩ => exact Nat.zero_add _
  | ⟨1, _⟩ => show n.val % 32 * 128 + e.val = n.val * 128 + e.val; rw [hn]

variable (x : Vec Ideal S32x4096 .f32) (h : ∀ i, x i ≠ (⊤ : EReal))

theorem ld_apply (n : Fin 32) (r : Fin 32) (e : Fin 128) : View.ld x (rect n.val) (ix2 r e) = x (ix2 r (col n e)) :=
  congrArg x (emb_rect n r e)

include h

/-- The running sum over a block: at a place, the row's sum up to it. -/
theorem sum_apply (r : Fin 32) : ∀ (n : ℕ) (hn : n < 32) (e : Fin 128),
    sumTo x n (ix2 r e) = pick (fun j : Fin 4096 => j.val < n * 128 + e.val + 1) (fun j => x (ix2 r j))
  | 0, hn, e => by
    unfold sumTo
    rw [first_apply, parts_apply _ r e (fun k => by rw [ld_apply x ⟨0, hn⟩]; exact h _)]
    refine Eq.trans ?_ (pick_block (fun j => x (ix2 r j)) ⟨0, hn⟩ e)
    have z : pick (fun j : Fin 4096 => j.val < (⟨0, hn⟩ : Fin 32).val * 128) (fun j => x (ix2 r j)) = 0 :=
      Finset.sum_eq_zero fun j _ => if_neg (by show ¬ j.val < 0 * 128; omega)
    rw [z]
    exact congrArg (· + (0 : EReal)) (congrArg (pick _) (funext fun k => ld_apply x ⟨0, hn⟩ r k))
  | n + 1, hn, e => by
    unfold sumTo
    rw [next_apply, parts_apply _ r e (fun k => by rw [ld_apply x ⟨n + 1, hn⟩]; exact h _), sum_apply r n (by omega) 127]
    refine Eq.trans ?_ (pick_block (fun j => x (ix2 r j)) ⟨n + 1, hn⟩ e)
    refine congrArg₂ (· + ·) (congrArg (pick _) (funext fun k => ld_apply x ⟨n + 1, hn⟩ r k)) ?_
    unfold pick
    refine Finset.sum_congr rfl fun j _ => if_congr ?_ rfl rfl
    show j.val < n * 128 + 127 + 1 ↔ j.val < (n + 1) * 128
    omega

/-- The block of results: minus the row's sum up to a place. -/
theorem out_apply (r : Fin 32) (n : Fin 32) (e : Fin 128) :
    out0_1 x (ix2 r (col n e)) = -pick (fun j : Fin 4096 => j.val ≤ n.val * 128 + e.val) (fun j => x (ix2 r j)) := by
  have hL : ∀ p ∈ ((List.finRange 32).map (piece x)).reverse, ∀ y, p.2 y =
      (fun i : S32x4096.Idx => -pick (fun j : Fin 4096 => j.val ≤ (i 1).val) (fun j => x (ix2 (i 0) j))) (p.1.emb y) := by
    intro p hp y
    obtain ⟨k, -, rfl⟩ := List.mem_map.mp (List.mem_reverse.mp hp)
    obtain ⟨r', e', rfl⟩ : ∃ (r' : Fin 32) (e' : Fin 128), y = ix2 r' e' :=
      ⟨y 0, y 1, funext fun a => match a with | ⟨0, _⟩ => rfl | ⟨1, _⟩ => rfl⟩
    show (FloatOps.ofBits .f32 0x00000000#32 : Ideal .f32) - sumTo x k.val (ix2 r' e') = _
    rw [zero_lit, zero_sub, sum_apply x h r' k.val k.isLt e']
    erw [emb_rect k r' e']
    refine congrArg Neg.neg ?_
    unfold pick
    exact Finset.sum_congr rfl fun j _ => if_congr Nat.lt_succ_iff rfl rfl
  rw [out_eq]
  refine (View.canon_apply_of_pieces
    (fun i : S32x4096.Idx => -pick (fun j : Fin 4096 => j.val ≤ (i 1).val) (fun j => x (ix2 (i 0) j))) _ hL _ ⟨piece x n, List.mem_reverse.mpr (List.mem_map.mpr ⟨n, List.mem_finRange n, rfl⟩), ?_⟩).trans rfl
  rw [← emb_rect n r e]
  exact LoadRect.idx_mem _ _

omit h

theorem index0 : win0_0.index t0_0 = ![0, 0] := by decide +kernel
theorem index1 : win0_1.index t0_0 = ![0, 0] := by decide +kernel

variable (m : (ℓ : Loc nD τ sig) → Buf (Elt Ideal) ℓ) (c : Dev nD)

/-- The log forget gates of the prompts. -/
abbrev ag : Vec Ideal S4x4096x8 .f32 := m ((c : Thread nD τ).loc main_arg0)

/-- Row `R` of the kernel's input: a prompt and a head. -/
abbrev gates (g : Vec Ideal S4x4096x8 .f32) (R : Fin 32) (k : Fin 4096) : EReal :=
  g (ix3 (⟨R.val / 8, by omega⟩ : Fin 4) k (⟨R.val % 8, by omega⟩ : Fin 8))

theorem gates_apply (R : Fin 32) (k : Fin 4096) : (V m c main_v1 : Vec Ideal S32x4096 .f32) (ix2 R k) = gates (ag m c) R k := by
  unfold V
  after_reads_at

theorem blk0 (r : Fin 32) (k : Fin 4096) : (iblk m c 0 t0_0 : Vec Ideal S32x4096 .f32) (ix2 r k) = gates (ag m c) r k := by
  refine Eq.trans ?_ (gates_apply m c r k)
  blk_ext [iblk, V, index0]

theorem emb1 (r : Fin 32) (e : Fin 4096) : ((cfg0.win 1).blk t0_0).view.emb (ix2 r e) = (ix2 r e : S32x4096.Idx) := by
  blk_ext [index1]

theorem written1 (t : Fin cfg0.N) (r : Fin 32) (e : Fin 4096) :
    (dats m 0 c).flushed 1 t (ix2 r e) = out0_1 (iblk m c 0 t) (ix2 r e) := by
  rw [Value.flushed1]
  rfl

/-- The result: for a prompt and a head, minus the sum of the log forget gates up to a place. -/
theorem arr1_apply (h : ∀ i, ag m c i ≠ (⊤ : EReal)) (r : Fin 32) (n : Fin 32) (e : Fin 128) :
    (dats m 0 c).arrAt 1 cfg0.N (ix2 r (col n e) : S32x4096.Idx) =
      (-pick (fun k : Fin 4096 => k.val ≤ n.val * 128 + e.val) (gates (ag m c) r) : EReal) := by
  have key := (dats m 0 c).arrAt_emb_eq_flushed 1 Value.disjoint1 t0_0 (flush0_1 _) (ix2 r (col n e))
  rw [emb1] at key
  refine (key.trans (written1 m c t0_0 r _)).trans ?_
  have hb : ∀ i : S32x4096.Idx, (iblk m c 0 t0_0 : Vec Ideal S32x4096 .f32) i ≠ (⊤ : EReal) := fun i => by
    have e : i = ix2 (i 0) (i 1) := funext fun a => match a with | ⟨0, _⟩ => rfl | ⟨1, _⟩ => rfl
    rw [e]
    exact (blk0 m c (i 0) (i 1)).trans_ne (h _)
  refine (out_apply _ hb r n e).trans ?_
  exact congrArg (fun z : EReal => -z) (congrArg (pick _) (funext fun k => blk0 m c r k))

end Cert.SumsIdeal.Arr

end
-- ==== Proof.Sums.Ref.lean ====
/-
  The reference of the running sum, element by element, and what the precondition says.
-/
module

public import proofs.«01_k».proof.Proof.Pages.Spec
public import proofs.«01_k».proof.Proof.Gen.SumsReferenceIdeal.Read
public import proofs.«01_k».proof.Proof.Gen.Pre_sums_below
public import Idealize.ShloMosaic.Lib.Pipeline.ValueKit
public import Idealize.ShloMosaic.Lib.Pointwise

@[expose] public section

set_option maxRecDepth 16384

noncomputable section

namespace Cert.SumsReferenceIdeal.Ref

open Idealize.ShloMosaic Cert.SumsReferenceIdeal Cert.SumsReferenceIdeal.Gen Cert.SumsReferenceIdeal.Read Cert.Pages.Spec
  Idealize.ShloMosaic.Tactic

variable (g : Vec Ideal S4x4096x8 .f32)

/-- No gate is infinite upwards. -/
theorem below (h : Cert.Pre_sums_below.fn (F := Ideal) g = fun _ => 1#1) (i : S4x4096x8.Idx) : g i ≠ (⊤ : EReal) := by
  have e := congrFun h i
  pointwise [Cert.Pre_sums_below.fn] at e
  have e' := of_bit _ e
  rw [top_lit] at e'
  exact ne_of_lt e'

theorem place_prompt (R k : ℕ) (hk : k < 4096) : (R * 4096 + k) / 32768 = R / 8 := by omega
theorem place_head (R k : ℕ) (hk : k < 4096) : (R * 4096 + k) / 4096 % 8 = R % 8 := by omega
theorem place_row (R k : ℕ) (hk : k < 4096) : (R * 4096 + k) % 4096 = k := by omega

theorem gates_apply (R : Fin 32) (k : Fin 4096) :
    val_main_v1 (F := Ideal) g (ix2 R k) = g (ix3 (⟨R.val / 8, by omega⟩ : Fin 4) k (⟨R.val % 8, by omega⟩ : Fin 8)) := by
  have e : idx_main_v0 (idx_main_v1 (ix2 R k)) = ix3 (⟨R.val / 8, by omega⟩ : Fin 4) k (⟨R.val % 8, by omega⟩ : Fin 8) := by
    funext a
    match a with
    | ⟨0, _⟩ => exact Fin.ext (place_prompt R.val k.val k.isLt)
    | ⟨1, _⟩ => exact Fin.ext (place_row R.val k.val k.isLt)
    | ⟨2, _⟩ => exact Fin.ext (place_head R.val k.val k.isLt)
  rw [val_main_v1_apply, val_main_v0_apply, e]

theorem sum_apply (R : Fin 32) (e : Fin 4096) : val_main_v10 (F := Ideal) g (ix2 R e) =
    pick (fun k : Fin 4096 => k.val ≤ e.val) (fun k => g (ix3 (⟨R.val / 8, by omega⟩ : Fin 4) k (⟨R.val % 8, by omega⟩ : Fin 8))) := by
  rw [val_main_v10_apply, val_main_cst_0_apply, zero_lit, zero_add]
  refine Finset.sum_congr rfl fun k _ => ?_
  have i8 : idx_main_v8 (idx_main_call0_v2 (idx_main_v10 (ix2 R e) k)) = ix2 R k :=
    funext fun a => match a with | ⟨0, _⟩ => rfl | ⟨1, _⟩ => rfl
  rw [val_main_v9_apply, val_main_call0_v1_apply, val_main_v7_apply, val_main_v5_apply, val_main_v6_apply, val_main_v3_apply,
    val_main_v4_apply, val_main_v2_apply, val_main_v2_apply, val_main_call0_v2_apply, val_main_v8_apply, i8, gates_apply,
    val_main_call0_v3_apply, val_main_call0_v0_apply, val_main_cst_apply, zero_lit, ← select_bit, ← word_le _ _ (by omega) (by omega)]
  rfl

/-- The result: minus the sum up to a place. -/
theorem result_apply (R : Fin 32) (e : Fin 4096) : val_main_v11 (F := Ideal) g (ix2 R e) =
    -pick (fun k : Fin 4096 => k.val ≤ e.val) (fun k => g (ix3 (⟨R.val / 8, by omega⟩ : Fin 4) k (⟨R.val % 8, by omega⟩ : Fin 8))) := by
  rw [val_main_v11_apply, sum_apply]
  rfl

end Cert.SumsReferenceIdeal.Ref

end
-- ==== Proof.Sums.Claim.lean ====
/-
  The running sum is the reference's.
-/
module

public import proofs.«01_k».proof.Proof.Sums.Array
public import proofs.«01_k».proof.Proof.Sums.Ref
public import proofs.«01_k».proof.Defs
public import proofs.«01_k».proof.Proof.Gen.SumsIdeal.Value
public import proofs.«01_k».proof.Proof.Gen.SumsReferenceIdeal.Run

@[expose] public section

set_option maxRecDepth 16384

noncomputable section

namespace Cert.SumsIdeal.Close

open Idealize.ShloMosaic Idealize.ShloMosaic.TcCoe Cert.SumsReferenceIdeal.Read

variable (m : (ℓ : Loc Cert.SumsIdeal.nD Cert.SumsIdeal.τ Cert.SumsIdeal.sig) → Buf (Elt Ideal) ℓ) (c : Dev Cert.SumsIdeal.nD)
  (hp : Cert.Pre_sums_below.fn (F := Ideal)
    (m ((c.tc : Thread Cert.SumsIdeal.nD Cert.SumsIdeal.τ).loc Cert.SumsIdeal.main_arg0)) = fun _ => 1#1)

/-- Every index of the result is a row, a block and a place in it. -/
theorem idx_form (i : Cert.SumsIdeal.S32x4096.Idx) :
    ∃ (r n : Fin 32) (e : Fin 128), i = ix2 r (Cert.SumsIdeal.Arr.col n e) := by
  have h : (i 1).val < 4096 := (i 1).isLt
  refine ⟨i 0, ⟨(i 1).val / 128, by omega⟩, ⟨(i 1).val % 128, by omega⟩, funext fun a => ?_⟩
  match a with
  | ⟨0, _⟩ => rfl
  | ⟨1, _⟩ => exact Fin.ext (by show (i 1).val = (i 1).val / 128 * 128 + (i 1).val % 128; omega)

include hp

theorem arr1_eq : (Cert.SumsIdeal.Gen.dats m 0 c).arrAt 1 Cert.SumsIdeal.cfg0.N =
    val_main_v11 (F := Ideal) (m ((c.tc : Thread Cert.SumsIdeal.nD Cert.SumsIdeal.τ).loc Cert.SumsIdeal.main_arg0)) := by
  funext i
  obtain ⟨r, n, e, rfl⟩ := idx_form i
  exact (Cert.SumsIdeal.Arr.arr1_apply m c (Cert.SumsReferenceIdeal.Ref.below _ hp) r n e).trans
    (Cert.SumsReferenceIdeal.Ref.result_apply _ r (Cert.SumsIdeal.Arr.col n e)).symm

omit hp

/-- The claim: gates below infinity, the same result. -/
theorem algebraic : Cert.algebraic_SumsIdeal_SumsReferenceIdeal_pre_sums_below := by
  intro m ρ m' ρ' hp hag
  refine ⟨fun c => (Cert.SumsIdeal.Gen.dats m 0 c).arrAt 1 Cert.SumsIdeal.cfg0.N, Cert.SumsIdeal.Value.run_blocks m ρ, ?_⟩
  refine (θ_run _ _ _).mono (fun _ h c => ?_) (Cert.SumsReferenceIdeal.Value.run m' ρ')
  obtain ⟨r0, hr⟩ := h c
  have h0 := hag c
  refine ⟨r0.trans ?_, hr⟩
  refine (val_main_v11_eq _).trans ?_
  rw [h0]
  exact (arr1_eq m c (hp c)).symm

end Cert.SumsIdeal.Close

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaReferenceIdeal.Run
public import proofs.«01_k».proof.Proof.Gen.AdaReferenceIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.Conv.Frame
public import proofs.«01_k».proof.Proof.Gen.ConvIdeal.Frame
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.Gen.InProjS.Frame
public import proofs.«01_k».proof.Proof.Gen.InProjSIdeal.Frame
public import proofs.«01_k».proof.Proof.Gen.InProjSIdeal.Value
public import proofs.«01_k».proof.Proof.Gen.InProjSReferenceIdeal.Run
public import proofs.«01_k».proof.Proof.Gen.InProjSReferenceIdeal.Read
public import proofs.«01_k».proof.Proof.Gen.MergeS.Frame
public import proofs.«01_k».proof.Proof.Gen.MergeSIdeal.Frame
public import proofs.«01_k».proof.Proof.Gen.MergeSIdeal.Value
public import proofs.«01_k».proof.Proof.Gen.MergeSReferenceIdeal.Run
public import proofs.«01_k».proof.Proof.Gen.MergeSReferenceIdeal.Read
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSReferenceIdeal.Run
public import proofs.«01_k».proof.Proof.Gen.FfnSReferenceIdeal.Read
public import proofs.«01_k».proof.Proof.Gen.Step.Frame
public import proofs.«01_k».proof.Proof.Gen.StepIdeal.Frame
public import proofs.«01_k».proof.Proof.Gen.StepIdeal.Value
public import proofs.«01_k».proof.Proof.Gen.StepReferenceIdeal.Run
public import proofs.«01_k».proof.Proof.Gen.StepReferenceIdeal.Read
public import proofs.«01_k».proof.Proof.Gen.Pages.Frame
public import proofs.«01_k».proof.Proof.Gen.PagesIdeal.Frame
public import proofs.«01_k».proof.Proof.Gen.PagesIdeal.Value
public import proofs.«01_k».proof.Proof.Gen.PagesReferenceIdeal.Run
public import proofs.«01_k».proof.Proof.Gen.PagesReferenceIdeal.Read
public import proofs.«01_k».proof.Proof.Gen.Pre_pages_below
public import proofs.«01_k».proof.Proof.Gen.Sums.Frame
public import proofs.«01_k».proof.Proof.Gen.SumsIdeal.Frame
public import proofs.«01_k».proof.Proof.Gen.SumsIdeal.Value
public import proofs.«01_k».proof.Proof.Gen.SumsReferenceIdeal.Run
public import proofs.«01_k».proof.Proof.Gen.SumsReferenceIdeal.Read
public import proofs.«01_k».proof.Proof.Gen.Pre_sums_below
public import proofs.«01_k».proof.Proof.Attn.Claim
public import proofs.«01_k».proof.Proof.Ffn.Claim
public import proofs.«01_k».proof.Proof.Ada.Claim
public import proofs.«01_k».proof.Proof.InProj.Claim
public import proofs.«01_k».proof.Proof.Merge.Claim
public import proofs.«01_k».proof.Proof.Conv.Claim
public import proofs.«01_k».proof.Proof.InProjS.Claim
public import proofs.«01_k».proof.Proof.MergeS.Claim
public import proofs.«01_k».proof.Proof.FfnS.Claim
public import proofs.«01_k».proof.Proof.Step.Claim
public import proofs.«01_k».proof.Proof.Pages.Claim
public import proofs.«01_k».proof.Proof.Sums.Claim
public import Idealize.ShloMosaic.Adequacy
public import Idealize.ShloMosaic.Init

@[expose] public section

noncomputable section

namespace Cert.Proof

open Idealize.ShloMosaic Idealize.SL.Sem

/-- The attention's reference runs, keeps its arguments and has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩) (Cert.ReferenceIdeal.Value.run (F := Ideal) m ρ)

/-- The feed-forward reference runs, keeps its arguments and has no semaphore. -/
theorem frame_ffn_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩) (Cert.FfnReferenceIdeal.Value.run (F := Ideal) m ρ)

/-- The modulation terms' reference runs, keeps its arguments and has no semaphore. -/
theorem frame_ada_reference : Cert.quiescent_AdaReferenceIdeal := fun m ρ _ =>
  (θ_run Cert.AdaReferenceIdeal.defs _ _).mono (fun r h => ⟨fun c => (h c).2,
      Idealize.ShloMosaic.sem_eq_zero_of_no_sems (by decide) r.2⟩) (Cert.AdaReferenceIdeal.Value.run (F := Ideal) m ρ)

/-- The input projection's reference runs, keeps its arguments and has no semaphore. -/
theorem frame_in_proj_reference : Cert.quiescent_InProjReferenceIdeal := fun m ρ _ =>
  (θ_run Cert.InProjReferenceIdeal.defs _ _).mono (fun r h => ⟨fun c => (h c).2.2.2.2.2.2.2.2,
      Idealize.ShloMosaic.sem_eq_zero_of_no_sems (by decide) r.2⟩) (Cert.InProjReferenceIdeal.Value.run (F := Ideal) m ρ)

/-- The merge's reference runs, keeps its arguments and has no semaphore. -/
theorem frame_merge_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩) (Cert.MergeReferenceIdeal.Value.run (F := Ideal) m ρ)

/-- The samples' convolution: its reference runs, keeps its arguments and has no semaphore. -/
theorem frame_conv_reference : Cert.quiescent_ConvReferenceIdeal := fun m ρ _ =>
  (θ_run Cert.ConvReferenceIdeal.defs _ _).mono (fun r h => ⟨fun c => (h c).2.2,
      Idealize.ShloMosaic.sem_eq_zero_of_no_sems (by decide) r.2⟩) (Cert.ConvReferenceIdeal.Value.run (F := Ideal) m ρ)

/-- The samples' input projection: its reference runs, keeps its arguments and has no semaphore. -/
theorem frame_in_proj_sample_reference : Cert.quiescent_InProjSReferenceIdeal := fun m ρ _ =>
  (θ_run Cert.InProjSReferenceIdeal.defs _ _).mono (fun r h => ⟨fun c => (h c).2.2.2.2.2.2.2.2,
      Idealize.ShloMosaic.sem_eq_zero_of_no_sems (by decide) r.2⟩) (Cert.InProjSReferenceIdeal.Value.run (F := Ideal) m ρ)

/-- The samples' merge: its reference runs, keeps its arguments and has no semaphore. -/
theorem frame_merge_sample_reference : Cert.quiescent_MergeSReferenceIdeal := fun m ρ _ =>
  (θ_run Cert.MergeSReferenceIdeal.defs _ _).mono (fun r h => ⟨fun c => (h c).2,
      Idealize.ShloMosaic.sem_eq_zero_of_no_sems (by decide) r.2⟩) (Cert.MergeSReferenceIdeal.Value.run (F := Ideal) m ρ)

/-- The samples' feed-forward part: its reference runs, keeps its arguments and has no semaphore. -/
theorem frame_ffn_sample_reference : Cert.quiescent_FfnSReferenceIdeal := fun m ρ _ =>
  (θ_run Cert.FfnSReferenceIdeal.defs _ _).mono (fun r h => ⟨fun c => (h c).2,
      Idealize.ShloMosaic.sem_eq_zero_of_no_sems (by decide) r.2⟩) (Cert.FfnSReferenceIdeal.Value.run (F := Ideal) m ρ)

/-- The samples' recurrence: its reference runs, keeps its arguments and has no semaphore. -/
theorem frame_step_reference : Cert.quiescent_StepReferenceIdeal := fun m ρ _ =>
  (θ_run Cert.StepReferenceIdeal.defs _ _).mono (fun r h => ⟨fun c => (h c).2.2,
      Idealize.ShloMosaic.sem_eq_zero_of_no_sems (by decide) r.2⟩) (Cert.StepReferenceIdeal.Value.run (F := Ideal) m ρ)

/-- The pages' sums: its reference runs, keeps its arguments and has no semaphore. -/
theorem frame_pages_reference : Cert.quiescent_PagesReferenceIdeal := fun m ρ _ =>
  (θ_run Cert.PagesReferenceIdeal.defs _ _).mono (fun r h => ⟨fun c => (h c).2.2,
      Idealize.ShloMosaic.sem_eq_zero_of_no_sems (by decide) r.2⟩) (Cert.PagesReferenceIdeal.Value.run (F := Ideal) m ρ)

/-- The prompts' running sums: its reference runs, keeps its arguments and has no semaphore. -/
theorem frame_sums_reference : Cert.quiescent_SumsReferenceIdeal := fun m ρ _ =>
  (θ_run Cert.SumsReferenceIdeal.defs _ _).mono (fun r h => ⟨fun c => (h c).2,
      Idealize.ShloMosaic.sem_eq_zero_of_no_sems (by decide) r.2⟩) (Cert.SumsReferenceIdeal.Value.run (F := Ideal) m ρ)

/-- All the claims. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Ada.Gen.facts, Cert.AdaIdeal.Gen.facts, Cert.AdaReferenceIdeal.Gen.facts,
  Cert.InProj.Gen.facts, Cert.InProjIdeal.Gen.facts, Cert.InProjReferenceIdeal.Gen.facts,
  Cert.Merge.Gen.facts, Cert.MergeIdeal.Gen.facts, Cert.MergeReferenceIdeal.Gen.facts,
  Cert.Conv.Gen.facts, Cert.ConvIdeal.Gen.facts, Cert.ConvReferenceIdeal.Gen.facts,
  Cert.InProjS.Gen.facts, Cert.InProjSIdeal.Gen.facts, Cert.InProjSReferenceIdeal.Gen.facts,
  Cert.MergeS.Gen.facts, Cert.MergeSIdeal.Gen.facts, Cert.MergeSReferenceIdeal.Gen.facts,
  Cert.FfnS.Gen.facts, Cert.FfnSIdeal.Gen.facts, Cert.FfnSReferenceIdeal.Gen.facts,
  Cert.Step.Gen.facts, Cert.StepIdeal.Gen.facts, Cert.StepReferenceIdeal.Gen.facts,
  Cert.Pages.Gen.facts, Cert.PagesIdeal.Gen.facts, Cert.PagesReferenceIdeal.Gen.facts,
  Cert.Sums.Gen.facts, Cert.SumsIdeal.Gen.facts, Cert.SumsReferenceIdeal.Gen.facts,
  Cert.Pre_finite_scores.Gen.facts,
  Cert.Pre_pages_below.Gen.facts,
  Cert.Pre_sums_below.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Ffn.Gen.frame m ρ,
  fun m ρ _ => Cert.FfnIdeal.Gen.frame m ρ,
  frame_ffn_reference,
  fun m ρ _ => Cert.Ada.Gen.frame m ρ,
  fun m ρ _ => Cert.AdaIdeal.Gen.frame m ρ,
  frame_ada_reference,
  fun m ρ _ => Cert.InProj.Gen.frame m ρ,
  fun m ρ _ => Cert.InProjIdeal.Gen.frame m ρ,
  frame_in_proj_reference,
  fun m ρ _ => Cert.Merge.Gen.frame m ρ,
  fun m ρ _ => Cert.MergeIdeal.Gen.frame m ρ,
  frame_merge_reference,
  fun m ρ _ => Cert.Conv.Gen.frame m ρ,
  fun m ρ _ => Cert.ConvIdeal.Gen.frame m ρ,
  frame_conv_reference,
  fun m ρ _ => Cert.InProjS.Gen.frame m ρ,
  fun m ρ _ => Cert.InProjSIdeal.Gen.frame m ρ,
  frame_in_proj_sample_reference,
  fun m ρ _ => Cert.MergeS.Gen.frame m ρ,
  fun m ρ _ => Cert.MergeSIdeal.Gen.frame m ρ,
  frame_merge_sample_reference,
  fun m ρ _ => Cert.FfnS.Gen.frame m ρ,
  fun m ρ _ => Cert.FfnSIdeal.Gen.frame m ρ,
  frame_ffn_sample_reference,
  fun m ρ _ => Cert.Step.Gen.frame m ρ,
  fun m ρ _ => Cert.StepIdeal.Gen.frame m ρ,
  frame_step_reference,
  fun m ρ _ => Cert.Pages.Gen.frame m ρ,
  fun m ρ _ => Cert.PagesIdeal.Gen.frame m ρ,
  fun m ρ _ => Cert.PagesIdeal.Gen.frame m ρ,
  frame_pages_reference,
  fun m ρ _ => frame_pages_reference m ρ trivial,
  fun m ρ _ => Cert.Sums.Gen.frame m ρ,
  fun m ρ _ => Cert.SumsIdeal.Gen.frame m ρ,
  fun m ρ _ => Cert.SumsIdeal.Gen.frame m ρ,
  frame_sums_reference,
  fun m ρ _ => frame_sums_reference m ρ trivial,
  trivial,
  Cert.Attn.algebraic,
  trivial,
  Cert.FfnIdeal.Close.algebraic,
  trivial,
  Cert.AdaIdeal.Close.algebraic,
  trivial,
  Cert.InProjIdeal.Close.algebraic,
  trivial,
  Cert.MergeIdeal.Close.algebraic,
  trivial,
  Cert.ConvIdeal.Close.algebraic,
  trivial,
  Cert.InProjSIdeal.Close.algebraic,
  trivial,
  Cert.MergeSIdeal.Close.algebraic,
  trivial,
  Cert.FfnSIdeal.Close.algebraic,
  trivial,
  Cert.StepIdeal.Close.algebraic,
  trivial,
  Cert.PagesIdeal.Close.algebraic,
  trivial,
  Cert.SumsIdeal.Close.algebraic⟩

end Cert.Proof

end
